-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Middle (m : (ℓ : Loc Cert.Middle.nD Cert.Middle.τ Cert.Middle.sig) → Buf (Elt Bits) ℓ) : Prop :=
  True

def Pre_MiddleIdeal (m : (ℓ : Loc Cert.MiddleIdeal.nD Cert.MiddleIdeal.τ Cert.MiddleIdeal.sig) → Buf (Elt Ideal) ℓ) : Prop :=
  True

def Pre_MiddleIdeal_middle_finite [hPre_middle_finite : Cert.Pre_middle_finite.Facts] (m : (ℓ : Loc Cert.MiddleIdeal.nD Cert.MiddleIdeal.τ Cert.MiddleIdeal.sig) → Buf (Elt Ideal) ℓ) : Prop :=
  ∀ c : Dev Cert.MiddleIdeal.nD,
    (Cert.Pre_middle_finite.fn (F := Ideal) (m ((c.tc : Thread Cert.MiddleIdeal.nD Cert.MiddleIdeal.τ).loc Cert.MiddleIdeal.main_arg0)) (m ((c.tc : Thread Cert.MiddleIdeal.nD Cert.MiddleIdeal.τ).loc Cert.MiddleIdeal.main_arg1)) (m ((c.tc : Thread Cert.MiddleIdeal.nD Cert.MiddleIdeal.τ).loc Cert.MiddleIdeal.main_arg2)) (m ((c.tc : Thread Cert.MiddleIdeal.nD Cert.MiddleIdeal.τ).loc Cert.MiddleIdeal.main_arg3)) (m ((c.tc : Thread Cert.MiddleIdeal.nD Cert.MiddleIdeal.τ).loc Cert.MiddleIdeal.main_arg4)) (m ((c.tc : Thread Cert.MiddleIdeal.nD Cert.MiddleIdeal.τ).loc Cert.MiddleIdeal.main_arg5)) (m ((c.tc : Thread Cert.MiddleIdeal.nD Cert.MiddleIdeal.τ).loc Cert.MiddleIdeal.main_arg6)) (m ((c.tc : Thread Cert.MiddleIdeal.nD Cert.MiddleIdeal.τ).loc Cert.MiddleIdeal.main_arg7)) (m ((c.tc : Thread Cert.MiddleIdeal.nD Cert.MiddleIdeal.τ).loc Cert.MiddleIdeal.main_arg8))) = (fun _ => 1#1)

def Pre_MiddleReferenceIdeal (m : (ℓ : Loc Cert.MiddleReferenceIdeal.nD Cert.MiddleReferenceIdeal.τ Cert.MiddleReferenceIdeal.sig) → Buf (Elt Ideal) ℓ) : Prop :=
  True

def Pre_MiddleReferenceIdeal_middle_finite [hPre_middle_finite : Cert.Pre_middle_finite.Facts] (m : (ℓ : Loc Cert.MiddleReferenceIdeal.nD Cert.MiddleReferenceIdeal.τ Cert.MiddleReferenceIdeal.sig) → Buf (Elt Ideal) ℓ) : Prop :=
  ∀ c : Dev Cert.MiddleReferenceIdeal.nD,
    (Cert.Pre_middle_finite.fn (F := Ideal) (m ((c.tc : Thread Cert.MiddleReferenceIdeal.nD Cert.MiddleReferenceIdeal.τ).loc Cert.MiddleReferenceIdeal.main_arg0)) (m ((c.tc : Thread Cert.MiddleReferenceIdeal.nD Cert.MiddleReferenceIdeal.τ).loc Cert.MiddleReferenceIdeal.main_arg1)) (m ((c.tc : Thread Cert.MiddleReferenceIdeal.nD Cert.MiddleReferenceIdeal.τ).loc Cert.MiddleReferenceIdeal.main_arg2)) (m ((c.tc : Thread Cert.MiddleReferenceIdeal.nD Cert.MiddleReferenceIdeal.τ).loc Cert.MiddleReferenceIdeal.main_arg3)) (m ((c.tc : Thread Cert.MiddleReferenceIdeal.nD Cert.MiddleReferenceIdeal.τ).loc Cert.MiddleReferenceIdeal.main_arg4)) (m ((c.tc : Thread Cert.MiddleReferenceIdeal.nD Cert.MiddleReferenceIdeal.τ).loc Cert.MiddleReferenceIdeal.main_arg5)) (m ((c.tc : Thread Cert.MiddleReferenceIdeal.nD Cert.MiddleReferenceIdeal.τ).loc Cert.MiddleReferenceIdeal.main_arg6)) (m ((c.tc : Thread Cert.MiddleReferenceIdeal.nD Cert.MiddleReferenceIdeal.τ).loc Cert.MiddleReferenceIdeal.main_arg7)) (m ((c.tc : Thread Cert.MiddleReferenceIdeal.nD Cert.MiddleReferenceIdeal.τ).loc Cert.MiddleReferenceIdeal.main_arg8))) = (fun _ => 1#1)

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstIdeal_first_finite [hPre_first_finite : Cert.Pre_first_finite.Facts] (m : (ℓ : Loc Cert.FirstIdeal.nD Cert.FirstIdeal.τ Cert.FirstIdeal.sig) → Buf (Elt Ideal) ℓ) : Prop :=
  ∀ c : Dev Cert.FirstIdeal.nD,
    (Cert.Pre_first_finite.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5))) = (fun _ => 1#1)

def Pre_FirstReferenceIdeal (m : (ℓ : Loc Cert.FirstReferenceIdeal.nD Cert.FirstReferenceIdeal.τ Cert.FirstReferenceIdeal.sig) → Buf (Elt Ideal) ℓ) : Prop :=
  True

def Pre_FirstReferenceIdeal_first_finite [hPre_first_finite : Cert.Pre_first_finite.Facts] (m : (ℓ : Loc Cert.FirstReferenceIdeal.nD Cert.FirstReferenceIdeal.τ Cert.FirstReferenceIdeal.sig) → Buf (Elt Ideal) ℓ) : Prop :=
  ∀ c : Dev Cert.FirstReferenceIdeal.nD,
    (Cert.Pre_first_finite.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4)) (m ((c.tc : Thread Cert.FirstReferenceIdeal.nD Cert.FirstReferenceIdeal.τ).loc Cert.FirstReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4))
      ∧ r.2.sem = fun _ => 0)

def quiescent_Middle [hMiddle : Cert.Middle.Facts] : Prop :=
  ∀ (m : (ℓ : Loc Cert.Middle.nD Cert.Middle.τ Cert.Middle.sig) → Buf (Elt Bits) ℓ) (g : Dev Cert.Middle.nD → PrngReg), Pre_Middle m →
    θ_run (Cert.Middle.defs (F := Bits)) (onTc (τ := Cert.Middle.τ) (Cert.Middle.main (F := Bits))) ⟨m, fun _ => 0, g⟩ (fun r => (∀ c : Dev Cert.Middle.nD,
      r.2.mem ((c.tc : Thread Cert.Middle.nD Cert.Middle.τ).loc Cert.Middle.main_arg0) = m ((c.tc : Thread Cert.Middle.nD Cert.Middle.τ).loc Cert.Middle.main_arg0)
      ∧ r.2.mem ((c.tc : Thread Cert.Middle.nD Cert.Middle.τ).loc Cert.Middle.main_arg1) = m ((c.tc : Thread Cert.Middle.nD Cert.Middle.τ).loc Cert.Middle.main_arg1)
      ∧ r.2.mem ((c.tc : Thread Cert.Middle.nD Cert.Middle.τ).loc Cert.Middle.main_arg2) = m ((c.tc : Thread Cert.Middle.nD Cert.Middle.τ).loc Cert.Middle.main_arg2)
      ∧ r.2.mem ((c.tc : Thread Cert.Middle.nD Cert.Middle.τ).loc Cert.Middle.main_arg3) = m ((c.tc : Thread Cert.Middle.nD Cert.Middle.τ).loc Cert.Middle.main_arg3)
      ∧ r.2.mem ((c.tc : Thread Cert.Middle.nD Cert.Middle.τ).loc Cert.Middle.main_arg4) = m ((c.tc : Thread Cert.Middle.nD Cert.Middle.τ).loc Cert.Middle.main_arg4)
      ∧ r.2.mem ((c.tc : Thread Cert.Middle.nD Cert.Middle.τ).loc Cert.Middle.main_arg5) = m ((c.tc : Thread Cert.Middle.nD Cert.Middle.τ).loc Cert.Middle.main_arg5)
      ∧ r.2.mem ((c.tc : Thread Cert.Middle.nD Cert.Middle.τ).loc Cert.Middle.main_arg6) = m ((c.tc : Thread Cert.Middle.nD Cert.Middle.τ).loc Cert.Middle.main_arg6)
      ∧ r.2.mem ((c.tc : Thread Cert.Middle.nD Cert.Middle.τ).loc Cert.Middle.main_arg7) = m ((c.tc : Thread Cert.Middle.nD Cert.Middle.τ).loc Cert.Middle.main_arg7)
      ∧ r.2.mem ((c.tc : Thread Cert.Middle.nD Cert.Middle.τ).loc Cert.Middle.main_arg8) = m ((c.tc : Thread Cert.Middle.nD Cert.Middle.τ).loc Cert.Middle.main_arg8))
      ∧ r.2.sem = fun _ => 0)

def quiescent_MiddleIdeal [hMiddleIdeal : Cert.MiddleIdeal.Facts] : Prop :=
  ∀ (m : (ℓ : Loc Cert.MiddleIdeal.nD Cert.MiddleIdeal.τ Cert.MiddleIdeal.sig) → Buf (Elt Ideal) ℓ) (g : Dev Cert.MiddleIdeal.nD → PrngReg), Pre_MiddleIdeal m →
    θ_run (Cert.MiddleIdeal.defs (F := Ideal)) (onTc (τ := Cert.MiddleIdeal.τ) (Cert.MiddleIdeal.main (F := Ideal))) ⟨m, fun _ => 0, g⟩ (fun r => (∀ c : Dev Cert.MiddleIdeal.nD,
      r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
      ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
      ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
      ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
      ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
      ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5)
      ∧ r.2.mem ((c.tc : Thread Cert.MiddleIdeal.nD Cert.MiddleIdeal.τ).loc Cert.MiddleIdeal.main_arg6) = m ((c.tc : Thread Cert.MiddleIdeal.nD Cert.MiddleIdeal.τ).loc Cert.MiddleIdeal.main_arg6)
      ∧ r.2.mem ((c.tc : Thread Cert.MiddleIdeal.nD Cert.MiddleIdeal.τ).loc Cert.MiddleIdeal.main_arg7) = m ((c.tc : Thread Cert.MiddleIdeal.nD Cert.MiddleIdeal.τ).loc Cert.MiddleIdeal.main_arg7)
      ∧ r.2.mem ((c.tc : Thread Cert.MiddleIdeal.nD Cert.MiddleIdeal.τ).loc Cert.MiddleIdeal.main_arg8) = m ((c.tc : Thread Cert.MiddleIdeal.nD Cert.MiddleIdeal.τ).loc Cert.MiddleIdeal.main_arg8))
      ∧ r.2.sem = fun _ => 0)

def quiescent_MiddleIdeal_pre_middle_finite [hMiddleIdeal : Cert.MiddleIdeal.Facts] [hPre_middle_finite : Cert.Pre_middle_finite.Facts] : Prop :=
  ∀ (m : (ℓ : Loc Cert.MiddleIdeal.nD Cert.MiddleIdeal.τ Cert.MiddleIdeal.sig) → Buf (Elt Ideal) ℓ) (g : Dev Cert.MiddleIdeal.nD → PrngReg), Pre_MiddleIdeal_middle_finite m →
    θ_run (Cert.MiddleIdeal.defs (F := Ideal)) (onTc (τ := Cert.MiddleIdeal.τ) (Cert.MiddleIdeal.main (F := Ideal))) ⟨m, fun _ => 0, g⟩ (fun r => (∀ c : Dev Cert.MiddleIdeal.nD,
      r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
      ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
      ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
      ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
      ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
      ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5)
      ∧ r.2.mem ((c.tc : Thread Cert.MiddleIdeal.nD Cert.MiddleIdeal.τ).loc Cert.MiddleIdeal.main_arg6) = m ((c.tc : Thread Cert.MiddleIdeal.nD Cert.MiddleIdeal.τ).loc Cert.MiddleIdeal.main_arg6)
      ∧ r.2.mem ((c.tc : Thread Cert.MiddleIdeal.nD Cert.MiddleIdeal.τ).loc Cert.MiddleIdeal.main_arg7) = m ((c.tc : Thread Cert.MiddleIdeal.nD Cert.MiddleIdeal.τ).loc Cert.MiddleIdeal.main_arg7)
      ∧ r.2.mem ((c.tc : Thread Cert.MiddleIdeal.nD Cert.MiddleIdeal.τ).loc Cert.MiddleIdeal.main_arg8) = m ((c.tc : Thread Cert.MiddleIdeal.nD Cert.MiddleIdeal.τ).loc Cert.MiddleIdeal.main_arg8))
      ∧ r.2.sem = fun _ => 0)

def quiescent_MiddleReferenceIdeal [hMiddleReferenceIdeal : Cert.MiddleReferenceIdeal.Facts] : Prop :=
  ∀ (m : (ℓ : Loc Cert.MiddleReferenceIdeal.nD Cert.MiddleReferenceIdeal.τ Cert.MiddleReferenceIdeal.sig) → Buf (Elt Ideal) ℓ) (g : Dev Cert.MiddleReferenceIdeal.nD → PrngReg), Pre_MiddleReferenceIdeal m →
    θ_run (Cert.MiddleReferenceIdeal.defs (F := Ideal)) (onTc (τ := Cert.MiddleReferenceIdeal.τ) (Cert.MiddleReferenceIdeal.main (F := Ideal))) ⟨m, fun _ => 0, g⟩ (fun r => (∀ c : Dev Cert.MiddleReferenceIdeal.nD,
      r.2.mem ((c.tc : Thread Cert.MiddleReferenceIdeal.nD Cert.MiddleReferenceIdeal.τ).loc Cert.MiddleReferenceIdeal.main_arg0) = m ((c.tc : Thread Cert.MiddleReferenceIdeal.nD Cert.MiddleReferenceIdeal.τ).loc Cert.MiddleReferenceIdeal.main_arg0)
      ∧ r.2.mem ((c.tc : Thread Cert.MiddleReferenceIdeal.nD Cert.MiddleReferenceIdeal.τ).loc Cert.MiddleReferenceIdeal.main_arg1) = m ((c.tc : Thread Cert.MiddleReferenceIdeal.nD Cert.MiddleReferenceIdeal.τ).loc Cert.MiddleReferenceIdeal.main_arg1)
      ∧ r.2.mem ((c.tc : Thread Cert.MiddleReferenceIdeal.nD Cert.MiddleReferenceIdeal.τ).loc Cert.MiddleReferenceIdeal.main_arg2) = m ((c.tc : Thread Cert.MiddleReferenceIdeal.nD Cert.MiddleReferenceIdeal.τ).loc Cert.MiddleReferenceIdeal.main_arg2)
      ∧ r.2.mem ((c.tc : Thread Cert.MiddleReferenceIdeal.nD Cert.MiddleReferenceIdeal.τ).loc Cert.MiddleReferenceIdeal.main_arg3) = m ((c.tc : Thread Cert.MiddleReferenceIdeal.nD Cert.MiddleReferenceIdeal.τ).loc Cert.MiddleReferenceIdeal.main_arg3)
      ∧ r.2.mem ((c.tc : Thread Cert.MiddleReferenceIdeal.nD Cert.MiddleReferenceIdeal.τ).loc Cert.MiddleReferenceIdeal.main_arg4) = m ((c.tc : Thread Cert.MiddleReferenceIdeal.nD Cert.MiddleReferenceIdeal.τ).loc Cert.MiddleReferenceIdeal.main_arg4)
      ∧ r.2.mem ((c.tc : Thread Cert.MiddleReferenceIdeal.nD Cert.MiddleReferenceIdeal.τ).loc Cert.MiddleReferenceIdeal.main_arg5) = m ((c.tc : Thread Cert.MiddleReferenceIdeal.nD Cert.MiddleReferenceIdeal.τ).loc Cert.MiddleReferenceIdeal.main_arg5)
      ∧ r.2.mem ((c.tc : Thread Cert.MiddleReferenceIdeal.nD Cert.MiddleReferenceIdeal.τ).loc Cert.MiddleReferenceIdeal.main_arg6) = m ((c.tc : Thread Cert.MiddleReferenceIdeal.nD Cert.MiddleReferenceIdeal.τ).loc Cert.MiddleReferenceIdeal.main_arg6)
      ∧ r.2.mem ((c.tc : Thread Cert.MiddleReferenceIdeal.nD Cert.MiddleReferenceIdeal.τ).loc Cert.MiddleReferenceIdeal.main_arg7) = m ((c.tc : Thread Cert.MiddleReferenceIdeal.nD Cert.MiddleReferenceIdeal.τ).loc Cert.MiddleReferenceIdeal.main_arg7)
      ∧ r.2.mem ((c.tc : Thread Cert.MiddleReferenceIdeal.nD Cert.MiddleReferenceIdeal.τ).loc Cert.MiddleReferenceIdeal.main_arg8) = m ((c.tc : Thread Cert.MiddleReferenceIdeal.nD Cert.MiddleReferenceIdeal.τ).loc Cert.MiddleReferenceIdeal.main_arg8))
      ∧ r.2.sem = fun _ => 0)

def quiescent_MiddleReferenceIdeal_pre_middle_finite [hMiddleReferenceIdeal : Cert.MiddleReferenceIdeal.Facts] [hPre_middle_finite : Cert.Pre_middle_finite.Facts] : Prop :=
  ∀ (m : (ℓ : Loc Cert.MiddleReferenceIdeal.nD Cert.MiddleReferenceIdeal.τ Cert.MiddleReferenceIdeal.sig) → Buf (Elt Ideal) ℓ) (g : Dev Cert.MiddleReferenceIdeal.nD → PrngReg), Pre_MiddleReferenceIdeal_middle_finite m →
    θ_run (Cert.MiddleReferenceIdeal.defs (F := Ideal)) (onTc (τ := Cert.MiddleReferenceIdeal.τ) (Cert.MiddleReferenceIdeal.main (F := Ideal))) ⟨m, fun _ => 0, g⟩ (fun r => (∀ c : Dev Cert.MiddleReferenceIdeal.nD,
      r.2.mem ((c.tc : Thread Cert.MiddleReferenceIdeal.nD Cert.MiddleReferenceIdeal.τ).loc Cert.MiddleReferenceIdeal.main_arg0) = m ((c.tc : Thread Cert.MiddleReferenceIdeal.nD Cert.MiddleReferenceIdeal.τ).loc Cert.MiddleReferenceIdeal.main_arg0)
      ∧ r.2.mem ((c.tc : Thread Cert.MiddleReferenceIdeal.nD Cert.MiddleReferenceIdeal.τ).loc Cert.MiddleReferenceIdeal.main_arg1) = m ((c.tc : Thread Cert.MiddleReferenceIdeal.nD Cert.MiddleReferenceIdeal.τ).loc Cert.MiddleReferenceIdeal.main_arg1)
      ∧ r.2.mem ((c.tc : Thread Cert.MiddleReferenceIdeal.nD Cert.MiddleReferenceIdeal.τ).loc Cert.MiddleReferenceIdeal.main_arg2) = m ((c.tc : Thread Cert.MiddleReferenceIdeal.nD Cert.MiddleReferenceIdeal.τ).loc Cert.MiddleReferenceIdeal.main_arg2)
      ∧ r.2.mem ((c.tc : Thread Cert.MiddleReferenceIdeal.nD Cert.MiddleReferenceIdeal.τ).loc Cert.MiddleReferenceIdeal.main_arg3) = m ((c.tc : Thread Cert.MiddleReferenceIdeal.nD Cert.MiddleReferenceIdeal.τ).loc Cert.MiddleReferenceIdeal.main_arg3)
      ∧ r.2.mem ((c.tc : Thread Cert.MiddleReferenceIdeal.nD Cert.MiddleReferenceIdeal.τ).loc Cert.MiddleReferenceIdeal.main_arg4) = m ((c.tc : Thread Cert.MiddleReferenceIdeal.nD Cert.MiddleReferenceIdeal.τ).loc Cert.MiddleReferenceIdeal.main_arg4)
      ∧ r.2.mem ((c.tc : Thread Cert.MiddleReferenceIdeal.nD Cert.MiddleReferenceIdeal.τ).loc Cert.MiddleReferenceIdeal.main_arg5) = m ((c.tc : Thread Cert.MiddleReferenceIdeal.nD Cert.MiddleReferenceIdeal.τ).loc Cert.MiddleReferenceIdeal.main_arg5)
      ∧ r.2.mem ((c.tc : Thread Cert.MiddleReferenceIdeal.nD Cert.MiddleReferenceIdeal.τ).loc Cert.MiddleReferenceIdeal.main_arg6) = m ((c.tc : Thread Cert.MiddleReferenceIdeal.nD Cert.MiddleReferenceIdeal.τ).loc Cert.MiddleReferenceIdeal.main_arg6)
      ∧ r.2.mem ((c.tc : Thread Cert.MiddleReferenceIdeal.nD Cert.MiddleReferenceIdeal.τ).loc Cert.MiddleReferenceIdeal.main_arg7) = m ((c.tc : Thread Cert.MiddleReferenceIdeal.nD Cert.MiddleReferenceIdeal.τ).loc Cert.MiddleReferenceIdeal.main_arg7)
      ∧ r.2.mem ((c.tc : Thread Cert.MiddleReferenceIdeal.nD Cert.MiddleReferenceIdeal.τ).loc Cert.MiddleReferenceIdeal.main_arg8) = m ((c.tc : Thread Cert.MiddleReferenceIdeal.nD Cert.MiddleReferenceIdeal.τ).loc Cert.MiddleReferenceIdeal.main_arg8))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5))
      ∧ r.2.sem = fun _ => 0)

def quiescent_FirstIdeal_pre_first_finite [hFirstIdeal : Cert.FirstIdeal.Facts] [hPre_first_finite : Cert.Pre_first_finite.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal_first_finite m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5))
      ∧ r.2.sem = fun _ => 0)

def quiescent_FirstReferenceIdeal_pre_first_finite [hFirstReferenceIdeal : Cert.FirstReferenceIdeal.Facts] [hPre_first_finite : Cert.Pre_first_finite.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal_first_finite m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)
  ∧ IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v4)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v4) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v17) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4))

def preserves_Middle_MiddleIdeal : Prop :=
  True

def algebraic_MiddleIdeal_MiddleReferenceIdeal_pre_middle_finite [hMiddleIdeal : Cert.MiddleIdeal.Facts] [hMiddleReferenceIdeal : Cert.MiddleReferenceIdeal.Facts] [hPre_middle_finite : Cert.Pre_middle_finite.Facts] : Prop :=
  ∀ (m : (ℓ : Loc Cert.MiddleIdeal.nD Cert.MiddleIdeal.τ Cert.MiddleIdeal.sig) → Buf (Elt Ideal) ℓ) (g : Dev Cert.MiddleIdeal.nD → PrngReg)
    (m' : (ℓ : Loc Cert.MiddleReferenceIdeal.nD Cert.MiddleReferenceIdeal.τ Cert.MiddleReferenceIdeal.sig) → Buf (Elt Ideal) ℓ) (g' : Dev Cert.MiddleReferenceIdeal.nD → PrngReg), Pre_MiddleIdeal_middle_finite m →
    (∀ c : Dev Cert.MiddleIdeal.nD,
      m' ((c.tc : Thread Cert.MiddleReferenceIdeal.nD Cert.MiddleReferenceIdeal.τ).loc Cert.MiddleReferenceIdeal.main_arg0) = m ((c.tc : Thread Cert.MiddleIdeal.nD Cert.MiddleIdeal.τ).loc Cert.MiddleIdeal.main_arg0)
      ∧ m' ((c.tc : Thread Cert.MiddleReferenceIdeal.nD Cert.MiddleReferenceIdeal.τ).loc Cert.MiddleReferenceIdeal.main_arg1) = m ((c.tc : Thread Cert.MiddleIdeal.nD Cert.MiddleIdeal.τ).loc Cert.MiddleIdeal.main_arg1)
      ∧ m' ((c.tc : Thread Cert.MiddleReferenceIdeal.nD Cert.MiddleReferenceIdeal.τ).loc Cert.MiddleReferenceIdeal.main_arg2) = m ((c.tc : Thread Cert.MiddleIdeal.nD Cert.MiddleIdeal.τ).loc Cert.MiddleIdeal.main_arg2)
      ∧ m' ((c.tc : Thread Cert.MiddleReferenceIdeal.nD Cert.MiddleReferenceIdeal.τ).loc Cert.MiddleReferenceIdeal.main_arg3) = m ((c.tc : Thread Cert.MiddleIdeal.nD Cert.MiddleIdeal.τ).loc Cert.MiddleIdeal.main_arg3)
      ∧ m' ((c.tc : Thread Cert.MiddleReferenceIdeal.nD Cert.MiddleReferenceIdeal.τ).loc Cert.MiddleReferenceIdeal.main_arg4) = m ((c.tc : Thread Cert.MiddleIdeal.nD Cert.MiddleIdeal.τ).loc Cert.MiddleIdeal.main_arg4)
      ∧ m' ((c.tc : Thread Cert.MiddleReferenceIdeal.nD Cert.MiddleReferenceIdeal.τ).loc Cert.MiddleReferenceIdeal.main_arg5) = m ((c.tc : Thread Cert.MiddleIdeal.nD Cert.MiddleIdeal.τ).loc Cert.MiddleIdeal.main_arg5)
      ∧ m' ((c.tc : Thread Cert.MiddleReferenceIdeal.nD Cert.MiddleReferenceIdeal.τ).loc Cert.MiddleReferenceIdeal.main_arg6) = m ((c.tc : Thread Cert.MiddleIdeal.nD Cert.MiddleIdeal.τ).loc Cert.MiddleIdeal.main_arg6)
      ∧ m' ((c.tc : Thread Cert.MiddleReferenceIdeal.nD Cert.MiddleReferenceIdeal.τ).loc Cert.MiddleReferenceIdeal.main_arg7) = m ((c.tc : Thread Cert.MiddleIdeal.nD Cert.MiddleIdeal.τ).loc Cert.MiddleIdeal.main_arg7)
      ∧ m' ((c.tc : Thread Cert.MiddleReferenceIdeal.nD Cert.MiddleReferenceIdeal.τ).loc Cert.MiddleReferenceIdeal.main_arg8) = m ((c.tc : Thread Cert.MiddleIdeal.nD Cert.MiddleIdeal.τ).loc Cert.MiddleIdeal.main_arg8)) →
    ∃ (v0 : (c : Dev Cert.MiddleIdeal.nD) → Buf (Elt Ideal) ((c.tc : Thread Cert.MiddleIdeal.nD Cert.MiddleIdeal.τ).loc Cert.MiddleIdeal.main_v19_0)) (v1 : (c : Dev Cert.MiddleIdeal.nD) → Buf (Elt Ideal) ((c.tc : Thread Cert.MiddleIdeal.nD Cert.MiddleIdeal.τ).loc Cert.MiddleIdeal.main_v19_1)) (v2 : (c : Dev Cert.MiddleIdeal.nD) → Buf (Elt Ideal) ((c.tc : Thread Cert.MiddleIdeal.nD Cert.MiddleIdeal.τ).loc Cert.MiddleIdeal.main_v19_2)) (v3 : (c : Dev Cert.MiddleIdeal.nD) → Buf (Elt Ideal) ((c.tc : Thread Cert.MiddleIdeal.nD Cert.MiddleIdeal.τ).loc Cert.MiddleIdeal.main_v19_3)) (v4 : (c : Dev Cert.MiddleIdeal.nD) → Buf (Elt Ideal) ((c.tc : Thread Cert.MiddleIdeal.nD Cert.MiddleIdeal.τ).loc Cert.MiddleIdeal.main_v19_4)) (v5 : (c : Dev Cert.MiddleIdeal.nD) → Buf (Elt Ideal) ((c.tc : Thread Cert.MiddleIdeal.nD Cert.MiddleIdeal.τ).loc Cert.MiddleIdeal.main_v19_5)) (v6 : (c : Dev Cert.MiddleIdeal.nD) → Buf (Elt Ideal) ((c.tc : Thread Cert.MiddleIdeal.nD Cert.MiddleIdeal.τ).loc Cert.MiddleIdeal.main_v19_6)),
      θ_run (Cert.MiddleIdeal.defs (F := Ideal)) (onTc (τ := Cert.MiddleIdeal.τ) (Cert.MiddleIdeal.main (F := Ideal))) ⟨m, fun _ => 0, g⟩ (fun r => ∀ c : Dev Cert.MiddleIdeal.nD,
          r.2.mem ((c.tc : Thread Cert.MiddleIdeal.nD Cert.MiddleIdeal.τ).loc Cert.MiddleIdeal.main_v19_0) = v0 c
          ∧ r.2.mem ((c.tc : Thread Cert.MiddleIdeal.nD Cert.MiddleIdeal.τ).loc Cert.MiddleIdeal.main_v19_1) = v1 c
          ∧ r.2.mem ((c.tc : Thread Cert.MiddleIdeal.nD Cert.MiddleIdeal.τ).loc Cert.MiddleIdeal.main_v19_2) = v2 c
          ∧ r.2.mem ((c.tc : Thread Cert.MiddleIdeal.nD Cert.MiddleIdeal.τ).loc Cert.MiddleIdeal.main_v19_3) = v3 c
          ∧ r.2.mem ((c.tc : Thread Cert.MiddleIdeal.nD Cert.MiddleIdeal.τ).loc Cert.MiddleIdeal.main_v19_4) = v4 c
          ∧ r.2.mem ((c.tc : Thread Cert.MiddleIdeal.nD Cert.MiddleIdeal.τ).loc Cert.MiddleIdeal.main_v19_5) = v5 c
          ∧ r.2.mem ((c.tc : Thread Cert.MiddleIdeal.nD Cert.MiddleIdeal.τ).loc Cert.MiddleIdeal.main_v19_6) = v6 c
          ∧ r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
          ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
          ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
          ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
          ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
          ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5)
          ∧ r.2.mem ((c.tc : Thread Cert.MiddleIdeal.nD Cert.MiddleIdeal.τ).loc Cert.MiddleIdeal.main_arg6) = m ((c.tc : Thread Cert.MiddleIdeal.nD Cert.MiddleIdeal.τ).loc Cert.MiddleIdeal.main_arg6)
          ∧ r.2.mem ((c.tc : Thread Cert.MiddleIdeal.nD Cert.MiddleIdeal.τ).loc Cert.MiddleIdeal.main_arg7) = m ((c.tc : Thread Cert.MiddleIdeal.nD Cert.MiddleIdeal.τ).loc Cert.MiddleIdeal.main_arg7)
          ∧ r.2.mem ((c.tc : Thread Cert.MiddleIdeal.nD Cert.MiddleIdeal.τ).loc Cert.MiddleIdeal.main_arg8) = m ((c.tc : Thread Cert.MiddleIdeal.nD Cert.MiddleIdeal.τ).loc Cert.MiddleIdeal.main_arg8))
      ∧ θ_run (Cert.MiddleReferenceIdeal.defs (F := Ideal)) (onTc (τ := Cert.MiddleReferenceIdeal.τ) (Cert.MiddleReferenceIdeal.main (F := Ideal))) ⟨m', fun _ => 0, g'⟩ (fun r => ∀ c : Dev Cert.MiddleReferenceIdeal.nD,
          r.2.mem ((c.tc : Thread Cert.MiddleReferenceIdeal.nD Cert.MiddleReferenceIdeal.τ).loc Cert.MiddleReferenceIdeal.main_v4) = v0 c
          ∧ r.2.mem ((c.tc : Thread Cert.MiddleReferenceIdeal.nD Cert.MiddleReferenceIdeal.τ).loc Cert.MiddleReferenceIdeal.main_v123) = v1 c
          ∧ r.2.mem ((c.tc : Thread Cert.MiddleReferenceIdeal.nD Cert.MiddleReferenceIdeal.τ).loc Cert.MiddleReferenceIdeal.main_v25) = v2 c
          ∧ r.2.mem ((c.tc : Thread Cert.MiddleReferenceIdeal.nD Cert.MiddleReferenceIdeal.τ).loc Cert.MiddleReferenceIdeal.main_v124) = v3 c
          ∧ r.2.mem ((c.tc : Thread Cert.MiddleReferenceIdeal.nD Cert.MiddleReferenceIdeal.τ).loc Cert.MiddleReferenceIdeal.main_v125) = v4 c
          ∧ r.2.mem ((c.tc : Thread Cert.MiddleReferenceIdeal.nD Cert.MiddleReferenceIdeal.τ).loc Cert.MiddleReferenceIdeal.main_v28) = v5 c
          ∧ r.2.mem ((c.tc : Thread Cert.MiddleReferenceIdeal.nD Cert.MiddleReferenceIdeal.τ).loc Cert.MiddleReferenceIdeal.main_v122) = v6 c
          ∧ r.2.mem ((c.tc : Thread Cert.MiddleReferenceIdeal.nD Cert.MiddleReferenceIdeal.τ).loc Cert.MiddleReferenceIdeal.main_arg0) = m' ((c.tc : Thread Cert.MiddleReferenceIdeal.nD Cert.MiddleReferenceIdeal.τ).loc Cert.MiddleReferenceIdeal.main_arg0)
          ∧ r.2.mem ((c.tc : Thread Cert.MiddleReferenceIdeal.nD Cert.MiddleReferenceIdeal.τ).loc Cert.MiddleReferenceIdeal.main_arg1) = m' ((c.tc : Thread Cert.MiddleReferenceIdeal.nD Cert.MiddleReferenceIdeal.τ).loc Cert.MiddleReferenceIdeal.main_arg1)
          ∧ r.2.mem ((c.tc : Thread Cert.MiddleReferenceIdeal.nD Cert.MiddleReferenceIdeal.τ).loc Cert.MiddleReferenceIdeal.main_arg2) = m' ((c.tc : Thread Cert.MiddleReferenceIdeal.nD Cert.MiddleReferenceIdeal.τ).loc Cert.MiddleReferenceIdeal.main_arg2)
          ∧ r.2.mem ((c.tc : Thread Cert.MiddleReferenceIdeal.nD Cert.MiddleReferenceIdeal.τ).loc Cert.MiddleReferenceIdeal.main_arg3) = m' ((c.tc : Thread Cert.MiddleReferenceIdeal.nD Cert.MiddleReferenceIdeal.τ).loc Cert.MiddleReferenceIdeal.main_arg3)
          ∧ r.2.mem ((c.tc : Thread Cert.MiddleReferenceIdeal.nD Cert.MiddleReferenceIdeal.τ).loc Cert.MiddleReferenceIdeal.main_arg4) = m' ((c.tc : Thread Cert.MiddleReferenceIdeal.nD Cert.MiddleReferenceIdeal.τ).loc Cert.MiddleReferenceIdeal.main_arg4)
          ∧ r.2.mem ((c.tc : Thread Cert.MiddleReferenceIdeal.nD Cert.MiddleReferenceIdeal.τ).loc Cert.MiddleReferenceIdeal.main_arg5) = m' ((c.tc : Thread Cert.MiddleReferenceIdeal.nD Cert.MiddleReferenceIdeal.τ).loc Cert.MiddleReferenceIdeal.main_arg5)
          ∧ r.2.mem ((c.tc : Thread Cert.MiddleReferenceIdeal.nD Cert.MiddleReferenceIdeal.τ).loc Cert.MiddleReferenceIdeal.main_arg6) = m' ((c.tc : Thread Cert.MiddleReferenceIdeal.nD Cert.MiddleReferenceIdeal.τ).loc Cert.MiddleReferenceIdeal.main_arg6)
          ∧ r.2.mem ((c.tc : Thread Cert.MiddleReferenceIdeal.nD Cert.MiddleReferenceIdeal.τ).loc Cert.MiddleReferenceIdeal.main_arg7) = m' ((c.tc : Thread Cert.MiddleReferenceIdeal.nD Cert.MiddleReferenceIdeal.τ).loc Cert.MiddleReferenceIdeal.main_arg7)
          ∧ r.2.mem ((c.tc : Thread Cert.MiddleReferenceIdeal.nD Cert.MiddleReferenceIdeal.τ).loc Cert.MiddleReferenceIdeal.main_arg8) = m' ((c.tc : Thread Cert.MiddleReferenceIdeal.nD Cert.MiddleReferenceIdeal.τ).loc Cert.MiddleReferenceIdeal.main_arg8))

def preserves_First_FirstIdeal : Prop :=
  True

def algebraic_FirstIdeal_FirstReferenceIdeal_pre_first_finite [hFirstIdeal : Cert.FirstIdeal.Facts] [hFirstReferenceIdeal : Cert.FirstReferenceIdeal.Facts] [hPre_first_finite : Cert.Pre_first_finite.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal_first_finite m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)
      ∧ m' ((c.tc : Thread Cert.FirstReferenceIdeal.nD Cert.FirstReferenceIdeal.τ).loc Cert.FirstReferenceIdeal.main_arg4) = m ((c.tc : Thread Cert.FirstIdeal.nD Cert.FirstIdeal.τ).loc Cert.FirstIdeal.main_arg4)
      ∧ m' ((c.tc : Thread Cert.FirstReferenceIdeal.nD Cert.FirstReferenceIdeal.τ).loc Cert.FirstReferenceIdeal.main_arg5) = m ((c.tc : Thread Cert.FirstIdeal.nD Cert.FirstIdeal.τ).loc Cert.FirstIdeal.main_arg5)) →
    ∃ (v0 : (c : Dev Cert.FirstIdeal.nD) → Buf (Elt Ideal) ((c.tc : Thread Cert.FirstIdeal.nD Cert.FirstIdeal.τ).loc Cert.FirstIdeal.main_v16_0)) (v1 : (c : Dev Cert.FirstIdeal.nD) → Buf (Elt Ideal) ((c.tc : Thread Cert.FirstIdeal.nD Cert.FirstIdeal.τ).loc Cert.FirstIdeal.main_v16_1)) (v2 : (c : Dev Cert.FirstIdeal.nD) → Buf (Elt Ideal) ((c.tc : Thread Cert.FirstIdeal.nD Cert.FirstIdeal.τ).loc Cert.FirstIdeal.main_v16_2)) (v3 : (c : Dev Cert.FirstIdeal.nD) → Buf (Elt Ideal) ((c.tc : Thread Cert.FirstIdeal.nD Cert.FirstIdeal.τ).loc Cert.FirstIdeal.main_v16_3)) (v4 : (c : Dev Cert.FirstIdeal.nD) → Buf (Elt Ideal) ((c.tc : Thread Cert.FirstIdeal.nD Cert.FirstIdeal.τ).loc Cert.FirstIdeal.main_v16_4)) (v5 : (c : Dev Cert.FirstIdeal.nD) → Buf (Elt Ideal) ((c.tc : Thread Cert.FirstIdeal.nD Cert.FirstIdeal.τ).loc Cert.FirstIdeal.main_v16_5)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v16_0) = v0 c
          ∧ r.2.mem ((c.tc : Thread Cert.FirstIdeal.nD Cert.FirstIdeal.τ).loc Cert.FirstIdeal.main_v16_1) = v1 c
          ∧ r.2.mem ((c.tc : Thread Cert.FirstIdeal.nD Cert.FirstIdeal.τ).loc Cert.FirstIdeal.main_v16_2) = v2 c
          ∧ r.2.mem ((c.tc : Thread Cert.FirstIdeal.nD Cert.FirstIdeal.τ).loc Cert.FirstIdeal.main_v16_3) = v3 c
          ∧ r.2.mem ((c.tc : Thread Cert.FirstIdeal.nD Cert.FirstIdeal.τ).loc Cert.FirstIdeal.main_v16_4) = v4 c
          ∧ r.2.mem ((c.tc : Thread Cert.FirstIdeal.nD Cert.FirstIdeal.τ).loc Cert.FirstIdeal.main_v16_5) = v5 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v118) = v0 c
          ∧ r.2.mem ((c.tc : Thread Cert.FirstReferenceIdeal.nD Cert.FirstReferenceIdeal.τ).loc Cert.FirstReferenceIdeal.main_v20) = v1 c
          ∧ r.2.mem ((c.tc : Thread Cert.FirstReferenceIdeal.nD Cert.FirstReferenceIdeal.τ).loc Cert.FirstReferenceIdeal.main_v119) = v2 c
          ∧ r.2.mem ((c.tc : Thread Cert.FirstReferenceIdeal.nD Cert.FirstReferenceIdeal.τ).loc Cert.FirstReferenceIdeal.main_v120) = v3 c
          ∧ r.2.mem ((c.tc : Thread Cert.FirstReferenceIdeal.nD Cert.FirstReferenceIdeal.τ).loc Cert.FirstReferenceIdeal.main_v23) = v4 c
          ∧ r.2.mem ((c.tc : Thread Cert.FirstReferenceIdeal.nD Cert.FirstReferenceIdeal.τ).loc Cert.FirstReferenceIdeal.main_v117) = v5 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5))

def Claim : Prop :=
  ∃ (hKernel : Cert.Kernel.Facts) (hKernelIdeal : Cert.KernelIdeal.Facts) (hReferenceIdeal : Cert.ReferenceIdeal.Facts) (hLast : Cert.Last.Facts) (hLastIdeal : Cert.LastIdeal.Facts) (hLastReferenceIdeal : Cert.LastReferenceIdeal.Facts) (hMiddle : Cert.Middle.Facts) (hMiddleIdeal : Cert.MiddleIdeal.Facts) (hMiddleReferenceIdeal : Cert.MiddleReferenceIdeal.Facts) (hFirst : Cert.First.Facts) (hFirstIdeal : Cert.FirstIdeal.Facts) (hFirstReferenceIdeal : Cert.FirstReferenceIdeal.Facts) (hPre_scores_finite : Cert.Pre_scores_finite.Facts) (hPre_middle_finite : Cert.Pre_middle_finite.Facts) (hPre_first_finite : Cert.Pre_first_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Last (hLast := hLast)
    ∧ quiescent_LastIdeal (hLastIdeal := hLastIdeal)
    ∧ quiescent_LastReferenceIdeal (hLastReferenceIdeal := hLastReferenceIdeal)
    ∧ quiescent_Middle (hMiddle := hMiddle)
    ∧ quiescent_MiddleIdeal (hMiddleIdeal := hMiddleIdeal)
    ∧ quiescent_MiddleIdeal_pre_middle_finite (hMiddleIdeal := hMiddleIdeal) (hPre_middle_finite := hPre_middle_finite)
    ∧ quiescent_MiddleReferenceIdeal (hMiddleReferenceIdeal := hMiddleReferenceIdeal)
    ∧ quiescent_MiddleReferenceIdeal_pre_middle_finite (hMiddleReferenceIdeal := hMiddleReferenceIdeal) (hPre_middle_finite := hPre_middle_finite)
    ∧ quiescent_First (hFirst := hFirst)
    ∧ quiescent_FirstIdeal (hFirstIdeal := hFirstIdeal)
    ∧ quiescent_FirstIdeal_pre_first_finite (hFirstIdeal := hFirstIdeal) (hPre_first_finite := hPre_first_finite)
    ∧ quiescent_FirstReferenceIdeal (hFirstReferenceIdeal := hFirstReferenceIdeal)
    ∧ quiescent_FirstReferenceIdeal_pre_first_finite (hFirstReferenceIdeal := hFirstReferenceIdeal) (hPre_first_finite := hPre_first_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Last_LastIdeal
    ∧ algebraic_LastIdeal_LastReferenceIdeal (hLastIdeal := hLastIdeal) (hLastReferenceIdeal := hLastReferenceIdeal)
    ∧ preserves_Middle_MiddleIdeal
    ∧ algebraic_MiddleIdeal_MiddleReferenceIdeal_pre_middle_finite (hMiddleIdeal := hMiddleIdeal) (hMiddleReferenceIdeal := hMiddleReferenceIdeal) (hPre_middle_finite := hPre_middle_finite)
    ∧ preserves_First_FirstIdeal
    ∧ algebraic_FirstIdeal_FirstReferenceIdeal_pre_first_finite (hFirstIdeal := hFirstIdeal) (hFirstReferenceIdeal := hFirstReferenceIdeal) (hPre_first_finite := hPre_first_finite)
-- ==== Pre_first_finite.lean ====
abbrev S8x4096x1024 : Shape := ⟨3, ![8, 4096, 1024]⟩
abbrev S4x1024 : Shape := ⟨2, ![4, 1024]⟩
abbrev S4x1024x3080 : Shape := ⟨3, ![4, 1024, 3080]⟩
abbrev S4x8 : Shape := ⟨2, ![4, 8]⟩
abbrev S4x4x128x128 : Shape := ⟨4, ![4, 4, 128, 128]⟩
abbrev S4x512 : Shape := ⟨2, ![4, 512]⟩
abbrev S1x1024 : Shape := ⟨2, ![1, 1024]⟩
abbrev S_ : Shape := ⟨0, ![]⟩
abbrev S1x1024x512 : Shape := ⟨3, ![1, 1024, 512]⟩

class Facts : Prop where
  slices_S4x1024_S1x1024_0_0 : S4x1024.Slices ![0, 0] S1x1024
  bcast_S_S1x1024 : S_.BroadcastsInDim S1x1024 (![] : Fin 0 → Fin S1x1024.rank)
  reducesTo_S1x1024_S_d0_1 : S1x1024.ReducesTo [0, 1] S_
  h_S_ : 0 < S_.numel
  slices_S4x1024x3080_S1x1024x512_0_0_0 : S4x1024x3080.Slices ![0, 0, 0] S1x1024x512
  bcast_S_S1x1024x512 : S_.BroadcastsInDim S1x1024x512 (![] : Fin 0 → Fin S1x1024x512.rank)
  reducesTo_S1x1024x512_S_d0_1_2 : S1x1024x512.ReducesTo [0, 1, 2] S_

variable [Facts]

def fn {F : FTy → Type} [FloatOps F] (main_arg0 : FVec F S8x4096x1024 .f32) (main_arg1 : FVec F S4x1024 .f32) (main_arg2 : FVec F S4x1024x3080 .f32) (main_arg3 : FVec F S4x8 .f32) (main_arg4 : FVec F S4x4x128x128 .f32) (main_arg5 : FVec F S4x512 .f32) : IVec S_ 1 :=
  let main_v0 : FVec F S1x1024 .f32 := (extractStridedSlice S1x1024 ![0, 0] · slices_S4x1024_S1x1024_0_0) main_arg1
  let main_v1 : FVec F S1x1024 .f32 := Host.absf main_v0
  let main_cst : FVec F S_ .f32 := constant S_ .f32 0x7F800000#32
  let main_v2 : FVec F S1x1024 .f32 := broadcastInDim S1x1024 ![] bcast_S_S1x1024 main_cst
  let main_v3 : IVec S1x1024 1 := cmpf .olt main_v1 main_v2
  let main_c : IVec S_ 1 := constantI S_ 1 1#1
  let main_v4 : IVec S_ 1 := (fun x v => Host.reduce IntOp.andi x v reducesTo_S1x1024_S_d0_1 h_S_) main_v3 main_c
  let main_v5 : FVec F S1x1024x512 .f32 := (extractStridedSlice S1x1024x512 ![0, 0, 0] · slices_S4x1024x3080_S1x1024x512_0_0_0) main_arg2
  let main_v6 : FVec F S1x1024x512 .f32 := Host.absf main_v5
  let main_cst_0 : FVec F S_ .f32 := constant S_ .f32 0x7F800000#32
  let main_v7 : FVec F S1x1024x512 .f32 := broadcastInDim S1x1024x512 ![] bcast_S_S1x1024x512 main_cst_0
  let main_v8 : IVec S1x1024x512 1 := cmpf .olt main_v6 main_v7
  let main_c_1 : IVec S_ 1 := constantI S_ 1 1#1
  let main_v9 : IVec S_ 1 := (fun x v => Host.reduce IntOp.andi x v reducesTo_S1x1024x512_S_d0_1_2 h_S_) main_v8 main_c_1
  let main_v10 : IVec S_ 1 := andi main_v4 main_v9
  main_v10
-- ==== Pre_middle_finite.lean ====
abbrev S8x4096x1024 : Shape := ⟨3, ![8, 4096, 1024]⟩
abbrev S8x4096x512 : Shape := ⟨3, ![8, 4096, 512]⟩
abbrev S4x1024 : Shape := ⟨2, ![4, 1024]⟩
abbrev S4x1024x3080 : Shape := ⟨3, ![4, 1024, 3080]⟩
abbrev S4x8 : Shape := ⟨2, ![4, 8]⟩
abbrev S4x4x128x128 : Shape := ⟨4, ![4, 4, 128, 128]⟩
abbrev S4x512 : Shape := ⟨2, ![4, 512]⟩
abbrev S4x1024x1024 : Shape := ⟨3, ![4, 1024, 1024]⟩
abbrev S1x1024 : Shape := ⟨2, ![1, 1024]⟩
abbrev S_ : Shape := ⟨0, ![]⟩
abbrev S1x1024x512 : Shape := ⟨3, ![1, 1024, 512]⟩

class Facts : Prop where
  slices_S4x1024_S1x1024_1_0 : S4x1024.Slices ![1, 0] S1x1024
  bcast_S_S1x1024 : S_.BroadcastsInDim S1x1024 (![] : Fin 0 → Fin S1x1024.rank)
  reducesTo_S1x1024_S_d0_1 : S1x1024.ReducesTo [0, 1] S_
  h_S_ : 0 < S_.numel
  slices_S4x1024x3080_S1x1024x512_1_0_0 : S4x1024x3080.Slices ![1, 0, 0] S1x1024x512
  bcast_S_S1x1024x512 : S_.BroadcastsInDim S1x1024x512 (![] : Fin 0 → Fin S1x1024x512.rank)
  reducesTo_S1x1024x512_S_d0_1_2 : S1x1024x512.ReducesTo [0, 1, 2] S_

variable [Facts]

def fn {F : FTy → Type} [FloatOps F] (main_arg0 : FVec F S8x4096x1024 .f32) (main_arg1 : FVec F S8x4096x512 .f32) (main_arg2 : FVec F S8x4096x512 .f32) (main_arg3 : FVec F S4x1024 .f32) (main_arg4 : FVec F S4x1024x3080 .f32) (main_arg5 : FVec F S4x8 .f32) (main_arg6 : FVec F S4x4x128x128 .f32) (main_arg7 : FVec F S4x512 .f32) (main_arg8 : FVec F S4x1024x1024 .f32) : IVec S_ 1 :=
  let main_v0 : FVec F S1x1024 .f32 := (extractStridedSlice S1x1024 ![1, 0] · slices_S4x1024_S1x1024_1_0) main_arg3
  let main_v1 : FVec F S1x1024 .f32 := Host.absf main_v0
  let main_cst : FVec F S_ .f32 := constant S_ .f32 0x7F800000#32
  let main_v2 : FVec F S1x1024 .f32 := broadcastInDim S1x1024 ![] bcast_S_S1x1024 main_cst
  let main_v3 : IVec S1x1024 1 := cmpf .olt main_v1 main_v2
  let main_c : IVec S_ 1 := constantI S_ 1 1#1
  let main_v4 : IVec S_ 1 := (fun x v => Host.reduce IntOp.andi x v reducesTo_S1x1024_S_d0_1 h_S_) main_v3 main_c
  let main_v5 : FVec F S1x1024x512 .f32 := (extractStridedSlice S1x1024x512 ![1, 0, 0] · slices_S4x1024x3080_S1x1024x512_1_0_0) main_arg4
  let main_v6 : FVec F S1x1024x512 .f32 := Host.absf main_v5
  let main_cst_0 : FVec F S_ .f32 := constant S_ .f32 0x7F800000#32
  let main_v7 : FVec F S1x1024x512 .f32 := broadcastInDim S1x1024x512 ![] bcast_S_S1x1024x512 main_cst_0
  let main_v8 : IVec S1x1024x512 1 := cmpf .olt main_v6 main_v7
  let main_c_1 : IVec S_ 1 := constantI S_ 1 1#1
  let main_v9 : IVec S_ 1 := (fun x v => Host.reduce IntOp.andi x v reducesTo_S1x1024x512_S_d0_1_2 h_S_) main_v8 main_c_1
  let main_v10 : IVec S_ 1 := andi main_v4 main_v9
  main_v10
-- ==== Pre_scores_finite.lean ====
abbrev S8x4096x512 : Shape := ⟨3, ![8, 4096, 512]⟩
abbrev S8x8x4096 : Shape := ⟨3, ![8, 8, 4096]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x8x4096 : S_.BroadcastsInDim S8x8x4096 (![] : Fin 0 → Fin S8x8x4096.rank)
  reducesTo_S8x8x4096_S_d0_1_2 : S8x8x4096.ReducesTo [0, 1, 2] S_

variable [Facts]

def fn {F : FTy → Type} [FloatOps F] (main_arg0 : FVec F S8x4096x512 .f32) (main_arg1 : FVec F S8x4096x512 .f32) (main_arg2 : FVec F S8x4096x512 .f32) (main_arg3 : FVec F S8x8x4096 .f32) (main_arg4 : FVec F S8x4096x512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  let main_v9 : FVec F S8x8x4096 .f32 := Host.absf main_arg3
  let main_cst_2 : FVec F S_ .f32 := constant S_ .f32 0x7F800000#32
  let main_v10 : FVec F S8x8x4096 .f32 := broadcastInDim S8x8x4096 ![] bcast_S_S8x8x4096 main_cst_2
  let main_v11 : IVec S8x8x4096 1 := cmpf .olt main_v9 main_v10
  let main_c_3 : IVec S_ 1 := constantI S_ 1 1#1
  let main_v12 : IVec S_ 1 := (fun x v => Host.reduce IntOp.andi x v reducesTo_S8x8x4096_S_d0_1_2 h_S_) main_v11 main_c_3
  let main_v13 : IVec S_ 1 := andi main_v8 main_v12
  main_v13
-- ==== Kernel.lean ====
abbrev S8x4096x512 : Shape := ⟨3, ![8, 4096, 512]⟩
abbrev S8x8x4096 : Shape := ⟨3, ![8, 8, 4096]⟩
abbrev S1x4096x128 : Shape := ⟨3, ![1, 4096, 128]⟩
abbrev S1x8x4096 : Shape := ⟨3, ![1, 8, 4096]⟩
abbrev S2x4096x128 : Shape := ⟨3, ![2, 4096, 128]⟩
abbrev S1x128 : Shape := ⟨2, ![1, 128]⟩
abbrev S4096x128 : Shape := ⟨2, ![4096, 128]⟩
abbrev S256x128 : Shape := ⟨2, ![256, 128]⟩
abbrev S512x128 : Shape := ⟨2, ![512, 128]⟩
abbrev S1x512x128 : Shape := ⟨3, ![1, 512, 128]⟩
abbrev S512x256 : Shape := ⟨2, ![512, 256]⟩
abbrev S1x1x512 : Shape := ⟨3, ![1, 1, 512]⟩
abbrev S1x512 : Shape := ⟨2, ![1, 512]⟩
abbrev S512x512 : Shape := ⟨2, ![512, 512]⟩
abbrev S256x256 : Shape := ⟨2, ![256, 256]⟩
abbrev S1x256 : Shape := ⟨2, ![1, 256]⟩
abbrev S1x256x128 : Shape := ⟨3, ![1, 256, 128]⟩
abbrev S256 : Shape := ⟨1, ![256]⟩
abbrev S256x1 : Shape := ⟨2, ![256, 1]⟩
abbrev S256x512 : Shape := ⟨2, ![256, 512]⟩

abbrev nBuf : Space → Nat
  | .hbm => 8
  | .vmem => 15
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x8x4096, .f32⟩
  | .hbm, ⟨4, _⟩ => ⟨S8x4096x512, .f32⟩
  | .hbm, ⟨5, _⟩ => ⟨S8x4096x512, .bf16⟩
  | .hbm, ⟨6, _⟩ => ⟨S8x4096x512, .bf16⟩
  | .hbm, ⟨7, _⟩ => ⟨S8x4096x512, .bf16⟩
  | .local _ .vmem, ⟨0, _⟩ => ⟨S1x4096x128, .f32⟩
  | .local _ .vmem, ⟨1, _⟩ => ⟨S1x4096x128, .f32⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x8x4096, .f32⟩
  | .local _ .vmem, ⟨7, _⟩ => ⟨S1x8x4096, .f32⟩
  | .local _ .vmem, ⟨8, _⟩ => ⟨S1x4096x128, .f32⟩
  | .local _ .vmem, ⟨9, _⟩ => ⟨S1x4096x128, .f32⟩
  | .local _ .vmem, ⟨10, _⟩ => ⟨S1x4096x128, .bf16⟩
  | .local _ .vmem, ⟨11, _⟩ => ⟨S1x4096x128, .bf16⟩
  | .local _ .vmem, ⟨12, _⟩ => ⟨S2x4096x128, .f32⟩
  | .local _ .vmem, ⟨13, _⟩ => ⟨S2x4096x128, .f32⟩
  | .local _ .vmem, ⟨14, _⟩ => ⟨S2x4096x128, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def k0_off1 (i : grid0.Coords) (c0_i32 : BitVec 32) : Fin 3 → Nat :=
  let c0_19 : Index := 0#32
  let c2_i32 : BitVec 32 := 2#32
  let arg1 : BitVec 32 := BitVec.ofNat 32 (i 1).val
  let v79 : BitVec 32 := Scalar.muli c2_i32 arg1
  let v80 : BitVec 32 := Scalar.addi v79 c0_i32
  let v81 : Index := Scalar.indexCast v80
  let c0_20 : Index := 0#32
  ![0, v81.toNat, 0]
def k0_off2 (i : grid0.Coords) (c0_i32_33 : BitVec 32) : Fin 3 → Nat :=
  let c0_34 : Index := 0#32
  let c2_i32_32 : BitVec 32 := 2#32
  let arg1 : BitVec 32 := BitVec.ofNat 32 (i 1).val
  let v99 : BitVec 32 := Scalar.muli c2_i32_32 arg1
  let v100 : BitVec 32 := Scalar.addi v99 c0_i32_33
  let v101 : Index := Scalar.indexCast v100
  let c512_35 : Index := 512#32
  ![0, v101.toNat, 512]
def k0_off3 (i : grid0.Coords) (c0_i32_49 : BitVec 32) : Fin 3 → Nat :=
  let c0_50 : Index := 0#32
  let c2_i32_48 : BitVec 32 := 2#32
  let arg1 : BitVec 32 := BitVec.ofNat 32 (i 1).val
  let v119 : BitVec 32 := Scalar.muli c2_i32_48 arg1
  let v120 : BitVec 32 := Scalar.addi v119 c0_i32_49
  let v121 : Index := Scalar.indexCast v120
  let c1024_51 : Index := 1024#32
  ![0, v121.toNat, 1024]
def k0_off4 (i : grid0.Coords) (c0_i32_65 : BitVec 32) : Fin 3 → Nat :=
  let c0_66 : Index := 0#32
  let c2_i32_64 : BitVec 32 := 2#32
  let arg1 : BitVec 32 := BitVec.ofNat 32 (i 1).val
  let v139 : BitVec 32 := Scalar.muli c2_i32_64 arg1
  let v140 : BitVec 32 := Scalar.addi v139 c0_i32_65
  let v141 : Index := Scalar.indexCast v140
  let c1536_67 : Index := 1536#32
  ![0, v141.toNat, 1536]
def k0_off5 (i : grid0.Coords) (c0_i32_81 : BitVec 32) : Fin 3 → Nat :=
  let c0_82 : Index := 0#32
  let c2_i32_80 : BitVec 32 := 2#32
  let arg1 : BitVec 32 := BitVec.ofNat 32 (i 1).val
  let v159 : BitVec 32 := Scalar.muli c2_i32_80 arg1
  let v160 : BitVec 32 := Scalar.addi v159 c0_i32_81
  let v161 : Index := Scalar.indexCast v160
  let c2048_83 : Index := 2048#32
  ![0, v161.toNat, 2048]
def k0_off6 (i : grid0.Coords) (c0_i32_97 : BitVec 32) : Fin 3 → Nat :=
  let c0_98 : Index := 0#32
  let c2_i32_96 : BitVec 32 := 2#32
  let arg1 : BitVec 32 := BitVec.ofNat 32 (i 1).val
  let v179 : BitVec 32 := Scalar.muli c2_i32_96 arg1
  let v180 : BitVec 32 := Scalar.addi v179 c0_i32_97
  let v181 : Index := Scalar.indexCast v180
  let c2560_99 : Index := 2560#32
  ![0, v181.toNat, 2560]
def k0_off7 (i : grid0.Coords) (c0_i32_113 : BitVec 32) : Fin 3 → Nat :=
  let c0_114 : Index := 0#32
  let c2_i32_112 : BitVec 32 := 2#32
  let arg1 : BitVec 32 := BitVec.ofNat 32 (i 1).val
  let v199 : BitVec 32 := Scalar.muli c2_i32_112 arg1
  let v200 : BitVec 32 := Scalar.addi v199 c0_i32_113
  let v201 : Index := Scalar.indexCast v200
  let c3072_115 : Index := 3072#32
  ![0, v201.toNat, 3072]
def k0_off8 (i : grid0.Coords) (c0_i32_129 : BitVec 32) : Fin 3 → Nat :=
  let c0_130 : Index := 0#32
  let c2_i32_128 : BitVec 32 := 2#32
  let arg1 : BitVec 32 := BitVec.ofNat 32 (i 1).val
  let v219 : BitVec 32 := Scalar.muli c2_i32_128 arg1
  let v220 : BitVec 32 := Scalar.addi v219 c0_i32_129
  let v221 : Index := Scalar.indexCast v220
  let c3584_131 : Index := 3584#32
  ![0, v221.toNat, 3584]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale_log2e" => some (((1 / 8) * (Real.log 2)⁻¹ : ℝ) : EReal)
  | _ => none
-- ==== ReferenceIdeal.lean ====
abbrev S8x4096x512 : Shape := ⟨3, ![8, 4096, 512]⟩
abbrev S8x8x4096 : Shape := ⟨3, ![8, 8, 4096]⟩
abbrev S8x4096x8x64 : Shape := ⟨4, ![8, 4096, 8, 64]⟩
abbrev S8x8x4096x64 : Shape := ⟨4, ![8, 8, 4096, 64]⟩
abbrev S8x8x4096x4096 : Shape := ⟨4, ![8, 8, 4096, 4096]⟩
abbrev S_ : Shape := ⟨0, ![]⟩
abbrev S8x8x4096x1 : Shape := ⟨4, ![8, 8, 4096, 1]⟩
abbrev S8x8x1x4096 : Shape := ⟨4, ![8, 8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x1x4096x4096 : Shape := ⟨4, ![1, 1, 4096, 4096]⟩

abbrev nBuf : Space → Nat
  | .hbm => 62
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x8x4096, .f32⟩
  | .hbm, ⟨4, _⟩ => ⟨S8x4096x512, .f32⟩
  | .hbm, ⟨5, _⟩ => ⟨S8x4096x8x64, .f32⟩
  | .hbm, ⟨6, _⟩ => ⟨S8x8x4096x64, .f32⟩
  | .hbm, ⟨7, _⟩ => ⟨S8x4096x8x64, .f32⟩
  | .hbm, ⟨8, _⟩ => ⟨S8x8x4096x64, .f32⟩
  | .hbm, ⟨9, _⟩ => ⟨S8x4096x8x64, .f32⟩
  | .hbm, ⟨10, _⟩ => ⟨S8x8x4096x64, .f32⟩
  | .hbm, ⟨11, _⟩ => ⟨S8x8x4096x4096, .f32⟩
  | .hbm, ⟨12, _⟩ => ⟨S_, .f32⟩
  | .hbm, ⟨13, _⟩ => ⟨S8x8x4096x4096, .f32⟩
  | .hbm, ⟨14, _⟩ => ⟨S8x8x4096x4096, .f32⟩
  | .hbm, ⟨15, _⟩ => ⟨S8x8x4096x1, .f32⟩
  | .hbm, ⟨16, _⟩ => ⟨S8x8x1x4096, .f32⟩
  | .hbm, ⟨17, _⟩ => ⟨S8x8x4096x4096, .f32⟩
  | .hbm, ⟨18, _⟩ => ⟨S8x8x4096x4096, .f32⟩
  | .hbm, ⟨19, _⟩ => ⟨S8x8x4096x4096, .f32⟩
  | .hbm, ⟨20, _⟩ => ⟨S8x8x4096x4096, .f32⟩
  | .hbm, ⟨21, _⟩ => ⟨S4096, .i32⟩
  | .hbm, ⟨22, _⟩ => ⟨S4096x1, .i32⟩
  | .hbm, ⟨23, _⟩ => ⟨S4096, .i32⟩
  | .hbm, ⟨24, _⟩ => ⟨S1x4096, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S1x1x4096x4096, .i1⟩
  | .hbm, ⟨29, _⟩ => ⟨S_, .f32⟩
  | .hbm, ⟨30, _⟩ => ⟨S_, .f32⟩
  | .hbm, ⟨31, _⟩ => ⟨S8x8x4096x4096, .i1⟩
  | .hbm, ⟨32, _⟩ => ⟨S8x8x4096x4096, .f32⟩
  | .hbm, ⟨33, _⟩ => ⟨S8x8x4096x4096, .f32⟩
  | .hbm, ⟨34, _⟩ => ⟨S_, .f32⟩
  | .hbm, ⟨35, _⟩ => ⟨S8x8x4096, .f32⟩
  | .hbm, ⟨36, _⟩ => ⟨S_, .f32⟩
  | .hbm, ⟨37, _⟩ => ⟨S8x8x4096, .f32⟩
  | .hbm, ⟨38, _⟩ => ⟨S8x8x4096, .f32⟩
  | .hbm, ⟨39, _⟩ => ⟨S8x8x4096x1, .f32⟩
  | .hbm, ⟨40, _⟩ => ⟨S8x8x4096x4096, .f32⟩
  | .hbm, ⟨41, _⟩ => ⟨S8x8x4096x4096, .f32⟩
  | .hbm, ⟨42, _⟩ => ⟨S8x8x4096x4096, .f32⟩
  | .hbm, ⟨43, _⟩ => ⟨S_, .f32⟩
  | .hbm, ⟨44, _⟩ => ⟨S8x8x4096, .f32⟩
  | .hbm, ⟨45, _⟩ => ⟨S8x8x4096x1, .f32⟩
  | .hbm, ⟨46, _⟩ => ⟨S8x8x4096x4096, .f32⟩
  | .hbm, ⟨47, _⟩ => ⟨S8x8x4096x4096, .f32⟩
  | .hbm, ⟨48, _⟩ => ⟨S8x8x4096x64, .f32⟩
  | .hbm, ⟨49, _⟩ => ⟨S8x4096x8x64, .f32⟩
  | .hbm, ⟨50, _⟩ => ⟨S8x4096x512, .f32⟩
  | .hbm, ⟨51, _⟩ => ⟨S8x4096x512, .f32⟩
  | .hbm, ⟨52, _⟩ => ⟨S8x4096x512, .f32⟩
  | .hbm, ⟨53, _⟩ => ⟨S_, .f32⟩
  | .hbm, ⟨54, _⟩ => ⟨S8x4096x512, .f32⟩
  | .hbm, ⟨55, _⟩ => ⟨S8x4096x512, .f32⟩
  | .hbm, ⟨56, _⟩ => ⟨S_, .f32⟩
  | .hbm, ⟨57, _⟩ => ⟨S8x4096x512, .f32⟩
  | .hbm, ⟨58, _⟩ => ⟨S8x4096x512, .f32⟩
  | .hbm, ⟨59, _⟩ => ⟨S8x4096x512, .f32⟩
  | .hbm, ⟨60, _⟩ => ⟨S8x4096x512, .f32⟩
  | .hbm, ⟨61, _⟩ => ⟨S8x4096x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Last.lean ====
abbrev S8x4096x1024 : Shape := ⟨3, ![8, 4096, 1024]⟩
abbrev S8x4096x512 : Shape := ⟨3, ![8, 4096, 512]⟩
abbrev S4x1024x1024 : Shape := ⟨3, ![4, 1024, 1024]⟩
abbrev S1024 : Shape := ⟨1, ![1024]⟩
abbrev S1x1024 : Shape := ⟨2, ![1, 1024]⟩
abbrev S1x1024x1024 : Shape := ⟨3, ![1, 1024, 1024]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩
abbrev S1024x1024 : Shape := ⟨2, ![1024, 1024]⟩
abbrev S1024x1 : Shape := ⟨2, ![1024, 1]⟩

abbrev nBuf : Space → Nat
  | .hbm => 10
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S4x1024x1024, .f32⟩
  | .hbm, ⟨4, _⟩ => ⟨S1024, .f32⟩
  | .hbm, ⟨5, _⟩ => ⟨S8x4096x512, .bf16⟩
  | .hbm, ⟨6, _⟩ => ⟨S8x4096x512, .bf16⟩
  | .hbm, ⟨7, _⟩ => ⟨S4x1024x1024, .bf16⟩
  | .hbm, ⟨8, _⟩ => ⟨S1x1024, .f32⟩
  | .hbm, ⟨9, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LastReferenceIdeal.lean ====
abbrev S8x4096x1024 : Shape := ⟨3, ![8, 4096, 1024]⟩
abbrev S8x4096x512 : Shape := ⟨3, ![8, 4096, 512]⟩
abbrev S4x1024x1024 : Shape := ⟨3, ![4, 1024, 1024]⟩
abbrev S1024 : Shape := ⟨1, ![1024]⟩
abbrev S1x1024x1024 : Shape := ⟨3, ![1, 1024, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S4x1024x1024, .f32⟩
  | .hbm, ⟨4, _⟩ => ⟨S1024, .f32⟩
  | .hbm, ⟨5, _⟩ => ⟨S8x4096x1024, .f32⟩
  | .hbm, ⟨6, _⟩ => ⟨S1x1024x1024, .f32⟩
  | .hbm, ⟨7, _⟩ => ⟨S1024x1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Middle.lean ====
abbrev S8x4096x1024 : Shape := ⟨3, ![8, 4096, 1024]⟩
abbrev S8x4096x512 : Shape := ⟨3, ![8, 4096, 512]⟩
abbrev S4x1024 : Shape := ⟨2, ![4, 1024]⟩
abbrev S4x1024x3080 : Shape := ⟨3, ![4, 1024, 3080]⟩
abbrev S4x8 : Shape := ⟨2, ![4, 8]⟩
abbrev S4x4x128x128 : Shape := ⟨4, ![4, 4, 128, 128]⟩
abbrev S4x512 : Shape := ⟨2, ![4, 512]⟩
abbrev S4x1024x1024 : Shape := ⟨3, ![4, 1024, 1024]⟩
abbrev S4x1024x8 : Shape := ⟨3, ![4, 1024, 8]⟩
abbrev S_ : Shape := ⟨0, ![]⟩
abbrev S4x1024x128 : Shape := ⟨3, ![4, 1024, 128]⟩
abbrev S4x8x1 : Shape := ⟨3, ![4, 8, 1]⟩
abbrev S4x1x1024 : Shape := ⟨3, ![4, 1, 1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x256 : Shape := ⟨2, ![128, 256]⟩
abbrev S4x1x512 : Shape := ⟨3, ![4, 1, 512]⟩
abbrev S8x8x4096 : Shape := ⟨3, ![8, 8, 4096]⟩
abbrev S1x1024x1024 : Shape := ⟨3, ![1, 1024, 1024]⟩
abbrev S1x1024x512 : Shape := ⟨3, ![1, 1024, 512]⟩
abbrev S1x1x1024 : Shape := ⟨3, ![1, 1, 1024]⟩
abbrev S1x1024x3072 : Shape := ⟨3, ![1, 1024, 3072]⟩
abbrev S1x1024x128 : Shape := ⟨3, ![1, 1024, 128]⟩
abbrev S1x8x1 : Shape := ⟨3, ![1, 8, 1]⟩
abbrev S1x4x128x128 : Shape := ⟨4, ![1, 4, 128, 128]⟩
abbrev S1x1x512 : Shape := ⟨3, ![1, 1, 512]⟩
abbrev S1x8x1024 : Shape := ⟨3, ![1, 8, 1024]⟩
abbrev S8x128 : Shape := ⟨2, ![8, 128]⟩
abbrev S1040x512 : Shape := ⟨2, ![1040, 512]⟩
abbrev S1024x512 : Shape := ⟨2, ![1024, 512]⟩
abbrev S1x512x1024 : Shape := ⟨3, ![1, 512, 1024]⟩
abbrev S512x1024 : Shape := ⟨2, ![512, 1024]⟩
abbrev S1024x1024 : Shape := ⟨2, ![1024, 1024]⟩
abbrev S16x512 : Shape := ⟨2, ![16, 512]⟩
abbrev S1024 : Shape := ⟨1, ![1024]⟩
abbrev S1024x1 : Shape := ⟨2, ![1024, 1]⟩
abbrev S1x1024 : Shape := ⟨2, ![1, 1024]⟩
abbrev S1024x128 : Shape := ⟨2, ![1024, 128]⟩
abbrev S1x1024x1536 : Shape := ⟨3, ![1, 1024, 1536]⟩
abbrev S1024x1536 : Shape := ⟨2, ![1024, 1536]⟩
abbrev S1040x128 : Shape := ⟨2, ![1040, 128]⟩
abbrev S1x1x128x128 : Shape := ⟨4, ![1, 1, 128, 128]⟩
abbrev S1x512 : Shape := ⟨2, ![1, 512]⟩
abbrev S128x1024 : Shape := ⟨2, ![128, 1024]⟩
abbrev S8x1024 : Shape := ⟨2, ![8, 1024]⟩
abbrev S8x1 : Shape := ⟨2, ![8, 1]⟩
abbrev S32x1024 : Shape := ⟨2, ![32, 1024]⟩
abbrev S32x128 : Shape := ⟨2, ![32, 128]⟩
abbrev S32x256 : Shape := ⟨2, ![32, 256]⟩
abbrev S8x256 : Shape := ⟨2, ![8, 256]⟩
abbrev S1x8x128 : Shape := ⟨3, ![1, 8, 128]⟩

abbrev nBuf : Space → Nat
  | .hbm => 38
  | .vmem => 30
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S4x1024, .f32⟩
  | .hbm, ⟨4, _⟩ => ⟨S4x1024x3080, .f32⟩
  | .hbm, ⟨5, _⟩ => ⟨S4x8, .f32⟩
  | .hbm, ⟨6, _⟩ => ⟨S4x4x128x128, .f32⟩
  | .hbm, ⟨7, _⟩ => ⟨S4x512, .f32⟩
  | .hbm, ⟨8, _⟩ => ⟨S4x1024x1024, .f32⟩
  | .hbm, ⟨9, _⟩ => ⟨S8x4096x512, .bf16⟩
  | .hbm, ⟨10, _⟩ => ⟨S8x4096x512, .bf16⟩
  | .hbm, ⟨11, _⟩ => ⟨S4x1024x1024, .bf16⟩
  | .hbm, ⟨12, _⟩ => ⟨S4x1024x3080, .bf16⟩
  | .hbm, ⟨13, _⟩ => ⟨S4x1024x8, .bf16⟩
  | .hbm, ⟨14, _⟩ => ⟨S_, .i32⟩
  | .hbm, ⟨15, _⟩ => ⟨S_, .bf16⟩
  | .hbm, ⟨16, _⟩ => ⟨S4x1024x128, .bf16⟩
  | .hbm, ⟨17, _⟩ => ⟨S4x8x1, .f32⟩
  | .hbm, ⟨18, _⟩ => ⟨S4x1x1024, .f32⟩
  | .hbm, ⟨19, _⟩ => ⟨S128, .i32⟩
  | .hbm, ⟨20, _⟩ => ⟨S128x1, .i32⟩
  | .hbm, ⟨21, _⟩ => ⟨S1x128, .i32⟩
  | .hbm, ⟨22, _⟩ => ⟨S128x128, .i32⟩
  | .hbm, ⟨23, _⟩ => ⟨S128x128, .i32⟩
  | .hbm, ⟨24, _⟩ => ⟨S128x128, .i1⟩
  | .hbm, ⟨25, _⟩ => ⟨S128x128, .bf16⟩
  | .hbm, ⟨26, _⟩ => ⟨S_, .bf16⟩
  | .hbm, ⟨27, _⟩ => ⟨S128x128, .bf16⟩
  | .hbm, ⟨28, _⟩ => ⟨S128x256, .bf16⟩
  | .hbm, ⟨29, _⟩ => ⟨S4x4x128x128, .bf16⟩
  | .hbm, ⟨30, _⟩ => ⟨S4x1x512, .f32⟩
  | .hbm, ⟨31, _⟩ => ⟨S8x4096x1024, .f32⟩
  | .hbm, ⟨32, _⟩ => ⟨S8x4096x512, .bf16⟩
  | .hbm, ⟨33, _⟩ => ⟨S8x4096x512, .f32⟩
  | .hbm, ⟨34, _⟩ => ⟨S8x4096x512, .bf16⟩
  | .hbm, ⟨35, _⟩ => ⟨S8x4096x512, .bf16⟩
  | .hbm, ⟨36, _⟩ => ⟨S8x4096x512, .f32⟩
  | .hbm, ⟨37, _⟩ => ⟨S8x8x4096, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x1024, .bf16⟩
  | .local _ .vmem, ⟨7, _⟩ => ⟨S1x1x1024, .f32⟩
  | .local _ .vmem, ⟨8, _⟩ => ⟨S1x1024x3072, .bf16⟩
  | .local _ .vmem, ⟨9, _⟩ => ⟨S1x1024x128, .bf16⟩
  | .local _ .vmem, ⟨10, _⟩ => ⟨S1x8x1, .f32⟩
  | .local _ .vmem, ⟨11, _⟩ => ⟨S128x256, .bf16⟩
  | .local _ .vmem, ⟨12, _⟩ => ⟨S1x4x128x128, .bf16⟩
  | .local _ .vmem, ⟨13, _⟩ => ⟨S1x1x512, .f32⟩
  | .local _ .vmem, ⟨14, _⟩ => ⟨S1x1024x1024, .f32⟩
  | .local _ .vmem, ⟨15, _⟩ => ⟨S1x1024x1024, .f32⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .f32⟩
  | .local _ .vmem, ⟨19, _⟩ => ⟨S1x1024x512, .f32⟩
  | .local _ .vmem, ⟨20, _⟩ => ⟨S1x1024x512, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x1024x512, .bf16⟩
  | .local _ .vmem, ⟨24, _⟩ => ⟨S1x1024x512, .f32⟩
  | .local _ .vmem, ⟨25, _⟩ => ⟨S1x1024x512, .f32⟩
  | .local _ .vmem, ⟨26, _⟩ => ⟨S1x8x1024, .f32⟩
  | .local _ .vmem, ⟨27, _⟩ => ⟨S1x8x1024, .f32⟩
  | .local _ .vmem, ⟨28, _⟩ => ⟨S8x128, .f32⟩
  | .local _ .vmem, ⟨29, _⟩ => ⟨S1040x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev main_v19_4 : Ref sig .tc := ⟨.hbm, 35, rfl⟩
abbrev main_v19_5 : Ref sig .tc := ⟨.hbm, 36, rfl⟩
abbrev main_v19_6 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== MiddleReferenceIdeal.lean ====
abbrev S8x4096x1024 : Shape := ⟨3, ![8, 4096, 1024]⟩
abbrev S8x4096x512 : Shape := ⟨3, ![8, 4096, 512]⟩
abbrev S4x1024 : Shape := ⟨2, ![4, 1024]⟩
abbrev S4x1024x3080 : Shape := ⟨3, ![4, 1024, 3080]⟩
abbrev S4x8 : Shape := ⟨2, ![4, 8]⟩
abbrev S4x4x128x128 : Shape := ⟨4, ![4, 4, 128, 128]⟩
abbrev S4x512 : Shape := ⟨2, ![4, 512]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x3080 : Shape := ⟨3, ![1, 1024, 3080]⟩
abbrev S1024x3080 : Shape := ⟨2, ![1024, 3080]⟩
abbrev S8x4096x3080 : Shape := ⟨3, ![8, 4096, 3080]⟩
abbrev S8x4096x8 : Shape := ⟨3, ![8, 4096, 8]⟩
abbrev S1x8 : Shape := ⟨2, ![1, 8]⟩
abbrev S8 : Shape := ⟨1, ![8]⟩
abbrev S1x1x8 : Shape := ⟨3, ![1, 1, 8]⟩
abbrev S1x4x128x128 : Shape := ⟨4, ![1, 4, 128, 128]⟩
abbrev S4x128x128 : Shape := ⟨3, ![4, 128, 128]⟩
abbrev S1x512 : Shape := ⟨2, ![1, 512]⟩
abbrev S512 : Shape := ⟨1, ![512]⟩
abbrev S8x1x512 : Shape := ⟨3, ![8, 1, 512]⟩
abbrev S8x4097x512 : Shape := ⟨3, ![8, 4097, 512]⟩
abbrev S4096 : Shape := ⟨1, ![4096]⟩
abbrev S8x4097x128 : Shape := ⟨3, ![8, 4097, 128]⟩
abbrev S8x1x128 : Shape := ⟨3, ![8, 1, 128]⟩
abbrev S8x4095x128 : Shape := ⟨3, ![8, 4095, 128]⟩
abbrev S8x4096x128 : Shape := ⟨3, ![8, 4096, 128]⟩
abbrev S1x4096x1 : Shape := ⟨3, ![1, 4096, 1]⟩
abbrev S8x3x128 : Shape := ⟨3, ![8, 3, 128]⟩
abbrev S8x4093x128 : Shape := ⟨3, ![8, 4093, 128]⟩
abbrev S8x7x128 : Shape := ⟨3, ![8, 7, 128]⟩
abbrev S8x4089x128 : Shape := ⟨3, ![8, 4089, 128]⟩
abbrev S8x15x128 : Shape := ⟨3, ![8, 15, 128]⟩
abbrev S8x4081x128 : Shape := ⟨3, ![8, 4081, 128]⟩
abbrev S8x4096x1x128 : Shape := ⟨4, ![8, 4096, 1, 128]⟩
abbrev S8x4096x4x128 : Shape := ⟨4, ![8, 4096, 4, 128]⟩
abbrev S4x128x8x4096 : Shape := ⟨4, ![4, 128, 8, 4096]⟩
abbrev S1x1x512 : Shape := ⟨3, ![1, 1, 512]⟩
abbrev S8x8x4096 : Shape := ⟨3, ![8, 8, 4096]⟩

abbrev nBuf : Space → Nat
  | .hbm => 178
  | .vmem => 0
  | .smem => 0
  | _ => 0

abbrev hbmTy0_0 (i : Nat) : BufTy := match i % 128 with
  | 0 => ⟨S8x4096x1024, .f32⟩
  | 1 => ⟨S8x4096x512, .f32⟩
  | 2 => ⟨S8x4096x512, .f32⟩
  | 3 => ⟨S4x1024, .f32⟩
  | 4 => ⟨S4x1024x3080, .f32⟩
  | 5 => ⟨S4x8, .f32⟩
  | 6 => ⟨S4x4x128x128, .f32⟩
  | 7 => ⟨S4x512, .f32⟩
  | 8 => ⟨S4x1024x1024, .f32⟩
  | 9 => ⟨S8x4096x1024, .f32⟩
  | 10 => ⟨S1x1024x1024, .f32⟩
  | 11 => ⟨S1024x1024, .f32⟩
  | 12 => ⟨S8x4096x1024, .f32⟩
  | 13 => ⟨S8x4096x1024, .f32⟩
  | 14 => ⟨S1x1024, .f32⟩
  | 15 => ⟨S1024, .f32⟩
  | 16 => ⟨S8x4096x1024, .f32⟩
  | 17 => ⟨S_, .f32⟩
  | 18 => ⟨S8x4096, .f32⟩
  | 19 => ⟨S8x4096x1, .f32⟩
  | 20 => ⟨S_, .f32⟩
  | 21 => ⟨S8x4096x1, .f32⟩
  | 22 => ⟨S8x4096x1, .f32⟩
  | 23 => ⟨S_, .f32⟩
  | 24 => ⟨S8x4096x1, .f32⟩
  | 25 => ⟨S8x4096x1, .f32⟩
  | 26 => ⟨S8x4096x1, .f32⟩
  | 27 => ⟨S8x4096x1024, .f32⟩
  | 28 => ⟨S8x4096x1024, .f32⟩
  | 29 => ⟨S1x1x1024, .f32⟩
  | 30 => ⟨S8x4096x1024, .f32⟩
  | 31 => ⟨S8x4096x1024, .f32⟩
  | 32 => ⟨S1x1024x3080, .f32⟩
  | 33 => ⟨S1024x3080, .f32⟩
  | 34 => ⟨S8x4096x3080, .f32⟩
  | 35 => ⟨S8x4096x512, .f32⟩
  | 36 => ⟨S8x4096x512, .f32⟩
  | 37 => ⟨S8x4096x512, .f32⟩
  | 38 => ⟨S8x4096x512, .f32⟩
  | 39 => ⟨S8x4096x512, .f32⟩
  | 40 => ⟨S8x4096x512, .f32⟩
  | 41 => ⟨S8x4096x8, .f32⟩
  | 42 => ⟨S1x8, .f32⟩
  | 43 => ⟨S8, .f32⟩
  | 44 => ⟨S1x1x8, .f32⟩
  | 45 => ⟨S8x4096x8, .f32⟩
  | 46 => ⟨S8x4096x8, .f32⟩
  | 47 => ⟨S8x4096x8, .f32⟩
  | 48 => ⟨S_, .f32⟩
  | 49 => ⟨S8x4096x8, .f32⟩
  | 50 => ⟨S8x4096x8, .f32⟩
  | 51 => ⟨S8x4096x8, .f32⟩
  | 52 => ⟨S8x4096x8, .f32⟩
  | 53 => ⟨S8x4096x8, .i1⟩
  | 54 => ⟨S8x4096x8, .f32⟩
  | 55 => ⟨S8x4096x8, .f32⟩
  | 56 => ⟨S8x4096x8, .f32⟩
  | 57 => ⟨S8x4096x8, .f32⟩
  | 58 => ⟨S8x4096x8, .f32⟩
  | 59 => ⟨S8x4096x8, .f32⟩
  | 60 => ⟨S8x4096x8, .f32⟩
  | 61 => ⟨S8x4096x8, .f32⟩
  | 62 => ⟨S8x4096x8, .f32⟩
  | 63 => ⟨S1x4x128x128, .f32⟩
  | 64 => ⟨S4x128x128, .f32⟩
  | 65 => ⟨S1x512, .f32⟩
  | 66 => ⟨S512, .f32⟩
  | 67 => ⟨S_, .f32⟩
  | 68 => ⟨S8x1x512, .f32⟩
  | 69 => ⟨S_, .f32⟩
  | 70 => ⟨S_, .f32⟩
  | 71 => ⟨S8x4096x512, .f32⟩
  | 72 => ⟨S8x4097x512, .f32⟩
  | 73 => ⟨S4096, .i32⟩
  | 74 => ⟨S8x4097x128, .f32⟩
  | 75 => ⟨S_, .f32⟩
  | 76 => ⟨S8x1x128, .f32⟩
  | 77 => ⟨S8x4095x128, .f32⟩
  | 78 => ⟨S8x4096x128, .f32⟩
  | 79 => ⟨S_, .i32⟩
  | 80 => ⟨S4096, .i32⟩
  | 81 => ⟨S4096, .i32⟩
  | 82 => ⟨S_, .i32⟩
  | 83 => ⟨S4096, .i32⟩
  | 84 => ⟨S4096, .i32⟩
  | 85 => ⟨S4096, .f32⟩
  | 86 => ⟨S1x4096x1, .f32⟩
  | 87 => ⟨S8x4096x128, .f32⟩
  | 88 => ⟨S8x4096x128, .f32⟩
  | 89 => ⟨S8x4096x128, .f32⟩
  | 90 => ⟨S8x4096x128, .f32⟩
  | 91 => ⟨S8x4096x128, .f32⟩
  | 92 => ⟨S8x4096x128, .f32⟩
  | 93 => ⟨S8x4097x128, .f32⟩
  | 94 => ⟨S_, .f32⟩
  | 95 => ⟨S8x3x128, .f32⟩
  | 96 => ⟨S8x4093x128, .f32⟩
  | 97 => ⟨S8x4096x128, .f32⟩
  | 98 => ⟨S_, .i32⟩
  | 99 => ⟨S4096, .i32⟩
  | 100 => ⟨S4096, .i32⟩
  | 101 => ⟨S_, .i32⟩
  | 102 => ⟨S4096, .i32⟩
  | 103 => ⟨S4096, .i32⟩
  | 104 => ⟨S4096, .f32⟩
  | 105 => ⟨S1x4096x1, .f32⟩
  | 106 => ⟨S8x4096x128, .f32⟩
  | 107 => ⟨S8x4096x128, .f32⟩
  | 108 => ⟨S8x4096x128, .f32⟩
  | 109 => ⟨S8x4096x128, .f32⟩
  | 110 => ⟨S8x4096x128, .f32⟩
  | 111 => ⟨S8x4096x128, .f32⟩
  | 112 => ⟨S8x4097x128, .f32⟩
  | 113 => ⟨S_, .f32⟩
  | 114 => ⟨S8x7x128, .f32⟩
  | 115 => ⟨S8x4089x128, .f32⟩
  | 116 => ⟨S8x4096x128, .f32⟩
  | 117 => ⟨S_, .i32⟩
  | 118 => ⟨S4096, .i32⟩
  | 119 => ⟨S4096, .i32⟩
  | 120 => ⟨S_, .i32⟩
  | 121 => ⟨S4096, .i32⟩
  | 122 => ⟨S4096, .i32⟩
  | 123 => ⟨S4096, .f32⟩
  | 124 => ⟨S1x4096x1, .f32⟩
  | 125 => ⟨S8x4096x128, .f32⟩
  | 126 => ⟨S8x4096x128, .f32⟩
  | 127 => ⟨S8x4096x128, .f32⟩
  | _ => ⟨S8x4096x1024, .f32⟩

abbrev hbmTy0_1 (i : Nat) : BufTy := match i % 128 with
  | 0 => ⟨S8x4096x128, .f32⟩
  | 1 => ⟨S8x4096x128, .f32⟩
  | 2 => ⟨S8x4096x128, .f32⟩
  | 3 => ⟨S8x4097x128, .f32⟩
  | 4 => ⟨S_, .f32⟩
  | 5 => ⟨S8x15x128, .f32⟩
  | 6 => ⟨S8x4081x128, .f32⟩
  | 7 => ⟨S8x4096x128, .f32⟩
  | 8 => ⟨S_, .i32⟩
  | 9 => ⟨S4096, .i32⟩
  | 10 => ⟨S4096, .i32⟩
  | 11 => ⟨S_, .i32⟩
  | 12 => ⟨S4096, .i32⟩
  | 13 => ⟨S4096, .i32⟩
  | 14 => ⟨S4096, .f32⟩
  | 15 => ⟨S1x4096x1, .f32⟩
  | 16 => ⟨S8x4096x128, .f32⟩
  | 17 => ⟨S8x4096x128, .f32⟩
  | 18 => ⟨S8x4096x128, .f32⟩
  | 19 => ⟨S8x4096x128, .f32⟩
  | 20 => ⟨S8x4096x128, .f32⟩
  | 21 => ⟨S8x4096x128, .f32⟩
  | 22 => ⟨S8x4096x1x128, .f32⟩
  | 23 => ⟨S8x4096x1x128, .f32⟩
  | 24 => ⟨S8x4096x1x128, .f32⟩
  | 25 => ⟨S8x4096x1x128, .f32⟩
  | 26 => ⟨S8x4096x4x128, .f32⟩
  | 27 => ⟨S4x128x8x4096, .f32⟩
  | 28 => ⟨S8x4096x4x128, .f32⟩
  | 29 => ⟨S8x4096x512, .f32⟩
  | 30 => ⟨S1x1x512, .f32⟩
  | 31 => ⟨S8x4096x512, .f32⟩
  | 32 => ⟨S8x4096x512, .f32⟩
  | 33 => ⟨S8x4096x512, .f32⟩
  | 34 => ⟨S8x4096x512, .f32⟩
  | 35 => ⟨S_, .f32⟩
  | 36 => ⟨S8x4096x512, .f32⟩
  | 37 => ⟨S8x4096x512, .f32⟩
  | 38 => ⟨S_, .f32⟩
  | 39 => ⟨S8x4096x512, .f32⟩
  | 40 => ⟨S8x4096x512, .f32⟩
  | 41 => ⟨S8x4096x512, .f32⟩
  | 42 => ⟨S8x4096x512, .f32⟩
  | 43 => ⟨S_, .f32⟩
  | 44 => ⟨S_, .f32⟩
  | 45 => ⟨S8x4096x8, .f32⟩
  | 46 => ⟨S8x8x4096, .f32⟩
  | 47 => ⟨S8x4096x512, .bf16⟩
  | 48 => ⟨S8x4096x512, .bf16⟩
  | 49 => ⟨S8x4096x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_call0_cst : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_call0_v2 : Ref sig .tc := ⟨.hbm, 51, rfl⟩
abbrev main_call0_call0_v3 : Ref sig .tc := ⟨.hbm, 52, rfl⟩
abbrev main_call0_call0_v4 : Ref sig .tc := ⟨.hbm, 53, rfl⟩
abbrev main_call0_call0_v5 : Ref sig .tc := ⟨.hbm, 54, rfl⟩
abbrev main_call0_call0_v6 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_call0_v9 : Ref sig .tc := ⟨.hbm, 58, rfl⟩
abbrev main_call0_call0_v10 : Ref sig .tc := ⟨.hbm, 59, rfl⟩
abbrev main_call0_call0_v11 : Ref sig .tc := ⟨.hbm, 60, rfl⟩
abbrev main_call0_v1 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_2 : Ref sig .tc := ⟨.hbm, 67, rfl⟩
abbrev main_v40 : Ref sig .tc := ⟨.hbm, 68, rfl⟩
abbrev main_call1_call0_cst : Ref sig .tc := ⟨.hbm, 69, rfl⟩
abbrev main_call1_call0_v0 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_3 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c : Ref sig .tc := ⟨.hbm, 79, rfl⟩
abbrev main_v48 : Ref sig .tc := ⟨.hbm, 80, rfl⟩
abbrev main_v49 : Ref sig .tc := ⟨.hbm, 81, rfl⟩
abbrev main_c_4 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_5 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_6 : Ref sig .tc := ⟨.hbm, 98, rfl⟩
abbrev main_v64 : Ref sig .tc := ⟨.hbm, 99, rfl⟩
abbrev main_v65 : Ref sig .tc := ⟨.hbm, 100, rfl⟩
abbrev main_c_7 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_8 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_9 : Ref sig .tc := ⟨.hbm, 117, rfl⟩
abbrev main_v80 : Ref sig .tc := ⟨.hbm, 118, rfl⟩
abbrev main_v81 : Ref sig .tc := ⟨.hbm, 119, rfl⟩
abbrev main_c_10 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_11 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_c_12 : Ref sig .tc := ⟨.hbm, 136, rfl⟩
abbrev main_v96 : Ref sig .tc := ⟨.hbm, 137, rfl⟩
abbrev main_v97 : Ref sig .tc := ⟨.hbm, 138, rfl⟩
abbrev main_c_13 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_call2_v0 : Ref sig .tc := ⟨.hbm, 161, rfl⟩
abbrev main_call2_v1 : Ref sig .tc := ⟨.hbm, 162, rfl⟩
abbrev main_call2_cst : Ref sig .tc := ⟨.hbm, 163, rfl⟩
abbrev main_call2_v2 : Ref sig .tc := ⟨.hbm, 164, rfl⟩
abbrev main_call2_v3 : Ref sig .tc := ⟨.hbm, 165, rfl⟩
abbrev main_call2_cst_0 : Ref sig .tc := ⟨.hbm, 166, rfl⟩
abbrev main_call2_v4 : Ref sig .tc := ⟨.hbm, 167, rfl⟩
abbrev main_call2_v5 : Ref sig .tc := ⟨.hbm, 168, rfl⟩
abbrev main_v119 : Ref sig .tc := ⟨.hbm, 169, rfl⟩
abbrev main_v120 : Ref sig .tc := ⟨.hbm, 170, rfl⟩
abbrev main_call3_call0_cst : Ref sig .tc := ⟨.hbm, 171, rfl⟩
abbrev main_call3_call0_v0 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩

abbrev nD : Nat := 1
abbrev τ : Topo := Topo.v7x

variable {F : FTy → Type} [FloatOps F]
-- ==== First.lean ====
abbrev S8x4096x1024 : Shape := ⟨3, ![8, 4096, 1024]⟩
abbrev S4x1024 : Shape := ⟨2, ![4, 1024]⟩
abbrev S4x1024x3080 : Shape := ⟨3, ![4, 1024, 3080]⟩
abbrev S4x8 : Shape := ⟨2, ![4, 8]⟩
abbrev S4x4x128x128 : Shape := ⟨4, ![4, 4, 128, 128]⟩
abbrev S4x512 : Shape := ⟨2, ![4, 512]⟩
abbrev S4x1024x8 : Shape := ⟨3, ![4, 1024, 8]⟩
abbrev S_ : Shape := ⟨0, ![]⟩
abbrev S4x1024x128 : Shape := ⟨3, ![4, 1024, 128]⟩
abbrev S4x8x1 : Shape := ⟨3, ![4, 8, 1]⟩
abbrev S4x1x1024 : Shape := ⟨3, ![4, 1, 1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x256 : Shape := ⟨2, ![128, 256]⟩
abbrev S4x1x512 : Shape := ⟨3, ![4, 1, 512]⟩
abbrev S8x4096x512 : Shape := ⟨3, ![8, 4096, 512]⟩
abbrev S8x8x4096 : Shape := ⟨3, ![8, 8, 4096]⟩
abbrev S1x1024x1024 : Shape := ⟨3, ![1, 1024, 1024]⟩
abbrev S1x1x1024 : Shape := ⟨3, ![1, 1, 1024]⟩
abbrev S1x1024x3072 : Shape := ⟨3, ![1, 1024, 3072]⟩
abbrev S1x1024x128 : Shape := ⟨3, ![1, 1024, 128]⟩
abbrev S1x8x1 : Shape := ⟨3, ![1, 8, 1]⟩
abbrev S1x4x128x128 : Shape := ⟨4, ![1, 4, 128, 128]⟩
abbrev S1x1x512 : Shape := ⟨3, ![1, 1, 512]⟩
abbrev S1x1024x512 : Shape := ⟨3, ![1, 1024, 512]⟩
abbrev S1x8x1024 : Shape := ⟨3, ![1, 8, 1024]⟩
abbrev S8x128 : Shape := ⟨2, ![8, 128]⟩
abbrev S1040x512 : Shape := ⟨2, ![1040, 512]⟩
abbrev S1024x1024 : Shape := ⟨2, ![1024, 1024]⟩
abbrev S16x512 : Shape := ⟨2, ![16, 512]⟩
abbrev S1024 : Shape := ⟨1, ![1024]⟩
abbrev S1024x1 : Shape := ⟨2, ![1024, 1]⟩
abbrev S1x1024 : Shape := ⟨2, ![1, 1024]⟩
abbrev S1024x128 : Shape := ⟨2, ![1024, 128]⟩
abbrev S1x1024x1536 : Shape := ⟨3, ![1, 1024, 1536]⟩
abbrev S1024x1536 : Shape := ⟨2, ![1024, 1536]⟩
abbrev S1024x512 : Shape := ⟨2, ![1024, 512]⟩
abbrev S1040x128 : Shape := ⟨2, ![1040, 128]⟩
abbrev S1x1x128x128 : Shape := ⟨4, ![1, 1, 128, 128]⟩
abbrev S1x512 : Shape := ⟨2, ![1, 512]⟩
abbrev S128x1024 : Shape := ⟨2, ![128, 1024]⟩
abbrev S8x1024 : Shape := ⟨2, ![8, 1024]⟩
abbrev S8x1 : Shape := ⟨2, ![8, 1]⟩
abbrev S32x1024 : Shape := ⟨2, ![32, 1024]⟩
abbrev S32x128 : Shape := ⟨2, ![32, 128]⟩
abbrev S32x256 : Shape := ⟨2, ![32, 256]⟩
abbrev S8x256 : Shape := ⟨2, ![8, 256]⟩
abbrev S1x8x128 : Shape := ⟨3, ![1, 8, 128]⟩

abbrev nBuf : Space → Nat
  | .hbm => 31
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S4x1024x3080, .f32⟩
  | .hbm, ⟨3, _⟩ => ⟨S4x8, .f32⟩
  | .hbm, ⟨4, _⟩ => ⟨S4x4x128x128, .f32⟩
  | .hbm, ⟨5, _⟩ => ⟨S4x512, .f32⟩
  | .hbm, ⟨6, _⟩ => ⟨S4x1024x3080, .bf16⟩
  | .hbm, ⟨7, _⟩ => ⟨S4x1024x8, .bf16⟩
  | .hbm, ⟨8, _⟩ => ⟨S_, .i32⟩
  | .hbm, ⟨9, _⟩ => ⟨S_, .bf16⟩
  | .hbm, ⟨10, _⟩ => ⟨S4x1024x128, .bf16⟩
  | .hbm, ⟨11, _⟩ => ⟨S4x8x1, .f32⟩
  | .hbm, ⟨12, _⟩ => ⟨S4x1x1024, .f32⟩
  | .hbm, ⟨13, _⟩ => ⟨S128, .i32⟩
  | .hbm, ⟨14, _⟩ => ⟨S128x1, .i32⟩
  | .hbm, ⟨15, _⟩ => ⟨S1x128, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S128x128, .bf16⟩
  | .hbm, ⟨20, _⟩ => ⟨S_, .bf16⟩
  | .hbm, ⟨21, _⟩ => ⟨S128x128, .bf16⟩
  | .hbm, ⟨22, _⟩ => ⟨S128x256, .bf16⟩
  | .hbm, ⟨23, _⟩ => ⟨S4x4x128x128, .bf16⟩
  | .hbm, ⟨24, _⟩ => ⟨S4x1x512, .f32⟩
  | .hbm, ⟨25, _⟩ => ⟨S8x4096x512, .bf16⟩
  | .hbm, ⟨26, _⟩ => ⟨S8x4096x512, .f32⟩
  | .hbm, ⟨27, _⟩ => ⟨S8x4096x512, .bf16⟩
  | .hbm, ⟨28, _⟩ => ⟨S8x4096x512, .bf16⟩
  | .hbm, ⟨29, _⟩ => ⟨S8x4096x512, .f32⟩
  | .hbm, ⟨30, _⟩ => ⟨S8x8x4096, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1024x3072, .bf16⟩
  | .local _ .vmem, ⟨4, _⟩ => ⟨S1x1024x128, .bf16⟩
  | .local _ .vmem, ⟨5, _⟩ => ⟨S1x8x1, .f32⟩
  | .local _ .vmem, ⟨6, _⟩ => ⟨S128x256, .bf16⟩
  | .local _ .vmem, ⟨7, _⟩ => ⟨S1x4x128x128, .bf16⟩
  | .local _ .vmem, ⟨8, _⟩ => ⟨S1x1x512, .f32⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .f32⟩
  | .local _ .vmem, ⟨12, _⟩ => ⟨S1x1024x512, .f32⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .f32⟩
  | .local _ .vmem, ⟨18, _⟩ => ⟨S1x1024x512, .f32⟩
  | .local _ .vmem, ⟨19, _⟩ => ⟨S1x8x1024, .f32⟩
  | .local _ .vmem, ⟨20, _⟩ => ⟨S1x8x1024, .f32⟩
  | .local _ .vmem, ⟨21, _⟩ => ⟨S8x128, .f32⟩
  | .local _ .vmem, ⟨22, _⟩ => ⟨S1040x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev main_v16_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== FirstReferenceIdeal.lean ====
abbrev S8x4096x1024 : Shape := ⟨3, ![8, 4096, 1024]⟩
abbrev S4x1024 : Shape := ⟨2, ![4, 1024]⟩
abbrev S4x1024x3080 : Shape := ⟨3, ![4, 1024, 3080]⟩
abbrev S4x8 : Shape := ⟨2, ![4, 8]⟩
abbrev S4x4x128x128 : Shape := ⟨4, ![4, 4, 128, 128]⟩
abbrev S4x512 : Shape := ⟨2, ![4, 512]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x3080 : Shape := ⟨3, ![1, 1024, 3080]⟩
abbrev S1024x3080 : Shape := ⟨2, ![1024, 3080]⟩
abbrev S8x4096x3080 : Shape := ⟨3, ![8, 4096, 3080]⟩
abbrev S8x4096x512 : Shape := ⟨3, ![8, 4096, 512]⟩
abbrev S8x4096x8 : Shape := ⟨3, ![8, 4096, 8]⟩
abbrev S1x8 : Shape := ⟨2, ![1, 8]⟩
abbrev S8 : Shape := ⟨1, ![8]⟩
abbrev S1x1x8 : Shape := ⟨3, ![1, 1, 8]⟩
abbrev S1x4x128x128 : Shape := ⟨4, ![1, 4, 128, 128]⟩
abbrev S4x128x128 : Shape := ⟨3, ![4, 128, 128]⟩
abbrev S1x512 : Shape := ⟨2, ![1, 512]⟩
abbrev S512 : Shape := ⟨1, ![512]⟩
abbrev S8x1x512 : Shape := ⟨3, ![8, 1, 512]⟩
abbrev S8x4097x512 : Shape := ⟨3, ![8, 4097, 512]⟩
abbrev S4096 : Shape := ⟨1, ![4096]⟩
abbrev S8x4097x128 : Shape := ⟨3, ![8, 4097, 128]⟩
abbrev S8x1x128 : Shape := ⟨3, ![8, 1, 128]⟩
abbrev S8x4095x128 : Shape := ⟨3, ![8, 4095, 128]⟩
abbrev S8x4096x128 : Shape := ⟨3, ![8, 4096, 128]⟩
abbrev S1x4096x1 : Shape := ⟨3, ![1, 4096, 1]⟩
abbrev S8x3x128 : Shape := ⟨3, ![8, 3, 128]⟩
abbrev S8x4093x128 : Shape := ⟨3, ![8, 4093, 128]⟩
abbrev S8x7x128 : Shape := ⟨3, ![8, 7, 128]⟩
abbrev S8x4089x128 : Shape := ⟨3, ![8, 4089, 128]⟩
abbrev S8x15x128 : Shape := ⟨3, ![8, 15, 128]⟩
abbrev S8x4081x128 : Shape := ⟨3, ![8, 4081, 128]⟩
abbrev S8x4096x1x128 : Shape := ⟨4, ![8, 4096, 1, 128]⟩
abbrev S8x4096x4x128 : Shape := ⟨4, ![8, 4096, 4, 128]⟩
abbrev S4x128x8x4096 : Shape := ⟨4, ![4, 128, 8, 4096]⟩
abbrev S1x1x512 : Shape := ⟨3, ![1, 1, 512]⟩
abbrev S8x8x4096 : Shape := ⟨3, ![8, 8, 4096]⟩

abbrev nBuf : Space → Nat
  | .hbm => 170
  | .vmem => 0
  | .smem => 0
  | _ => 0

abbrev hbmTy0_0 (i : Nat) : BufTy := match i % 128 with
  | 0 => ⟨S8x4096x1024, .f32⟩
  | 1 => ⟨S4x1024, .f32⟩
  | 2 => ⟨S4x1024x3080, .f32⟩
  | 3 => ⟨S4x8, .f32⟩
  | 4 => ⟨S4x4x128x128, .f32⟩
  | 5 => ⟨S4x512, .f32⟩
  | 6 => ⟨S1x1024, .f32⟩
  | 7 => ⟨S1024, .f32⟩
  | 8 => ⟨S8x4096x1024, .f32⟩
  | 9 => ⟨S_, .f32⟩
  | 10 => ⟨S8x4096, .f32⟩
  | 11 => ⟨S8x4096x1, .f32⟩
  | 12 => ⟨S_, .f32⟩
  | 13 => ⟨S8x4096x1, .f32⟩
  | 14 => ⟨S8x4096x1, .f32⟩
  | 15 => ⟨S_, .f32⟩
  | 16 => ⟨S8x4096x1, .f32⟩
  | 17 => ⟨S8x4096x1, .f32⟩
  | 18 => ⟨S8x4096x1, .f32⟩
  | 19 => ⟨S8x4096x1024, .f32⟩
  | 20 => ⟨S8x4096x1024, .f32⟩
  | 21 => ⟨S1x1x1024, .f32⟩
  | 22 => ⟨S8x4096x1024, .f32⟩
  | 23 => ⟨S8x4096x1024, .f32⟩
  | 24 => ⟨S1x1024x3080, .f32⟩
  | 25 => ⟨S1024x3080, .f32⟩
  | 26 => ⟨S8x4096x3080, .f32⟩
  | 27 => ⟨S8x4096x512, .f32⟩
  | 28 => ⟨S8x4096x512, .f32⟩
  | 29 => ⟨S8x4096x512, .f32⟩
  | 30 => ⟨S8x4096x512, .f32⟩
  | 31 => ⟨S8x4096x512, .f32⟩
  | 32 => ⟨S8x4096x512, .f32⟩
  | 33 => ⟨S8x4096x8, .f32⟩
  | 34 => ⟨S1x8, .f32⟩
  | 35 => ⟨S8, .f32⟩
  | 36 => ⟨S1x1x8, .f32⟩
  | 37 => ⟨S8x4096x8, .f32⟩
  | 38 => ⟨S8x4096x8, .f32⟩
  | 39 => ⟨S8x4096x8, .f32⟩
  | 40 => ⟨S_, .f32⟩
  | 41 => ⟨S8x4096x8, .f32⟩
  | 42 => ⟨S8x4096x8, .f32⟩
  | 43 => ⟨S8x4096x8, .f32⟩
  | 44 => ⟨S8x4096x8, .f32⟩
  | 45 => ⟨S8x4096x8, .i1⟩
  | 46 => ⟨S8x4096x8, .f32⟩
  | 47 => ⟨S8x4096x8, .f32⟩
  | 48 => ⟨S8x4096x8, .f32⟩
  | 49 => ⟨S8x4096x8, .f32⟩
  | 50 => ⟨S8x4096x8, .f32⟩
  | 51 => ⟨S8x4096x8, .f32⟩
  | 52 => ⟨S8x4096x8, .f32⟩
  | 53 => ⟨S8x4096x8, .f32⟩
  | 54 => ⟨S8x4096x8, .f32⟩
  | 55 => ⟨S1x4x128x128, .f32⟩
  | 56 => ⟨S4x128x128, .f32⟩
  | 57 => ⟨S1x512, .f32⟩
  | 58 => ⟨S512, .f32⟩
  | 59 => ⟨S_, .f32⟩
  | 60 => ⟨S8x1x512, .f32⟩
  | 61 => ⟨S_, .f32⟩
  | 62 => ⟨S_, .f32⟩
  | 63 => ⟨S8x4096x512, .f32⟩
  | 64 => ⟨S8x4097x512, .f32⟩
  | 65 => ⟨S4096, .i32⟩
  | 66 => ⟨S8x4097x128, .f32⟩
  | 67 => ⟨S_, .f32⟩
  | 68 => ⟨S8x1x128, .f32⟩
  | 69 => ⟨S8x4095x128, .f32⟩
  | 70 => ⟨S8x4096x128, .f32⟩
  | 71 => ⟨S_, .i32⟩
  | 72 => ⟨S4096, .i32⟩
  | 73 => ⟨S4096, .i32⟩
  | 74 => ⟨S_, .i32⟩
  | 75 => ⟨S4096, .i32⟩
  | 76 => ⟨S4096, .i32⟩
  | 77 => ⟨S4096, .f32⟩
  | 78 => ⟨S1x4096x1, .f32⟩
  | 79 => ⟨S8x4096x128, .f32⟩
  | 80 => ⟨S8x4096x128, .f32⟩
  | 81 => ⟨S8x4096x128, .f32⟩
  | 82 => ⟨S8x4096x128, .f32⟩
  | 83 => ⟨S8x4096x128, .f32⟩
  | 84 => ⟨S8x4096x128, .f32⟩
  | 85 => ⟨S8x4097x128, .f32⟩
  | 86 => ⟨S_, .f32⟩
  | 87 => ⟨S8x3x128, .f32⟩
  | 88 => ⟨S8x4093x128, .f32⟩
  | 89 => ⟨S8x4096x128, .f32⟩
  | 90 => ⟨S_, .i32⟩
  | 91 => ⟨S4096, .i32⟩
  | 92 => ⟨S4096, .i32⟩
  | 93 => ⟨S_, .i32⟩
  | 94 => ⟨S4096, .i32⟩
  | 95 => ⟨S4096, .i32⟩
  | 96 => ⟨S4096, .f32⟩
  | 97 => ⟨S1x4096x1, .f32⟩
  | 98 => ⟨S8x4096x128, .f32⟩
  | 99 => ⟨S8x4096x128, .f32⟩
  | 100 => ⟨S8x4096x128, .f32⟩
  | 101 => ⟨S8x4096x128, .f32⟩
  | 102 => ⟨S8x4096x128, .f32⟩
  | 103 => ⟨S8x4096x128, .f32⟩
  | 104 => ⟨S8x4097x128, .f32⟩
  | 105 => ⟨S_, .f32⟩
  | 106 => ⟨S8x7x128, .f32⟩
  | 107 => ⟨S8x4089x128, .f32⟩
  | 108 => ⟨S8x4096x128, .f32⟩
  | 109 => ⟨S_, .i32⟩
  | 110 => ⟨S4096, .i32⟩
  | 111 => ⟨S4096, .i32⟩
  | 112 => ⟨S_, .i32⟩
  | 113 => ⟨S4096, .i32⟩
  | 114 => ⟨S4096, .i32⟩
  | 115 => ⟨S4096, .f32⟩
  | 116 => ⟨S1x4096x1, .f32⟩
  | 117 => ⟨S8x4096x128, .f32⟩
  | 118 => ⟨S8x4096x128, .f32⟩
  | 119 => ⟨S8x4096x128, .f32⟩
  | 120 => ⟨S8x4096x128, .f32⟩
  | 121 => ⟨S8x4096x128, .f32⟩
  | 122 => ⟨S8x4096x128, .f32⟩
  | 123 => ⟨S8x4097x128, .f32⟩
  | 124 => ⟨S_, .f32⟩
  | 125 => ⟨S8x15x128, .f32⟩
  | 126 => ⟨S8x4081x128, .f32⟩
  | 127 => ⟨S8x4096x128, .f32⟩
  | _ => ⟨S8x4096x1024, .f32⟩

abbrev hbmTy0_1 (i : Nat) : BufTy := match i % 128 with
  | 0 => ⟨S_, .i32⟩
  | 1 => ⟨S4096, .i32⟩
  | 2 => ⟨S4096, .i32⟩
  | 3 => ⟨S_, .i32⟩
  | 4 => ⟨S4096, .i32⟩
  | 5 => ⟨S4096, .i32⟩
  | 6 => ⟨S4096, .f32⟩
  | 7 => ⟨S1x4096x1, .f32⟩
  | 8 => ⟨S8x4096x128, .f32⟩
  | 9 => ⟨S8x4096x128, .f32⟩
  | 10 => ⟨S8x4096x128, .f32⟩
  | 11 => ⟨S8x4096x128, .f32⟩
  | 12 => ⟨S8x4096x128, .f32⟩
  | 13 => ⟨S8x4096x128, .f32⟩
  | 14 => ⟨S8x4096x1x128, .f32⟩
  | 15 => ⟨S8x4096x1x128, .f32⟩
  | 16 => ⟨S8x4096x1x128, .f32⟩
  | 17 => ⟨S8x4096x1x128, .f32⟩
  | 18 => ⟨S8x4096x4x128, .f32⟩
  | 19 => ⟨S4x128x8x4096, .f32⟩
  | 20 => ⟨S8x4096x4x128, .f32⟩
  | 21 => ⟨S8x4096x512, .f32⟩
  | 22 => ⟨S1x1x512, .f32⟩
  | 23 => ⟨S8x4096x512, .f32⟩
  | 24 => ⟨S8x4096x512, .f32⟩
  | 25 => ⟨S8x4096x512, .f32⟩
  | 26 => ⟨S8x4096x512, .f32⟩
  | 27 => ⟨S_, .f32⟩
  | 28 => ⟨S8x4096x512, .f32⟩
  | 29 => ⟨S8x4096x512, .f32⟩
  | 30 => ⟨S_, .f32⟩
  | 31 => ⟨S8x4096x512, .f32⟩
  | 32 => ⟨S8x4096x512, .f32⟩
  | 33 => ⟨S8x4096x512, .f32⟩
  | 34 => ⟨S8x4096x512, .f32⟩
  | 35 => ⟨S_, .f32⟩
  | 36 => ⟨S_, .f32⟩
  | 37 => ⟨S8x4096x8, .f32⟩
  | 38 => ⟨S8x8x4096, .f32⟩
  | 39 => ⟨S8x4096x512, .bf16⟩
  | 40 => ⟨S8x4096x512, .bf16⟩
  | 41 => ⟨S8x4096x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_v0 : Ref sig .tc := ⟨.hbm, 39, rfl⟩
abbrev main_call0_call0_cst : Ref sig .tc := ⟨.hbm, 40, rfl⟩
abbrev main_call0_call0_v0 : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_v1 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_2 : Ref sig .tc := ⟨.hbm, 59, rfl⟩
abbrev main_v35 : Ref sig .tc := ⟨.hbm, 60, rfl⟩
abbrev main_call1_call0_cst : Ref sig .tc := ⟨.hbm, 61, rfl⟩
abbrev main_call1_call0_v0 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_3 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c : Ref sig .tc := ⟨.hbm, 71, rfl⟩
abbrev main_v43 : Ref sig .tc := ⟨.hbm, 72, rfl⟩
abbrev main_v44 : Ref sig .tc := ⟨.hbm, 73, rfl⟩
abbrev main_c_4 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_5 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_6 : Ref sig .tc := ⟨.hbm, 90, rfl⟩
abbrev main_v59 : Ref sig .tc := ⟨.hbm, 91, rfl⟩
abbrev main_v60 : Ref sig .tc := ⟨.hbm, 92, rfl⟩
abbrev main_c_7 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_8 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_9 : Ref sig .tc := ⟨.hbm, 109, rfl⟩
abbrev main_v75 : Ref sig .tc := ⟨.hbm, 110, rfl⟩
abbrev main_v76 : Ref sig .tc := ⟨.hbm, 111, rfl⟩
abbrev main_c_10 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_11 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_12 : Ref sig .tc := ⟨.hbm, 128, rfl⟩
abbrev main_v91 : Ref sig .tc := ⟨.hbm, 129, rfl⟩
abbrev main_v92 : Ref sig .tc := ⟨.hbm, 130, rfl⟩
abbrev main_c_13 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_call2_v0 : Ref sig .tc := ⟨.hbm, 153, rfl⟩
abbrev main_call2_v1 : Ref sig .tc := ⟨.hbm, 154, rfl⟩
abbrev main_call2_cst : Ref sig .tc := ⟨.hbm, 155, rfl⟩
abbrev main_call2_v2 : Ref sig .tc := ⟨.hbm, 156, rfl⟩
abbrev main_call2_v3 : Ref sig .tc := ⟨.hbm, 157, rfl⟩
abbrev main_call2_cst_0 : Ref sig .tc := ⟨.hbm, 158, rfl⟩
abbrev main_call2_v4 : Ref sig .tc := ⟨.hbm, 159, rfl⟩
abbrev main_call2_v5 : Ref sig .tc := ⟨.hbm, 160, rfl⟩
abbrev main_v114 : Ref sig .tc := ⟨.hbm, 161, rfl⟩
abbrev main_v115 : Ref sig .tc := ⟨.hbm, 162, rfl⟩
abbrev main_call3_call0_cst : Ref sig .tc := ⟨.hbm, 163, rfl⟩
abbrev main_call3_call0_v0 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩

abbrev nD : Nat := 1
abbrev τ : Topo := Topo.v7x

variable {F : FTy → Type} [FloatOps F]
-- ==== Proof.Attn.lean ====
module

public import Idealize.ShloMosaic.Lib.Pipeline
public import Idealize.ShloMosaic.Lib.Exec
public import Idealize.ShloMosaic.Lib.Writes
public import Idealize.ShloMosaic.Lib.StableHlo
public import Idealize.ShloMosaic.PureOps
public import Idealize.ShloMosaic.PureOps.Ideal

/-! The attention body as a loop: one unit of work is one block of 256 query rows (of both heads of a pair)
    against one tile of 512 keys; the body is a prologue, the units tile by tile, and an epilogue. -/

@[expose] public section

set_option maxRecDepth 16384

namespace Attn

open Idealize.ShloMosaic Idealize.SL.Sem

noncomputable section

abbrev A1x128 : Shape := ⟨2, ![1, 128]⟩
abbrev A1x256 : Shape := ⟨2, ![1, 256]⟩
abbrev A1x512 : Shape := ⟨2, ![1, 512]⟩
abbrev A256 : Shape := ⟨1, ![256]⟩
abbrev A256x1 : Shape := ⟨2, ![256, 1]⟩
abbrev A256x128 : Shape := ⟨2, ![256, 128]⟩
abbrev A256x256 : Shape := ⟨2, ![256, 256]⟩
abbrev A256x512 : Shape := ⟨2, ![256, 512]⟩
abbrev A512x128 : Shape := ⟨2, ![512, 128]⟩
abbrev A512x256 : Shape := ⟨2, ![512, 256]⟩
abbrev A512x512 : Shape := ⟨2, ![512, 512]⟩
abbrev A1x256x128 : Shape := ⟨3, ![1, 256, 128]⟩
abbrev A1x512x128 : Shape := ⟨3, ![1, 512, 128]⟩
abbrev A1x1x512 : Shape := ⟨3, ![1, 1, 512]⟩
abbrev Sx128 : Shape := ⟨2, ![4096, 128]⟩
abbrev S1xSx128 : Shape := ⟨3, ![1, 4096, 128]⟩
abbrev S2xSx128 : Shape := ⟨3, ![2, 4096, 128]⟩
abbrev S1x8xS : Shape := ⟨3, ![1, 8, 4096]⟩

/-- Scores of stacked query rows against 512 (256) keys: both contract their lane axis. -/
def dQK : DotDims A512x128 A512x128 A512x512 where
  lhsContracting := [1]
  rhsContracting := [1]
  lhsNonContracting := [0]
  rhsNonContracting := [0]
  lhsBatch := []
  rhsBatch := []
  wf := by decide
def dQKh : DotDims A512x128 A256x128 A512x256 where
  lhsContracting := [1]
  rhsContracting := [1]
  lhsNonContracting := [0]
  rhsNonContracting := [0]
  lhsBatch := []
  rhsBatch := []
  wf := by decide
/-- Weights times values. -/
def dPV : DotDims A512x512 A512x256 A512x256 where
  lhsContracting := [1]
  rhsContracting := [0]
  lhsNonContracting := [0]
  rhsNonContracting := [1]
  lhsBatch := []
  rhsBatch := []
  wf := by decide
def dPVh : DotDims A512x256 A256x256 A512x256 where
  lhsContracting := [1]
  rhsContracting := [0]
  lhsNonContracting := [0]
  rhsNonContracting := [1]
  lhsBatch := []
  rhsBatch := []
  wf := by decide

theorem sl_rows {rb : Nat} (h : rb + 256 ≤ 4096) : Sx128.Slices ![rb, 0] A256x128 :=
  ⟨rfl, by intro a; fin_cases a <;> simp <;> omega⟩
theorem inb_blk {hh rb : Nat} (h0 : hh < 2) (h : rb + 256 ≤ 4096) :
    ∀ a, (![hh, rb, 0] : Fin 3 → Nat) a + A1x256x128.size a ≤ S2xSx128.size a := by
  intro a; fin_cases a <;> simp [Shape.size] <;> omega
theorem inb_half {hh : Nat} (h0 : hh < 2) :
    ∀ a, (![hh, 0, 0] : Fin 3 → Nat) a + S1xSx128.size a ≤ S2xSx128.size a := by
  intro a; fin_cases a <;> simp [Shape.size] <;> omega
theorem inb_kv {cb : Nat} (h : cb + 512 ≤ 4096) :
    ∀ a, (![0, cb, 0] : Fin 3 → Nat) a + A1x512x128.size a ≤ S1xSx128.size a := by
  intro a; fin_cases a <;> simp [Shape.size] <;> omega
theorem inb_bias {o cb : Nat} (h0 : o + 1 ≤ 8) (h : cb + 512 ≤ 4096) :
    ∀ a, (![0, o, cb] : Fin 3 → Nat) a + A1x1x512.size a ≤ S1x8xS.size a := by
  intro a; fin_cases a <;> simp [Shape.size] <;> omega
theorem inb_wq : ∀ a, (![0, 0, 0] : Fin 3 → Nat) a + S1xSx128.size a ≤ S1xSx128.size a := by decide
theorem inb_ws : ∀ a, (![0, 0, 0] : Fin 3 → Nat) a + S2xSx128.size a ≤ S2xSx128.size a := by decide

theorem cc_rows128 : Shape.Concatenates [A256x128, A256x128] A512x128 0 := by decide
theorem cc_vs : Shape.Concatenates [A512x128, A512x128] A512x256 1 := by decide
theorem cc_p4 : Shape.Concatenates [A256x128, A256x128, A256x128, A256x128] A256x512 1 := by decide
theorem cc_p2 : Shape.Concatenates [A256x128, A256x128] A256x256 1 := by decide
theorem cc_pf : Shape.Concatenates [A256x512, A256x512] A512x512 0 := by decide
theorem cc_ph : Shape.Concatenates [A256x256, A256x256] A512x256 0 := by decide

section Pure
variable {F : FTy → Type} [FloatOps F]

def zero32 : F .f32 := Scalar.ofBits .f32 0x00000000#32
def one32 : F .f32 := Scalar.ofBits .f32 0x3F800000#32

/-- The queries of a pair, scaled; one half of the lanes zeroed. -/
def laneLow : IVec A1x128 1 := cmpi .slt (iota .tc A1x128 32 [1] (by decide)) (broadcast A1x128 64#32)
def qScaled (cs : F .f32) (x : Vec F S1xSx128 .f32) : FVec F Sx128 .bf16 :=
  truncf .bf16 (mulf (shapeCast Sx128 x (by decide)) (broadcast Sx128 cs)) (by decide)
def qLow (q : FVec F Sx128 .bf16) : FVec F Sx128 .bf16 :=
  select (broadcastTo Sx128 (shapeCast A1x128 laneLow (by decide)) (by decide)) q
    (broadcast Sx128 (Scalar.ofBits .bf16 0x0000#16))
def qHigh (q : FVec F Sx128 .bf16) : FVec F Sx128 .bf16 :=
  select (broadcastTo Sx128 (shapeCast A1x128 laneLow (by decide)) (by decide))
    (broadcast Sx128 (Scalar.ofBits .bf16 0x0000#16)) q
def qUnit (q : FVec F Sx128 .bf16) (rb : Nat) (h : rb + 256 ≤ 4096) : FVec F A512x128 .bf16 :=
  concatenate A512x128 0 [⟨A256x128, extractStridedSlice A256x128 ![rb, 0] (qLow q) (sl_rows h)⟩,
    ⟨A256x128, extractStridedSlice A256x128 ![rb, 0] (qHigh q) (sl_rows h)⟩] cc_rows128

/-- What one key tile brings: its keys, its values beside ones, its two rows of scaled forget sums. -/
structure Tile (F : FTy → Type) where
  k : FVec F A512x128 .bf16
  v : FVec F A512x256 .bf16
  b0 : FVec F A1x512 .f32
  b1 : FVec F A1x512 .f32

def vsOf (x : Vec F A1x512x128 .bf16) : FVec F A512x256 .bf16 :=
  concatenate A512x256 1 [⟨A512x128, shapeCast A512x128 x (by decide)⟩,
    ⟨A512x128, broadcast A512x128 (Scalar.ofBits .bf16 0x3F80#16)⟩] cc_vs
def biasOf (cl : F .f32) (x : Vec F A1x1x512 .f32) : FVec F A1x512 .f32 :=
  mulf (shapeCast A1x512 x (by decide)) (broadcast A1x512 cl)
def kOf (x : Vec F A1x512x128 .bf16) : FVec F A512x128 .bf16 := shapeCast A512x128 x (by decide)

/-- Scores of one head of a block. -/
def scFull (qu : FVec F A512x128 .bf16) (t : Tile F) : FVec F A512x512 .f32 :=
  matmul dQK none qu t.k (constant A512x512 .f32 0x00000000#32)
def scHalf (qu : FVec F A512x128 .bf16) (t : Tile F) : FVec F A512x256 .f32 :=
  matmul dQKh none qu (extractStridedSlice A256x128 ![0, 0] t.k (by decide)) (constant A512x256 .f32 0x00000000#32)
def hdFull0 (s2 : FVec F A512x512 .f32) (b : FVec F A1x512 .f32) : FVec F A256x512 .f32 :=
  subf (extractStridedSlice A256x512 ![0, 0] s2 (by decide)) (broadcastTo A256x512 b (by decide))
def hdFull1 (s2 : FVec F A512x512 .f32) (b : FVec F A1x512 .f32) : FVec F A256x512 .f32 :=
  subf (extractStridedSlice A256x512 ![256, 0] s2 (by decide)) (broadcastTo A256x512 b (by decide))
def hdHalf0 (s2 : FVec F A512x256 .f32) (b : FVec F A1x512 .f32) : FVec F A256x256 .f32 :=
  subf (extractStridedSlice A256x256 ![0, 0] s2 (by decide))
    (broadcastTo A256x256 (extractStridedSlice A1x256 ![0, 0] b (by decide)) (by decide))
def hdHalf1 (s2 : FVec F A512x256 .f32) (b : FVec F A1x512 .f32) : FVec F A256x256 .f32 :=
  subf (extractStridedSlice A256x256 ![256, 0] s2 (by decide))
    (broadcastTo A256x256 (extractStridedSlice A1x256 ![0, 0] b (by decide)) (by decide))
def maskFull (rb cb : Nat) : IVec A256x512 1 :=
  cmpi .sge (addi (broadcast A256x512 (BitVec.ofNat 32 rb)) (iota .tc A256x512 32 [0] (by decide)))
    (addi (broadcast A256x512 (BitVec.ofNat 32 cb)) (iota .tc A256x512 32 [1] (by decide)))
def maskHalf (rb cb : Nat) : IVec A256x256 1 :=
  cmpi .sge (addi (broadcast A256x256 (BitVec.ofNat 32 rb)) (iota .tc A256x256 32 [0] (by decide)))
    (addi (broadcast A256x256 (BitVec.ofNat 32 cb)) (iota .tc A256x256 32 [1] (by decide)))
def mkFull (cm : F .f32) (rb cb : Nat) (s : FVec F A256x512 .f32) : FVec F A256x512 .f32 :=
  select (maskFull rb cb) s (broadcast A256x512 cm)
def mkHalf (cm : F .f32) (rb cb : Nat) (s : FVec F A256x256 .f32) : FVec F A256x256 .f32 :=
  select (maskHalf rb cb) s (broadcast A256x256 cm)

/-- The four (two) lane tiles of a score block, their maximum and the weights under a new maximum. -/
def tf0 (s : FVec F A256x512 .f32) : FVec F A256x128 .f32 := extractStridedSlice A256x128 ![0, 0] s (by decide)
def tf1 (s : FVec F A256x512 .f32) : FVec F A256x128 .f32 := extractStridedSlice A256x128 ![0, 128] s (by decide)
def tf2 (s : FVec F A256x512 .f32) : FVec F A256x128 .f32 := extractStridedSlice A256x128 ![0, 256] s (by decide)
def tf3 (s : FVec F A256x512 .f32) : FVec F A256x128 .f32 := extractStridedSlice A256x128 ![0, 384] s (by decide)
def th0 (s : FVec F A256x256 .f32) : FVec F A256x128 .f32 := extractStridedSlice A256x128 ![0, 0] s (by decide)
def th1 (s : FVec F A256x256 .f32) : FVec F A256x128 .f32 := extractStridedSlice A256x128 ![0, 128] s (by decide)
def mxFull (s : FVec F A256x512 .f32) : FVec F A256x128 .f32 :=
  maximumf (maximumf (maximumf (tf0 s) (tf1 s)) (tf2 s)) (tf3 s)
def mxHalf (s : FVec F A256x256 .f32) : FVec F A256x128 .f32 := maximumf (th0 s) (th1 s)
def ex (s m : FVec F A256x128 .f32) : FVec F A256x128 .bf16 := exp2 (truncf .bf16 (subf s m) (by decide))
def pFull (s : FVec F A256x512 .f32) (m : FVec F A256x128 .f32) : FVec F A256x512 .bf16 :=
  concatenate A256x512 1 [⟨A256x128, ex (tf0 s) m⟩, ⟨A256x128, ex (tf1 s) m⟩, ⟨A256x128, ex (tf2 s) m⟩,
    ⟨A256x128, ex (tf3 s) m⟩] cc_p4
def pHalf (s : FVec F A256x256 .f32) (m : FVec F A256x128 .f32) : FVec F A256x256 .bf16 :=
  concatenate A256x256 1 [⟨A256x128, ex (th0 s) m⟩, ⟨A256x128, ex (th1 s) m⟩] cc_p2
def pvFull (p0 p1 : FVec F A256x512 .bf16) (v : FVec F A512x256 .bf16) : FVec F A512x256 .f32 :=
  matmul dPV none (concatenate A512x512 0 [⟨A256x512, p0⟩, ⟨A256x512, p1⟩] cc_pf) v
    (constant A512x256 .f32 0x00000000#32)
def pvHalf (p0 p1 : FVec F A256x256 .bf16) (v : FVec F A512x256 .bf16) : FVec F A512x256 .f32 :=
  matmul dPVh none (concatenate A512x256 0 [⟨A256x256, p0⟩, ⟨A256x256, p1⟩] cc_ph)
    (extractStridedSlice A256x256 ![0, 0] v (by decide)) (constant A512x256 .f32 0x00000000#32)
def pt0 (pv : FVec F A512x256 .f32) : FVec F A256x256 .f32 := extractStridedSlice A256x256 ![0, 0] pv (by decide)
def pt1 (pv : FVec F A512x256 .f32) : FVec F A256x256 .f32 := extractStridedSlice A256x256 ![256, 0] pv (by decide)
def pa (p : FVec F A256x256 .f32) : FVec F A256x128 .f32 := extractStridedSlice A256x128 ![0, 0] p (by decide)
def pl (p : FVec F A256x256 .f32) : FVec F A256x128 .f32 := extractStridedSlice A256x128 ![0, 128] p (by decide)

/-- A block of the running state and back. -/
def dn (x : Vec F A1x256x128 .f32) : FVec F A256x128 .f32 := shapeCast A256x128 x (by decide)
def up (x : FVec F A256x128 .f32) : FVec F A1x256x128 .f32 := shapeCast A1x256x128 x (by decide)
def rowMax (s : FVec F A256x128 .f32) : FVec F A256x128 .f32 :=
  broadcastTo A256x128 (shapeCast A256x1 (multiReduction .maximumf [1] A256 s 0xFF800000#32 (by decide) (.inl rfl) rfl)
    (by decide)) (by decide)
def mNew (x : Vec F A1x256x128 .f32) (s : FVec F A256x128 .f32) : FVec F A256x128 .f32 := maximumf (dn x) (rowMax s)
def alpha (x : Vec F A1x256x128 .f32) (s : FVec F A256x128 .f32) : FVec F A256x128 .f32 :=
  exp2 (subf (dn x) (mNew x s))
def upd (a : FVec F A256x128 .f32) (x : Vec F A1x256x128 .f32) (d : FVec F A256x128 .f32) : FVec F A256x128 .f32 :=
  addf (mulf a (dn x)) d

/-- The result block from the four state halves and the gate. -/
def outOf (a0 l0 a1 l1 g : Vec F S1xSx128 .f32) : FVec F S1xSx128 .bf16 :=
  let o0 : FVec F Sx128 .f32 := divf (shapeCast Sx128 a0 (by decide)) (shapeCast Sx128 l0 (by decide))
  let o1 : FVec F Sx128 .f32 := divf (shapeCast Sx128 a1 (by decide)) (shapeCast Sx128 l1 (by decide))
  let o : FVec F Sx128 .f32 :=
    select (broadcastTo Sx128 (shapeCast A1x128 laneLow (by decide)) (by decide)) o0 o1
  let g' : FVec F Sx128 .f32 := shapeCast Sx128 g (by decide)
  let sg : FVec F Sx128 .f32 :=
    divf (broadcast Sx128 one32) (addf (broadcast Sx128 one32) (exp (subf (broadcast Sx128 zero32) g')))
  shapeCast S1xSx128 (truncf .bf16 (mulf o (mulf g' sg)) (by decide)) (by decide)

end Pure

section Body
variable {F : FTy → Type} [FloatOps F]
variable {nD : Nat} {τ : Topo} {sig : RefSig} {Λ : Labels}

abbrev Pr (F : FTy → Type) (nD : Nat) (τ : Topo) (sig : RefSig) (Λ : Labels) (α : Type) :=
  Prog (TpuEff nD τ sig (Elt F) Λ .tc) α

/-- Where the body's arrays lie: the operands, the result and the three running states. -/
structure Refs (sig : RefSig) where
  q : Memref sig .tc .vmem S1xSx128 .f32
  k : Memref sig .tc .vmem S1xSx128 .bf16
  v : Memref sig .tc .vmem S1xSx128 .bf16
  c : Memref sig .tc .vmem S1x8xS .f32
  g : Memref sig .tc .vmem S1xSx128 .f32
  o : Memref sig .tc .vmem S1xSx128 .bf16
  m : Memref sig .tc .vmem S2xSx128 .f32
  l : Memref sig .tc .vmem S2xSx128 .f32
  a : Memref sig .tc .vmem S2xSx128 .f32

/-- The named numbers and the row of the forget sums: what a body is written with. -/
structure Cst (F : FTy → Type) where
  cs : F .f32
  cm : F .f32
  cl : F .f32
  o0 : Nat
  o1 : Nat
  h0 : o0 + 1 ≤ 8
  h1 : o1 + 1 ≤ 8

theorem pos_blk : 0 < A1x256x128.numel := by decide
theorem pos_w2 : 0 < S2xSx128.numel := by decide
theorem pos_w1 : 0 < S1xSx128.numel := by decide
theorem pos_kv : 0 < A1x512x128.numel := by decide
theorem pos_b : 0 < A1x1x512.numel := by decide
theorem packed_o : (Rect.unit (s := S1xSx128) ![0, 0, 0] S1xSx128.size inb_wq).PackedRows (EltTy.packing .bf16) := by
  decide

def rBlk (hh rb : Nat) (h0 : hh < 2) (h : rb + 256 ≤ 4096) : Rect S2xSx128 :=
  Rect.unit (s := S2xSx128) ![hh, rb, 0] A1x256x128.size (inb_blk h0 h)

def ldBlk (m : Memref sig .tc .vmem S2xSx128 .f32) (hh rb : Nat) (h0 : hh < 2) (h : rb + 256 ≤ 4096) :
    Pr F nD τ sig Λ (Vec F A1x256x128 .f32) :=
  Prog.lift (.load m (Rect.unit (s := S2xSx128) ![hh, rb, 0] A1x256x128.size (inb_blk h0 h)).toLoadRect
    (View.loadsAt_vmem pos_blk))
def stBlk (m : Memref sig .tc .vmem S2xSx128 .f32) (hh rb : Nat) (h0 : hh < 2) (h : rb + 256 ≤ 4096)
    (x : FVec F A256x128 .f32) : Pr F nD τ sig Λ PUnit :=
  Prog.lift (.store m (Rect.unit (s := S2xSx128) ![hh, rb, 0] A1x256x128.size (inb_blk h0 h)) (up x) Finset.univ
    (View.stores_vmem_bits_univ pos_blk rfl) (.inl rfl))

/-- The new maximum of one head's block, and the factor the older sums take. -/
def stepM (R : Refs sig) (hh rb : Nat) (h0 : hh < 2) (h : rb + 256 ≤ 4096) (s : FVec F A256x128 .f32)
    {α : Type} (k : FVec F A256x128 .f32 → FVec F A256x128 .f32 → Pr F nD τ sig Λ α) : Pr F nD τ sig Λ α :=
  (ldBlk R.m hh rb h0 h).bind fun x =>
  (ldBlk R.m hh rb h0 h).bind fun _ =>
  (stBlk R.m hh rb h0 h (mNew x s)).bind fun _ => k (mNew x s) (alpha x s)

/-- One running sum of one head's block. -/
def stepS (m : Memref sig .tc .vmem S2xSx128 .f32) (hh rb : Nat) (h0 : hh < 2) (h : rb + 256 ≤ 4096)
    (al d : FVec F A256x128 .f32) {α : Type} (k : Pr F nD τ sig Λ α) : Pr F nD τ sig Λ α :=
  (ldBlk m hh rb h0 h).bind fun x =>
  (ldBlk m hh rb h0 h).bind fun _ =>
  (stBlk m hh rb h0 h (upd al x d)).bind fun _ => k

def sums (R : Refs sig) (rb : Nat) (h : rb + 256 ≤ 4096) (al0 al1 : FVec F A256x128 .f32)
    (pv : FVec F A512x256 .f32) {α : Type} (k : Pr F nD τ sig Λ α) : Pr F nD τ sig Λ α :=
  stepS R.a 0 rb (by decide) h al0 (pa (pt0 pv)) <|
  stepS R.l 0 rb (by decide) h al0 (pl (pt0 pv)) <|
  stepS R.a 1 rb (by decide) h al1 (pa (pt1 pv)) <|
  stepS R.l 1 rb (by decide) h al1 (pl (pt1 pv)) k

/-- A unit over all 512 keys, given its two heads' scores. -/
def unitOn (R : Refs sig) (rb : Nat) (h : rb + 256 ≤ 4096) (v : FVec F A512x256 .bf16)
    (s0 s1 : FVec F A256x512 .f32) {α : Type} (k : Pr F nD τ sig Λ α) : Pr F nD τ sig Λ α :=
  stepM R 0 rb (by decide) h (mxFull s0) fun m0 al0 =>
  stepM R 1 rb (by decide) h (mxFull s1) fun m1 al1 =>
  sums R rb h al0 al1 (pvFull (pFull s0 m0) (pFull s1 m1) v) k

/-- A unit over the first 256 keys. -/
def unitOnH (R : Refs sig) (rb : Nat) (h : rb + 256 ≤ 4096) (v : FVec F A512x256 .bf16)
    (s0 s1 : FVec F A256x256 .f32) {α : Type} (k : Pr F nD τ sig Λ α) : Pr F nD τ sig Λ α :=
  stepM R 0 rb (by decide) h (mxHalf s0) fun m0 al0 =>
  stepM R 1 rb (by decide) h (mxHalf s1) fun m1 al1 =>
  sums R rb h al0 al1 (pvHalf (pHalf s0 m0) (pHalf s1 m1) v) k

/-- The unit of a row block and a tile: nothing right of the diagonal, half a tile or a masked tile on it. -/
def unit (R : Refs sig) (C : Cst F) (q : FVec F Sx128 .bf16) (r j : Nat) (t : Tile F)
    {α : Type} (k : Pr F nD τ sig Λ α) : Pr F nD τ sig Λ α :=
  have h : min r 15 * 256 + 256 ≤ 4096 := by omega
  if 2 * j < r then
    if r = 2 * j + 1 then
      unitOn R (min r 15 * 256) h t.v
        (mkFull C.cm (min r 15 * 256) (j * 512) (hdFull0 (scFull (qUnit q (min r 15 * 256) h) t) t.b0))
        (mkFull C.cm (min r 15 * 256) (j * 512) (hdFull1 (scFull (qUnit q (min r 15 * 256) h) t) t.b1)) k
    else
      unitOn R (min r 15 * 256) h t.v
        (hdFull0 (scFull (qUnit q (min r 15 * 256) h) t) t.b0)
        (hdFull1 (scFull (qUnit q (min r 15 * 256) h) t) t.b1) k
  else if r = 2 * j then
    unitOnH R (min r 15 * 256) h t.v
      (mkHalf C.cm (min r 15 * 256) (j * 512) (hdHalf0 (scHalf (qUnit q (min r 15 * 256) h) t) t.b0))
      (mkHalf C.cm (min r 15 * 256) (j * 512) (hdHalf1 (scHalf (qUnit q (min r 15 * 256) h) t) t.b1)) k
  else k

def rowLoop (R : Refs sig) (C : Cst F) (q : FVec F Sx128 .bf16) (j : Nat) (t : Tile F) {α : Type} :
    Nat → Nat → Pr F nD τ sig Λ α → Pr F nD τ sig Λ α
  | 0, _, k => k
  | n + 1, r, k => unit R C q r j t (rowLoop R C q j t n (r + 1) k)

def tileLoop (R : Refs sig) (C : Cst F) (q : FVec F Sx128 .bf16) {α : Type} (k : Pr F nD τ sig Λ α) :
    Nat → List (Tile F) → Pr F nD τ sig Λ α
  | _, [] => k
  | j, t :: ts => rowLoop R C q j t 16 0 (tileLoop R C q k (j + 1) ts)

/-- One tile read: values, the two forget rows, keys. -/
def ldTile (R : Refs sig) (C : Cst F) (cb : Nat) (h : cb + 512 ≤ 4096) {α : Type}
    (k : Tile F → Pr F nD τ sig Λ α) : Pr F nD τ sig Λ α :=
  (Prog.lift (.load R.v (Rect.unit (s := S1xSx128) ![0, cb, 0] A1x512x128.size (inb_kv h)).toLoadRect
    (View.loadsAt_vmem pos_kv))).bind fun xv : Vec F A1x512x128 .bf16 =>
  (Prog.lift (.load R.c (Rect.unit (s := S1x8xS) ![0, C.o0, cb] A1x1x512.size (inb_bias C.h0 h)).toLoadRect
    (View.loadsAt_vmem pos_b))).bind fun x0 : Vec F A1x1x512 .f32 =>
  (Prog.lift (.load R.c (Rect.unit (s := S1x8xS) ![0, C.o1, cb] A1x1x512.size (inb_bias C.h1 h)).toLoadRect
    (View.loadsAt_vmem pos_b))).bind fun x1 : Vec F A1x1x512 .f32 =>
  (Prog.lift (.load R.k (Rect.unit (s := S1xSx128) ![0, cb, 0] A1x512x128.size (inb_kv h)).toLoadRect
    (View.loadsAt_vmem pos_kv))).bind fun xk : Vec F A1x512x128 .bf16 =>
  k ⟨kOf xk, vsOf xv, biasOf C.cl x0, biasOf C.cl x1⟩

def ldTiles (R : Refs sig) (C : Cst F) {α : Type} : Nat → Nat → (List (Tile F) → Pr F nD τ sig Λ α) → Pr F nD τ sig Λ α
  | 0, _, k => k []
  | n + 1, j, k => ldTile R C (min j 7 * 512) (by omega) fun t => ldTiles R C n (j + 1) fun ts => k (t :: ts)

def ldWhole (m : Memref sig .tc .vmem S2xSx128 .f32) : Pr F nD τ sig Λ (Vec F S2xSx128 .f32) :=
  Prog.lift (.load m (Rect.unit (s := S2xSx128) ![0, 0, 0] S2xSx128.size inb_ws).toLoadRect (View.loadsAt_vmem pos_w2))
/-- A running state set to one number throughout. -/
def fill (m : Memref sig .tc .vmem S2xSx128 .f32) (x : F .f32) {α : Type} (k : Pr F nD τ sig Λ α) : Pr F nD τ sig Λ α :=
  (ldWhole m).bind fun _ =>
  (Prog.lift (.store m (Rect.unit (s := S2xSx128) ![0, 0, 0] S2xSx128.size inb_ws)
    (shapeCast S2xSx128 (broadcast S2xSx128 x) (by decide)) Finset.univ (View.stores_vmem_bits_univ pos_w2 rfl) (.inl rfl))).bind
  fun _ => k

def ldHalf (m : Memref sig .tc .vmem S2xSx128 .f32) (hh : Nat) (h0 : hh < 2) : Pr F nD τ sig Λ (Vec F S1xSx128 .f32) :=
  Prog.lift (.load m (Rect.unit (s := S2xSx128) ![hh, 0, 0] S1xSx128.size (inb_half h0)).toLoadRect
    (View.loadsAt_vmem pos_w1))

def epilogue (R : Refs sig) (ho : R.o.IsWhole) : Pr F nD τ sig Λ PUnit :=
  (ldHalf R.a 0 (by decide)).bind fun a0 =>
  (ldHalf R.l 0 (by decide)).bind fun l0 =>
  (ldHalf R.a 1 (by decide)).bind fun a1 =>
  (ldHalf R.l 1 (by decide)).bind fun l1 =>
  (Prog.lift (.load R.g (Rect.unit (s := S1xSx128) ![0, 0, 0] S1xSx128.size inb_wq).toLoadRect
    (View.loadsAt_vmem pos_w1))).bind fun g : Vec F S1xSx128 .f32 =>
  (Prog.lift (.load R.o (Rect.unit (s := S1xSx128) ![0, 0, 0] S1xSx128.size inb_wq).toLoadRect
    (View.loadsAt_vmem pos_w1))).bind fun _ : Vec F S1xSx128 .bf16 =>
  Prog.lift (.store R.o (Rect.unit (s := S1xSx128) ![0, 0, 0] S1xSx128.size inb_wq) (outOf a0 l0 a1 l1 g) Finset.univ
    (View.stores_vmem pos_w1 (ho.storeExact_slice rfl _ packed_o) (fun _ => rfl)) (.inl rfl))

def body (R : Refs sig) (ho : R.o.IsWhole) (C : Cst F) : Pr F nD τ sig Λ PUnit :=
  (Prog.lift (.load R.q (Rect.unit (s := S1xSx128) ![0, 0, 0] S1xSx128.size inb_wq).toLoadRect
    (View.loadsAt_vmem pos_w1))).bind fun x : Vec F S1xSx128 .f32 =>
  fill R.m C.cm <| fill R.l zero32 <| fill R.a zero32 <|
  ldTiles R C 8 0 fun ts => tileLoop R C (qScaled C.cs x) (epilogue R ho) 0 ts

end Body
end
end Attn
-- ==== Proof.BodyEqKernel.lean ====
module

public import proofs.«01_k».proof.Proof.Attn
public import proofs.«01_k».proof.Kernel

/-! The printed body is the loop. -/

@[expose] public section

set_option maxRecDepth 65536

namespace Cert.Kernel

open Idealize.ShloMosaic Idealize.SL.Sem

noncomputable section
variable {F : FTy → Type} [FloatOps F] [Facts]
open Facts₀ Facts

theorem off_le (i : grid0.Coords) (r : Fin 2) : k0_off1 i (BitVec.ofNat 32 r.val) 1 + 1 ≤ 8 := k0_off1_inb i r 1

def cst (i : grid0.Coords) : Attn.Cst F where
  cs := Scalar.ofBits .f32 0x3E38AA3B#32
  cm := Scalar.ofBits .f32 0xF149F2CA#32
  cl := Scalar.ofBits .f32 0x3FB8AA3B#32
  o0 := k0_off1 i 0#32 1
  o1 := k0_off1 i 1#32 1
  h0 := off_le i 0
  h1 := off_le i 1

theorem body_eq (i : grid0.Coords) (arg2 : Memref sig .tc .vmem S1x4096x128 .f32) (harg2 : arg2.IsWhole)
    (arg3 : Memref sig .tc .vmem S1x4096x128 .bf16) (harg3 : arg3.IsWhole)
    (arg4 : Memref sig .tc .vmem S1x4096x128 .bf16) (harg4 : arg4.IsWhole)
    (arg5 : Memref sig .tc .vmem S1x8x4096 .f32) (harg5 : arg5.IsWhole)
    (arg6 : Memref sig .tc .vmem S1x4096x128 .f32) (harg6 : arg6.IsWhole)
    (arg7 : Memref sig .tc .vmem S1x4096x128 .bf16) (harg7 : arg7.IsWhole)
    (arg8 : Memref sig .tc .vmem S2x4096x128 .f32) (harg8 : arg8.IsWhole)
    (arg9 : Memref sig .tc .vmem S2x4096x128 .f32) (harg9 : arg9.IsWhole)
    (arg10 : Memref sig .tc .vmem S2x4096x128 .f32) (harg10 : arg10.IsWhole) :
    cc0_attn (F := F) i arg2 harg2 arg3 harg3 arg4 harg4 arg5 harg5 arg6 harg6 arg7 harg7 arg8 harg8 arg9 harg9
      arg10 harg10 = Attn.body ⟨arg2, arg3, arg4, arg5, arg6, arg7, arg8, arg9, arg10⟩ harg7 (cst i) := rfl

end
end Cert.Kernel
-- ==== Proof.Wp.lean ====
module

public import proofs.«01_k».proof.Proof.Attn
public import Idealize.ShloMosaic.Lib.Pipeline.FrameBody
public import Idealize.ShloMosaic.Lib.Memref
public import Idealize.ShloMosaic.Lib.Tactic

/-! What the loop leaves: the running states as a pure function of the operand blocks, and the triple. -/

@[expose] public section

set_option maxRecDepth 16384

noncomputable section

namespace Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The pure function -/

section Val
variable {F : FTy → Type} [FloatOps F]

/-- The three running states: maximum, weight sum, weighted value sum. -/
structure St (F : FTy → Type) where
  m : Vec F S2xSx128 .f32
  l : Vec F S2xSx128 .f32
  a : Vec F S2xSx128 .f32

def sub (X : Vec F S2xSx128 .f32) (hh rb : Nat) (h0 : hh < 2) (h : rb + 256 ≤ 4096) : Vec F A1x256x128 .f32 :=
  fun j => X ((rBlk hh rb h0 h).emb j)
def put (X : Vec F S2xSx128 .f32) (hh rb : Nat) (h0 : hh < 2) (h : rb + 256 ≤ 4096) (w : FVec F A256x128 .f32) :
    Vec F S2xSx128 .f32 :=
  (rBlk hh rb h0 h).overlay X (up w)

def sumsSt (S : St F) (M : Vec F S2xSx128 .f32) (rb : Nat) (h : rb + 256 ≤ 4096) (al0 al1 : FVec F A256x128 .f32)
    (pv : FVec F A512x256 .f32) : St F where
  m := M
  a := let a := put S.a 0 rb (by decide) h (upd al0 (sub S.a 0 rb (by decide) h) (pa (pt0 pv)))
    put a 1 rb (by decide) h (upd al1 (sub a 1 rb (by decide) h) (pa (pt1 pv)))
  l := let l := put S.l 0 rb (by decide) h (upd al0 (sub S.l 0 rb (by decide) h) (pl (pt0 pv)))
    put l 1 rb (by decide) h (upd al1 (sub l 1 rb (by decide) h) (pl (pt1 pv)))

/-- The states after a unit whose lane tiles have maxima `x0`, `x1` and whose product of weights and values is `pv`
    of the two new maxima. -/
def onSt (S : St F) (rb : Nat) (h : rb + 256 ≤ 4096) (x0 x1 : FVec F A256x128 .f32)
    (pv : FVec F A256x128 .f32 → FVec F A256x128 .f32 → FVec F A512x256 .f32) : St F :=
  let b0 := sub S.m 0 rb (by decide) h
  let M := put S.m 0 rb (by decide) h (mNew b0 x0)
  let b1 := sub M 1 rb (by decide) h
  sumsSt S (put M 1 rb (by decide) h (mNew b1 x1)) rb h (alpha b0 x0) (alpha b1 x1) (pv (mNew b0 x0) (mNew b1 x1))

def fullSt (S : St F) (rb : Nat) (h : rb + 256 ≤ 4096) (v : FVec F A512x256 .bf16) (s0 s1 : FVec F A256x512 .f32) : St F :=
  onSt S rb h (mxFull s0) (mxFull s1) fun m0 m1 => pvFull (pFull s0 m0) (pFull s1 m1) v
def halfSt (S : St F) (rb : Nat) (h : rb + 256 ≤ 4096) (v : FVec F A512x256 .bf16) (s0 s1 : FVec F A256x256 .f32) : St F :=
  onSt S rb h (mxHalf s0) (mxHalf s1) fun m0 m1 => pvHalf (pHalf s0 m0) (pHalf s1 m1) v

def unitSt (C : Cst F) (q : FVec F Sx128 .bf16) (r j : Nat) (t : Tile F) (S : St F) : St F :=
  have h : min r 15 * 256 + 256 ≤ 4096 := by omega
  if 2 * j < r then
    if r = 2 * j + 1 then
      fullSt S (min r 15 * 256) h t.v
        (mkFull C.cm (min r 15 * 256) (j * 512) (hdFull0 (scFull (qUnit q (min r 15 * 256) h) t) t.b0))
        (mkFull C.cm (min r 15 * 256) (j * 512) (hdFull1 (scFull (qUnit q (min r 15 * 256) h) t) t.b1))
    else
      fullSt S (min r 15 * 256) h t.v
        (hdFull0 (scFull (qUnit q (min r 15 * 256) h) t) t.b0)
        (hdFull1 (scFull (qUnit q (min r 15 * 256) h) t) t.b1)
  else if r = 2 * j then
    halfSt S (min r 15 * 256) h t.v
      (mkHalf C.cm (min r 15 * 256) (j * 512) (hdHalf0 (scHalf (qUnit q (min r 15 * 256) h) t) t.b0))
      (mkHalf C.cm (min r 15 * 256) (j * 512) (hdHalf1 (scHalf (qUnit q (min r 15 * 256) h) t) t.b1))
  else S

def rowSt (C : Cst F) (q : FVec F Sx128 .bf16) (j : Nat) (t : Tile F) : Nat → Nat → St F → St F
  | 0, _, S => S
  | n + 1, r, S => rowSt C q j t n (r + 1) (unitSt C q r j t S)
def tileSt (C : Cst F) (q : FVec F Sx128 .bf16) : Nat → List (Tile F) → St F → St F
  | _, [], S => S
  | j, t :: ts, S => tileSt C q (j + 1) ts (rowSt C q j t 16 0 S)

abbrev rKv (cb : Nat) (h : cb + 512 ≤ 4096) : Rect S1xSx128 := Rect.unit (s := S1xSx128) ![0, cb, 0] A1x512x128.size (inb_kv h)
abbrev rBias (o cb : Nat) (h0 : o + 1 ≤ 8) (h : cb + 512 ≤ 4096) : Rect S1x8xS :=
  Rect.unit (s := S1x8xS) ![0, o, cb] A1x1x512.size (inb_bias h0 h)

def tileOf (C : Cst F) (xk xv : Vec F S1xSx128 .bf16) (xc : Vec F S1x8xS .f32) (cb : Nat) (h : cb + 512 ≤ 4096) : Tile F :=
  ⟨kOf fun j => xk ((rKv cb h).emb j), vsOf fun j => xv ((rKv cb h).emb j),
    biasOf C.cl fun j => xc ((rBias C.o0 cb C.h0 h).emb j), biasOf C.cl fun j => xc ((rBias C.o1 cb C.h1 h).emb j)⟩
def tilesOf (C : Cst F) (xk xv : Vec F S1xSx128 .bf16) (xc : Vec F S1x8xS .f32) : Nat → Nat → List (Tile F)
  | 0, _ => []
  | n + 1, j => tileOf C xk xv xc (min j 7 * 512) (by omega) :: tilesOf C xk xv xc n (j + 1)

def half (X : Vec F S2xSx128 .f32) (hh : Nat) (h0 : hh < 2) : Vec F S1xSx128 .f32 :=
  fun j => X ((Rect.unit (s := S2xSx128) ![hh, 0, 0] S1xSx128.size (inb_half h0)).emb j)

def initSt (C : Cst F) : St F := ⟨fun _ => C.cm, fun _ => zero32, fun _ => zero32⟩
def finSt (C : Cst F) (xq : Vec F S1xSx128 .f32) (xk xv : Vec F S1xSx128 .bf16) (xc : Vec F S1x8xS .f32) : St F :=
  tileSt C (qScaled C.cs xq) 0 (tilesOf C xk xv xc 8 0) (initSt C)

/-- The result block of the operand blocks. -/
def blockVal (C : Cst F) (xq : Vec F S1xSx128 .f32) (xk xv : Vec F S1xSx128 .bf16) (xc : Vec F S1x8xS .f32)
    (xg : Vec F S1xSx128 .f32) : Vec F S1xSx128 .bf16 :=
  let S := finSt C xq xk xv xc
  outOf (half S.a 0 (by decide)) (half S.l 0 (by decide)) (half S.a 1 (by decide)) (half S.l 1 (by decide)) xg

end Val

/-! ## The triple -/

section Rules
variable {F : FTy → Type} [FloatOps F]
variable {nD : Nat} {τ : Topo} {sig : RefSig} {Λ : Labels}
variable {Ix : Type} [DecidableEq Ix] {Name : Type} [DecidableEq Name] {U : Type} [URA U] {Lvl : Type} [Preorder Lvl]
local notation "𝕄" => MT nD τ sig Ix (Elt F) Name U Lvl
variable {defs : Defs nD τ sig (Elt F) Λ} (𝒱 : Variants) (c : Dev nD) (bd : Option 𝒱.V) (E : Set Name)
variable {α : Type} {Q : α → sProp (MT nD τ sig Ix (Elt F) Name U Lvl)}

theorem wp_ld {s : Shape} {e : EltTy} {m : Memref sig .tc .vmem s e} {r : Rect s} {hl : m.view.LoadsAt r.toLoadRect}
    {k : (r.shape.Idx → Elt F e) → Pr F nD τ sig Λ α} (X : s.Idx → Elt F e) :
    (owns (c : Thread nD τ) m fullShare X : sProp 𝕄)
      ⊢ iprop((owns (c : Thread nD τ) m fullShare X -∗ wp frame (wpE defs 𝒱 (c : Thread nD τ) bd) E (k fun j => X (r.emb j)) Q) -∗ wp frame (wpE defs 𝒱 (c : Thread nD τ) bd) E (Prog.op (.load m r.toLoadRect hl) k) Q) := by
  unfold owns
  iintro ⟨%f, %hf, H⟩ Hk
  iapply (wp_load_rect 𝒱 (c : Thread nD τ) bd E (m := m) (r := r) (hl := hl) (k := k) (S := m.view.set)
    (View.set_slice_subset m.view r)) $$ H
  iintro H
  have hr : (m.access r).read (Elt F) f = fun j => X (r.emb j) := by
    subst hf; rfl
  rw [hr]
  iapply Hk
  iexists f
  isplitr; · ipureintro; exact hf
  iexact H

theorem wp_st {s : Shape} {e : EltTy} {m : Memref sig .tc .vmem s e} {r : Rect s} {w : r.shape.Idx → Elt F e}
    {hx : (m.access r).Stores Finset.univ} {hm : (Finset.univ : Finset r.shape.Idx) = Finset.univ ∨ ∀ a, r.stride a = 1}
    {k : PUnit → Pr F nD τ sig Λ α} (X : s.Idx → Elt F e) :
    (owns (c : Thread nD τ) m fullShare X : sProp 𝕄)
      ⊢ iprop((owns (c : Thread nD τ) m fullShare (r.overlay X w) -∗ wp frame (wpE defs 𝒱 (c : Thread nD τ) bd) E (k ⟨⟩) Q)
        -∗ wp frame (wpE defs 𝒱 (c : Thread nD τ) bd) E (Prog.op (.store m r w Finset.univ hx hm) k) Q) := by
  unfold owns
  iintro ⟨%f, %hf, H⟩ Hk
  iapply (wp_store 𝒱 (c : Thread nD τ) bd E (m := m) (r := r) (hx := hx) (hm := hm) (k := k) (S := m.view.set)
    ((View.setOn_subset_set _ _).trans (View.set_slice_subset m.view r))) $$ H
  iintro H
  iapply Hk
  iexists _
  isplitr
  swap; · iexact H
  ipureintro
  subst hf
  funext x
  by_cases hx' : x ∈ r.set
  · rw [← Rect.map_emb_univ, Finset.mem_map] at hx'
    obtain ⟨j, -, rfl⟩ := hx'
    rw [Rect.overlay_emb]
    exact congrFun (View.read_write_univ (v := m.view.slice r) f w) j
  · rw [Rect.overlay_of_not_mem _ _ _ hx']
    exact View.read_slice_write_of_not_mem r f w _ (by rw [Rect.map_emb_univ]; exact hx')

theorem wp_ldBlk {m : Memref sig .tc .vmem S2xSx128 .f32} {hh rb : Nat} (h0 : hh < 2) (h : rb + 256 ≤ 4096)
    {k : Vec F A1x256x128 .f32 → Pr F nD τ sig Λ α} (X : Vec F S2xSx128 .f32) :
    (owns (c : Thread nD τ) m fullShare X : sProp 𝕄)
      ⊢ iprop((owns (c : Thread nD τ) m fullShare X -∗ wp frame (wpE defs 𝒱 (c : Thread nD τ) bd) E (k (sub X hh rb h0 h)) Q) -∗ wp frame (wpE defs 𝒱 (c : Thread nD τ) bd) E ((ldBlk m hh rb h0 h).bind k) Q) :=
  wp_ld 𝒱 c bd E (r := rBlk hh rb h0 h) (k := k) X

theorem wp_stBlk {m : Memref sig .tc .vmem S2xSx128 .f32} {hh rb : Nat} (h0 : hh < 2) (h : rb + 256 ≤ 4096)
    {w : FVec F A256x128 .f32} {k : PUnit → Pr F nD τ sig Λ α} (X : Vec F S2xSx128 .f32) :
    (owns (c : Thread nD τ) m fullShare X : sProp 𝕄)
      ⊢ iprop((owns (c : Thread nD τ) m fullShare (put X hh rb h0 h w) -∗ wp frame (wpE defs 𝒱 (c : Thread nD τ) bd) E (k ⟨⟩) Q)
        -∗ wp frame (wpE defs 𝒱 (c : Thread nD τ) bd) E ((stBlk m hh rb h0 h w).bind k) Q) :=
  wp_st 𝒱 c bd E (r := rBlk hh rb h0 h) (k := k) X

theorem wp_stepM {R : Refs sig} {hh rb : Nat} (h0 : hh < 2) (h : rb + 256 ≤ 4096) {s : FVec F A256x128 .f32}
    {k : FVec F A256x128 .f32 → FVec F A256x128 .f32 → Pr F nD τ sig Λ α} (X : Vec F S2xSx128 .f32) :
    (owns (c : Thread nD τ) R.m fullShare X : sProp 𝕄)
      ⊢ iprop((owns (c : Thread nD τ) R.m fullShare (put X hh rb h0 h (mNew (sub X hh rb h0 h) s))
          -∗ wp frame (wpE defs 𝒱 (c : Thread nD τ) bd) E (k (mNew (sub X hh rb h0 h) s) (alpha (sub X hh rb h0 h) s)) Q)
        -∗ wp frame (wpE defs 𝒱 (c : Thread nD τ) bd) E (stepM R hh rb h0 h s k) Q) := by
  unfold stepM
  iintro H Hk
  iapply (wp_ldBlk 𝒱 c bd E h0 h X) $$ H
  iintro H
  iapply (wp_ldBlk 𝒱 c bd E h0 h X) $$ H
  iintro H
  iapply (wp_stBlk 𝒱 c bd E h0 h X) $$ H
  iintro H
  iapply Hk $$ H

theorem wp_stepS {m : Memref sig .tc .vmem S2xSx128 .f32} {hh rb : Nat} (h0 : hh < 2) (h : rb + 256 ≤ 4096)
    {al d : FVec F A256x128 .f32} {k : Pr F nD τ sig Λ α} (X : Vec F S2xSx128 .f32) :
    (owns (c : Thread nD τ) m fullShare X : sProp 𝕄)
      ⊢ iprop((owns (c : Thread nD τ) m fullShare (put X hh rb h0 h (upd al (sub X hh rb h0 h) d)) -∗ wp frame (wpE defs 𝒱 (c : Thread nD τ) bd) E k Q)
        -∗ wp frame (wpE defs 𝒱 (c : Thread nD τ) bd) E (stepS m hh rb h0 h al d k) Q) := by
  unfold stepS
  iintro H Hk
  iapply (wp_ldBlk 𝒱 c bd E h0 h X) $$ H
  iintro H
  iapply (wp_ldBlk 𝒱 c bd E h0 h X) $$ H
  iintro H
  iapply (wp_stBlk 𝒱 c bd E h0 h X) $$ H
  iintro H
  iapply Hk $$ H

/-- The three running states held. -/
def ownS (R : Refs sig) (S : St F) : sProp 𝕄 :=
  iprop(owns (c : Thread nD τ) R.m fullShare S.m ∗ owns (c : Thread nD τ) R.l fullShare S.l
    ∗ owns (c : Thread nD τ) R.a fullShare S.a)

theorem wp_sums {R : Refs sig} {rb : Nat} (h : rb + 256 ≤ 4096) {al0 al1 : FVec F A256x128 .f32}
    {pv : FVec F A512x256 .f32} {k : Pr F nD τ sig Λ α} (S : St F) (M : Vec F S2xSx128 .f32) :
    (iprop(owns (c : Thread nD τ) R.m fullShare M ∗ owns (c : Thread nD τ) R.l fullShare S.l
      ∗ owns (c : Thread nD τ) R.a fullShare S.a) : sProp 𝕄)
      ⊢ iprop((ownS c R (sumsSt S M rb h al0 al1 pv) -∗ wp frame (wpE defs 𝒱 (c : Thread nD τ) bd) E k Q) -∗ wp frame (wpE defs 𝒱 (c : Thread nD τ) bd) E (sums R rb h al0 al1 pv k) Q) := by
  unfold sums ownS sumsSt
  dsimp only
  iintro ⟨HM, HL, HA⟩ Hk
  iapply (wp_stepS 𝒱 c bd E _ h _) $$ HA
  iintro HA
  iapply (wp_stepS 𝒱 c bd E _ h _) $$ HL
  iintro HL
  iapply (wp_stepS 𝒱 c bd E _ h _) $$ HA
  iintro HA
  iapply (wp_stepS 𝒱 c bd E _ h _) $$ HL
  iintro HL
  iapply Hk
  isplitl [HM]; · iexact HM
  isplitl [HL]; · iexact HL
  iexact HA

theorem wp_unitOn {R : Refs sig} {rb : Nat} (h : rb + 256 ≤ 4096) {v : FVec F A512x256 .bf16} {s0 s1 : FVec F A256x512 .f32}
    {k : Pr F nD τ sig Λ α} (S : St F) :
    (ownS c R S : sProp 𝕄) ⊢ iprop((ownS c R (fullSt S rb h v s0 s1) -∗ wp frame (wpE defs 𝒱 (c : Thread nD τ) bd) E k Q) -∗ wp frame (wpE defs 𝒱 (c : Thread nD τ) bd) E (unitOn R rb h v s0 s1 k) Q) := by
  unfold unitOn fullSt onSt
  dsimp only
  iintro HS Hk
  ihave HS' : iprop(owns (c : Thread nD τ) R.m fullShare S.m ∗ owns (c : Thread nD τ) R.l fullShare S.l ∗ owns (c : Thread nD τ) R.a fullShare S.a) $$ [HS]
  · unfold ownS; iexact HS
  icases HS' with ⟨HM, HL, HA⟩
  iapply (wp_stepM 𝒱 c bd E _ h _) $$ HM
  iintro HM
  iapply (wp_stepM 𝒱 c bd E _ h _) $$ HM
  iintro HM
  iapply (wp_sums 𝒱 c bd E h S _) $$ [HM HL HA]
  · isplitl [HM]; · iexact HM
    isplitl [HL]; · iexact HL
    iexact HA
  iexact Hk

theorem wp_unitOnH {R : Refs sig} {rb : Nat} (h : rb + 256 ≤ 4096) {v : FVec F A512x256 .bf16} {s0 s1 : FVec F A256x256 .f32}
    {k : Pr F nD τ sig Λ α} (S : St F) :
    (ownS c R S : sProp 𝕄) ⊢ iprop((ownS c R (halfSt S rb h v s0 s1) -∗ wp frame (wpE defs 𝒱 (c : Thread nD τ) bd) E k Q) -∗ wp frame (wpE defs 𝒱 (c : Thread nD τ) bd) E (unitOnH R rb h v s0 s1 k) Q) := by
  unfold unitOnH halfSt onSt
  dsimp only
  iintro HS Hk
  ihave HS' : iprop(owns (c : Thread nD τ) R.m fullShare S.m ∗ owns (c : Thread nD τ) R.l fullShare S.l ∗ owns (c : Thread nD τ) R.a fullShare S.a) $$ [HS]
  · unfold ownS; iexact HS
  icases HS' with ⟨HM, HL, HA⟩
  iapply (wp_stepM 𝒱 c bd E _ h _) $$ HM
  iintro HM
  iapply (wp_stepM 𝒱 c bd E _ h _) $$ HM
  iintro HM
  iapply (wp_sums 𝒱 c bd E h S _) $$ [HM HL HA]
  · isplitl [HM]; · iexact HM
    isplitl [HL]; · iexact HL
    iexact HA
  iexact Hk

theorem wp_unit {R : Refs sig} {C : Cst F} {q : FVec F Sx128 .bf16} {r j : Nat} {t : Tile F} {k : Pr F nD τ sig Λ α} (S : St F) :
    (ownS c R S : sProp 𝕄) ⊢ iprop((ownS c R (unitSt C q r j t S) -∗ wp frame (wpE defs 𝒱 (c : Thread nD τ) bd) E k Q) -∗ wp frame (wpE defs 𝒱 (c : Thread nD τ) bd) E (unit R C q r j t k) Q) := by
  unfold unit unitSt
  dsimp only
  split
  · split
    · exact wp_unitOn 𝒱 c bd E _ S
    · exact wp_unitOn 𝒱 c bd E _ S
  · split
    · exact wp_unitOnH 𝒱 c bd E _ S
    · iintro HS Hk
      iapply Hk $$ HS

theorem wp_rowLoop {R : Refs sig} {C : Cst F} {q : FVec F Sx128 .bf16} {j : Nat} {t : Tile F} {k : Pr F nD τ sig Λ α} :
    ∀ (n r : Nat) (S : St F),
    (ownS c R S : sProp 𝕄) ⊢ iprop((ownS c R (rowSt C q j t n r S) -∗ wp frame (wpE defs 𝒱 (c : Thread nD τ) bd) E k Q) -∗ wp frame (wpE defs 𝒱 (c : Thread nD τ) bd) E (rowLoop R C q j t n r k) Q)
  | 0, r, S => by
    unfold rowLoop rowSt
    iintro HS Hk
    iapply Hk $$ HS
  | n + 1, r, S => by
    unfold rowLoop rowSt
    iintro HS Hk
    iapply (wp_unit 𝒱 c bd E S) $$ HS
    iintro HS
    iapply (wp_rowLoop n (r + 1) _) $$ HS
    iexact Hk

theorem wp_tileLoop {R : Refs sig} {C : Cst F} {q : FVec F Sx128 .bf16} {k : Pr F nD τ sig Λ α} :
    ∀ (ts : List (Tile F)) (j : Nat) (S : St F),
    (ownS c R S : sProp 𝕄) ⊢ iprop((ownS c R (tileSt C q j ts S) -∗ wp frame (wpE defs 𝒱 (c : Thread nD τ) bd) E k Q) -∗ wp frame (wpE defs 𝒱 (c : Thread nD τ) bd) E (tileLoop R C q k j ts) Q)
  | [], j, S => by
    unfold tileLoop tileSt
    iintro HS Hk
    iapply Hk $$ HS
  | t :: ts, j, S => by
    unfold tileLoop tileSt
    iintro HS Hk
    iapply (wp_rowLoop 𝒱 c bd E _ _ S) $$ HS
    iintro HS
    iapply (wp_tileLoop ts (j + 1) _) $$ HS
    iexact Hk

/-- The key, value and forget operands held. -/
def ownK (R : Refs sig) (xk xv : Vec F S1xSx128 .bf16) (xc : Vec F S1x8xS .f32) : sProp 𝕄 :=
  iprop(owns (c : Thread nD τ) R.k fullShare xk ∗ owns (c : Thread nD τ) R.v fullShare xv
    ∗ owns (c : Thread nD τ) R.c fullShare xc)

theorem wp_ldTile {R : Refs sig} {C : Cst F} {cb : Nat} (h : cb + 512 ≤ 4096) {k : Tile F → Pr F nD τ sig Λ α}
    (xk xv : Vec F S1xSx128 .bf16) (xc : Vec F S1x8xS .f32) :
    (ownK c R xk xv xc : sProp 𝕄)
      ⊢ iprop((ownK c R xk xv xc -∗ wp frame (wpE defs 𝒱 (c : Thread nD τ) bd) E (k (tileOf C xk xv xc cb h)) Q) -∗ wp frame (wpE defs 𝒱 (c : Thread nD τ) bd) E (ldTile R C cb h k) Q) := by
  unfold ldTile ownK
  iintro ⟨HK, HV, HC⟩ Hk
  iapply (wp_ld 𝒱 c bd E (r := rKv cb h) xv) $$ HV
  iintro HV
  iapply (wp_ld 𝒱 c bd E (r := rBias C.o0 cb C.h0 h) xc) $$ HC
  iintro HC
  iapply (wp_ld 𝒱 c bd E (r := rBias C.o1 cb C.h1 h) xc) $$ HC
  iintro HC
  iapply (wp_ld 𝒱 c bd E (r := rKv cb h) xk) $$ HK
  iintro HK
  iapply Hk
  isplitl [HK]; · iexact HK
  isplitl [HV]; · iexact HV
  iexact HC

theorem wp_ldTiles {R : Refs sig} {C : Cst F} (xk xv : Vec F S1xSx128 .bf16) (xc : Vec F S1x8xS .f32) :
    ∀ (n j : Nat) (k : List (Tile F) → Pr F nD τ sig Λ α),
    (ownK c R xk xv xc : sProp 𝕄)
      ⊢ iprop((ownK c R xk xv xc -∗ wp frame (wpE defs 𝒱 (c : Thread nD τ) bd) E (k (tilesOf C xk xv xc n j)) Q) -∗ wp frame (wpE defs 𝒱 (c : Thread nD τ) bd) E (ldTiles R C n j k) Q)
  | 0, j, k => by
    unfold ldTiles tilesOf
    iintro HS Hk
    iapply Hk $$ HS
  | n + 1, j, k => by
    unfold ldTiles tilesOf
    iintro HS Hk
    iapply (wp_ldTile 𝒱 c bd E _ xk xv xc) $$ HS
    iintro HS
    iapply (wp_ldTiles xk xv xc n (j + 1) _) $$ HS
    iexact Hk

theorem unit_zero_emb {s : Shape} (inb : ∀ a, (fun _ => 0 : Fin s.rank → Nat) a + s.size a ≤ s.size a) (j : s.Idx) :
    (Rect.unit (s := s) (fun _ => 0) s.size inb).emb j = j := by
  funext a; apply Fin.ext; simp [Rect.emb_apply]

theorem whole2_emb (j : S2xSx128.Idx) : (Rect.unit (s := S2xSx128) ![0, 0, 0] S2xSx128.size inb_ws).emb j = j := by
  funext a; apply Fin.ext; fin_cases a <;> simp [Rect.emb_apply]
theorem whole1_emb (j : S1xSx128.Idx) : (Rect.unit (s := S1xSx128) ![0, 0, 0] S1xSx128.size inb_wq).emb j = j := by
  funext a; apply Fin.ext; fin_cases a <;> simp [Rect.emb_apply]

theorem wp_fill {m : Memref sig .tc .vmem S2xSx128 .f32} {x : F .f32} {k : Pr F nD τ sig Λ α} (X : Vec F S2xSx128 .f32) :
    (owns (c : Thread nD τ) m fullShare X : sProp 𝕄)
      ⊢ iprop((owns (c : Thread nD τ) m fullShare (fun _ => x) -∗ wp frame (wpE defs 𝒱 (c : Thread nD τ) bd) E k Q) -∗ wp frame (wpE defs 𝒱 (c : Thread nD τ) bd) E (fill m x k) Q) := by
  unfold fill ldWhole
  iintro H Hk
  iapply (wp_ld 𝒱 c bd E (r := Rect.unit (s := S2xSx128) ![0, 0, 0] S2xSx128.size inb_ws) X) $$ H
  iintro H
  iapply (wp_st 𝒱 c bd E (r := Rect.unit (s := S2xSx128) ![0, 0, 0] S2xSx128.size inb_ws) X) $$ H
  have he : (Rect.unit (s := S2xSx128) ![0, 0, 0] S2xSx128.size inb_ws).overlay X
      (shapeCast S2xSx128 (broadcast S2xSx128 x) (by decide)) = fun _ => x := by
    funext j
    have := Rect.overlay_emb (Rect.unit (s := S2xSx128) ![0, 0, 0] S2xSx128.size inb_ws) X
      (shapeCast S2xSx128 (broadcast S2xSx128 x) (by decide)) j
    rw [whole2_emb] at this
    exact this
  rw [he]
  iexact Hk

/-- The body's triple: the operands as they were, the result block at `blockVal`, the states at anything. -/
theorem wp_body {R : Refs sig} (ho : R.o.IsWhole) (C : Cst F) (xq : Vec F S1xSx128 .f32) (xk xv : Vec F S1xSx128 .bf16)
    (xc : Vec F S1x8xS .f32) (xg : Vec F S1xSx128 .f32) (xo : Vec F S1xSx128 .bf16) (S : St F) {Q : PUnit → sProp 𝕄} :
    (iprop(owns (c : Thread nD τ) R.q fullShare xq ∗ ownK c R xk xv xc ∗ owns (c : Thread nD τ) R.g fullShare xg
      ∗ owns (c : Thread nD τ) R.o fullShare xo ∗ ownS c R S
      ∗ ((owns (c : Thread nD τ) R.q fullShare xq ∗ ownK c R xk xv xc ∗ owns (c : Thread nD τ) R.g fullShare xg
      ∗ owns (c : Thread nD τ) R.o fullShare (blockVal C xq xk xv xc xg) ∗ (∃ S', ownS c R S')) -∗ Q ⟨⟩)) : sProp 𝕄)
      ⊢ wp frame (wpE defs 𝒱 (c : Thread nD τ) bd) E (body R ho C) Q := by
  have hq : (fun j => xq ((Rect.unit (s := S1xSx128) ![0, 0, 0] S1xSx128.size inb_wq).emb j)) = xq :=
    funext fun j => congrArg xq (whole1_emb j)
  have hg : (fun j => xg ((Rect.unit (s := S1xSx128) ![0, 0, 0] S1xSx128.size inb_wq).emb j)) = xg :=
    funext fun j => congrArg xg (whole1_emb j)
  have hov : ∀ w : Vec F S1xSx128 .bf16,
      (Rect.unit (s := S1xSx128) ![0, 0, 0] S1xSx128.size inb_wq).overlay xo w = w := fun w => by
    funext j
    have := Rect.overlay_emb (Rect.unit (s := S1xSx128) ![0, 0, 0] S1xSx128.size inb_wq) xo w j
    rw [whole1_emb] at this
    exact this
  unfold body
  iintro ⟨HQ, HK, HG, HO, HS, Hk⟩
  iapply (wp_ld 𝒱 c bd E (r := Rect.unit (s := S1xSx128) ![0, 0, 0] S1xSx128.size inb_wq) xq) $$ HQ
  iintro HQ
  rw [hq]
  unfold ownS
  icases HS with ⟨HM, HL, HA⟩
  iapply (wp_fill 𝒱 c bd E S.m) $$ HM
  iintro HM
  iapply (wp_fill 𝒱 c bd E S.l) $$ HL
  iintro HL
  iapply (wp_fill 𝒱 c bd E S.a) $$ HA
  iintro HA
  iapply (wp_ldTiles 𝒱 c bd E xk xv xc _ _ _) $$ HK
  iintro HK
  iapply (wp_tileLoop 𝒱 c bd E _ _ (initSt C)) $$ [HM HL HA]
  · unfold ownS initSt
    isplitl [HM]; · iexact HM
    isplitl [HL]; · iexact HL
    iexact HA
  unfold ownS
  iintro ⟨HM, HL, HA⟩
  unfold epilogue ldHalf
  iapply (wp_ld 𝒱 c bd E (r := Rect.unit (s := S2xSx128) ![0, 0, 0] S1xSx128.size (inb_half (by decide))) _) $$ HA
  iintro HA
  iapply (wp_ld 𝒱 c bd E (r := Rect.unit (s := S2xSx128) ![0, 0, 0] S1xSx128.size (inb_half (by decide))) _) $$ HL
  iintro HL
  iapply (wp_ld 𝒱 c bd E (r := Rect.unit (s := S2xSx128) ![1, 0, 0] S1xSx128.size (inb_half (by decide))) _) $$ HA
  iintro HA
  iapply (wp_ld 𝒱 c bd E (r := Rect.unit (s := S2xSx128) ![1, 0, 0] S1xSx128.size (inb_half (by decide))) _) $$ HL
  iintro HL
  iapply (wp_ld 𝒱 c bd E (r := Rect.unit (s := S1xSx128) ![0, 0, 0] S1xSx128.size inb_wq) xg) $$ HG
  iintro HG
  rw [hg]
  iapply (wp_ld 𝒱 c bd E (r := Rect.unit (s := S1xSx128) ![0, 0, 0] S1xSx128.size inb_wq) xo) $$ HO
  iintro HO
  iapply (wp_st 𝒱 c bd E (r := Rect.unit (s := S1xSx128) ![0, 0, 0] S1xSx128.size inb_wq) xo) $$ HO
  iintro HO
  rw [hov]
  sl_step
  iapply Hk
  isplitl [HQ]; · iexact HQ
  isplitl [HK]; · iexact HK
  isplitl [HG]; · iexact HG
  isplitl [HO]; · iexact HO
  iexists _
  isplitl [HM]; · iexact HM
  isplitl [HL]; · iexact HL
  iexact HA

end Rules
end Attn
end
-- ==== Proof.BodyEqKernelIdeal.lean ====
module

public import proofs.«01_k».proof.Proof.Attn
public import proofs.«01_k».proof.KernelIdeal

/-! The printed body is the loop. -/

@[expose] public section

set_option maxRecDepth 65536

namespace Cert.KernelIdeal

open Idealize.ShloMosaic Idealize.SL.Sem

noncomputable section
variable {F : FTy → Type} [FloatOps F] [Named F] [Facts]
open Facts₀ Facts

theorem off_le (i : grid0.Coords) (r : Fin 2) : k0_off1 i (BitVec.ofNat 32 r.val) 1 + 1 ≤ 8 := k0_off1_inb i r 1

def cst (i : grid0.Coords) : Attn.Cst F where
  cs := Named.named κ "scale_log2e" 0x3E38AA3B#32
  cm := Named.named κ "mask" 0xF149F2CA#32
  cl := Named.named κ "log2e" 0x3FB8AA3B#32
  o0 := k0_off1 i 0#32 1
  o1 := k0_off1 i 1#32 1
  h0 := off_le i 0
  h1 := off_le i 1

theorem body_eq (i : grid0.Coords) (arg2 : Memref sig .tc .vmem S1x4096x128 .f32) (harg2 : arg2.IsWhole)
    (arg3 : Memref sig .tc .vmem S1x4096x128 .bf16) (harg3 : arg3.IsWhole)
    (arg4 : Memref sig .tc .vmem S1x4096x128 .bf16) (harg4 : arg4.IsWhole)
    (arg5 : Memref sig .tc .vmem S1x8x4096 .f32) (harg5 : arg5.IsWhole)
    (arg6 : Memref sig .tc .vmem S1x4096x128 .f32) (harg6 : arg6.IsWhole)
    (arg7 : Memref sig .tc .vmem S1x4096x128 .bf16) (harg7 : arg7.IsWhole)
    (arg8 : Memref sig .tc .vmem S2x4096x128 .f32) (harg8 : arg8.IsWhole)
    (arg9 : Memref sig .tc .vmem S2x4096x128 .f32) (harg9 : arg9.IsWhole)
    (arg10 : Memref sig .tc .vmem S2x4096x128 .f32) (harg10 : arg10.IsWhole) :
    cc0_attn (F := F) i arg2 harg2 arg3 harg3 arg4 harg4 arg5 harg5 arg6 harg6 arg7 harg7 arg8 harg8 arg9 harg9
      arg10 harg10 = Attn.body ⟨arg2, arg3, arg4, arg5, arg6, arg7, arg8, arg9, arg10⟩ harg7 (cst i) := rfl

end
end Cert.KernelIdeal
-- ==== Proof.RunKernelIdeal.lean ====
module

public import proofs.«01_k».proof.Proof.BodyEqKernelIdeal
public import proofs.«01_k».proof.Proof.Wp
public import proofs.«01_k».proof.Proof.Gen.KernelIdeal.Frame
public import Idealize.ShloMosaic.Lib.Claim

/-! The launch of `KernelIdeal`: its proof data, the body obligation, the run and the frame. -/

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The result block at a point, from the operand blocks. -/
def outBlk (i : grid0.Coords) (x0 : Vec F S1x4096x128 .f32) (x1 x2 : Vec F S1x4096x128 .bf16) (x3 : Vec F S1x8x4096 .f32)
    (x4 : Vec F S1x4096x128 .f32) : Vec F S1x4096x128 .bf16 :=
  Attn.blockVal (cst i) x0 x1 x2 x3 x4

theorem body_triple (c : Dev nD) (i : grid0.Coords)
    (arg2 : Memref sig .tc .vmem S1x4096x128 .f32) (harg2 : arg2.IsWhole)
    (arg3 : Memref sig .tc .vmem S1x4096x128 .bf16) (harg3 : arg3.IsWhole)
    (arg4 : Memref sig .tc .vmem S1x4096x128 .bf16) (harg4 : arg4.IsWhole)
    (arg5 : Memref sig .tc .vmem S1x8x4096 .f32) (harg5 : arg5.IsWhole)
    (arg6 : Memref sig .tc .vmem S1x4096x128 .f32) (harg6 : arg6.IsWhole)
    (arg7 : Memref sig .tc .vmem S1x4096x128 .bf16) (harg7 : arg7.IsWhole)
    (arg8 : Memref sig .tc .vmem S2x4096x128 .f32) (harg8 : arg8.IsWhole)
    (arg9 : Memref sig .tc .vmem S2x4096x128 .f32) (harg9 : arg9.IsWhole)
    (arg10 : Memref sig .tc .vmem S2x4096x128 .f32) (harg10 : arg10.IsWhole)
    (x0 : Vec F S1x4096x128 .f32) (x1 x2 : Vec F S1x4096x128 .bf16) (x3 : Vec F S1x8x4096 .f32)
    (x4 : Vec F S1x4096x128 .f32) (K : PUnit → sProp 𝕄) :
    iprop(owns (c : Thread nD τ) arg2 fullShare x0 ∗ owns (c : Thread nD τ) arg3 fullShare x1
      ∗ owns (c : Thread nD τ) arg4 fullShare x2 ∗ owns (c : Thread nD τ) arg5 fullShare x3
      ∗ owns (c : Thread nD τ) arg6 fullShare x4 ∗ (∃ d, owns (c : Thread nD τ) arg7 fullShare d)
      ∗ (∃ d, owns (c : Thread nD τ) arg8 fullShare d) ∗ (∃ d, owns (c : Thread nD τ) arg9 fullShare d)
      ∗ (∃ d, owns (c : Thread nD τ) arg10 fullShare d)
      ∗ ((owns (c : Thread nD τ) arg2 fullShare x0 ∗ owns (c : Thread nD τ) arg3 fullShare x1
      ∗ owns (c : Thread nD τ) arg4 fullShare x2 ∗ owns (c : Thread nD τ) arg5 fullShare x3
      ∗ owns (c : Thread nD τ) arg6 fullShare x4 ∗ owns (c : Thread nD τ) arg7 fullShare (outBlk i x0 x1 x2 x3 x4)
      ∗ (∃ d, owns (c : Thread nD τ) arg8 fullShare d) ∗ (∃ d, owns (c : Thread nD τ) arg9 fullShare d)
      ∗ (∃ d, owns (c : Thread nD τ) arg10 fullShare d)) -∗ K ⟨⟩))
      ⊢ wp frame (wpE (defs₀ (F := F)) Variants.none c none) Set.univ
        (cc0_attn i arg2 harg2 arg3 harg3 arg4 harg4 arg5 harg5 arg6 harg6 arg7 harg7 arg8 harg8 arg9 harg9 arg10 harg10) K := by
  rw [body_eq]
  iintro ⟨H0, H1, H2, H3, H4, ⟨%d, H5⟩, ⟨%dm, HM⟩, ⟨%dl, HL⟩, ⟨%da, HA⟩, Hk⟩
  iapply (Attn.wp_body (defs := defs₀ (F := F)) Variants.none c none Set.univ
    (R := ⟨arg2, arg3, arg4, arg5, arg6, arg7, arg8, arg9, arg10⟩) harg7 (cst i) x0 x1 x2 x3 x4 d ⟨dm, dl, da⟩)
  isplitl [H0]; · iexact H0
  isplitl [H1 H2 H3]
  · unfold Attn.ownK
    isplitl [H1]; · iexact H1
    isplitl [H2]; · iexact H2
    iexact H3
  isplitl [H4]; · iexact H4
  isplitl [H5]; · iexact H5
  isplitl [HM HL HA]
  · unfold Attn.ownS
    isplitl [HM]; · iexact HM
    isplitl [HL]; · iexact HL
    iexact HA
  unfold Attn.ownK Attn.ownS
  iintro ⟨H0, ⟨H1, H2, H3⟩, H4, H5, ⟨%S, HM, HL, HA⟩⟩
  iapply Hk
  isplitl [H0]; · iexact H0
  isplitl [H1]; · iexact H1
  isplitl [H2]; · iexact H2
  isplitl [H3]; · iexact H3
  isplitl [H4]; · iexact H4
  isplitl [H5]; · iexact H5
  isplitl [HM]; · iexists _; iexact HM
  isplitl [HL]; · iexists _; iexact HL
  iexists _; iexact HA

/-- The proof data: each operand's buffer at its block, the result's at `outBlk` of them, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (grid0.coords t) (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = outBlk (grid0.coords t) (iblk m c 0 t) (iblk m c 1 t) (iblk m c 2 t) (iblk m c 3 t) (iblk m c 4 t) := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The region's invariant opened: the three scratch buffers, each at some contents, and the generator register. -/
theorem inv_eq (c : Dev nD) : (Pipeline.ΦA spec0 c : sProp 𝕄)
    = iprop(((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)) ∗ ∃ r, prngReg c r) := by
  unfold Pipeline.ΦA
  rw [scopedRest0_eq]
  simp only [owns_whole]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, inv_eq]
  iintro ⟨⟨⟨HM, HL, HA⟩, Hg⟩, Ho, ⟨%d0, H0⟩, ⟨%d1, H1⟩, ⟨%d2, H2⟩, ⟨%d3, H3⟩, ⟨%d4, H4⟩, ⟨%d5, H5⟩⟩
  iapply (body_triple c (grid0.coords t) _ _ _ _ _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [HM]; · iexact HM
  isplitl [HL]; · iexact HL
  isplitl [HA]; · iexact HA
  iintro ⟨H0, H1, H2, H3, H4, H5, HM, HL, HA⟩
  isplitl [HM HL HA Hg]
  · isplitl [HM HL HA]
    · isplitl [HM]; · iexact HM
      isplitl [HL]; · iexact HL
      iexact HA
    iexact Hg
  isplitl [Ho]; · iexact Ho
  isplitl [H0]; · iexact H0
  isplitl [H1]; · iexact H1
  isplitl [H2]; · iexact H2
  isplitl [H3]; · iexact H3
  isplitl [H4]; · iexact H4
  iexact H5

theorem row_at (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_at]
  exact triple_restated (sound_body m c t) rfl .rfl fun _ => .rfl

-- the launch theorem's implicit arguments are found by unifying its conclusion with this one
set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_post m ρ)

/-- Every fair run ends, the arguments as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_quiescent m ρ))

end Cert.KernelIdeal.Own

end
-- ==== Proof.Elem.lean ====
module

public import proofs.«01_k».proof.Proof.Wp
public import Idealize.ShloMosaic.Lib.ValueIdxCoords
public import Idealize.ShloMosaic.Lib.Pipeline.Value
public import Idealize.ShloMosaic.Lib.WordCmp
public import Idealize.ShloMosaic.PureOps.Ideal.Laws

/-! The body's pure functions at one element, over the extended reals. -/

@[expose] public section

set_option maxRecDepth 16384

noncomputable section

namespace Attn

open Idealize.ShloMosaic Idealize.ShloMosaic.ValueIdx

/-! ## Layout, for any element type -/

section Layout
variable {α : Type}

theorem slice2 {R C R' C' o0 o1 : Nat} (x : (⟨2, ![R, C]⟩ : Shape).Idx → α)
    (h : (⟨2, ![R, C]⟩ : Shape).Slices ![o0, o1] ⟨2, ![R', C']⟩) (i : Fin R') (j : Fin C')
    (h0 : o0 + i.val < R) (h1 : o1 + j.val < C) :
    extractStridedSlice ⟨2, ![R', C']⟩ ![o0, o1] x h (ix2 i j) = x (ix2 ⟨o0 + i.val, h0⟩ ⟨o1 + j.val, h1⟩) :=
  extractStridedSlice_apply _ _ _ _ _ fun a => match a with
    | ⟨0, _⟩ => rfl
    | ⟨1, _⟩ => rfl

theorem bcRow {R C : Nat} (x : (⟨2, ![1, C]⟩ : Shape).Idx → α) (h : (⟨2, ![1, C]⟩ : Shape).Broadcasts ⟨2, ![R, C]⟩)
    (hC : C ≠ 1) (i : Fin R) (j : Fin C) : broadcastTo ⟨2, ![R, C]⟩ x h (ix2 i j) = x (ix2 0 j) :=
  broadcastTo_apply _ _ _ _ fun a => match a with
    | ⟨0, _⟩ => rfl
    | ⟨1, _⟩ => (if_neg hC).symm

theorem bcCol {R C : Nat} (x : (⟨2, ![R, 1]⟩ : Shape).Idx → α) (h : (⟨2, ![R, 1]⟩ : Shape).Broadcasts ⟨2, ![R, C]⟩)
    (hR : R ≠ 1) (i : Fin R) (j : Fin C) : broadcastTo ⟨2, ![R, C]⟩ x h (ix2 i j) = x (ix2 i 0) :=
  broadcastTo_apply _ _ _ _ fun a => match a with
    | ⟨0, _⟩ => (if_neg hR).symm
    | ⟨1, _⟩ => rfl

theorem dropUnit {R C : Nat} (x : (⟨3, ![1, R, C]⟩ : Shape).Idx → α)
    (h : (⟨3, ![1, R, C]⟩ : Shape).ShapeCasts ⟨2, ![R, C]⟩) (i : Fin R) (j : Fin C) :
    shapeCast ⟨2, ![R, C]⟩ x h (ix2 i j) = x (ix3 0 i j) :=
  (shapeCast_dropUnit_apply ![R, C] x h (ix2 i j)).trans (congrArg x (funext fun a => match a with
    | ⟨0, _⟩ => rfl
    | ⟨1, _⟩ => rfl
    | ⟨2, _⟩ => rfl))

theorem addUnit {R C : Nat} (x : (⟨2, ![R, C]⟩ : Shape).Idx → α)
    (h : (⟨2, ![R, C]⟩ : Shape).ShapeCasts ⟨3, ![1, R, C]⟩) (u : Fin 1) (i : Fin R) (j : Fin C) :
    shapeCast ⟨3, ![1, R, C]⟩ x h (ix3 u i j) = x (ix2 i j) :=
  (shapeCast_addUnit_apply ![R, C] x h (ix3 u i j)).trans (congrArg x (funext fun a => match a with
    | ⟨0, _⟩ => rfl
    | ⟨1, _⟩ => rfl))

theorem catRowLo {R C T : Nat} (x y : (⟨2, ![R, C]⟩ : Shape).Idx → α)
    (h : Shape.Concatenates [⟨2, ![R, C]⟩, ⟨2, ![R, C]⟩] ⟨2, ![T, C]⟩ 0) (i : Fin R) (j : Fin C) (hi : i.val < T) :
    concatenate ⟨2, ![T, C]⟩ 0 [⟨⟨2, ![R, C]⟩, x⟩, ⟨⟨2, ![R, C]⟩, y⟩] h (ix2 ⟨i.val, hi⟩ j) = x (ix2 i j) :=
  concatenate_pair_apply_left (t := ⟨2, ![T, C]⟩) (s₁ := ⟨2, ![R, C]⟩) (s₂ := ⟨2, ![R, C]⟩) 0 x y h (ix2 ⟨i.val, hi⟩ j) rfl (ix2 i j)
    fun a => match a with
    | ⟨0, _⟩ => rfl
    | ⟨1, _⟩ => rfl

theorem catRowHi {R C T : Nat} (x y : (⟨2, ![R, C]⟩ : Shape).Idx → α)
    (h : Shape.Concatenates [⟨2, ![R, C]⟩, ⟨2, ![R, C]⟩] ⟨2, ![T, C]⟩ 0) (i : Fin R) (j : Fin C) (hi : R + i.val < T) :
    concatenate ⟨2, ![T, C]⟩ 0 [⟨⟨2, ![R, C]⟩, x⟩, ⟨⟨2, ![R, C]⟩, y⟩] h (ix2 ⟨R + i.val, hi⟩ j) = y (ix2 i j) :=
  concatenate_pair_apply_right (t := ⟨2, ![T, C]⟩) (s₁ := ⟨2, ![R, C]⟩) (s₂ := ⟨2, ![R, C]⟩) 0 x y h (ix2 ⟨R + i.val, hi⟩ j) rfl rfl (ix2 i j)
    (fun a => match a with
    | ⟨0, _⟩ => fun hn => absurd rfl hn
    | ⟨1, _⟩ => fun _ => rfl)
    (Nat.add_comm _ _)

theorem catColLo {R C T : Nat} (x y : (⟨2, ![R, C]⟩ : Shape).Idx → α)
    (h : Shape.Concatenates [⟨2, ![R, C]⟩, ⟨2, ![R, C]⟩] ⟨2, ![R, T]⟩ 1) (i : Fin R) (j : Fin C) (hj : j.val < T) :
    concatenate ⟨2, ![R, T]⟩ 1 [⟨⟨2, ![R, C]⟩, x⟩, ⟨⟨2, ![R, C]⟩, y⟩] h (ix2 i ⟨j.val, hj⟩) = x (ix2 i j) :=
  concatenate_pair_apply_left (t := ⟨2, ![R, T]⟩) (s₁ := ⟨2, ![R, C]⟩) (s₂ := ⟨2, ![R, C]⟩) 1 x y h (ix2 i ⟨j.val, hj⟩) rfl (ix2 i j)
    fun a => match a with
    | ⟨0, _⟩ => rfl
    | ⟨1, _⟩ => rfl

theorem catColHi {R C T : Nat} (x y : (⟨2, ![R, C]⟩ : Shape).Idx → α)
    (h : Shape.Concatenates [⟨2, ![R, C]⟩, ⟨2, ![R, C]⟩] ⟨2, ![R, T]⟩ 1) (i : Fin R) (j : Fin C) (hj : C + j.val < T) :
    concatenate ⟨2, ![R, T]⟩ 1 [⟨⟨2, ![R, C]⟩, x⟩, ⟨⟨2, ![R, C]⟩, y⟩] h (ix2 i ⟨C + j.val, hj⟩) = y (ix2 i j) :=
  concatenate_pair_apply_right (t := ⟨2, ![R, T]⟩) (s₁ := ⟨2, ![R, C]⟩) (s₂ := ⟨2, ![R, C]⟩) 1 x y h (ix2 i ⟨C + j.val, hj⟩) rfl rfl (ix2 i j)
    (fun a => match a with
    | ⟨0, _⟩ => fun _ => rfl
    | ⟨1, _⟩ => fun hn => absurd rfl hn)
    (Nat.add_comm _ _)

/-- Piece `n` of four pieces side by side. -/
theorem catCol4 {R C T : Nat} (x : Fin 4 → (⟨2, ![R, C]⟩ : Shape).Idx → α)
    (h : Shape.Concatenates [⟨2, ![R, C]⟩, ⟨2, ![R, C]⟩, ⟨2, ![R, C]⟩, ⟨2, ![R, C]⟩] ⟨2, ![R, T]⟩ 1)
    (i : Fin R) (n : Fin 4) (j : Fin C) (hj : n.val * C + j.val < T) :
    concatenate ⟨2, ![R, T]⟩ 1 [⟨⟨2, ![R, C]⟩, x 0⟩, ⟨⟨2, ![R, C]⟩, x 1⟩, ⟨⟨2, ![R, C]⟩, x 2⟩, ⟨⟨2, ![R, C]⟩, x 3⟩] h
      (ix2 i ⟨n.val * C + j.val, hj⟩) = x n (ix2 i j) := by
  refine concatenate_apply_piece (t := ⟨2, ![R, T]⟩) 1
    [⟨⟨2, ![R, C]⟩, x 0⟩, ⟨⟨2, ![R, C]⟩, x 1⟩, ⟨⟨2, ![R, C]⟩, x 2⟩, ⟨⟨2, ![R, C]⟩, x 3⟩] h _ n.val n.isLt
    ⟨2, ![R, C]⟩ (x n) ?_ rfl (n.val * C) ?_ (ix2 i j) ?_ rfl
  · fin_cases n <;> rfl
  · fin_cases n <;> simp <;> omega
  · exact fun a => match a with
      | ⟨0, _⟩ => fun _ => rfl
      | ⟨1, _⟩ => fun hn => absurd rfl hn

theorem lane_bit (n : Nat) (h : n < 128) (a b : α) :
    Scalar.select (IntOp.cmpi .slt (BitVec.ofNat 32 n) 64#32) a b = if n < 64 then a else b := by
  rw [show (64#32 : BitVec 32) = BitVec.ofNat 32 64 from rfl, WordCmp.cmpi_slt_ofNat (by omega) (by omega)]
  by_cases hn : n < 64 <;> simp [hn, select_one, select_zero]

end Layout

section At
variable {α : Type}

theorem laneLow_apply (l : Fin 128) : laneLow (ix2 0 l) = IntOp.cmpi .slt (BitVec.ofNat 32 l.val) 64#32 := by
  show IntOp.cmpi .slt (iota .tc A1x128 32 [1] _ (ix2 0 l)) _ = _
  rw [iota_single_apply]; rfl

theorem laneSel (a b : Sx128.Idx → α) (t : Fin 4096) (l : Fin 128) :
    select (broadcastTo Sx128 (shapeCast A1x128 laneLow (by decide)) (by decide)) a b (ix2 t l)
      = if l.val < 64 then a (ix2 t l) else b (ix2 t l) := by
  show Scalar.select (broadcastTo Sx128 _ _ (ix2 t l)) _ _ = _
  rw [bcRow _ _ (by decide), shapeCast_self, laneLow_apply, lane_bit _ l.isLt]

theorem bf0 : (Scalar.ofBits (F := Ideal) .bf16 0x0000#16) = (0 : EReal) := by
  show Ideal.ofBits .bf16 0x0000#16 = _
  simp [Ideal.ofBits, Ideal.ieee]
theorem bf1 : (Scalar.ofBits (F := Ideal) .bf16 0x3F80#16) = (1 : EReal) := by
  show Ideal.ofBits .bf16 0x3F80#16 = _
  simp [Ideal.ofBits, Ideal.ieee]
  rw [← EReal.coe_mul, ← EReal.coe_one]
  congr 1
  norm_num
theorem zero32_eq : (zero32 : Ideal .f32) = (0 : EReal) := by
  show Ideal.ofBits .f32 0x00000000#32 = _
  simp [Ideal.ofBits, Ideal.ieee]
theorem one32_eq : (one32 : Ideal .f32) = (1 : EReal) := by
  show Ideal.ofBits .f32 0x3F800000#32 = _
  simp [Ideal.ofBits, Ideal.ieee]
  rw [← EReal.coe_mul, ← EReal.coe_one]
  congr 1
  norm_num
end At

/-! ## The unit's functions -/

theorem qScaled_apply (cs : Ideal .f32) (x : Vec Ideal S1xSx128 .f32) (t : Fin 4096) (d : Fin 128) :
    qScaled cs x (ix2 t d) = (x (ix3 0 t d) * cs : EReal) := by
  show (shapeCast Sx128 x _ (ix2 t d) * cs : EReal) = _
  rw [dropUnit]

theorem qLow_apply (q : FVec Ideal Sx128 .bf16) (t : Fin 4096) (d : Fin 128) :
    qLow q (ix2 t d) = if d.val < 64 then (q (ix2 t d) : EReal) else 0 := by
  unfold qLow
  rw [laneSel]
  rw [show broadcast Sx128 (Scalar.ofBits (F := Ideal) .bf16 0x0000#16) (ix2 t d) = (0 : EReal) from bf0]

theorem qHigh_apply (q : FVec Ideal Sx128 .bf16) (t : Fin 4096) (d : Fin 128) :
    qHigh q (ix2 t d) = if d.val < 64 then (0 : EReal) else q (ix2 t d) := by
  unfold qHigh
  rw [laneSel]
  rw [show broadcast Sx128 (Scalar.ofBits (F := Ideal) .bf16 0x0000#16) (ix2 t d) = (0 : EReal) from bf0]

theorem qUnit_lo (q : FVec Ideal Sx128 .bf16) (rb : Nat) (h : rb + 256 ≤ 4096) (i : Fin 256) (d : Fin 128) :
    qUnit q rb h (ix2 ⟨i.val, by omega⟩ d) = if d.val < 64 then (q (ix2 ⟨rb + i.val, by omega⟩ d) : EReal) else 0 := by
  unfold qUnit
  rw [catRowLo, slice2 (h0 := by omega) (h1 := by omega), qLow_apply]
  simp only [Nat.zero_add]

theorem qUnit_hi (q : FVec Ideal Sx128 .bf16) (rb : Nat) (h : rb + 256 ≤ 4096) (i : Fin 256) (d : Fin 128) :
    qUnit q rb h (ix2 ⟨256 + i.val, by omega⟩ d) = if d.val < 64 then (0 : EReal) else q (ix2 ⟨rb + i.val, by omega⟩ d) := by
  unfold qUnit
  rw [catRowHi, slice2 (h0 := by omega) (h1 := by omega), qHigh_apply]
  simp only [Nat.zero_add]

theorem kOf_apply (x : Vec Ideal A1x512x128 .bf16) (k : Fin 512) (d : Fin 128) : kOf x (ix2 k d) = x (ix3 0 k d) :=
  dropUnit _ _ _ _

theorem vsOf_lo (x : Vec Ideal A1x512x128 .bf16) (k : Fin 512) (l : Fin 128) :
    vsOf x (ix2 k ⟨l.val, by omega⟩) = x (ix3 0 k l) := by
  unfold vsOf
  rw [catColLo, dropUnit]

theorem vsOf_hi (x : Vec Ideal A1x512x128 .bf16) (k : Fin 512) (l : Fin 128) :
    vsOf x (ix2 k ⟨128 + l.val, by omega⟩) = (1 : EReal) := by
  unfold vsOf
  rw [catColHi]
  exact bf1

theorem biasOf_apply (cl : Ideal .f32) (x : Vec Ideal A1x1x512 .f32) (k : Fin 512) :
    biasOf cl x (ix2 0 k) = (x (ix3 0 0 k) * cl : EReal) := by
  show (shapeCast A1x512 x _ (ix2 0 k) * cl : EReal) = _
  rw [dropUnit]

theorem zero_const {s : Shape} (j : s.Idx) : constant (F := Ideal) s .f32 0x00000000#32 j = (0 : EReal) := zero32_eq

theorem dQK_sum (x : FVec Ideal A512x128 .bf16) (y : FVec Ideal A512x128 .bf16) (i k : Fin 512) :
    matmul dQK none x y (constant A512x512 .f32 0x00000000#32) (ix2 i k)
      = ∑ d : Fin 128, (x (ix2 i d) * y (ix2 k d) : EReal) := by
  refine (Ideal.matmul_constant_zero_apply dQK none x y (ix2 i k)).trans ?_
  rw [← Equiv.sum_comp (contrEquiv1 dQK 128 rfl rfl).symm]
  refine Finset.sum_congr rfl fun d _ => ?_
  congr 1
  · exact congrArg x (funext fun a => match a with
      | ⟨0, _⟩ => rfl
      | ⟨1, _⟩ => rfl)
  · exact congrArg y (funext fun a => match a with
      | ⟨0, _⟩ => rfl
      | ⟨1, _⟩ => rfl)

theorem dQKh_sum (x : FVec Ideal A512x128 .bf16) (y : FVec Ideal A256x128 .bf16) (i : Fin 512) (k : Fin 256) :
    matmul dQKh none x y (constant A512x256 .f32 0x00000000#32) (ix2 i k)
      = ∑ d : Fin 128, (x (ix2 i d) * y (ix2 k d) : EReal) := by
  refine (Ideal.matmul_constant_zero_apply dQKh none x y (ix2 i k)).trans ?_
  rw [← Equiv.sum_comp (contrEquiv1 dQKh 128 rfl rfl).symm]
  refine Finset.sum_congr rfl fun d _ => ?_
  congr 1
  · exact congrArg x (funext fun a => match a with
      | ⟨0, _⟩ => rfl
      | ⟨1, _⟩ => rfl)
  · exact congrArg y (funext fun a => match a with
      | ⟨0, _⟩ => rfl
      | ⟨1, _⟩ => rfl)

theorem dPV_sum (x : FVec Ideal A512x512 .bf16) (y : FVec Ideal A512x256 .bf16) (i : Fin 512) (l : Fin 256) :
    matmul dPV none x y (constant A512x256 .f32 0x00000000#32) (ix2 i l)
      = ∑ k : Fin 512, (x (ix2 i k) * y (ix2 k l) : EReal) := by
  refine (Ideal.matmul_constant_zero_apply dPV none x y (ix2 i l)).trans ?_
  rw [← Equiv.sum_comp (contrEquiv1 dPV 512 rfl rfl).symm]
  refine Finset.sum_congr rfl fun d _ => ?_
  congr 1
  · exact congrArg x (funext fun a => match a with
      | ⟨0, _⟩ => rfl
      | ⟨1, _⟩ => rfl)
  · exact congrArg y (funext fun a => match a with
      | ⟨0, _⟩ => rfl
      | ⟨1, _⟩ => rfl)

theorem dPVh_sum (x : FVec Ideal A512x256 .bf16) (y : FVec Ideal A256x256 .bf16) (i : Fin 512) (l : Fin 256) :
    matmul dPVh none x y (constant A512x256 .f32 0x00000000#32) (ix2 i l)
      = ∑ k : Fin 256, (x (ix2 i k) * y (ix2 k l) : EReal) := by
  refine (Ideal.matmul_constant_zero_apply dPVh none x y (ix2 i l)).trans ?_
  rw [← Equiv.sum_comp (contrEquiv1 dPVh 256 rfl rfl).symm]
  refine Finset.sum_congr rfl fun d _ => ?_
  congr 1
  · exact congrArg x (funext fun a => match a with
      | ⟨0, _⟩ => rfl
      | ⟨1, _⟩ => rfl)
  · exact congrArg y (funext fun a => match a with
      | ⟨0, _⟩ => rfl
      | ⟨1, _⟩ => rfl)

end Attn

end
-- ==== Proof.Elem2.lean ====
module

public import proofs.«01_k».proof.Proof.Elem

/-! The unit's scores, weights and running states at one element, over the extended reals. -/

@[expose] public section

set_option maxRecDepth 16384

noncomputable section

namespace Attn

open Idealize.ShloMosaic Idealize.ShloMosaic.ValueIdx

/-! ## Scores -/

theorem scFull_apply (qu : FVec Ideal A512x128 .bf16) (t : Tile Ideal) (i k : Fin 512) :
    scFull qu t (ix2 i k) = ∑ d : Fin 128, (qu (ix2 i d) * t.k (ix2 k d) : EReal) := dQK_sum _ _ _ _

theorem scHalf_apply (qu : FVec Ideal A512x128 .bf16) (t : Tile Ideal) (i : Fin 512) (k : Fin 256) :
    scHalf qu t (ix2 i k) = ∑ d : Fin 128, (qu (ix2 i d) * t.k (ix2 ⟨k.val, by omega⟩ d) : EReal) := by
  refine (dQKh_sum _ _ _ _).trans (Finset.sum_congr rfl fun d _ => ?_)
  rw [slice2 (h0 := by omega) (h1 := by omega)]
  simp only [Nat.zero_add]

theorem hdFull0_apply (s : FVec Ideal A512x512 .f32) (b : FVec Ideal A1x512 .f32) (i : Fin 256) (k : Fin 512) :
    hdFull0 s b (ix2 i k) = (s (ix2 ⟨i.val, by omega⟩ k) - b (ix2 0 k) : EReal) := by
  show (extractStridedSlice A256x512 ![0, 0] s _ (ix2 i k) - broadcastTo A256x512 b _ (ix2 i k) : EReal) = _
  rw [slice2 (h0 := by omega) (h1 := by omega), bcRow _ _ (by decide)]
  simp only [Nat.zero_add]
theorem hdFull1_apply (s : FVec Ideal A512x512 .f32) (b : FVec Ideal A1x512 .f32) (i : Fin 256) (k : Fin 512) :
    hdFull1 s b (ix2 i k) = (s (ix2 ⟨256 + i.val, by omega⟩ k) - b (ix2 0 k) : EReal) := by
  show (extractStridedSlice A256x512 ![256, 0] s _ (ix2 i k) - broadcastTo A256x512 b _ (ix2 i k) : EReal) = _
  rw [slice2 (h0 := by omega) (h1 := by omega), bcRow _ _ (by decide)]
  simp only [Nat.zero_add]
theorem hdHalf0_apply (s : FVec Ideal A512x256 .f32) (b : FVec Ideal A1x512 .f32) (i : Fin 256) (k : Fin 256) :
    hdHalf0 s b (ix2 i k) = (s (ix2 ⟨i.val, by omega⟩ k) - b (ix2 0 ⟨k.val, by omega⟩) : EReal) := by
  show (extractStridedSlice A256x256 ![0, 0] s _ (ix2 i k) - broadcastTo A256x256 _ _ (ix2 i k) : EReal) = _
  rw [slice2 (h0 := by omega) (h1 := by omega), bcRow _ _ (by decide), slice2 (h0 := by simp) (h1 := by omega)]
  simp only [Nat.zero_add]
theorem hdHalf1_apply (s : FVec Ideal A512x256 .f32) (b : FVec Ideal A1x512 .f32) (i : Fin 256) (k : Fin 256) :
    hdHalf1 s b (ix2 i k) = (s (ix2 ⟨256 + i.val, by omega⟩ k) - b (ix2 0 ⟨k.val, by omega⟩) : EReal) := by
  show (extractStridedSlice A256x256 ![256, 0] s _ (ix2 i k) - broadcastTo A256x256 _ _ (ix2 i k) : EReal) = _
  rw [slice2 (h0 := by omega) (h1 := by omega), bcRow _ _ (by decide), slice2 (h0 := by simp) (h1 := by omega)]
  simp only [Nat.zero_add]

theorem mask_bit {α : Type} (rb i cb k : Nat) (h : rb + i < 65536) (h' : cb + k < 65536) (a b : α) :
    Scalar.select (IntOp.cmpi .sge (BitVec.ofNat 32 rb + BitVec.ofNat 32 i) (BitVec.ofNat 32 cb + BitVec.ofNat 32 k)) a b
      = if cb + k ≤ rb + i then a else b := by
  rw [← BitVec.ofNat_add, ← BitVec.ofNat_add, WordCmp.cmpi_sge_ofNat (by omega) (by omega)]
  by_cases hn : cb + k ≤ rb + i <;> simp [hn, select_one, select_zero]

theorem mkFull_apply (cm : Ideal .f32) (rb cb : Nat) (hr : rb < 60000) (hc : cb < 60000) (s : FVec Ideal A256x512 .f32)
    (i : Fin 256) (k : Fin 512) :
    mkFull cm rb cb s (ix2 i k) = if cb + k.val ≤ rb + i.val then (s (ix2 i k) : EReal) else cm := by
  rw [← mask_bit rb i.val cb k.val (by omega) (by omega)]
  show Scalar.select (IntOp.cmpi .sge (BitVec.ofNat 32 rb + iota .tc A256x512 32 [0] _ (ix2 i k))
    (BitVec.ofNat 32 cb + iota .tc A256x512 32 [1] _ (ix2 i k))) _ _ = _
  rw [iota_single_apply, iota_single_apply]; rfl
theorem mkHalf_apply (cm : Ideal .f32) (rb cb : Nat) (hr : rb < 60000) (hc : cb < 60000) (s : FVec Ideal A256x256 .f32)
    (i : Fin 256) (k : Fin 256) :
    mkHalf cm rb cb s (ix2 i k) = if cb + k.val ≤ rb + i.val then (s (ix2 i k) : EReal) else cm := by
  rw [← mask_bit rb i.val cb k.val (by omega) (by omega)]
  show Scalar.select (IntOp.cmpi .sge (BitVec.ofNat 32 rb + iota .tc A256x256 32 [0] _ (ix2 i k))
    (BitVec.ofNat 32 cb + iota .tc A256x256 32 [1] _ (ix2 i k))) _ _ = _
  rw [iota_single_apply, iota_single_apply]; rfl

/-! ## Lane tiles: the maximum over them, the weights -/

def tf (s : FVec Ideal A256x512 .f32) : Fin 4 → FVec Ideal A256x128 .f32 := ![tf0 s, tf1 s, tf2 s, tf3 s]

theorem tf_apply (s : FVec Ideal A256x512 .f32) (n : Fin 4) (i : Fin 256) (l : Fin 128) :
    tf s n (ix2 i l) = s (ix2 i ⟨n.val * 128 + l.val, by omega⟩) := by
  match n with
  | ⟨0, _⟩ =>
    refine (slice2 (o0 := 0) (o1 := 0) s (by decide) i l (by omega) (by omega)).trans (congrArg s ?_)
    simp only [Nat.zero_add, Nat.reduceMul]
  | ⟨1, _⟩ =>
    refine (slice2 (o0 := 0) (o1 := 128) s (by decide) i l (by omega) (by omega)).trans (congrArg s ?_)
    simp only [Nat.zero_add, Nat.reduceMul]
  | ⟨2, _⟩ =>
    refine (slice2 (o0 := 0) (o1 := 256) s (by decide) i l (by omega) (by omega)).trans (congrArg s ?_)
    simp only [Nat.zero_add, Nat.reduceMul]
  | ⟨3, _⟩ =>
    refine (slice2 (o0 := 0) (o1 := 384) s (by decide) i l (by omega) (by omega)).trans (congrArg s ?_)
    simp only [Nat.zero_add, Nat.reduceMul]

theorem mxFull_apply (s : FVec Ideal A256x512 .f32) (i : Fin 256) (l : Fin 128) :
    mxFull s (ix2 i l) = max (max (max (tf s 0 (ix2 i l)) (tf s 1 (ix2 i l))) (tf s 2 (ix2 i l))) (tf s 3 (ix2 i l) : EReal) := rfl

theorem tf_le_mxFull (s : FVec Ideal A256x512 .f32) (n : Fin 4) (i : Fin 256) (l : Fin 128) :
    (tf s n (ix2 i l) : EReal) ≤ mxFull s (ix2 i l) := by
  rw [mxFull_apply]
  fin_cases n <;> simp

theorem pFull_apply (s : FVec Ideal A256x512 .f32) (m : FVec Ideal A256x128 .f32) (i : Fin 256) (n : Fin 4) (l : Fin 128) :
    pFull s m (ix2 i ⟨n.val * 128 + l.val, by omega⟩) = Ideal.exp2 (tf s n (ix2 i l) - m (ix2 i l)) := by
  refine (catCol4 (fun n => ex (tf s n) m) cc_p4 i n l (by omega)).trans ?_
  rfl

def th (s : FVec Ideal A256x256 .f32) : Fin 2 → FVec Ideal A256x128 .f32 := ![th0 s, th1 s]

theorem th_apply (s : FVec Ideal A256x256 .f32) (n : Fin 2) (i : Fin 256) (l : Fin 128) :
    th s n (ix2 i l) = s (ix2 i ⟨n.val * 128 + l.val, by omega⟩) := by
  match n with
  | ⟨0, _⟩ =>
    refine (slice2 (o0 := 0) (o1 := 0) s (by decide) i l (by omega) (by omega)).trans (congrArg s ?_)
    simp only [Nat.zero_add, Nat.reduceMul]
  | ⟨1, _⟩ =>
    refine (slice2 (o0 := 0) (o1 := 128) s (by decide) i l (by omega) (by omega)).trans (congrArg s ?_)
    simp only [Nat.zero_add, Nat.reduceMul]

theorem mxHalf_apply (s : FVec Ideal A256x256 .f32) (i : Fin 256) (l : Fin 128) :
    mxHalf s (ix2 i l) = max (th s 0 (ix2 i l)) (th s 1 (ix2 i l) : EReal) := rfl

theorem th_le_mxHalf (s : FVec Ideal A256x256 .f32) (n : Fin 2) (i : Fin 256) (l : Fin 128) :
    (th s n (ix2 i l) : EReal) ≤ mxHalf s (ix2 i l) := by
  rw [mxHalf_apply]
  fin_cases n <;> simp

theorem pHalf_apply (s : FVec Ideal A256x256 .f32) (m : FVec Ideal A256x128 .f32) (i : Fin 256) (n : Fin 2) (l : Fin 128) :
    pHalf s m (ix2 i ⟨n.val * 128 + l.val, by omega⟩) = Ideal.exp2 (th s n (ix2 i l) - m (ix2 i l)) := by
  match n with
  | ⟨0, _⟩ =>
    refine (congrArg (pHalf s m) ?_).trans (catColLo (ex (th0 s) m) (ex (th1 s) m) cc_p2 i l (by omega))
    simp
  | ⟨1, _⟩ =>
    refine (congrArg (pHalf s m) ?_).trans (catColHi (ex (th0 s) m) (ex (th1 s) m) cc_p2 i l (by omega))
    simp

/-! ## Weighted sums -/

theorem pvFull_lo (p0 p1 : FVec Ideal A256x512 .bf16) (v : FVec Ideal A512x256 .bf16) (i : Fin 256) (l : Fin 256) :
    pvFull p0 p1 v (ix2 ⟨i.val, by omega⟩ l) = ∑ k : Fin 512, (p0 (ix2 i k) * v (ix2 k l) : EReal) := by
  refine (dPV_sum _ _ _ _).trans (Finset.sum_congr rfl fun k _ => ?_)
  rw [catRowLo]
theorem pvFull_hi (p0 p1 : FVec Ideal A256x512 .bf16) (v : FVec Ideal A512x256 .bf16) (i : Fin 256) (l : Fin 256) :
    pvFull p0 p1 v (ix2 ⟨256 + i.val, by omega⟩ l) = ∑ k : Fin 512, (p1 (ix2 i k) * v (ix2 k l) : EReal) := by
  refine (dPV_sum _ _ _ _).trans (Finset.sum_congr rfl fun k _ => ?_)
  rw [catRowHi]
theorem pvHalf_lo (p0 p1 : FVec Ideal A256x256 .bf16) (v : FVec Ideal A512x256 .bf16) (i : Fin 256) (l : Fin 256) :
    pvHalf p0 p1 v (ix2 ⟨i.val, by omega⟩ l) = ∑ k : Fin 256, (p0 (ix2 i k) * v (ix2 ⟨k.val, by omega⟩ l) : EReal) := by
  refine (dPVh_sum _ _ _ _).trans (Finset.sum_congr rfl fun k _ => ?_)
  rw [catRowLo, slice2 (h0 := by omega) (h1 := by omega)]
  simp only [Nat.zero_add]
theorem pvHalf_hi (p0 p1 : FVec Ideal A256x256 .bf16) (v : FVec Ideal A512x256 .bf16) (i : Fin 256) (l : Fin 256) :
    pvHalf p0 p1 v (ix2 ⟨256 + i.val, by omega⟩ l) = ∑ k : Fin 256, (p1 (ix2 i k) * v (ix2 ⟨k.val, by omega⟩ l) : EReal) := by
  refine (dPVh_sum _ _ _ _).trans (Finset.sum_congr rfl fun k _ => ?_)
  rw [catRowHi, slice2 (h0 := by omega) (h1 := by omega)]
  simp only [Nat.zero_add]

theorem pa0_apply (pv : FVec Ideal A512x256 .f32) (i : Fin 256) (l : Fin 128) :
    pa (pt0 pv) (ix2 i l) = pv (ix2 ⟨i.val, by omega⟩ ⟨l.val, by omega⟩) := by
  unfold pa pt0
  rw [slice2 (h0 := by omega) (h1 := by omega), slice2 (h0 := by simp; omega) (h1 := by simp; omega)]
  simp only [Nat.zero_add]
theorem pl0_apply (pv : FVec Ideal A512x256 .f32) (i : Fin 256) (l : Fin 128) :
    pl (pt0 pv) (ix2 i l) = pv (ix2 ⟨i.val, by omega⟩ ⟨128 + l.val, by omega⟩) := by
  unfold pl pt0
  rw [slice2 (h0 := by omega) (h1 := by omega), slice2 (h0 := by simp; omega) (h1 := by simp; omega)]
  simp only [Nat.zero_add]
theorem pa1_apply (pv : FVec Ideal A512x256 .f32) (i : Fin 256) (l : Fin 128) :
    pa (pt1 pv) (ix2 i l) = pv (ix2 ⟨256 + i.val, by omega⟩ ⟨l.val, by omega⟩) := by
  unfold pa pt1
  rw [slice2 (h0 := by omega) (h1 := by omega), slice2 (h0 := by simp; omega) (h1 := by simp; omega)]
  simp only [Nat.zero_add]
theorem pl1_apply (pv : FVec Ideal A512x256 .f32) (i : Fin 256) (l : Fin 128) :
    pl (pt1 pv) (ix2 i l) = pv (ix2 ⟨256 + i.val, by omega⟩ ⟨128 + l.val, by omega⟩) := by
  unfold pl pt1
  rw [slice2 (h0 := by omega) (h1 := by omega), slice2 (h0 := by simp; omega) (h1 := by simp; omega)]
  simp only [Nat.zero_add]

/-! ## The running states -/

theorem dn_apply (x : Vec Ideal A1x256x128 .f32) (i : Fin 256) (l : Fin 128) : dn x (ix2 i l) = x (ix3 0 i l) := dropUnit _ _ _ _

theorem fold_max_eq {ι : Type} (s : Finset ι) (f : ι → EReal) : s.fold max ⊥ f = s.sup f := rfl

theorem negInf32 : FloatOps.ofBits (F := Ideal) .f32 0xFF800000#32 = (⊥ : EReal) := by
  show Ideal.ofBits .f32 0xFF800000#32 = _
  simp [Ideal.ofBits, Ideal.ieee]

theorem rowMax_apply (s : FVec Ideal A256x128 .f32) (i : Fin 256) (l : Fin 128) :
    rowMax s (ix2 i l) = (Finset.univ : Finset (Fin 128)).sup fun k => (s (ix2 i k) : EReal) := by
  unfold rowMax
  rw [bcCol _ _ (by decide), shapeCast_apply _ _ _ (ix1 i) (by
    rw [Shape.rowMajor_val_one, Shape.rowMajor_val_two]; simp)]
  refine (Ideal.multiReduction_maximumf_single s _ _ _ _ _).trans ?_
  rw [negInf32, ← fold_max_eq]
  refine Finset.fold_congr fun k _ => ?_
  exact congrArg s (funext fun a => match a with
    | ⟨0, _⟩ => rfl
    | ⟨1, _⟩ => rfl)

theorem mNew_apply (x : Vec Ideal A1x256x128 .f32) (s : FVec Ideal A256x128 .f32) (i : Fin 256) (l : Fin 128) :
    mNew x s (ix2 i l) = max (x (ix3 0 i l)) (rowMax s (ix2 i l) : EReal) := by
  show max (dn x (ix2 i l)) (rowMax s (ix2 i l) : EReal) = _
  rw [dn_apply]
theorem alpha_apply (x : Vec Ideal A1x256x128 .f32) (s : FVec Ideal A256x128 .f32) (i : Fin 256) (l : Fin 128) :
    alpha x s (ix2 i l) = Ideal.exp2 (x (ix3 0 i l) - mNew x s (ix2 i l)) := by
  show Ideal.exp2 (dn x (ix2 i l) - mNew x s (ix2 i l)) = _
  rw [dn_apply]
theorem upd_apply (a : FVec Ideal A256x128 .f32) (x : Vec Ideal A1x256x128 .f32) (d : FVec Ideal A256x128 .f32)
    (i : Fin 256) (l : Fin 128) : upd a x d (ix2 i l) = (a (ix2 i l) * x (ix3 0 i l) + d (ix2 i l) : EReal) := by
  show (a (ix2 i l) * dn x (ix2 i l) + d (ix2 i l) : EReal) = _
  rw [dn_apply]

section Block
variable {F : FTy → Type} [FloatOps F]

theorem rBlk_emb (hh rb : Nat) (h0 : hh < 2) (h : rb + 256 ≤ 4096) (i : Fin 256) (l : Fin 128) :
    (rBlk hh rb h0 h).emb (ix3 (n0 := 1) 0 i l) = ix3 ⟨hh, h0⟩ ⟨rb + i.val, by omega⟩ l :=
  funext fun a => Fin.ext ((Rect.emb_apply ..).trans (match a with
    | ⟨0, _⟩ => by simp [rBlk, Rect.unit]
    | ⟨1, _⟩ => by simp [rBlk, Rect.unit]
    | ⟨2, _⟩ => by simp [rBlk, Rect.unit]))

theorem sub_apply (X : Vec F S2xSx128 .f32) (hh rb : Nat) (h0 : hh < 2) (h : rb + 256 ≤ 4096) (i : Fin 256) (l : Fin 128) :
    sub X hh rb h0 h (ix3 0 i l) = X (ix3 ⟨hh, h0⟩ ⟨rb + i.val, by omega⟩ l) := congrArg X (rBlk_emb hh rb h0 h i l)

theorem put_in (X : Vec F S2xSx128 .f32) (hh rb : Nat) (h0 : hh < 2) (h : rb + 256 ≤ 4096) (w : FVec F A256x128 .f32)
    (i : Fin 256) (l : Fin 128) : put X hh rb h0 h w (ix3 ⟨hh, h0⟩ ⟨rb + i.val, by omega⟩ l) = w (ix2 i l) := by
  rw [← rBlk_emb hh rb h0 h i l]
  exact (Rect.overlay_emb (rBlk hh rb h0 h) X (up w) _).trans (addUnit w (by decide) 0 i l)

theorem put_out (X : Vec F S2xSx128 .f32) (hh rb : Nat) (h0 : hh < 2) (h : rb + 256 ≤ 4096) (w : FVec F A256x128 .f32)
    (g : Fin 2) (t : Fin 4096) (l : Fin 128) (hn : g.val ≠ hh ∨ t.val < rb ∨ rb + 256 ≤ t.val) :
    put X hh rb h0 h w (ix3 g t l) = X (ix3 g t l) := by
  unfold put
  refine Rect.overlay_of_not_mem _ _ _ fun hm => ?_
  rw [rBlk, Rect.mem_set_unit] at hm
  have e0 := hm ⟨0, by decide⟩
  have e1 := hm ⟨1, by decide⟩
  change hh ≤ g.val ∧ g.val < hh + 1 at e0
  change rb ≤ t.val ∧ t.val < rb + 256 at e1
  omega

end Block

/-! ## The result -/

theorem half_apply (X : Vec Ideal S2xSx128 .f32) (hh : Nat) (h0 : hh < 2) (t : Fin 4096) (l : Fin 128) :
    half X hh h0 (ix3 0 t l) = X (ix3 ⟨hh, h0⟩ t l) :=
  congrArg X (funext fun a => Fin.ext ((Rect.emb_apply ..).trans (match a with
    | ⟨0, _⟩ => by simp [Rect.unit]
    | ⟨1, _⟩ => by simp [Rect.unit]
    | ⟨2, _⟩ => by simp [Rect.unit])))

theorem outOf_apply (a0 l0 a1 l1 g : Vec Ideal S1xSx128 .f32) (t : Fin 4096) (l : Fin 128) :
    outOf a0 l0 a1 l1 g (ix3 0 t l)
      = ((if l.val < 64 then Ideal.div (a0 (ix3 0 t l)) (l0 (ix3 0 t l)) else Ideal.div (a1 (ix3 0 t l)) (l1 (ix3 0 t l)))
        * (g (ix3 0 t l) * Ideal.div 1 (1 + Ideal.exp (0 - g (ix3 0 t l)))) : EReal) := by
  unfold outOf
  rw [addUnit]
  show ((select _ _ _ (ix2 t l) : EReal) * ((shapeCast Sx128 g _ (ix2 t l) : EReal) * Ideal.div (one32 : Ideal .f32) ((one32 : Ideal .f32)
    + Ideal.exp ((zero32 : Ideal .f32) - shapeCast Sx128 g _ (ix2 t l))))) = _
  rw [laneSel, dropUnit, one32_eq, zero32_eq]
  show ((if l.val < 64 then Ideal.div (shapeCast Sx128 a0 _ (ix2 t l)) (shapeCast Sx128 l0 _ (ix2 t l))
    else Ideal.div (shapeCast Sx128 a1 _ (ix2 t l)) (shapeCast Sx128 l1 _ (ix2 t l))) * _ : EReal) = _
  rw [dropUnit, dropUnit, dropUnit, dropUnit]

end Attn

end
-- ==== Proof.Row.lean ====
module

public import Idealize.ShloMosaic.PureOps.Ideal

/-! One row of the running softmax, over the extended reals: the state after `N` keys is the sum of their weights and the
    weighted sum of their values, both scaled by a common power of two. -/

@[expose] public section

noncomputable section

namespace Attn

open Idealize.ShloMosaic

/-- A number that is not negative and finite goes through a sum. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The power of two the running maximum `M` stands for. -/
def dec (M : ℝ) : ℝ := (2 : ℝ) ^ (-M)

theorem dec_pos (M : ℝ) : 0 < dec M := Real.rpow_pos_of_pos two_pos _

/-- A score and its weight: no key, or two to the score. -/
def Rel (s : EReal) (w : ℝ) : Prop := (s = ⊥ ∧ w = 0) ∨ ∃ x : ℝ, s = x ∧ w = (2 : ℝ) ^ x

theorem Rel.ne_top {s : EReal} {w : ℝ} (h : Rel s w) : s ≠ ⊤ := by
  rcases h with ⟨rfl, _⟩ | ⟨x, rfl, _⟩
  · exact bot_ne_top
  · exact EReal.coe_ne_top x

theorem Rel.exp2 {s : EReal} {w : ℝ} (h : Rel s w) (M : ℝ) : Ideal.exp2 (s - (M : EReal)) = ((dec M * w : ℝ) : EReal) := by
  rcases h with ⟨rfl, rfl⟩ | ⟨x, rfl, rfl⟩
  · rw [EReal.bot_sub, Ideal.exp2_bot, mul_zero, EReal.coe_zero]
  · rw [← EReal.coe_sub, Ideal.exp2_coe, Real.rpow_eq_pow, dec, ← Real.rpow_add two_pos]
    congr 2; ring

/-- The state of a row after `N` keys, lane by lane: maximum, sum of weights, weighted values. -/
def Inv (w : ℕ → ℝ) (V : ℕ → Fin 128 → EReal) (N : ℕ) (m l a : Fin 128 → EReal) : Prop :=
  (N = 0 ∧ ∀ c, m c = ⊥ ∧ l c = 0 ∧ a c = 0) ∨
  ∃ M : ℝ, ∀ c, m c = (M : EReal) ∧ l c = ((dec M * ∑ s ∈ Finset.range N, w s : ℝ) : EReal)
    ∧ a c = (dec M : EReal) * ∑ s ∈ Finset.range N, (w s : EReal) * V s c

/-- Keys of no weight change nothing. -/
theorem Inv.skip {w : ℕ → ℝ} {V : ℕ → Fin 128 → EReal} {N : ℕ} {m l a : Fin 128 → EReal} (h : Inv w V N m l a) (K : ℕ)
    (hN : 0 < N) (hw : ∀ k, k < K → w (N + k) = 0) : Inv w V (N + K) m l a := by
  rcases h with ⟨h, _⟩ | ⟨M, h⟩
  · omega
  refine .inr ⟨M, fun c => ?_⟩
  rw [Finset.sum_range_add, Finset.sum_range_add, Finset.sum_eq_zero (s := Finset.range K) (fun k hk => hw k (Finset.mem_range.mp hk)),
    Finset.sum_eq_zero (s := Finset.range K) (f := fun k => (w (N + k) : EReal) * V (N + k) c) (fun k hk => by
      rw [hw k (Finset.mem_range.mp hk), EReal.coe_zero, zero_mul]), add_zero, add_zero]
  exact h c

/-- `K` more keys, their scores `σ`, the largest of them at most `μ`. -/
theorem Inv.step {w : ℕ → ℝ} {V : ℕ → Fin 128 → EReal} {N : ℕ} {m l a : Fin 128 → EReal} (h : Inv w V N m l a) (K : ℕ)
    (σ : Fin K → EReal) (hσ : ∀ k, Rel (σ k) (w (N + k.val))) (μ : EReal) (ht : μ ≠ ⊤) (hb : N = 0 → μ ≠ ⊥)
    (ln : Fin K → Fin 128) (m' l' a' : Fin 128 → EReal) (hm : ∀ c, m' c = max (m c) μ)
    (hl : ∀ c, l' c = Ideal.exp2 (m c - m' c) * l c + ∑ k : Fin K, Ideal.exp2 (σ k - m' (ln k)) * 1)
    (ha : ∀ c, a' c = Ideal.exp2 (m c - m' c) * a c + ∑ k : Fin K, Ideal.exp2 (σ k - m' (ln k)) * V (N + k.val) c) :
    Inv w V (N + K) m' l' a' := by
  have key : ∀ M : ℝ, (∀ c, m' c = (M : EReal)) →
      (∀ c, Ideal.exp2 (m c - (M : EReal)) * l c = ((dec M * ∑ s ∈ Finset.range N, w s : ℝ) : EReal)) →
      (∀ c, Ideal.exp2 (m c - (M : EReal)) * a c = (dec M : EReal) * ∑ s ∈ Finset.range N, (w s : EReal) * V s c) →
      Inv w V (N + K) m' l' a' := by
    intro M hM h1 h2
    refine .inr ⟨M, fun c => ⟨hM c, ?_, ?_⟩⟩
    · rw [hl, hM, h1, Finset.sum_range_add, mul_add, EReal.coe_add, Finset.mul_sum (s := Finset.range K), coe_sum,
        Finset.sum_range (n := K)]
      congr 1
      refine Finset.sum_congr rfl fun k _ => ?_
      rw [hM, mul_one, (hσ k).exp2]
    · rw [ha, hM, h2, Finset.sum_range_add,
        EReal.left_distrib_of_nonneg_of_ne_top (EReal.coe_nonneg.mpr (dec_pos M).le) (EReal.coe_ne_top _),
        coe_mul_sum (Finset.range K) _ (dec_pos M).le, Finset.sum_range (n := K)]
      congr 1
      refine Finset.sum_congr rfl fun k _ => ?_
      rw [hM, (hσ k).exp2, EReal.coe_mul, mul_assoc]
  rcases h with ⟨rfl, h⟩ | ⟨M, h⟩
  · induction μ with
    | bot => exact absurd rfl (hb rfl)
    | top => exact absurd rfl ht
    | coe x =>
      refine key x (fun c => by rw [hm, (h c).1]; exact max_eq_right bot_le) (fun c => ?_) (fun c => ?_)
      · rw [(h c).2.1]; simp
      · rw [(h c).2.2]; simp
  · have hM : ∃ M' : ℝ, max (M : EReal) μ = (M' : EReal) := by
      induction μ with
      | bot => exact ⟨M, max_eq_left bot_le⟩
      | top => exact absurd rfl ht
      | coe x => exact ⟨max M x, (EReal.coe_strictMono.monotone.map_max).symm⟩
    obtain ⟨M', hM'⟩ := hM
    have ea : Ideal.exp2 ((M : EReal) - (M' : EReal)) = ((dec M' * (2 : ℝ) ^ M : ℝ) : EReal) :=
      Rel.exp2 (.inr ⟨M, rfl, rfl⟩) M'
    have ed : dec M' * (2 : ℝ) ^ M * dec M = dec M' := by
      rw [mul_assoc, dec, dec, ← Real.rpow_add two_pos, add_neg_cancel, Real.rpow_zero, mul_one]
    refine key M' (fun c => by rw [hm, (h c).1, hM']) (fun c => ?_) (fun c => ?_)
    · rw [(h c).1, (h c).2.1, ea, ← EReal.coe_mul, ← mul_assoc, ed]
    · rw [(h c).1, (h c).2.2, ea, ← mul_assoc, ← EReal.coe_mul, ed]

/-- What the quotient of the two sums is, once some key has weight. -/
theorem Inv.quot {w : ℕ → ℝ} {V : ℕ → Fin 128 → EReal} {N : ℕ} {m l a : Fin 128 → EReal} (h : Inv w V N m l a)
    (hN : 0 < N) (hw : 0 < ∑ s ∈ Finset.range N, w s) (c : Fin 128) :
    Ideal.div (a c) (l c) = ((∑ s ∈ Finset.range N, w s)⁻¹ : ℝ) * ∑ s ∈ Finset.range N, (w s : EReal) * V s c := by
  rcases h with ⟨h, _⟩ | ⟨M, h⟩
  · omega
  have hd := dec_pos M
  rw [(h c).2.1, (h c).2.2, Ideal.div_coe (mul_pos hd hw).ne', mul_comm, ← mul_assoc, ← EReal.coe_mul]
  congr 2
  field_simp

end Attn

end
-- ==== Proof.Inv.lean ====
module

public import proofs.«01_k».proof.Proof.Elem2
public import proofs.«01_k».proof.Proof.Row

/-! The running states hold, row by row, the sums over the keys seen. -/

@[expose] public section

set_option maxRecDepth 16384

noncomputable section

namespace Attn

open Idealize.ShloMosaic Idealize.ShloMosaic.ValueIdx

/-! ## Maxima and weights of a row of scores -/

/-- The lane a column falls on. -/
def lane {K : Nat} (k : Fin K) : Fin 128 := ⟨k.val % 128, Nat.mod_lt _ (by decide)⟩

theorem col_full (k : Fin 512) : k = ⟨(⟨k.val / 128, by omega⟩ : Fin 4).val * 128 + (lane k).val, by
    have := Nat.div_add_mod k.val 128; simp only [lane]; omega⟩ :=
  Fin.ext (by have := Nat.div_add_mod k.val 128; simp only [lane]; omega)
theorem col_half (k : Fin 256) : k = ⟨(⟨k.val / 128, by omega⟩ : Fin 2).val * 128 + (lane k).val, by
    have := Nat.div_add_mod k.val 128; simp only [lane]; omega⟩ :=
  Fin.ext (by have := Nat.div_add_mod k.val 128; simp only [lane]; omega)

theorem pFull_col (s : FVec Ideal A256x512 .f32) (m : FVec Ideal A256x128 .f32) (i : Fin 256) (k : Fin 512) :
    pFull s m (ix2 i k) = Ideal.exp2 (s (ix2 i k) - m (ix2 i (lane k)) : EReal) := by
  conv_lhs => rw [col_full k]
  rw [pFull_apply, tf_apply, ← col_full k]
theorem pHalf_col (s : FVec Ideal A256x256 .f32) (m : FVec Ideal A256x128 .f32) (i : Fin 256) (k : Fin 256) :
    pHalf s m (ix2 i k) = Ideal.exp2 (s (ix2 i k) - m (ix2 i (lane k)) : EReal) := by
  conv_lhs => rw [col_half k]
  rw [pHalf_apply, th_apply, ← col_half k]

/-- The maximum of a row of scores: the same on every lane, over every score, finite above if they are. -/
theorem mxFull_row (s : FVec Ideal A256x512 .f32) (i : Fin 256) (ht : ∀ k, (s (ix2 i k) : EReal) ≠ ⊤) :
    ∃ μ : EReal, (∀ c, rowMax (mxFull s) (ix2 i c) = μ) ∧ μ ≠ ⊤ ∧ ∀ k, (s (ix2 i k) : EReal) ≤ μ := by
  refine ⟨_, fun c => rowMax_apply _ i c, (ne_of_lt ?_), fun k => ?_⟩
  · refine (Finset.sup_lt_iff bot_lt_top).mpr fun l _ => ?_
    rw [mxFull_apply]
    refine max_lt (max_lt (max_lt ?_ ?_) ?_) ?_ <;> rw [tf_apply] <;> exact lt_top_iff_ne_top.mpr (ht _)
  · refine le_trans (le_of_eq ?_) ((tf_le_mxFull s ⟨k.val / 128, by omega⟩ i (lane k)).trans
      (Finset.le_sup (f := fun l => (mxFull s (ix2 i l) : EReal)) (Finset.mem_univ (lane k))))
    rw [tf_apply, ← col_full k]
theorem mxHalf_row (s : FVec Ideal A256x256 .f32) (i : Fin 256) (ht : ∀ k, (s (ix2 i k) : EReal) ≠ ⊤) :
    ∃ μ : EReal, (∀ c, rowMax (mxHalf s) (ix2 i c) = μ) ∧ μ ≠ ⊤ ∧ ∀ k, (s (ix2 i k) : EReal) ≤ μ := by
  refine ⟨_, fun c => rowMax_apply _ i c, (ne_of_lt ?_), fun k => ?_⟩
  · refine (Finset.sup_lt_iff bot_lt_top).mpr fun l _ => ?_
    rw [mxHalf_apply]
    refine max_lt ?_ ?_ <;> rw [th_apply] <;> exact lt_top_iff_ne_top.mpr (ht _)
  · refine le_trans (le_of_eq ?_) ((th_le_mxHalf s ⟨k.val / 128, by omega⟩ i (lane k)).trans
      (Finset.le_sup (f := fun l => (mxHalf s (ix2 i l) : EReal)) (Finset.mem_univ (lane k))))
    rw [th_apply, ← col_half k]

/-! ## The states of a row -/

/-- Row `t` of head `g` has seen `N` keys. -/
def RowInv (w : Fin 2 → ℕ → ℕ → ℝ) (V : ℕ → Fin 128 → EReal) (N : ℕ) (S : St Ideal) (g : Fin 2) (t : Fin 4096) : Prop :=
  Inv (w g t.val) V N (fun c => S.m (ix3 g t c)) (fun c => S.l (ix3 g t c)) (fun c => S.a (ix3 g t c))

/-- Row `t` of head `g` is what it was. -/
def Same (S S' : St Ideal) (g : Fin 2) (t : Fin 4096) : Prop :=
  ∀ c, S'.m (ix3 g t c) = S.m (ix3 g t c) ∧ S'.l (ix3 g t c) = S.l (ix3 g t c) ∧ S'.a (ix3 g t c) = S.a (ix3 g t c)

theorem Same.inv {w : Fin 2 → ℕ → ℕ → ℝ} {V : ℕ → Fin 128 → EReal} {N : ℕ} {S S' : St Ideal} {g : Fin 2} {t : Fin 4096}
    (h : Same S S' g t) (hI : RowInv w V N S g t) : RowInv w V N S' g t := by
  unfold RowInv at hI ⊢
  rw [funext fun c => (h c).1, funext fun c => (h c).2.1, funext fun c => (h c).2.2]
  exact hI

theorem Same.trans {S S' S'' : St Ideal} {g : Fin 2} {t : Fin 4096} (h : Same S S' g t) (h' : Same S' S'' g t) : Same S S'' g t :=
  fun c => ⟨(h' c).1.trans (h c).1, (h' c).2.1.trans (h c).2.1, (h' c).2.2.trans (h c).2.2⟩

theorem sub_put (X : Vec Ideal S2xSx128 .f32) (rb : Nat) (h : rb + 256 ≤ 4096) (x : FVec Ideal A256x128 .f32) :
    sub (put X 0 rb (by decide) h x) 1 rb (by decide) h = sub X 1 rb (by decide) h := by
  funext j
  obtain ⟨i, l, rfl⟩ : ∃ (i : Fin 256) (l : Fin 128), j = ix3 0 i l := ⟨j 1, j 2, funext fun a => match a with
    | ⟨0, _⟩ => Subsingleton.elim (α := Fin 1) _ _
    | ⟨1, _⟩ => rfl
    | ⟨2, _⟩ => rfl⟩
  rw [sub_apply, sub_apply, put_out _ _ _ _ _ _ _ _ _ (.inl (by decide))]

/-- Two blocks put, read at a row of one of them. -/
theorem put2_0 (X : Vec Ideal S2xSx128 .f32) (rb : Nat) (h : rb + 256 ≤ 4096) (x y : FVec Ideal A256x128 .f32)
    (i : Fin 256) (c : Fin 128) :
    put (put X 0 rb (by decide) h x) 1 rb (by decide) h y (ix3 0 ⟨rb + i.val, by omega⟩ c) = x (ix2 i c) :=
  (put_out _ 1 rb (by decide) h y 0 _ c (.inl (by decide))).trans (put_in X 0 rb (by decide) h x i c)
theorem put2_1 (X : Vec Ideal S2xSx128 .f32) (rb : Nat) (h : rb + 256 ≤ 4096) (x y : FVec Ideal A256x128 .f32)
    (i : Fin 256) (c : Fin 128) :
    put (put X 0 rb (by decide) h x) 1 rb (by decide) h y (ix3 1 ⟨rb + i.val, by omega⟩ c) = y (ix2 i c) :=
  put_in _ 1 rb (by decide) h y i c
theorem put2_out (X : Vec Ideal S2xSx128 .f32) (rb : Nat) (h : rb + 256 ≤ 4096) (x y : FVec Ideal A256x128 .f32)
    (g : Fin 2) (t : Fin 4096) (c : Fin 128) (hn : t.val < rb ∨ rb + 256 ≤ t.val) :
    put (put X 0 rb (by decide) h x) 1 rb (by decide) h y (ix3 g t c) = X (ix3 g t c) :=
  (put_out _ 1 rb (by decide) h y g t c (.inr hn)).trans (put_out X 0 rb (by decide) h x g t c (.inr hn))

section On
variable (S : St Ideal) (rb : Nat) (h : rb + 256 ≤ 4096) (x0 x1 : FVec Ideal A256x128 .f32)
  (pv : FVec Ideal A256x128 .f32 → FVec Ideal A256x128 .f32 → FVec Ideal A512x256 .f32)

/-- The new maxima of the two heads. -/
def newM0 : FVec Ideal A256x128 .f32 := mNew (sub S.m 0 rb (by decide) h) x0
def newM1 : FVec Ideal A256x128 .f32 := mNew (sub S.m 1 rb (by decide) h) x1

theorem onSt_eq : onSt S rb h x0 x1 pv =
    ⟨put (put S.m 0 rb (by decide) h (newM0 S rb h x0)) 1 rb (by decide) h (newM1 S rb h x1),
     put (put S.l 0 rb (by decide) h (upd (alpha (sub S.m 0 rb (by decide) h) x0) (sub S.l 0 rb (by decide) h)
        (pl (pt0 (pv (newM0 S rb h x0) (newM1 S rb h x1)))))) 1 rb (by decide) h
        (upd (alpha (sub S.m 1 rb (by decide) h) x1) (sub S.l 1 rb (by decide) h) (pl (pt1 (pv (newM0 S rb h x0) (newM1 S rb h x1))))),
     put (put S.a 0 rb (by decide) h (upd (alpha (sub S.m 0 rb (by decide) h) x0) (sub S.a 0 rb (by decide) h)
        (pa (pt0 (pv (newM0 S rb h x0) (newM1 S rb h x1)))))) 1 rb (by decide) h
        (upd (alpha (sub S.m 1 rb (by decide) h) x1) (sub S.a 1 rb (by decide) h) (pa (pt1 (pv (newM0 S rb h x0) (newM1 S rb h x1)))))⟩ := by
  unfold onSt sumsSt newM0 newM1
  dsimp only
  rw [sub_put, sub_put, sub_put]

theorem onSt_out (g : Fin 2) (t : Fin 4096) (hn : t.val < rb ∨ rb + 256 ≤ t.val) : Same S (onSt S rb h x0 x1 pv) g t := by
  intro c
  rw [onSt_eq]
  dsimp only
  rw [put2_out _ _ _ _ _ _ _ _ hn, put2_out _ _ _ _ _ _ _ _ hn, put2_out _ _ _ _ _ _ _ _ hn]
  exact ⟨rfl, rfl, rfl⟩

theorem onSt_row0 {w : Fin 2 → ℕ → ℕ → ℝ} {V : ℕ → Fin 128 → EReal} {N : ℕ} (i : Fin 256)
    (hI : RowInv w V N S 0 ⟨rb + i.val, by omega⟩) (K : ℕ) (σ : Fin K → EReal) (hσ : ∀ k, Rel (σ k) (w 0 (rb + i.val) (N + k.val)))
    (μ : EReal) (ht : μ ≠ ⊤) (hb : N = 0 → μ ≠ ⊥) (hμ : ∀ c, rowMax x0 (ix2 i c) = μ)
    (hl : ∀ c, pl (pt0 (pv (newM0 S rb h x0) (newM1 S rb h x1))) (ix2 i c)
      = ∑ k : Fin K, Ideal.exp2 (σ k - newM0 S rb h x0 (ix2 i (lane k))) * 1)
    (ha : ∀ c, pa (pt0 (pv (newM0 S rb h x0) (newM1 S rb h x1))) (ix2 i c)
      = ∑ k : Fin K, Ideal.exp2 (σ k - newM0 S rb h x0 (ix2 i (lane k))) * V (N + k.val) c) :
    RowInv w V (N + K) (onSt S rb h x0 x1 pv) 0 ⟨rb + i.val, by omega⟩ := by
  unfold RowInv at hI ⊢
  rw [onSt_eq]
  refine hI.step K σ hσ μ ht hb lane _ _ _ (fun c => ?_) (fun c => ?_) (fun c => ?_) <;> dsimp only <;> simp only [put2_0]
  · rw [newM0, mNew_apply, sub_apply, hμ]; rfl
  · rw [upd_apply, alpha_apply, sub_apply, sub_apply, hl]; rfl
  · rw [upd_apply, alpha_apply, sub_apply, sub_apply, ha]; rfl

theorem onSt_row1 {w : Fin 2 → ℕ → ℕ → ℝ} {V : ℕ → Fin 128 → EReal} {N : ℕ} (i : Fin 256)
    (hI : RowInv w V N S 1 ⟨rb + i.val, by omega⟩) (K : ℕ) (σ : Fin K → EReal) (hσ : ∀ k, Rel (σ k) (w 1 (rb + i.val) (N + k.val)))
    (μ : EReal) (ht : μ ≠ ⊤) (hb : N = 0 → μ ≠ ⊥) (hμ : ∀ c, rowMax x1 (ix2 i c) = μ)
    (hl : ∀ c, pl (pt1 (pv (newM0 S rb h x0) (newM1 S rb h x1))) (ix2 i c)
      = ∑ k : Fin K, Ideal.exp2 (σ k - newM1 S rb h x1 (ix2 i (lane k))) * 1)
    (ha : ∀ c, pa (pt1 (pv (newM0 S rb h x0) (newM1 S rb h x1))) (ix2 i c)
      = ∑ k : Fin K, Ideal.exp2 (σ k - newM1 S rb h x1 (ix2 i (lane k))) * V (N + k.val) c) :
    RowInv w V (N + K) (onSt S rb h x0 x1 pv) 1 ⟨rb + i.val, by omega⟩ := by
  unfold RowInv at hI ⊢
  rw [onSt_eq]
  refine hI.step K σ hσ μ ht hb lane _ _ _ (fun c => ?_) (fun c => ?_) (fun c => ?_) <;> dsimp only <;> simp only [put2_1]
  · rw [newM1, mNew_apply, sub_apply, hμ]; rfl
  · rw [upd_apply, alpha_apply, sub_apply, sub_apply, hl]; rfl
  · rw [upd_apply, alpha_apply, sub_apply, sub_apply, ha]; rfl

end On

/-! ## A unit of scores -/

theorem bot_of_le {a μ : EReal} (h : a ≤ μ) (ha : a ≠ ⊥) : μ ≠ ⊥ := fun e => ha (le_bot_iff.mp (e ▸ h))

section Full
variable (S : St Ideal) (rb : Nat) (h : rb + 256 ≤ 4096) (v : FVec Ideal A512x256 .bf16)
  {w : Fin 2 → ℕ → ℕ → ℝ} {V : ℕ → Fin 128 → EReal} {N : ℕ}

theorem fullSt_row (s : Fin 2 → FVec Ideal A256x512 .f32) (g : Fin 2) (i : Fin 256)
    (hv : ∀ (k : Fin 512) (c : Fin 128), v (ix2 k ⟨c.val, by omega⟩) = V (N + k.val) c)
    (hv1 : ∀ (k : Fin 512) (c : Fin 128), v (ix2 k ⟨128 + c.val, by omega⟩) = (1 : EReal))
    (hI : RowInv w V N S g ⟨rb + i.val, by omega⟩)
    (hσ : ∀ k : Fin 512, Rel (s g (ix2 i k)) (w g (rb + i.val) (N + k.val)))
    (hb : N = 0 → ∃ k, (s g (ix2 i k) : EReal) ≠ ⊥) :
    RowInv w V (N + 512) (fullSt S rb h v (s 0) (s 1)) g ⟨rb + i.val, by omega⟩ := by
  obtain ⟨μ, hμ, ht, hle⟩ := mxFull_row (s g) i fun k => (hσ k).ne_top
  unfold fullSt
  obtain rfl | rfl : g = 0 ∨ g = 1 := by omega
  · refine onSt_row0 S rb h _ _ _ i hI 512 (fun k => s 0 (ix2 i k)) hσ μ ht (fun h0 => (hb h0).elim fun k hk => bot_of_le (hle k) hk) hμ
      (fun c => ?_) (fun c => ?_)
    · rw [pl0_apply, pvFull_lo]
      exact Finset.sum_congr rfl fun k _ => by rw [pFull_col, hv1]
    · rw [pa0_apply, pvFull_lo]
      exact Finset.sum_congr rfl fun k _ => by rw [pFull_col, hv]
  · refine onSt_row1 S rb h _ _ _ i hI 512 (fun k => s 1 (ix2 i k)) hσ μ ht (fun h0 => (hb h0).elim fun k hk => bot_of_le (hle k) hk) hμ
      (fun c => ?_) (fun c => ?_)
    · rw [pl1_apply, pvFull_hi]
      exact Finset.sum_congr rfl fun k _ => by rw [pFull_col, hv1]
    · rw [pa1_apply, pvFull_hi]
      exact Finset.sum_congr rfl fun k _ => by rw [pFull_col, hv]

theorem halfSt_row (s : Fin 2 → FVec Ideal A256x256 .f32) (g : Fin 2) (i : Fin 256)
    (hv : ∀ (k : Fin 512) (c : Fin 128), v (ix2 k ⟨c.val, by omega⟩) = V (N + k.val) c)
    (hv1 : ∀ (k : Fin 512) (c : Fin 128), v (ix2 k ⟨128 + c.val, by omega⟩) = (1 : EReal))
    (hI : RowInv w V N S g ⟨rb + i.val, by omega⟩)
    (hσ : ∀ k : Fin 256, Rel (s g (ix2 i k)) (w g (rb + i.val) (N + k.val)))
    (hb : N = 0 → ∃ k, (s g (ix2 i k) : EReal) ≠ ⊥) :
    RowInv w V (N + 256) (halfSt S rb h v (s 0) (s 1)) g ⟨rb + i.val, by omega⟩ := by
  obtain ⟨μ, hμ, ht, hle⟩ := mxHalf_row (s g) i fun k => (hσ k).ne_top
  unfold halfSt
  obtain rfl | rfl : g = 0 ∨ g = 1 := by omega
  · refine onSt_row0 S rb h _ _ _ i hI 256 (fun k => s 0 (ix2 i k)) hσ μ ht (fun h0 => (hb h0).elim fun k hk => bot_of_le (hle k) hk) hμ
      (fun c => ?_) (fun c => ?_)
    · rw [pl0_apply, pvHalf_lo]
      exact Finset.sum_congr rfl fun k _ => by rw [pHalf_col, hv1]
    · rw [pa0_apply, pvHalf_lo]
      exact Finset.sum_congr rfl fun k _ => by rw [pHalf_col, hv]
  · refine onSt_row1 S rb h _ _ _ i hI 256 (fun k => s 1 (ix2 i k)) hσ μ ht (fun h0 => (hb h0).elim fun k hk => bot_of_le (hle k) hk) hμ
      (fun c => ?_) (fun c => ?_)
    · rw [pl1_apply, pvHalf_hi]
      exact Finset.sum_congr rfl fun k _ => by rw [pHalf_col, hv1]
    · rw [pa1_apply, pvHalf_hi]
      exact Finset.sum_congr rfl fun k _ => by rw [pHalf_col, hv]

end Full

end Attn

end
-- ==== Proof.Tiles.lean ====
module

public import proofs.«01_k».proof.Proof.Inv

/-! All units: after the last key tile every row of both heads has seen every key up to its own. -/

@[expose] public section

set_option maxRecDepth 16384

noncomputable section

namespace Attn

open Idealize.ShloMosaic Idealize.ShloMosaic.ValueIdx

/-- What a block's rows are made of: the scaled queries, the keys, the two heads' biases, the values. -/
structure Env where
  q : ℕ → Fin 128 → ℝ
  k : ℕ → Fin 128 → ℝ
  b : Fin 2 → ℕ → ℝ
  V : ℕ → Fin 128 → EReal

/-- Query lane `d` as head `g` sees it. -/
def Env.qh (E : Env) (g : Fin 2) (t : ℕ) (d : Fin 128) : ℝ := if d.val / 64 = g.val then E.q t d else 0
/-- The score of key `s` for query `t`, and its weight. -/
def Env.x (E : Env) (g : Fin 2) (t s : ℕ) : ℝ := ∑ d : Fin 128, E.qh g t d * E.k s d - E.b g s
def Env.w (E : Env) (g : Fin 2) (t s : ℕ) : ℝ := if s ≤ t then (2 : ℝ) ^ E.x g t s else 0

theorem Env.w_rel (E : Env) (g : Fin 2) (t s : ℕ) : Rel (if s ≤ t then (E.x g t s : EReal) else ⊥) (E.w g t s) := by
  unfold Env.w
  by_cases hs : s ≤ t
  · rw [if_pos hs, if_pos hs]; exact .inr ⟨_, rfl, rfl⟩
  · rw [if_neg hs, if_neg hs]; exact .inl ⟨rfl, rfl⟩

/-- The tile holds keys `cb` to `cb + 511`. -/
structure TileOk (E : Env) (cb : ℕ) (t : Tile Ideal) : Prop where
  k : ∀ (k : Fin 512) (d : Fin 128), t.k (ix2 k d) = (E.k (cb + k.val) d : EReal)
  v : ∀ (k : Fin 512) (c : Fin 128), t.v (ix2 k ⟨c.val, by omega⟩) = E.V (cb + k.val) c
  v1 : ∀ (k : Fin 512) (c : Fin 128), t.v (ix2 k ⟨128 + c.val, by omega⟩) = (1 : EReal)
  b0 : ∀ k : Fin 512, t.b0 (ix2 0 k) = (E.b 0 (cb + k.val) : EReal)
  b1 : ∀ k : Fin 512, t.b1 (ix2 0 k) = (E.b 1 (cb + k.val) : EReal)

def QOk (E : Env) (q : FVec Ideal Sx128 .bf16) : Prop := ∀ (t : Fin 4096) (d : Fin 128), q (ix2 t d) = (E.q t.val d : EReal)

section Unit
variable {E : Env} {cb : ℕ} {t : Tile Ideal} {q : FVec Ideal Sx128 .bf16} (hT : TileOk E cb t) (hq : QOk E q)
  (rb : Nat) (h : rb + 256 ≤ 4096)
include hT hq

theorem qk_sum (g : Fin 2) (i : Fin 256) (f : Fin 128 → EReal) (k : ℕ)
    (hf : ∀ d, f d = ((E.qh g (rb + i.val) d : ℝ) : EReal)) (kk : Fin 128 → EReal) (hk : ∀ d, kk d = (E.k k d : EReal)) :
    ∑ d, f d * kk d - (E.b g k : EReal) = (E.x g (rb + i.val) k : EReal) := by
  unfold Env.x
  rw [EReal.coe_sub, coe_sum]
  congr 1
  exact Finset.sum_congr rfl fun d _ => by rw [hf, hk, EReal.coe_mul]

theorem qlo (i : Fin 256) (d : Fin 128) : qUnit q rb h (ix2 ⟨i.val, by omega⟩ d) = ((E.qh 0 (rb + i.val) d : ℝ) : EReal) := by
  rw [qUnit_lo, hq]
  unfold Env.qh
  by_cases hd : d.val < 64
  · rw [if_pos hd, if_pos (by show d.val / 64 = 0; omega)]
  · rw [if_neg hd, if_neg (by show ¬ d.val / 64 = 0; omega), EReal.coe_zero]
theorem qhi (i : Fin 256) (d : Fin 128) : qUnit q rb h (ix2 ⟨256 + i.val, by omega⟩ d) = ((E.qh 1 (rb + i.val) d : ℝ) : EReal) := by
  rw [qUnit_hi, hq]
  unfold Env.qh
  by_cases hd : d.val < 64
  · rw [if_pos hd, if_neg (by show ¬ d.val / 64 = 1; omega), EReal.coe_zero]
  · rw [if_neg hd, if_pos (by show d.val / 64 = 1; omega)]

def scF (q : FVec Ideal Sx128 .bf16) (t : Tile Ideal) (rb : Nat) (h : rb + 256 ≤ 4096) : Fin 2 → FVec Ideal A256x512 .f32 :=
  ![hdFull0 (scFull (qUnit q rb h) t) t.b0, hdFull1 (scFull (qUnit q rb h) t) t.b1]
def scH (q : FVec Ideal Sx128 .bf16) (t : Tile Ideal) (rb : Nat) (h : rb + 256 ≤ 4096) : Fin 2 → FVec Ideal A256x256 .f32 :=
  ![hdHalf0 (scHalf (qUnit q rb h) t) t.b0, hdHalf1 (scHalf (qUnit q rb h) t) t.b1]

theorem scF_apply (g : Fin 2) (i : Fin 256) (k : Fin 512) :
    scF q t rb h g (ix2 i k) = (E.x g (rb + i.val) (cb + k.val) : EReal) := by
  obtain rfl | rfl : g = 0 ∨ g = 1 := by omega
  · refine (hdFull0_apply _ _ i k).trans ?_
    rw [scFull_apply, hT.b0]
    exact qk_sum hT hq rb 0 i _ _ (qlo hT hq rb h i) _ (hT.k k)
  · refine (hdFull1_apply _ _ i k).trans ?_
    rw [scFull_apply, hT.b1]
    exact qk_sum hT hq rb 1 i _ _ (qhi hT hq rb h i) _ (hT.k k)

theorem scH_apply (g : Fin 2) (i : Fin 256) (k : Fin 256) :
    scH q t rb h g (ix2 i k) = (E.x g (rb + i.val) (cb + k.val) : EReal) := by
  obtain rfl | rfl : g = 0 ∨ g = 1 := by omega
  · refine (hdHalf0_apply _ _ i k).trans ?_
    rw [scHalf_apply, hT.b0]
    exact qk_sum hT hq rb 0 i _ _ (qlo hT hq rb h i) _ (hT.k ⟨k.val, by omega⟩)
  · refine (hdHalf1_apply _ _ i k).trans ?_
    rw [scHalf_apply, hT.b1]
    exact qk_sum hT hq rb 1 i _ _ (qhi hT hq rb h i) _ (hT.k ⟨k.val, by omega⟩)

end Unit

theorem unitSt_out (C : Cst Ideal) (q : FVec Ideal Sx128 .bf16) (r j : Nat) (hr : r < 16) (t : Tile Ideal) (S : St Ideal)
    (g : Fin 2) (u : Fin 4096) (hn : u.val / 256 ≠ r) : Same S (unitSt C q r j t S) g u := by
  unfold unitSt
  dsimp only
  split
  · split
    · exact onSt_out _ _ _ _ _ _ g u (by omega)
    · exact onSt_out _ _ _ _ _ _ g u (by omega)
  · split
    · exact onSt_out _ _ _ _ _ _ g u (by omega)
    · exact fun c => ⟨rfl, rfl, rfl⟩

theorem unitSt_in (C : Cst Ideal) (hcm : C.cm = (⊥ : EReal)) {E : Env} {q : FVec Ideal Sx128 .bf16} (hq : QOk E q) (r j : Nat)
    (hr : r < 16) (hj : j < 8) {t : Tile Ideal} (hT : TileOk E (j * 512) t) (S : St Ideal) (g : Fin 2) (u : Fin 4096)
    (hu : u.val / 256 = r) (hI : RowInv E.w E.V (j * 512) S g u) : RowInv E.w E.V (j * 512 + 512) (unitSt C q r j t S) g u := by
  obtain ⟨i, e⟩ : ∃ i : Fin 256, u.val = min r 15 * 256 + i.val := ⟨⟨u.val % 256, Nat.mod_lt _ (by decide)⟩, by
    show u.val = _ + u.val % 256; omega⟩
  have hh : min r 15 * 256 + 256 ≤ 4096 := by omega
  obtain ⟨u, hu'⟩ := u
  change u = _ at e
  subst e
  change (min r 15 * 256 + i.val) / 256 = r at hu
  unfold unitSt
  dsimp only
  by_cases h1 : 2 * j < r
  · rw [if_pos h1]
    by_cases h2 : r = 2 * j + 1
    · rw [if_pos h2]
      have hs : ∀ k : Fin 512, mkFull C.cm (min r 15 * 256) (j * 512) (scF q t (min r 15 * 256) hh g) (ix2 i k)
          = (if j * 512 + k.val ≤ min r 15 * 256 + i.val
            then (E.x g (min r 15 * 256 + i.val) (j * 512 + k.val) : EReal) else ⊥) := fun k => by
        rw [mkFull_apply _ _ _ (by omega) (by omega), scF_apply hT hq, hcm]
      refine fullSt_row S _ hh t.v (fun g => mkFull C.cm (min r 15 * 256) (j * 512) (scF q t (min r 15 * 256) hh g)) g i
        hT.v hT.v1 hI (fun k => ?_) (fun h0 => ⟨0, ?_⟩)
      · show Rel (mkFull C.cm (min r 15 * 256) (j * 512) (scF q t (min r 15 * 256) hh g) (ix2 i k)) _
        rw [hs]; exact E.w_rel _ _ _
      · show mkFull C.cm (min r 15 * 256) (j * 512) (scF q t (min r 15 * 256) hh g) (ix2 i 0) ≠ _
        rw [hs, if_pos (by rw [h0]; exact Nat.zero_le _)]
        exact EReal.coe_ne_bot _
    · rw [if_neg h2]
      refine fullSt_row S _ hh t.v (scF q t (min r 15 * 256) hh) g i hT.v hT.v1 hI (fun k => ?_) (fun h0 => ⟨0, ?_⟩)
      · rw [scF_apply hT hq]
        have := E.w_rel g (min r 15 * 256 + i.val) (j * 512 + k.val)
        rwa [if_pos (by omega)] at this
      · rw [scF_apply hT hq]
        exact EReal.coe_ne_bot _
  · rw [if_neg h1]
    by_cases h2 : r = 2 * j
    · rw [if_pos h2]
      have hs : ∀ k : Fin 256, mkHalf C.cm (min r 15 * 256) (j * 512) (scH q t (min r 15 * 256) hh g) (ix2 i k)
          = (if j * 512 + k.val ≤ min r 15 * 256 + i.val
            then (E.x g (min r 15 * 256 + i.val) (j * 512 + k.val) : EReal) else ⊥) := fun k => by
        rw [mkHalf_apply _ _ _ (by omega) (by omega), scH_apply hT hq, hcm]
      refine Inv.skip (N := j * 512 + 256) (halfSt_row S _ hh t.v
        (fun g => mkHalf C.cm (min r 15 * 256) (j * 512) (scH q t (min r 15 * 256) hh g)) g i
        hT.v hT.v1 hI (fun k => ?_) (fun h0 => ⟨0, ?_⟩)) 256 (by omega) (fun k hk => ?_)
      · show Rel (mkHalf C.cm (min r 15 * 256) (j * 512) (scH q t (min r 15 * 256) hh g) (ix2 i k)) _
        rw [hs]; exact E.w_rel _ _ _
      · show mkHalf C.cm (min r 15 * 256) (j * 512) (scH q t (min r 15 * 256) hh g) (ix2 i 0) ≠ _
        rw [hs, if_pos (by rw [h0]; exact Nat.zero_le _)]
        exact EReal.coe_ne_bot _
      · exact if_neg (by show ¬ _ ≤ min r 15 * 256 + i.val; omega)
    · rw [if_neg h2]
      exact Inv.skip hI 512 (by omega) fun k hk => if_neg (by show ¬ _ ≤ min r 15 * 256 + i.val; omega)

theorem rowSt_out (C : Cst Ideal) (q : FVec Ideal Sx128 .bf16) (j : Nat) (t : Tile Ideal) (g : Fin 2) (u : Fin 4096) :
    ∀ (n r : Nat) (S : St Ideal), r + n ≤ 16 → u.val / 256 < r → Same S (rowSt C q j t n r S) g u
  | 0, _, _, _, _ => fun c => ⟨rfl, rfl, rfl⟩
  | n + 1, r, S, h, hu => (unitSt_out C q r j (by omega) t S g u (by omega)).trans
      (rowSt_out C q j t g u n (r + 1) _ (by omega) (by omega))

theorem rowSt_in (C : Cst Ideal) (hcm : C.cm = (⊥ : EReal)) {E : Env} {q : FVec Ideal Sx128 .bf16} (hq : QOk E q) (j : Nat)
    (hj : j < 8) {t : Tile Ideal} (hT : TileOk E (j * 512) t) (g : Fin 2) (u : Fin 4096) :
    ∀ (n r : Nat) (S : St Ideal), r + n = 16 → r ≤ u.val / 256 → RowInv E.w E.V (j * 512) S g u →
      RowInv E.w E.V (j * 512 + 512) (rowSt C q j t n r S) g u
  | 0, r, _, h, hu, _ => by omega
  | n + 1, r, S, h, hu, hI => by
    by_cases he : u.val / 256 = r
    · exact (rowSt_out C q j t g u n (r + 1) _ (by omega) (by omega)).inv (unitSt_in C hcm hq r j (by omega) hj hT S g u he hI)
    · exact rowSt_in C hcm hq j hj hT g u n (r + 1) _ (by omega) (by omega) ((unitSt_out C q r j (by omega) t S g u he).inv hI)

theorem tileSt_in (C : Cst Ideal) (hcm : C.cm = (⊥ : EReal)) {E : Env} {q : FVec Ideal Sx128 .bf16} (hq : QOk E q)
    (xk xv : Vec Ideal S1xSx128 .bf16) (xc : Vec Ideal S1x8xS .f32) (g : Fin 2) (u : Fin 4096)
    (hT : ∀ (j : Nat) (h : j * 512 + 512 ≤ 4096), TileOk E (j * 512) (tileOf C xk xv xc (j * 512) h)) :
    ∀ (n j : Nat) (S : St Ideal), j + n = 8 → RowInv E.w E.V (j * 512) S g u →
      RowInv E.w E.V 4096 (tileSt C q j (tilesOf C xk xv xc n j) S) g u
  | 0, j, S, h, hI => by
    obtain rfl : j = 8 := by omega
    exact hI
  | n + 1, j, S, h, hI => by
    have e : min j 7 = j := by omega
    refine tileSt_in C hcm hq xk xv xc g u hT n (j + 1) _ (by omega) ?_
    have := rowSt_in C hcm hq j (by omega) (t := tileOf C xk xv xc (min j 7 * 512) (by omega))
      (by have := hT j (by omega); simpa only [e] using this) g u 16 0 S (by omega) (by omega) hI
    rwa [show j * 512 + 512 = (j + 1) * 512 by omega] at this

/-! ## The result block -/

/-- The block's rows as the operands give them. -/
structure BlockOk (E : Env) (C : Cst Ideal) (xq : Vec Ideal S1xSx128 .f32) (xk xv : Vec Ideal S1xSx128 .bf16)
    (xc : Vec Ideal S1x8xS .f32) : Prop where
  q : ∀ (t : Fin 4096) (d : Fin 128), (xq (ix3 0 t d) * C.cs : EReal) = (E.q t.val d : EReal)
  k : ∀ (s : Fin 4096) (d : Fin 128), xk (ix3 0 s d) = (E.k s.val d : EReal)
  v : ∀ (s : Fin 4096) (d : Fin 128), xv (ix3 0 s d) = E.V s.val d
  b0 : ∀ s : Fin 4096, (xc (ix3 0 ⟨C.o0, C.h0⟩ s) * C.cl : EReal) = (E.b 0 s.val : EReal)
  b1 : ∀ s : Fin 4096, (xc (ix3 0 ⟨C.o1, C.h1⟩ s) * C.cl : EReal) = (E.b 1 s.val : EReal)

theorem rKv_emb (cb : Nat) (h : cb + 512 ≤ 4096) (k : Fin 512) (d : Fin 128) :
    (rKv cb h).emb (ix3 (n0 := 1) 0 k d) = ix3 0 ⟨cb + k.val, by omega⟩ d :=
  funext fun a => Fin.ext ((Rect.emb_apply ..).trans (match a with
    | ⟨0, _⟩ => by simp [Rect.unit]
    | ⟨1, _⟩ => by simp [Rect.unit]
    | ⟨2, _⟩ => by simp [Rect.unit]))
theorem rBias_emb (o cb : Nat) (h0 : o + 1 ≤ 8) (h : cb + 512 ≤ 4096) (k : Fin 512) :
    (rBias o cb h0 h).emb (ix3 (n0 := 1) (n1 := 1) 0 0 k) = ix3 0 ⟨o, h0⟩ ⟨cb + k.val, by omega⟩ :=
  funext fun a => Fin.ext ((Rect.emb_apply ..).trans (match a with
    | ⟨0, _⟩ => by simp [Rect.unit]
    | ⟨1, _⟩ => by simp [Rect.unit]
    | ⟨2, _⟩ => by simp [Rect.unit]))

theorem BlockOk.tile {E : Env} {C : Cst Ideal} {xq : Vec Ideal S1xSx128 .f32} {xk xv : Vec Ideal S1xSx128 .bf16}
    {xc : Vec Ideal S1x8xS .f32} (hB : BlockOk E C xq xk xv xc) (cb : Nat) (h : cb + 512 ≤ 4096) :
    TileOk E cb (tileOf C xk xv xc cb h) where
  k k d := by
    refine (kOf_apply (fun j => xk ((rKv cb h).emb j)) k d).trans ?_
    rw [rKv_emb]; exact hB.k _ d
  v k c := by
    refine (vsOf_lo _ k c).trans ?_
    rw [rKv_emb]; exact hB.v _ c
  v1 k c := vsOf_hi _ k c
  b0 k := by
    refine (biasOf_apply _ _ k).trans ?_
    rw [rBias_emb]; exact hB.b0 _
  b1 k := by
    refine (biasOf_apply _ _ k).trans ?_
    rw [rBias_emb]; exact hB.b1 _

theorem Env.w_nonneg (E : Env) (g : Fin 2) (t s : ℕ) : 0 ≤ E.w g t s := by
  unfold Env.w
  split
  · exact Real.rpow_nonneg two_pos.le _
  · exact le_rfl

/-- The sum of a row's weights is positive: the row's own key has weight. -/
theorem Env.sum_pos (E : Env) (g : Fin 2) (t n : ℕ) (h : t < n) : 0 < ∑ s ∈ Finset.range n, E.w g t s := by
  refine Finset.sum_pos' (fun s _ => E.w_nonneg g t s) ⟨t, Finset.mem_range.mpr h, ?_⟩
  unfold Env.w
  rw [if_pos le_rfl]
  exact Real.rpow_pos_of_pos two_pos _

/-- The row's average of the values. -/
def Env.avg (E : Env) (g : Fin 2) (t : ℕ) (c : Fin 128) : EReal :=
  ((∑ s ∈ Finset.range 4096, E.w g t s)⁻¹ : ℝ) * ∑ s ∈ Finset.range 4096, (E.w g t s : EReal) * E.V s c

theorem finSt_row {E : Env} {C : Cst Ideal} (hcm : C.cm = (⊥ : EReal)) {xq : Vec Ideal S1xSx128 .f32} {xk xv : Vec Ideal S1xSx128 .bf16}
    {xc : Vec Ideal S1x8xS .f32} (hB : BlockOk E C xq xk xv xc) (g : Fin 2) (u : Fin 4096) :
    RowInv E.w E.V 4096 (finSt C xq xk xv xc) g u := by
  unfold finSt
  refine tileSt_in C hcm (q := qScaled C.cs xq) (fun t d => (qScaled_apply _ _ t d).trans (hB.q t d)) xk xv xc g u
    (fun j h => hB.tile _ h) 8 0 _ (by omega) (.inl ⟨by omega, fun c => ⟨hcm, zero32_eq, zero32_eq⟩⟩)

theorem blockVal_apply {E : Env} {C : Cst Ideal} (hcm : C.cm = (⊥ : EReal)) {xq : Vec Ideal S1xSx128 .f32}
    {xk xv : Vec Ideal S1xSx128 .bf16} {xc : Vec Ideal S1x8xS .f32} (hB : BlockOk E C xq xk xv xc) (xg : Vec Ideal S1xSx128 .f32)
    (t : Fin 4096) (l : Fin 128) (g : Fin 2) (hg : l.val / 64 = g.val) :
    blockVal C xq xk xv xc xg (ix3 0 t l)
      = (E.avg g t.val l * (xg (ix3 0 t l) * Ideal.div 1 (1 + Ideal.exp (0 - xg (ix3 0 t l)))) : EReal) := by
  unfold blockVal
  rw [outOf_apply]
  congr 1
  have hp := fun g => E.sum_pos g t.val 4096 t.isLt
  obtain rfl | rfl : g = 0 ∨ g = 1 := by omega
  · rw [if_pos (by change l.val / 64 = 0 at hg; omega), half_apply, half_apply]
    exact (finSt_row hcm hB 0 t).quot (by decide) (hp 0) l
  · rw [if_neg (by change l.val / 64 = 1 at hg; omega), half_apply, half_apply]
    exact (finSt_row hcm hB 1 t).quot (by decide) (hp 1) l

end Attn

end
-- ==== Proof.Data.lean ====
module

public import proofs.«01_k».proof.Proof.Tiles

/-! The attention of whole arrays over the extended reals: head pair by head pair, row by row. -/

@[expose] public section

set_option maxRecDepth 16384

noncomputable section

namespace Attn

open Idealize.ShloMosaic Idealize.ShloMosaic.ValueIdx

abbrev W3 : Shape := ⟨3, ![8, 4096, 512]⟩
abbrev C3 : Shape := ⟨3, ![8, 8, 4096]⟩

/-- The query's scale and the score's, both to base two. -/
def rs : ℝ := 1 / 8 * (Real.log 2)⁻¹
def rl : ℝ := (Real.log 2)⁻¹

def row (s : ℕ) : Fin 4096 := ⟨s % 4096, Nat.mod_lt _ (by decide)⟩
def col (p : Fin 4) (d : Fin 128) : Fin 512 := ⟨p.val * 128 + d.val, by omega⟩
def hd (p : Fin 4) (g : Fin 2) : Fin 8 := ⟨p.val * 2 + g.val, by omega⟩

theorem row_val (s : Fin 4096) : row s.val = s := Fin.ext (Nat.mod_eq_of_lt s.isLt)

/-- The rows of batch `b`, head pair `p`. -/
def env (Q K V : W3.Idx → EReal) (C : C3.Idx → EReal) (b : Fin 8) (p : Fin 4) : Env where
  q t d := (Q (ix3 b (row t) (col p d))).toReal * rs
  k s d := (K (ix3 b (row s) (col p d))).toReal
  b g s := (C (ix3 b (hd p g) (row s))).toReal * rl
  V s c := V (ix3 b (row s) (col p c))

/-- The gate. -/
def gate (x : EReal) : EReal := x * Ideal.div 1 (1 + Ideal.exp (0 - x))

/-- The layer's attention, gated. -/
def attn (Q K V : W3.Idx → EReal) (C : C3.Idx → EReal) (G : W3.Idx → EReal) (b : Fin 8) (p : Fin 4) (t : Fin 4096)
    (c : Fin 128) : EReal :=
  (env Q K V C b p).avg ⟨c.val / 64, by omega⟩ t.val c * gate (G (ix3 b t (col p c)))

/-- Every element is a real number. -/
def Fin3 {s : Shape} (X : s.Idx → EReal) : Prop := ∀ j, X j = ((X j).toReal : EReal)

/-- The dot product of a head's query and key. -/
def dotR (Q K : W3.Idx → EReal) (b : Fin 8) (p : Fin 4) (g : Fin 2) (t s : Fin 4096) : ℝ :=
  ∑ d : Fin 64, (Q (ix3 b t (col p ⟨g.val * 64 + d.val, by omega⟩))).toReal * (K (ix3 b s (col p ⟨g.val * 64 + d.val, by omega⟩))).toReal

theorem env_x (Q K V : W3.Idx → EReal) (C : C3.Idx → EReal) (b : Fin 8) (p : Fin 4) (g : Fin 2) (t s : Fin 4096) :
    (env Q K V C b p).x g t.val s.val = dotR Q K b p g t s * rs - (C (ix3 b (hd p g) s)).toReal * rl := by
  unfold Env.x Env.qh env dotR
  dsimp only
  rw [row_val, row_val]
  congr 1
  rw [Finset.sum_mul]
  refine (Fin.sum_univ_add (a := 64) (b := 64) _).trans ?_
  obtain rfl | rfl : g = 0 ∨ g = 1 := by omega
  · rw [Finset.sum_eq_zero (f := fun i : Fin 64 => (if (Fin.natAdd 64 i).val / 64 = ((0 : Fin 2) : ℕ) then _ else (0 : ℝ)) * _) fun i _ => by
      rw [if_neg (by simp only [Fin.val_natAdd]; show ¬ (64 + i.val) / 64 = 0; omega), zero_mul], add_zero]
    refine Finset.sum_congr rfl fun i _ => ?_
    rw [if_pos (by simp only [Fin.val_castAdd]; show i.val / 64 = 0; omega)]
    have e : Fin.castAdd 64 i = (⟨((0 : Fin 2) : ℕ) * 64 + i.val, by show 0 * 64 + i.val < 128; omega⟩ : Fin 128) :=
      Fin.ext (by simp)
    rw [e]; ring
  · rw [Finset.sum_eq_zero (f := fun i : Fin 64 => (if (Fin.castAdd 64 i).val / 64 = ((1 : Fin 2) : ℕ) then _ else (0 : ℝ)) * _) fun i _ => by
      rw [if_neg (by simp only [Fin.val_castAdd]; show ¬ i.val / 64 = 1; omega), zero_mul], zero_add]
    refine Finset.sum_congr rfl fun i _ => ?_
    rw [if_pos (by simp only [Fin.val_natAdd]; show (64 + i.val) / 64 = 1; omega)]
    have e : Fin.natAdd 64 i = (⟨((1 : Fin 2) : ℕ) * 64 + i.val, by show 1 * 64 + i.val < 128; omega⟩ : Fin 128) :=
      Fin.ext (by simp [Nat.add_comm])
    rw [e]; ring

/-- The natural score and the weight it gives: a row's factor apart, two to the scaled score. -/
theorem exp_score (D ct cs M : ℝ) :
    Real.exp (D * (1 / 8) + (ct - cs) - M) = Real.exp (ct - M) * (2 : ℝ) ^ (D * rs - cs * rl) := by
  rw [Real.rpow_def_of_pos two_pos, ← Real.exp_add]
  congr 1
  have hl : Real.log 2 ≠ 0 := (Real.log_pos one_lt_two).ne'
  unfold rs rl
  field_simp
  ring

/-- A softmax row: weights `e (s) = κ w (s)`, normalised, then averaged. -/
theorem soft_avg (n : ℕ) (w : ℕ → ℝ) (V : ℕ → EReal) (κ : ℝ) (hκ : 0 < κ) (hw : ∀ s, 0 ≤ w s)
    (hW : 0 < ∑ s ∈ Finset.range n, w s) (e : Fin n → EReal) (he : ∀ s, e s = ((κ * w s.val : ℝ) : EReal)) (v : Fin n → EReal)
    (hv : ∀ s, v s = V s.val) :
    ∑ s : Fin n, Ideal.div (e s) (∑ s : Fin n, e s) * v s
      = ((∑ s ∈ Finset.range n, w s)⁻¹ : ℝ) * ∑ s ∈ Finset.range n, (w s : EReal) * V s := by
  have hs : ∑ s : Fin n, e s = ((κ * ∑ s ∈ Finset.range n, w s : ℝ) : EReal) := by
    rw [Finset.mul_sum, coe_sum, Finset.sum_range (n := n)]
    exact Finset.sum_congr rfl fun s _ => he s
  generalize ∑ s ∈ Finset.range n, w s = W at hs hW ⊢
  rw [hs, coe_mul_sum (Finset.range n) _ (inv_nonneg.mpr hW.le), Finset.sum_range (n := n)]
  refine Finset.sum_congr rfl fun s _ => ?_
  rw [he, hv, Ideal.div_coe (mul_pos hκ hW).ne', ← EReal.coe_mul, ← mul_assoc, ← EReal.coe_mul]
  congr 2
  field_simp

end Attn

end
-- ==== Proof.KVal.lean ====
module

public import proofs.«01_k».proof.Proof.RunKernelIdeal
public import proofs.«01_k».proof.Proof.Data
public import Idealize.ShloMosaic.Lib.KernelVsHost

/-! The attention call's result array over the extended reals: every block is its block of the whole arrays' attention. -/

@[expose] public section

set_option maxRecDepth 16384

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Attn (Fin3 env attn gate rs rl col row hd)

variable (m : (ℓ : Loc nD τ sig) → Buf (Elt Ideal) ℓ) (ρ : Dev nD → PrngReg)

/-- A point's batch and head pair. -/
def bt (t : Fin cfg0.N) : Fin 8 := ⟨(grid0.coords t 0).val, (grid0.coords t 0).isLt⟩
def pr (t : Fin cfg0.N) : Fin 4 := ⟨(grid0.coords t 1).val, (grid0.coords t 1).isLt⟩

theorem point_at : ∀ (b : Fin 8) (p : Fin 4), ∃ t : Fin cfg0.N, bt t = b ∧ pr t = p :=
  (by decide +kernel : ∀ (b : Fin 8) (p : Fin 4), ∃ t : Fin grid0.N, bt t = b ∧ pr t = p)

theorem idx0 : ∀ t : Fin cfg0.N, win0_0.index t (0 : Fin 3) = (bt t).val ∧ win0_0.index t (1 : Fin 3) = 0 ∧ win0_0.index t (2 : Fin 3) = (pr t).val :=
  (by decide +kernel : ∀ t : Fin grid0.N, _)
theorem idx1 : ∀ t : Fin cfg0.N, win0_1.index t (0 : Fin 3) = (bt t).val ∧ win0_1.index t (1 : Fin 3) = 0 ∧ win0_1.index t (2 : Fin 3) = (pr t).val :=
  (by decide +kernel : ∀ t : Fin grid0.N, _)
theorem idx2 : ∀ t : Fin cfg0.N, win0_2.index t (0 : Fin 3) = (bt t).val ∧ win0_2.index t (1 : Fin 3) = 0 ∧ win0_2.index t (2 : Fin 3) = (pr t).val :=
  (by decide +kernel : ∀ t : Fin grid0.N, _)
theorem idx3 : ∀ t : Fin cfg0.N, win0_3.index t (0 : Fin 3) = (bt t).val ∧ win0_3.index t (1 : Fin 3) = 0 ∧ win0_3.index t (2 : Fin 3) = 0 :=
  (by decide +kernel : ∀ t : Fin grid0.N, _)
theorem idx4 : ∀ t : Fin cfg0.N, win0_4.index t (0 : Fin 3) = (bt t).val ∧ win0_4.index t (1 : Fin 3) = 0 ∧ win0_4.index t (2 : Fin 3) = (pr t).val :=
  (by decide +kernel : ∀ t : Fin grid0.N, _)
theorem idx5 : ∀ t : Fin cfg0.N, win0_5.index t (0 : Fin 3) = (bt t).val ∧ win0_5.index t (1 : Fin 3) = 0 ∧ win0_5.index t (2 : Fin 3) = (pr t).val :=
  (by decide +kernel : ∀ t : Fin grid0.N, _)

/-- Where an element of a point's block sits in its array. -/
theorem emb0 (t : Fin cfg0.N) (s : Fin 4096) (d : Fin 128) :
    ((cfg0.win 0).blk t).view.emb (ix3 (0 : Fin 1) s d) = ix3 (bt t) s (col (pr t) d) := by
  obtain ⟨e0, e1, e2⟩ := idx0 t
  funext a; apply Fin.ext
  match a with
  | ⟨0, _⟩ => show win0_0.index t (0 : Fin 3) * 1 + 1 * 0 = (bt t).val; omega
  | ⟨1, _⟩ => show win0_0.index t (1 : Fin 3) * 4096 + 1 * s.val = s.val; omega
  | ⟨2, _⟩ => show win0_0.index t (2 : Fin 3) * 128 + 1 * d.val = (pr t).val * 128 + d.val; omega

theorem emb1 (t : Fin cfg0.N) (s : Fin 4096) (d : Fin 128) :
    ((cfg0.win 1).blk t).view.emb (ix3 (0 : Fin 1) s d) = ix3 (bt t) s (col (pr t) d) := by
  obtain ⟨e0, e1, e2⟩ := idx1 t
  funext a; apply Fin.ext
  match a with
  | ⟨0, _⟩ => show win0_1.index t (0 : Fin 3) * 1 + 1 * 0 = (bt t).val; omega
  | ⟨1, _⟩ => show win0_1.index t (1 : Fin 3) * 4096 + 1 * s.val = s.val; omega
  | ⟨2, _⟩ => show win0_1.index t (2 : Fin 3) * 128 + 1 * d.val = (pr t).val * 128 + d.val; omega

theorem emb2 (t : Fin cfg0.N) (s : Fin 4096) (d : Fin 128) :
    ((cfg0.win 2).blk t).view.emb (ix3 (0 : Fin 1) s d) = ix3 (bt t) s (col (pr t) d) := by
  obtain ⟨e0, e1, e2⟩ := idx2 t
  funext a; apply Fin.ext
  match a with
  | ⟨0, _⟩ => show win0_2.index t (0 : Fin 3) * 1 + 1 * 0 = (bt t).val; omega
  | ⟨1, _⟩ => show win0_2.index t (1 : Fin 3) * 4096 + 1 * s.val = s.val; omega
  | ⟨2, _⟩ => show win0_2.index t (2 : Fin 3) * 128 + 1 * d.val = (pr t).val * 128 + d.val; omega

theorem emb3 (t : Fin cfg0.N) (h : Fin 8) (s : Fin 4096) :
    ((cfg0.win 3).blk t).view.emb (ix3 (0 : Fin 1) h s) = ix3 (bt t) h s := by
  obtain ⟨e0, e1, e2⟩ := idx3 t
  funext a; apply Fin.ext
  match a with
  | ⟨0, _⟩ => show win0_3.index t (0 : Fin 3) * 1 + 1 * 0 = (bt t).val; omega
  | ⟨1, _⟩ => show win0_3.index t (1 : Fin 3) * 8 + 1 * h.val = h.val; omega
  | ⟨2, _⟩ => show win0_3.index t (2 : Fin 3) * 4096 + 1 * s.val = s.val; omega

theorem emb4 (t : Fin cfg0.N) (s : Fin 4096) (d : Fin 128) :
    ((cfg0.win 4).blk t).view.emb (ix3 (0 : Fin 1) s d) = ix3 (bt t) s (col (pr t) d) := by
  obtain ⟨e0, e1, e2⟩ := idx4 t
  funext a; apply Fin.ext
  match a with
  | ⟨0, _⟩ => show win0_4.index t (0 : Fin 3) * 1 + 1 * 0 = (bt t).val; omega
  | ⟨1, _⟩ => show win0_4.index t (1 : Fin 3) * 4096 + 1 * s.val = s.val; omega
  | ⟨2, _⟩ => show win0_4.index t (2 : Fin 3) * 128 + 1 * d.val = (pr t).val * 128 + d.val; omega

theorem emb5 (t : Fin cfg0.N) (s : Fin 4096) (d : Fin 128) :
    ((cfg0.win 5).blk t).view.emb (ix3 (0 : Fin 1) s d) = ix3 (bt t) s (col (pr t) d) := by
  obtain ⟨e0, e1, e2⟩ := idx5 t
  funext a; apply Fin.ext
  match a with
  | ⟨0, _⟩ => show win0_5.index t (0 : Fin 3) * 1 + 1 * 0 = (bt t).val; omega
  | ⟨1, _⟩ => show win0_5.index t (1 : Fin 3) * 4096 + 1 * s.val = s.val; omega
  | ⟨2, _⟩ => show win0_5.index t (2 : Fin 3) * 128 + 1 * d.val = (pr t).val * 128 + d.val; omega

/-- The argument arrays. -/
abbrev aQ (c : Dev nD) : Attn.W3.Idx → EReal := m ((c : Thread nD τ).loc main_arg0)
abbrev aK (c : Dev nD) : Attn.W3.Idx → EReal := m ((c : Thread nD τ).loc main_arg1)
abbrev aV (c : Dev nD) : Attn.W3.Idx → EReal := m ((c : Thread nD τ).loc main_arg2)
abbrev aC (c : Dev nD) : Attn.C3.Idx → EReal := m ((c : Thread nD τ).loc main_arg3)
abbrev aG (c : Dev nD) : Attn.W3.Idx → EReal := m ((c : Thread nD τ).loc main_arg4)

/-- The two host casts leave their arrays as they are. -/
theorem V_main_v0 (c : Dev nD) : (V m c main_v0 : Attn.W3.Idx → EReal) = aK m c := by
  have h : V m c main_v0 = ((truncf (F := Ideal) .bf16 · bitsLt_bf16_f32) : (⟨S8x4096x512, .f32⟩ : BufTy).Contents (Elt Ideal) →
      (⟨S8x4096x512, .bf16⟩ : BufTy).Contents (Elt Ideal)) (m ((c : Thread nD τ).loc main_arg1)) := by
    unfold V hostOps0; after_results
  exact h.trans rfl
theorem V_main_v1 (c : Dev nD) : (V m c main_v1 : Attn.W3.Idx → EReal) = aV m c := by
  have h : V m c main_v1 = ((truncf (F := Ideal) .bf16 · bitsLt_bf16_f32) : (⟨S8x4096x512, .f32⟩ : BufTy).Contents (Elt Ideal) →
      (⟨S8x4096x512, .bf16⟩ : BufTy).Contents (Elt Ideal)) (m ((c : Thread nD τ).loc main_arg2)) := by
    unfold V hostOps0; after_results
  exact h.trans rfl

/-- The operand blocks, element by element. -/
theorem blk0 (c : Dev nD) (t : Fin cfg0.N) (s : Fin 4096) (d : Fin 128) :
    iblk m c 0 t (ix3 (0 : Fin 1) s d) = aQ m c (ix3 (bt t) s (col (pr t) d)) := by
  show V m c main_arg0 (((cfg0.win 0).blk t).view.emb (ix3 (0 : Fin 1) s d)) = _
  rw [emb0, V_main_arg0]
theorem blk1 (c : Dev nD) (t : Fin cfg0.N) (s : Fin 4096) (d : Fin 128) :
    iblk m c 1 t (ix3 (0 : Fin 1) s d) = aK m c (ix3 (bt t) s (col (pr t) d)) := by
  show V m c main_v0 (((cfg0.win 1).blk t).view.emb (ix3 (0 : Fin 1) s d)) = _
  rw [emb1]; exact congrFun (V_main_v0 m c) _
theorem blk2 (c : Dev nD) (t : Fin cfg0.N) (s : Fin 4096) (d : Fin 128) :
    iblk m c 2 t (ix3 (0 : Fin 1) s d) = aV m c (ix3 (bt t) s (col (pr t) d)) := by
  show V m c main_v1 (((cfg0.win 2).blk t).view.emb (ix3 (0 : Fin 1) s d)) = _
  rw [emb2]; exact congrFun (V_main_v1 m c) _
theorem blk3 (c : Dev nD) (t : Fin cfg0.N) (h : Fin 8) (s : Fin 4096) :
    iblk m c 3 t (ix3 (0 : Fin 1) h s) = aC m c (ix3 (bt t) h s) := by
  show V m c main_arg3 (((cfg0.win 3).blk t).view.emb (ix3 (0 : Fin 1) h s)) = _
  rw [emb3, V_main_arg3]
theorem blk4 (c : Dev nD) (t : Fin cfg0.N) (s : Fin 4096) (d : Fin 128) :
    iblk m c 4 t (ix3 (0 : Fin 1) s d) = aG m c (ix3 (bt t) s (col (pr t) d)) := by
  show V m c main_arg4 (((cfg0.win 4).blk t).view.emb (ix3 (0 : Fin 1) s d)) = _
  rw [emb4, V_main_arg4]

/-- The named constants' values. -/
theorem cs_eq (i : grid0.Coords) : ((cst (F := Ideal) i).cs : EReal) = (rs : EReal) :=
  IdealRules.named_const.ideal_named_scalar _ _ _ _ rfl
theorem cl_eq (i : grid0.Coords) : ((cst (F := Ideal) i).cl : EReal) = (rl : EReal) :=
  IdealRules.named_const.ideal_named_scalar _ _ _ _ rfl
theorem cm_eq (i : grid0.Coords) : ((cst (F := Ideal) i).cm : EReal) = ⊥ :=
  IdealRules.named_const.ideal_named_scalar _ _ _ _ rfl

theorem o0_eq (t : Fin cfg0.N) : (⟨(cst (F := Ideal) (grid0.coords t)).o0, (cst (F := Ideal) (grid0.coords t)).h0⟩ : Fin 8) = hd (pr t) 0 :=
  Fin.ext ((congrFun (k0_off1_eq (grid0.coords t) 0) 1).trans (by
    show 2 * (grid0.coords t 1).val + 0 = (grid0.coords t 1).val * 2 + 0; omega))
theorem o1_eq (t : Fin cfg0.N) : (⟨(cst (F := Ideal) (grid0.coords t)).o1, (cst (F := Ideal) (grid0.coords t)).h1⟩ : Fin 8) = hd (pr t) 1 :=
  Fin.ext ((congrFun (k0_off1_eq (grid0.coords t) 1) 1).trans (by
    show 2 * (grid0.coords t 1).val + 1 = (grid0.coords t 1).val * 2 + 1; omega))

theorem scaled {x : EReal} (h : x = (x.toReal : EReal)) (r : ℝ) : x * (r : EReal) = ((x.toReal * r : ℝ) : EReal) := by
  rw [EReal.coe_mul]; exact congrArg (· * (r : EReal)) h

/-- The operand blocks of a point are its batch's and head pair's rows. -/
theorem blockOk (c : Dev nD) (t : Fin cfg0.N) (hQ : Fin3 (aQ m c)) (hK : Fin3 (aK m c)) (hC : Fin3 (aC m c)) :
    Attn.BlockOk (env (aQ m c) (aK m c) (aV m c) (aC m c) (bt t) (pr t)) (cst (F := Ideal) (grid0.coords t))
      (iblk m c 0 t) (iblk m c 1 t) (iblk m c 2 t) (iblk m c 3 t) where
  q s d := by
    rw [blk0, cs_eq]
    dsimp only [env]
    rw [Attn.row_val]; exact scaled (hQ _) rs
  k s d := by
    rw [blk1]
    dsimp only [env]
    rw [Attn.row_val]; exact hK _
  v s d := by
    rw [blk2]
    dsimp only [env]
    rw [Attn.row_val]
  b0 s := by
    rw [o0_eq, blk3, cl_eq]
    dsimp only [env]
    rw [Attn.row_val]; exact scaled (hC _) rl
  b1 s := by
    rw [o1_eq, blk3, cl_eq]
    dsimp only [env]
    rw [Attn.row_val]; exact scaled (hC _) rl

/-- The whole result. -/
def result (Q K V : Attn.W3.Idx → EReal) (C : Attn.C3.Idx → EReal) (G : Attn.W3.Idx → EReal) : Attn.W3.Idx → EReal := fun j =>
  attn Q K V C G (j 0) ⟨(j 2).val / 128, Nat.div_lt_of_lt_mul (j 2).isLt⟩ (j 1) ⟨(j 2).val % 128, Nat.mod_lt _ (by decide)⟩

theorem result_apply (Q K V : Attn.W3.Idx → EReal) (C : Attn.C3.Idx → EReal) (G : Attn.W3.Idx → EReal)
    (b : Fin 8) (p : Fin 4) (s : Fin 4096) (d : Fin 128) :
    result Q K V C G (ix3 b s (col p d)) = attn Q K V C G b p s d := by
  have h1 : (⟨(col p d).val / 128, Nat.div_lt_of_lt_mul (col p d).isLt⟩ : Fin 4) = p :=
    Fin.ext (by show (p.val * 128 + d.val) / 128 = p.val; omega)
  have h2 : (⟨(col p d).val % 128, Nat.mod_lt _ (by decide)⟩ : Fin 128) = d :=
    Fin.ext (by show (p.val * 128 + d.val) % 128 = d.val; omega)
  show attn Q K V C G b ⟨(col p d).val / 128, _⟩ s ⟨(col p d).val % 128, _⟩ = _
  rw [h1, h2]

/-- What a point writes back is its block of the whole result. -/
theorem flushed_eq (c : Dev nD) (hQ : Fin3 (aQ m c)) (hK : Fin3 (aK m c)) (hC : Fin3 (aC m c)) (t : Fin cfg0.N) :
    (dats m 0 c).flushed 5 t = ((cfg0.win 5).blk t).view.read (Elt Ideal) (result (aQ m c) (aK m c) (aV m c) (aC m c) (aG m c)) := by
  funext y
  obtain ⟨z, s, d, rfl⟩ : ∃ (z : Fin 1) (s : Fin 4096) (d : Fin 128), y = ix3 z s d := ⟨y 0, y 1, y 2, eq_ix3 y⟩
  obtain rfl : z = 0 := Subsingleton.elim _ _
  show (dats m 0 c).after 5 t (ix3 (0 : Fin 1) s d)
    = result (aQ m c) (aK m c) (aV m c) (aC m c) (aG m c) (((cfg0.win 5).blk t).view.emb (ix3 (0 : Fin 1) s d))
  rw [emb5, result_apply, after_5]
  refine (Attn.blockVal_apply (cm_eq _) (blockOk m c t hQ hK hC) (iblk m c 4 t) s d ⟨d.val / 64, by omega⟩ rfl).trans ?_
  rw [blk4]
  rfl

theorem covered (i : S8x4096x512.Idx) : ∃ t : Fin cfg0.N, (cfg0.win 5).flush t = true ∧ i ∈ ((cfg0.win 5).blk t).view.set := by
  have hi : (i 2).val < 512 := (i 2).isLt
  obtain ⟨t, hb, hp⟩ := point_at (i 0) ⟨(i 2).val / 128, by omega⟩
  refine ⟨t, flush0_5 t, ?_⟩
  have e : i = ix3 (i 0) (i 1) (col ⟨(i 2).val / 128, by omega⟩ ⟨(i 2).val % 128, by omega⟩) := by
    refine (eq_ix3 i).trans (congrArg (ix3 (i 0) (i 1)) (Fin.ext ?_))
    show (i 2).val = (i 2).val / 128 * 128 + (i 2).val % 128
    omega
  have h : ((cfg0.win 5).blk t).view.emb (ix3 (0 : Fin 1) (i 1) (⟨(i 2).val % 128, by omega⟩ : Fin 128)) = i :=
    (emb5 t (i 1) ⟨(i 2).val % 128, by omega⟩).trans (by rw [hb, hp]; exact e.symm)
  have hm := ((cfg0.win 5).blk t).view.emb_mem_set (ix3 (0 : Fin 1) (i 1) (⟨(i 2).val % 128, by omega⟩ : Fin 128))
  exact h ▸ hm

/-- The result array after the run. -/
theorem final (c : Dev nD) (hQ : Fin3 (aQ m c)) (hK : Fin3 (aK m c)) (hC : Fin3 (aC m c)) :
    (dats m 0 c).arrAt 5 cfg0.N = result (aQ m c) (aK m c) (aV m c) (aC m c) (aG m c) :=
  (dats m 0 c).arrAt_eq_of_cover 5 _ (fun t _ => flushed_eq m c hQ hK hC t) covered

/-- The run: the result array at the attention of the arguments, the arguments as launched. -/
theorem run (h : ∀ c : Dev nD, Fin3 (aQ m c) ∧ Fin3 (aK m c) ∧ Fin3 (aC m c)) :
    θ_run defs (onTc (τ := τ) (main (F := Ideal))) ⟨m, fun _ => 0, ρ⟩ (fun r => ∀ c : Dev nD,
      r.2.mem ((c.tc : Thread nD τ).loc main_v2) = result (aQ m c) (aK m c) (aV m c) (aC m c) (aG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c => ⟨((hr.1 c).1 5).trans (final m c (h c).1 (h c).2.1 (h c).2.2), hr.2 c⟩)
    (θ_run_and (run_post m ρ) (unchanged m ρ))

end Cert.KernelIdeal.Own

end
-- ==== Proof.Ref.lean ====
module

public import proofs.«01_k».proof.Proof.Gen.ReferenceIdeal.Read
public import proofs.«01_k».proof.Proof.Data
public import Idealize.ShloMosaic.Lib.KernelVsHost

/-! The reference's result, element by element. -/

@[expose] public section

set_option maxRecDepth 16384

noncomputable section

namespace Cert.ReferenceIdeal.Own

open Cert.ReferenceIdeal Cert.ReferenceIdeal.Gen Cert.ReferenceIdeal.Read Idealize.ShloMosaic Idealize.ShloMosaic.ValueIdx
open Attn

variable (Q K V : W3.Idx → EReal) (C : C3.Idx → EReal) (G : W3.Idx → EReal) (b : Fin 8) (p : Fin 4) (g : Fin 2)

/-- Lane `d` of head `g` of the pair. -/
def ln (g : Fin 2) (d : Fin 64) : Fin 128 := ⟨g.val * 64 + d.val, by omega⟩

theorem split_q (x : W3.Idx → EReal) (t : Fin 4096) (d : Fin 64) :
    val_main_v1 (F := Ideal) x (ix4 b (hd p g) t d) = x (ix3 b t (col p (ln g d))) := by
  rw [val_main_v1_apply, val_main_v0_apply]
  refine congrArg x (funext fun a => Fin.ext ?_)
  have e0 : b.val < 8 := b.isLt
  have e1 : t.val < 4096 := t.isLt
  have e2 : p.val < 4 := p.isLt
  have e3 : g.val < 2 := g.isLt
  have e4 : d.val < 64 := d.isLt
  match a with
  | ⟨0, _⟩ => show (((b.val * 4096 + t.val) * 8 + (p.val * 2 + g.val)) * 64 + d.val) / 2097152 = b.val; omega
  | ⟨1, _⟩ => show (((b.val * 4096 + t.val) * 8 + (p.val * 2 + g.val)) * 64 + d.val) / 512 % 4096 = t.val; omega
  | ⟨2, _⟩ => show (((b.val * 4096 + t.val) * 8 + (p.val * 2 + g.val)) * 64 + d.val) % 512 = p.val * 128 + (g.val * 64 + d.val); omega
theorem split_k (x : W3.Idx → EReal) (t : Fin 4096) (d : Fin 64) :
    val_main_v3 (F := Ideal) x (ix4 b (hd p g) t d) = x (ix3 b t (col p (ln g d))) := split_q b p g x t d
theorem split_v (x : W3.Idx → EReal) (t : Fin 4096) (d : Fin 64) :
    val_main_v5 (F := Ideal) x (ix4 b (hd p g) t d) = x (ix3 b t (col p (ln g d))) := split_q b p g x t d

theorem dot_apply (hQ : Fin3 Q) (hK : Fin3 K) (t s : Fin 4096) :
    val_main_v6 (F := Ideal) Q K (ix4 b (hd p g) t s) = ((dotR Q K b p g t s : ℝ) : EReal) := by
  rw [val_main_v6_apply]
  unfold dotR
  rw [coe_sum]
  refine Finset.sum_congr rfl fun d _ => ?_
  have e1 : lidx_main_v6 (ix4 b (hd p g) t s) d = ix4 b (hd p g) t d := funext fun a => match a with
    | ⟨0, _⟩ => rfl
    | ⟨1, _⟩ => rfl
    | ⟨2, _⟩ => rfl
    | ⟨3, _⟩ => rfl
  have e2 : ridx_main_v6 (ix4 b (hd p g) t s) d = ix4 b (hd p g) s d := funext fun a => match a with
    | ⟨0, _⟩ => rfl
    | ⟨1, _⟩ => rfl
    | ⟨2, _⟩ => rfl
    | ⟨3, _⟩ => rfl
  rw [e1, e2, split_q, split_k, hQ, hK, EReal.coe_mul]
  rfl

theorem eighth : FloatOps.ofBits (F := Ideal) .f32 0x3E000000#32 = ((1 / 8 : ℝ) : EReal) := by
  show Ideal.ofBits .f32 0x3E000000#32 = _
  simp [Ideal.ofBits, Ideal.ieee]
  rw [← EReal.coe_mul]; congr 1; norm_num

/-- The forget sum of a row, or of a key. -/
theorem ct_apply (t s : Fin 4096) : val_main_v11 (F := Ideal) C (ix4 b (hd p g) t s) = C (ix3 b (hd p g) t) := by
  rw [val_main_v11_apply, val_main_v9_apply]
  exact congrArg C (funext fun a => match a with
    | ⟨0, _⟩ => rfl
    | ⟨1, _⟩ => rfl
    | ⟨2, _⟩ => rfl)
theorem cs_apply (t s : Fin 4096) : val_main_v12 (F := Ideal) C (ix4 b (hd p g) t s) = C (ix3 b (hd p g) s) := by
  rw [val_main_v12_apply, val_main_v10_apply]
  exact congrArg C (funext fun a => match a with
    | ⟨0, _⟩ => rfl
    | ⟨1, _⟩ => rfl
    | ⟨2, _⟩ => rfl)

/-- The natural score. -/
def nat (t s : Fin 4096) : ℝ :=
  dotR Q K b p g t s * (1 / 8) + ((C (ix3 b (hd p g) t)).toReal - (C (ix3 b (hd p g) s)).toReal)

theorem score_apply (hQ : Fin3 Q) (hK : Fin3 K) (hC : Fin3 C) (t s : Fin 4096) :
    val_main_v14 (F := Ideal) Q K C (ix4 b (hd p g) t s) = ((nat Q K C b p g t s : ℝ) : EReal) := by
  rw [val_main_v14_apply, val_main_v8_apply, val_main_v13_apply, dot_apply Q K b p g hQ hK, val_main_v7_apply, val_main_cst_apply,
    eighth, ct_apply, cs_apply, hC, hC (ix3 b (hd p g) s)]
  unfold nat
  rw [EReal.coe_add, EReal.coe_mul, EReal.coe_sub]
  rfl

theorem mask_apply (t s : Fin 4096) :
    val_main_call0_v1 (F := Ideal) (ix4 b (hd p g) t s) = if s.val ≤ t.val then 1#1 else 0#1 := by
  rw [val_main_call0_v1_apply, val_main_v22_apply, val_main_v21_apply, val_main_v19_apply, val_main_v20_apply, val_main_v16_apply,
    val_main_v18_apply, val_main_v15_apply, val_main_v17_apply]
  show IntOp.cmpi .sge (BitVec.ofNat 32 t.val) (BitVec.ofNat 32 s.val) = _
  rw [WordCmp.cmpi_sge_ofNat (by have := t.isLt; omega) (by have := s.isLt; omega)]
  by_cases h : s.val ≤ t.val <;> simp [h]

theorem masked_apply (hQ : Fin3 Q) (hK : Fin3 K) (hC : Fin3 C) (t s : Fin 4096) :
    val_main_v23 (F := Ideal) Q K C (ix4 b (hd p g) t s) = if s.val ≤ t.val then ((nat Q K C b p g t s : ℝ) : EReal) else ⊥ := by
  rw [val_main_v23_apply, mask_apply, score_apply Q K C b p g hQ hK hC, val_main_call0_v2_apply]
  by_cases h : s.val ≤ t.val
  · rw [if_pos h, if_pos h]; rfl
  · rw [if_neg h, if_neg h]
    exact negInf32

/-- The row's maximum is a real number. -/
theorem max_apply (hQ : Fin3 Q) (hK : Fin3 K) (hC : Fin3 C) (t : Fin 4096) :
    ∃ M : ℝ, val_main_v26 (F := Ideal) Q K C (ix3 b (hd p g) t) = (M : EReal) := by
  have hr : S8x8x4096x4096.Reduces [3] S8x8x4096 := by decide
  have e : val_main_v24 (F := Ideal) Q K C (ix3 b (hd p g) t)
      = (Finset.univ : Finset (Fin 4096)).sup fun s => val_main_v23 (F := Ideal) Q K C (ix4 b (hd p g) t s) := by
    unfold val_main_v24 val_main_cst_1
    rw [hostReduce_maximumf_eq_multiReduction _ _ _ _ hr (by decide) (by decide)]
    refine (Ideal.multiReduction_maximumf_single _ _ _ _ _ _).trans ?_
    rw [negInf32, fold_max_eq]
    refine Finset.sup_congr rfl fun s _ => ?_
    exact congrArg (val_main_v23 (F := Ideal) Q K C) (funext fun a => match a with
      | ⟨0, _⟩ => rfl
      | ⟨1, _⟩ => rfl
      | ⟨2, _⟩ => rfl
      | ⟨3, _⟩ => rfl)
  have e' : val_main_v26 (F := Ideal) Q K C (ix3 b (hd p g) t)
      = (Finset.univ : Finset (Fin 4096)).sup fun s => val_main_v23 (F := Ideal) Q K C (ix4 b (hd p g) t s) := by
    rw [val_main_v26_apply, val_main_v25_apply, val_main_cst_2_apply, negInf32, e]
    exact max_eq_right bot_le
  rw [e']
  have ht : ((Finset.univ : Finset (Fin 4096)).sup fun s => val_main_v23 (F := Ideal) Q K C (ix4 b (hd p g) t s)) ≠ ⊤ := by
    refine ne_of_lt ((Finset.sup_lt_iff bot_lt_top).mpr fun s _ => ?_)
    rw [masked_apply Q K C b p g hQ hK hC]
    split
    · exact EReal.coe_lt_top _
    · exact bot_lt_top
  have hb : ((Finset.univ : Finset (Fin 4096)).sup fun s => val_main_v23 (F := Ideal) Q K C (ix4 b (hd p g) t s)) ≠ ⊥ := by
    refine bot_of_le (Finset.le_sup (f := fun s => val_main_v23 (F := Ideal) Q K C (ix4 b (hd p g) t s)) (Finset.mem_univ t)) ?_
    rw [masked_apply Q K C b p g hQ hK hC, if_pos le_rfl]
    exact EReal.coe_ne_bot _
  exact ⟨_, (EReal.coe_toReal ht hb).symm⟩

theorem exp_apply (hQ : Fin3 Q) (hK : Fin3 K) (hC : Fin3 C) (t : Fin 4096) :
    ∃ κ : ℝ, 0 < κ ∧ ∀ s : Fin 4096, val_main_v30 (F := Ideal) Q K C (ix4 b (hd p g) t s)
      = ((κ * (env Q K V C b p).w g t.val s.val : ℝ) : EReal) := by
  obtain ⟨M, hM⟩ := max_apply Q K C b p g hQ hK hC t
  refine ⟨Real.exp ((C (ix3 b (hd p g) t)).toReal - M), Real.exp_pos _, fun s => ?_⟩
  have e : val_main_v28 (F := Ideal) Q K C (ix4 b (hd p g) t s) = (M : EReal) := by
    rw [val_main_v28_apply, val_main_v27_apply, ← hM]
    exact congrArg (val_main_v26 (F := Ideal) Q K C) (funext fun a => match a with
      | ⟨0, _⟩ => rfl
      | ⟨1, _⟩ => rfl
      | ⟨2, _⟩ => rfl)
  rw [val_main_v30_apply, val_main_v29_apply, e, masked_apply Q K C b p g hQ hK hC]
  unfold Env.w
  show Ideal.exp ((if s.val ≤ t.val then ((nat Q K C b p g t s : ℝ) : EReal) else ⊥) - (M : EReal)) = _
  by_cases h : s.val ≤ t.val
  · rw [if_pos h, if_pos h, ← EReal.coe_sub, Ideal.exp_coe, env_x, ← exp_score]
    rfl
  · rw [if_neg h, if_neg h, EReal.bot_sub, Ideal.exp_bot, mul_zero, EReal.coe_zero]

theorem sum_apply (t : Fin 4096) : val_main_v31 (F := Ideal) Q K C (ix3 b (hd p g) t)
    = ∑ s : Fin 4096, val_main_v30 (F := Ideal) Q K C (ix4 b (hd p g) t s) := by
  rw [val_main_v31_apply, val_main_cst_3_apply]
  refine (congrArg (· + _) zero32_eq).trans ((zero_add _).trans (Finset.sum_congr rfl fun s _ => ?_))
  exact congrArg (val_main_v30 (F := Ideal) Q K C) (funext fun a => match a with
    | ⟨0, _⟩ => rfl
    | ⟨1, _⟩ => rfl
    | ⟨2, _⟩ => rfl
    | ⟨3, _⟩ => rfl)

theorem avg_apply (hQ : Fin3 Q) (hK : Fin3 K) (hC : Fin3 C) (t : Fin 4096) (d : Fin 64) :
    val_main_v35 (F := Ideal) Q K V C (ix4 b (hd p g) t d) = (env Q K V C b p).avg g t.val (ln g d) := by
  obtain ⟨κ, hκ, he⟩ := exp_apply Q K V C b p g hQ hK hC t
  rw [val_main_v35_apply]
  unfold Env.avg
  refine Eq.trans ?_ (soft_avg 4096 ((env Q K V C b p).w g t.val) (fun s => (env Q K V C b p).V s (ln g d)) κ hκ
    (Env.w_nonneg _ g t.val) (Env.sum_pos _ g t.val 4096 t.isLt)
    (fun s => val_main_v30 (F := Ideal) Q K C (ix4 b (hd p g) t s)) he (fun s => V (ix3 b s (col p (ln g d))))
    (fun s => by show _ = V (ix3 b (row s.val) (col p (ln g d))); rw [row_val]))
  refine Finset.sum_congr rfl fun s _ => ?_
  have e1 : lidx_main_v35 (ix4 b (hd p g) t d) s = ix4 b (hd p g) t s := funext fun a => match a with
    | ⟨0, _⟩ => rfl
    | ⟨1, _⟩ => rfl
    | ⟨2, _⟩ => rfl
    | ⟨3, _⟩ => rfl
  have e2 : ridx_main_v35 (ix4 b (hd p g) t d) s = ix4 b (hd p g) s d := funext fun a => match a with
    | ⟨0, _⟩ => rfl
    | ⟨1, _⟩ => rfl
    | ⟨2, _⟩ => rfl
    | ⟨3, _⟩ => rfl
  have e3 : val_main_v33 (F := Ideal) Q K C (ix4 b (hd p g) t s)
      = ∑ s : Fin 4096, val_main_v30 (F := Ideal) Q K C (ix4 b (hd p g) t s) := by
    rw [val_main_v33_apply, val_main_v32_apply, ← sum_apply]
    exact congrArg (val_main_v31 (F := Ideal) Q K C) (funext fun a => match a with
      | ⟨0, _⟩ => rfl
      | ⟨1, _⟩ => rfl
      | ⟨2, _⟩ => rfl)
  rw [e1, e2, val_main_v34_apply, split_v, e3]
  rfl

theorem gate_apply (j : W3.Idx) : val_main_v38 (F := Ideal) G j = gate (G j) := by
  rw [val_main_v38_apply, val_main_call1_v5_apply, val_main_call1_v4_apply, val_main_call1_cst_0_apply, val_main_call1_v3_apply,
    val_main_call1_v2_apply, val_main_call1_cst_apply, val_main_call1_v1_apply, val_main_call1_v0_apply]
  unfold gate
  have h1 : FloatOps.ofBits (F := Ideal) .f32 0x3F800000#32 = (1 : EReal) := one32_eq
  rw [h1, zero_sub]
  rfl

theorem result_apply (hQ : Fin3 Q) (hK : Fin3 K) (hC : Fin3 C) (t : Fin 4096) (c : Fin 128) :
    val_main_v40 (F := Ideal) Q K V C G (ix3 b t (col p c)) = attn Q K V C G b p t c := by
  rw [val_main_v40_apply, val_main_v39_apply, val_main_v37_apply, val_main_v36_apply, gate_apply]
  have e : idx_main_v36 (idx_main_v37 (ix3 b t (col p c)))
      = ix4 b (hd p ⟨c.val / 64, by omega⟩) t (⟨c.val % 64, by omega⟩ : Fin 64) := by
    refine funext fun a => Fin.ext ?_
    have e0 : b.val < 8 := b.isLt
    have e1 : t.val < 4096 := t.isLt
    have e2 : p.val < 4 := p.isLt
    have e4 : c.val < 128 := c.isLt
    match a with
    | ⟨0, _⟩ => show ((b.val * 4096 + t.val) * 512 + (p.val * 128 + c.val)) / 2097152 = b.val; omega
    | ⟨1, _⟩ => show ((b.val * 4096 + t.val) * 512 + (p.val * 128 + c.val)) / 64 % 8 = p.val * 2 + c.val / 64; omega
    | ⟨2, _⟩ => show ((b.val * 4096 + t.val) * 512 + (p.val * 128 + c.val)) / 512 % 4096 = t.val; omega
    | ⟨3, _⟩ => show ((b.val * 4096 + t.val) * 512 + (p.val * 128 + c.val)) % 64 = c.val % 64; omega
  have ec : ln ⟨c.val / 64, by omega⟩ (⟨c.val % 64, by omega⟩ : Fin 64) = c := Fin.ext (by
    show c.val / 64 * 64 + c.val % 64 = c.val; omega)
  rw [e, avg_apply Q K V C b p _ hQ hK hC, ec]
  rfl

end Cert.ReferenceIdeal.Own

end
-- ==== Proof.Claim.lean ====
module

public import proofs.«01_k».proof.Defs
public import proofs.«01_k».proof.Proof.Gen.Pre_scores_finite
public import proofs.«01_k».proof.Proof.Gen.ReferenceIdeal.Run
public import proofs.«01_k».proof.Proof.KVal
public import proofs.«01_k».proof.Proof.Ref
public import Idealize.ShloMosaic.Lib.ReduceAll

/-! The two programs end with the same result. -/

@[expose] public section

set_option maxRecDepth 16384

noncomputable section

namespace Cert.Own

open Idealize.ShloMosaic Idealize.ShloMosaic.TcCoe Idealize.ShloMosaic.ValueIdx Idealize.SL.Sem
open Attn (Fin3)

/-- An extended real of finite absolute value is a real. -/
theorem real_of_abs (x : Ideal .f32)
    (h : FloatOps.cmpf .olt (FloatOps.hostAbsf x) (FloatOps.ofBits (F := Ideal) .f32 0x7F800000#32) = 1#1) :
    (x : EReal) = ((x : EReal).toReal : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by
    by_contra hn
    simp [hn] at h
  rw [max_lt_iff] at hlt
  refine (EReal.coe_toReal hlt.1.ne fun hb => ?_).symm
  rw [hb] at hlt
  simp at hlt

instance : Subsingleton Cert.Pre_scores_finite.S_.Idx := ⟨fun a b => funext fun i => i.elim0⟩

/-- What the precondition says of the three arrays the scores are of. -/
theorem finite_of_pre (Q K V : Attn.W3.Idx → EReal) (C : Attn.C3.Idx → EReal) (G : Attn.W3.Idx → EReal)
    (h : Cert.Pre_scores_finite.fn (F := Ideal) Q K V C G = fun _ => 1#1) : Fin3 Q ∧ Fin3 K ∧ Fin3 C := by
  have h0 := congrFun h (fun i => i.elim0)
  unfold Cert.Pre_scores_finite.fn at h0
  obtain ⟨h1, hC⟩ := IntOp.andi_eq_one.1 h0
  obtain ⟨hQ, hK⟩ := IntOp.andi_eq_one.1 h1
  exact ⟨fun j => real_of_abs _ (Host.reduce_andi_all _ _ _ _ _ hQ j),
    fun j => real_of_abs _ (Host.reduce_andi_all _ _ _ _ _ hK j),
    fun j => real_of_abs _ (Host.reduce_andi_all _ _ _ _ _ hC j)⟩

/-- Two arrays that agree at every batch, head pair, row and lane are one. -/
theorem ext3 {X Y : Attn.W3.Idx → EReal}
    (h : ∀ b p s d, X (ix3 b s (Attn.col p d)) = Y (ix3 b s (Attn.col p d))) : X = Y := by
  funext j
  have hj : (j 2).val < 512 := (j 2).isLt
  have e : j = ix3 (j 0) (j 1) (Attn.col ⟨(j 2).val / 128, by omega⟩ ⟨(j 2).val % 128, by omega⟩) := by
    refine (eq_ix3 j).trans (congrArg (ix3 (j 0) (j 1)) (Fin.ext ?_))
    show (j 2).val = (j 2).val / 128 * 128 + (j 2).val % 128
    omega
  rw [e]
  exact h _ _ _ _

/-- The reference's whole result. -/
theorem reference_eq (Q K V : Attn.W3.Idx → EReal) (C : Attn.C3.Idx → EReal) (G : Attn.W3.Idx → EReal)
    (hQ : Fin3 Q) (hK : Fin3 K) (hC : Fin3 C) :
    (Cert.ReferenceIdeal.Read.val_main_v40 (F := Ideal) Q K V C G : Attn.W3.Idx → EReal)
      = Cert.KernelIdeal.Own.result Q K V C G :=
  ext3 fun b p s d => (Cert.ReferenceIdeal.Own.result_apply Q K V C G b p hQ hK hC s d).trans
    (Cert.KernelIdeal.Own.result_apply Q K V C G b p s d).symm

theorem algebraic : Cert.algebraic_KernelIdeal_ReferenceIdeal_pre_scores_finite := by
  intro m ρ m' ρ' hpre hagree
  have hfin := fun c => finite_of_pre _ _ _ _ _ (hpre c)
  refine ⟨_, Cert.KernelIdeal.Own.run m ρ hfin, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  refine (Cert.ReferenceIdeal.Read.val_main_v40_eq m' c).trans ?_
  rw [e0, e1, e2, e3, e4]
  exact reference_eq _ _ _ _ _ (hfin c).1 (hfin c).2.1 (hfin c).2.2

end Cert.Own

end
-- ==== Proof.Lin.lean ====
module

public import Idealize.ShloMosaic.Lib.Pipeline.Value
public import Idealize.ShloMosaic.Lib.KernelVsHost

/-! Layout operations and products of two-axis blocks, element by element, over the extended reals. -/

@[expose] public section

set_option maxRecDepth 16384

noncomputable section

namespace Lin

open Idealize.ShloMosaic Idealize.ShloMosaic.ValueIdx

variable {α : Type}

theorem drop3 {R C : Nat} (x : (⟨3, ![1, R, C]⟩ : Shape).Idx → α)
    (h : (⟨3, ![1, R, C]⟩ : Shape).ShapeCasts ⟨2, ![R, C]⟩) (i : Fin R) (j : Fin C) :
    shapeCast ⟨2, ![R, C]⟩ x h (ix2 i j) = x (ix3 0 i j) :=
  (shapeCast_dropUnit_apply ![R, C] x h (ix2 i j)).trans (congrArg x (funext fun a => match a with
    | ⟨0, _⟩ => rfl
    | ⟨1, _⟩ => rfl
    | ⟨2, _⟩ => rfl))

theorem add3 {R C : Nat} (x : (⟨2, ![R, C]⟩ : Shape).Idx → α)
    (h : (⟨2, ![R, C]⟩ : Shape).ShapeCasts ⟨3, ![1, R, C]⟩) (u : Fin 1) (i : Fin R) (j : Fin C) :
    shapeCast ⟨3, ![1, R, C]⟩ x h (ix3 u i j) = x (ix2 i j) :=
  (shapeCast_addUnit_apply ![R, C] x h (ix3 u i j)).trans (congrArg x (funext fun a => match a with
    | ⟨0, _⟩ => rfl
    | ⟨1, _⟩ => rfl))

/-- A column vector of the rows' numbers. -/
theorem colCast {R : Nat} (x : (⟨1, ![R]⟩ : Shape).Idx → α) (h : (⟨1, ![R]⟩ : Shape).ShapeCasts ⟨2, ![R, 1]⟩) (i : Fin R) (u : Fin 1) :
    shapeCast ⟨2, ![R, 1]⟩ x h (ix2 i u) = x (ix1 i) :=
  shapeCast_apply x h (ix2 i u) (ix1 i) (by
    rw [Shape.rowMajor_val_one, Shape.rowMajor_val_two]
    have : u.val = 0 := by omega
    show i.val = i.val * 1 + u.val; omega)

/-- A column broadcast over the lanes, a row broadcast over the rows. -/
theorem bcCol {R C : Nat} (hR : R ≠ 1) (x : (⟨2, ![R, 1]⟩ : Shape).Idx → α) (h : (⟨2, ![R, 1]⟩ : Shape).Broadcasts ⟨2, ![R, C]⟩) (i : Fin R) (j : Fin C) :
    broadcastTo ⟨2, ![R, C]⟩ x h (ix2 i j) = x (ix2 i 0) :=
  broadcastTo_apply x h (ix2 i j) (ix2 i 0) (fun a => match a with
    | ⟨0, _⟩ => by show i.val = if R = 1 then 0 else i.val; rw [if_neg hR]
    | ⟨1, _⟩ => by show 0 = if (1 : Nat) = 1 then 0 else j.val; rw [if_pos rfl])
theorem bcRow {R C : Nat} (hC : C ≠ 1) (x : (⟨2, ![1, C]⟩ : Shape).Idx → α) (h : (⟨2, ![1, C]⟩ : Shape).Broadcasts ⟨2, ![R, C]⟩) (i : Fin R) (j : Fin C) :
    broadcastTo ⟨2, ![R, C]⟩ x h (ix2 i j) = x (ix2 0 j) :=
  broadcastTo_apply x h (ix2 i j) (ix2 0 j) (fun a => match a with
    | ⟨0, _⟩ => by show 0 = if (1 : Nat) = 1 then 0 else i.val; rw [if_pos rfl]
    | ⟨1, _⟩ => by show j.val = if C = 1 then 0 else j.val; rw [if_neg hC])

/-- The product contracting the left block's lanes with the right block's rows. -/
abbrev dd (R K C : Nat) (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

theorem mm {R K C : Nat} (wf) (p : Option ContractPrecision) {s t : FTy} (x : FVec Ideal ⟨2, ![R, K]⟩ s) (y : FVec Ideal ⟨2, ![K, C]⟩ t)
    (i : Fin R) (j : Fin C) :
    matmul (dd R K C wf) p x y (constant ⟨2, ![R, C]⟩ .f32 0x00000000#32) (ix2 i j) = ∑ k : Fin K, (x (ix2 i k) * y (ix2 k j) : EReal) := by
  refine (Ideal.matmul_constant_zero_apply (dd R K C wf) p x y (ix2 i j)).trans ?_
  rw [← Equiv.sum_comp (contrEquiv1 (dd R K C wf) K rfl rfl).symm]
  refine Finset.sum_congr rfl fun k _ => ?_
  congr 1
  · exact congrArg x (funext fun a => match a with
      | ⟨0, _⟩ => rfl
      | ⟨1, _⟩ => rfl)
  · exact congrArg y (funext fun a => match a with
      | ⟨0, _⟩ => rfl
      | ⟨1, _⟩ => rfl)

/-- A row's sum over the lanes. -/
theorem rowSum {R C : Nat} (x : FVec Ideal ⟨2, ![R, C]⟩ .f32) (h : (⟨2, ![R, C]⟩ : Shape).Reduces [1] ⟨1, ![R]⟩) (a b) (i : Fin R) :
    multiReduction .add [1] ⟨1, ![R]⟩ x 0x00000000#32 h a b (ix1 i) = ∑ k : Fin C, (x (ix2 i k) : EReal) := by
  refine (Ideal.multiReduction_add_single x 0x00000000#32 h a b (ix1 i)).trans ?_
  refine Finset.sum_congr rfl fun k _ => congrArg x (funext fun a => match a with
    | ⟨0, _⟩ => rfl
    | ⟨1, _⟩ => rfl)

/-- The reciprocal root of a row's mean square, with the norm's epsilon. -/
def inv (f : Fin 1024 → EReal) : EReal :=
  FloatOps.rsqrt (F := Ideal) (φ := .f32) (FloatOps.addf (F := Ideal) (φ := .f32)
    (FloatOps.divf (F := Ideal) (φ := .f32) (∑ k, f k * f k : EReal) (FloatOps.ofBits .f32 0x44800000#32)) (FloatOps.ofBits .f32 0x358637BD#32))

/-- A row of the RMS norm. -/
def rms (f g : Fin 1024 → EReal) (j : Fin 1024) : EReal := f j * inv f * g j

/-- A sum over 1024 in halves. -/
theorem halves (f : Fin 1024 → EReal) :
    ∑ k, f k = (∑ k : Fin 512, f ⟨k.val, by omega⟩) + ∑ k : Fin 512, f ⟨512 + k.val, by omega⟩ :=
  Fin.sum_univ_add (a := 512) (b := 512) f

end Lin

end
-- ==== Proof.LastVal.lean ====
module

public import proofs.«01_k».proof.Proof.Lin
public import proofs.«01_k».proof.Proof.Gen.LastIdeal.Value

/-! The last projection and norm over the extended reals: the result array index by index. -/

@[expose] public section

set_option maxRecDepth 16384

noncomputable section

namespace Cert.LastIdeal.Own

open Cert.LastIdeal Cert.LastIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- A row after the output projection. -/
def mixRow (x : Fin 1024 → EReal) (p a : Fin 512 → EReal) (w : Fin 1024 → Fin 1024 → EReal) (j : Fin 1024) : EReal :=
  x j + ((∑ k : Fin 512, p k * w ⟨k.val, by omega⟩ j) + ∑ k : Fin 512, a k * w ⟨512 + k.val, by omega⟩ j)

theorem pay (p : Vec Ideal S1x1024x512 .bf16) (w0 : Vec Ideal S1x512x1024 .bf16) (a : Vec Ideal S1x1024x512 .bf16)
    (w1 : Vec Ideal S1x512x1024 .bf16) (x : Vec Ideal S1x1024x1024 .f32) (g : Vec Ideal S1x1024 .f32)
    (w : Fin 1024 → Fin 1024 → EReal)
    (h0 : ∀ (k : Fin 512) (j : Fin 1024), w0 (ix3 0 k j) = w ⟨k.val, by omega⟩ j)
    (h1 : ∀ (k : Fin 512) (j : Fin 1024), w1 (ix3 0 k j) = w ⟨512 + k.val, by omega⟩ j)
    (u : Fin 1) (r j : Fin 1024) :
    k0_pay1 p w0 a w1 x g (ix3 u r j)
      = Lin.rms (mixRow (fun k => x (ix3 0 r k)) (fun k => p (ix3 0 r k)) (fun k => a (ix3 0 r k)) w) (fun k => g (ix2 0 k)) j := by
  unfold k0_pay1
  dsimp only
  rw [Lin.add3]
  set xn : FVec Ideal S1024x1024 .f32 := addf (shapeCast S1024x1024 x shapeCasts_S1x1024x1024_S1024x1024)
    (addf (matmul dot_S1024x512_S512x1024_S1024x1024_1_0_0_1_n_n none (shapeCast S1024x512 p shapeCasts_S1x1024x512_S1024x512)
        (shapeCast S512x1024 w0 shapeCasts_S1x512x1024_S512x1024) (constant S1024x1024 .f32 0x00000000#32))
      (matmul dot_S1024x512_S512x1024_S1024x1024_1_0_0_1_n_n none (shapeCast S1024x512 a shapeCasts_S1x1024x512_S1024x512)
        (shapeCast S512x1024 w1 shapeCasts_S1x512x1024_S512x1024) (constant S1024x1024 .f32 0x00000000#32))) with hxn
  have e : ∀ k : Fin 1024, xn (ix2 r k)
      = mixRow (fun k => x (ix3 0 r k)) (fun k => p (ix3 0 r k)) (fun k => a (ix3 0 r k)) w k := fun k => by
    have m0 := Lin.mm (s := .bf16) (t := .bf16) dot_S1024x512_S512x1024_S1024x1024_1_0_0_1_n_n.wf none (shapeCast S1024x512 p shapeCasts_S1x1024x512_S1024x512)
      (shapeCast S512x1024 w0 shapeCasts_S1x512x1024_S512x1024) r k
    have m1 := Lin.mm (s := .bf16) (t := .bf16) dot_S1024x512_S512x1024_S1024x1024_1_0_0_1_n_n.wf none (shapeCast S1024x512 a shapeCasts_S1x1024x512_S1024x512)
      (shapeCast S512x1024 w1 shapeCasts_S1x512x1024_S512x1024) r k
    rw [hxn]
    refine (congrArg₂ (fun s t : EReal => s + t) (Lin.drop3 x _ r k) (congrArg₂ (fun s t : EReal => s + t) m0 m1)).trans ?_
    unfold mixRow
    refine congrArg₂ (fun s t : EReal => s + t) rfl (congrArg₂ (fun s t : EReal => s + t) ?_ ?_)
    · refine Finset.sum_congr rfl fun q _ => ?_
      rw [Lin.drop3, Lin.drop3, h0]
    · refine Finset.sum_congr rfl fun q _ => ?_
      rw [Lin.drop3, Lin.drop3, h1]
  clear_value xn
  unfold Lin.rms
  refine congrArg₂ (fun s t : EReal => s * t) (congrArg₂ (fun s t : EReal => s * t) (e j) ?_) ?_
  · rw [Lin.bcCol (by decide)]
    unfold Lin.inv
    refine congrArg (FloatOps.rsqrt (F := Ideal) (φ := .f32)) (congrArg₂ (FloatOps.addf (F := Ideal) (φ := .f32))
      (congrArg₂ (FloatOps.divf (F := Ideal) (φ := .f32)) ?_ rfl) rfl)
    rw [Lin.colCast]
    refine (Lin.rowSum _ _ _ _ _).trans ?_
    refine Finset.sum_congr rfl fun k _ => ?_
    exact congrArg₂ (fun s t : EReal => s * t) (e k) (e k)
  · rw [Lin.bcRow (by decide), shapeCast_self]

theorem out_apply (x0 : Vec Ideal S1x1024x1024 .f32) (x1 x2 : Vec Ideal S1x1024x512 .bf16) (x3 : Vec Ideal S1x1024x1024 .bf16)
    (x4 : Vec Ideal S1x1024 .f32) (u : Fin 1) (r j : Fin 1024) :
    out0_5 x0 x1 x2 x3 x4 (ix3 u r j)
      = Lin.rms (mixRow (fun k => x0 (ix3 0 r k)) (fun k => x1 (ix3 0 r k)) (fun k => x2 (ix3 0 r k)) (fun k j => x3 (ix3 0 k j)))
          (fun k => x4 (ix2 0 k)) j := by
  unfold out0_5
  have z3 : (![0, 0, 0] : Fin 3 → Nat) = fun _ => 0 := by decide
  have z2 : (![0, 0] : Fin 2 → Nat) = fun _ => 0 := by decide
  rw [View.canon_unit_zero z3, View.ld_unit_zero z3, View.ld_unit_zero z3, View.ld_unit_zero z3, View.ld_unit_zero z2]
  refine pay x1 _ x2 _ x0 x4 (fun k j => x3 (ix3 0 k j)) (fun k j => ?_) (fun k j => ?_) u r j
  · exact congrArg x3 (funext fun a => Fin.ext (match a with
      | ⟨0, _⟩ => rfl
      | ⟨1, _⟩ => by show 0 + 1 * k.val = k.val; omega
      | ⟨2, _⟩ => by show 0 + 1 * j.val = j.val; omega))
  · exact congrArg x3 (funext fun a => Fin.ext (match a with
      | ⟨0, _⟩ => rfl
      | ⟨1, _⟩ => by show 512 + 1 * k.val = 512 + k.val; omega
      | ⟨2, _⟩ => by show 0 + 1 * j.val = j.val; omega))

/-- A point's batch and row tile. -/
def bt (t : Fin cfg0.N) : Fin 8 := ⟨(grid0.coords t 0).val, (grid0.coords t 0).isLt⟩
def ti (t : Fin cfg0.N) : Fin 4 := ⟨(grid0.coords t 1).val, (grid0.coords t 1).isLt⟩
/-- A row of a tile, in the sequence. -/
def rw' (p : Fin 4) (r : Fin 1024) : Fin 4096 := ⟨p.val * 1024 + r.val, by omega⟩

theorem point_at : ∀ (b : Fin 8) (p : Fin 4), ∃ t : Fin cfg0.N, bt t = b ∧ ti t = p :=
  (by decide +kernel : ∀ (b : Fin 8) (p : Fin 4), ∃ t : Fin grid0.N, bt t = b ∧ ti t = p)

theorem idx0 : ∀ t : Fin cfg0.N, win0_0.index t (0 : Fin 3) = (bt t).val ∧ win0_0.index t (1 : Fin 3) = (ti t).val ∧ win0_0.index t (2 : Fin 3) = 0 :=
  (by decide +kernel : ∀ t : Fin grid0.N, _)
theorem idx1 : ∀ t : Fin cfg0.N, win0_1.index t (0 : Fin 3) = (bt t).val ∧ win0_1.index t (1 : Fin 3) = (ti t).val ∧ win0_1.index t (2 : Fin 3) = 0 :=
  (by decide +kernel : ∀ t : Fin grid0.N, _)
theorem idx2 : ∀ t : Fin cfg0.N, win0_2.index t (0 : Fin 3) = (bt t).val ∧ win0_2.index t (1 : Fin 3) = (ti t).val ∧ win0_2.index t (2 : Fin 3) = 0 :=
  (by decide +kernel : ∀ t : Fin grid0.N, _)
theorem idx3 : ∀ t : Fin cfg0.N, win0_3.index t (0 : Fin 3) = 3 ∧ win0_3.index t (1 : Fin 3) = 0 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = (bt t).val ∧ win0_5.index t (1 : Fin 3) = (ti t).val ∧ win0_5.index t (2 : Fin 3) = 0 :=
  (by decide +kernel : ∀ t : Fin grid0.N, _)

theorem emb0 (t : Fin cfg0.N) (r k : Fin 1024) : ((cfg0.win 0).blk t).view.emb (ix3 (0 : Fin 1) r k) = ix3 (bt t) (rw' (ti t) r) k := by
  obtain ⟨e0, e1, e2⟩ := idx0 t
  funext a; apply Fin.ext
  match a with
  | ⟨0, _⟩ => show win0_0.index t (0 : Fin 3) * 1 + 1 * 0 = (bt t).val; omega
  | ⟨1, _⟩ => show win0_0.index t (1 : Fin 3) * 1024 + 1 * r.val = (ti t).val * 1024 + r.val; omega
  | ⟨2, _⟩ => show win0_0.index t (2 : Fin 3) * 1024 + 1 * k.val = k.val; omega
theorem emb1 (t : Fin cfg0.N) (r : Fin 1024) (k : Fin 512) : ((cfg0.win 1).blk t).view.emb (ix3 (0 : Fin 1) r k) = ix3 (bt t) (rw' (ti t) r) k := by
  obtain ⟨e0, e1, e2⟩ := idx1 t
  funext a; apply Fin.ext
  match a with
  | ⟨0, _⟩ => show win0_1.index t (0 : Fin 3) * 1 + 1 * 0 = (bt t).val; omega
  | ⟨1, _⟩ => show win0_1.index t (1 : Fin 3) * 1024 + 1 * r.val = (ti t).val * 1024 + r.val; omega
  | ⟨2, _⟩ => show win0_1.index t (2 : Fin 3) * 512 + 1 * k.val = k.val; omega
theorem emb2 (t : Fin cfg0.N) (r : Fin 1024) (k : Fin 512) : ((cfg0.win 2).blk t).view.emb (ix3 (0 : Fin 1) r k) = ix3 (bt t) (rw' (ti t) r) k := by
  obtain ⟨e0, e1, e2⟩ := idx2 t
  funext a; apply Fin.ext
  match a with
  | ⟨0, _⟩ => show win0_2.index t (0 : Fin 3) * 1 + 1 * 0 = (bt t).val; omega
  | ⟨1, _⟩ => show win0_2.index t (1 : Fin 3) * 1024 + 1 * r.val = (ti t).val * 1024 + r.val; omega
  | ⟨2, _⟩ => show win0_2.index t (2 : Fin 3) * 512 + 1 * k.val = k.val; omega
theorem emb3 (t : Fin cfg0.N) (k j : Fin 1024) : ((cfg0.win 3).blk t).view.emb (ix3 (0 : Fin 1) k j) = ix3 (3 : Fin 4) k j := by
  obtain ⟨e0, e1, e2⟩ := idx3 t
  funext a; apply Fin.ext
  match a with
  | ⟨0, _⟩ => show win0_3.index t (0 : Fin 3) * 1 + 1 * 0 = 3; omega
  | ⟨1, _⟩ => show win0_3.index t (1 : Fin 3) * 1024 + 1 * k.val = k.val; omega
  | ⟨2, _⟩ => show win0_3.index t (2 : Fin 3) * 1024 + 1 * j.val = j.val; omega
theorem emb4 (t : Fin cfg0.N) (j : Fin 1024) : ((cfg0.win 4).blk t).view.emb (ix2 (0 : Fin 1) j) = ix2 (0 : Fin 1) j := by
  obtain ⟨e0, e1⟩ := idx4 t
  funext a; apply Fin.ext
  match a with
  | ⟨0, _⟩ => show win0_4.index t (0 : Fin 2) * 1 + 1 * 0 = 0; omega
  | ⟨1, _⟩ => show win0_4.index t (1 : Fin 2) * 1024 + 1 * j.val = j.val; omega
theorem emb5 (t : Fin cfg0.N) (r k : Fin 1024) : ((cfg0.win 5).blk t).view.emb (ix3 (0 : Fin 1) r k) = ix3 (bt t) (rw' (ti t) r) k := by
  obtain ⟨e0, e1, e2⟩ := idx5 t
  funext a; apply Fin.ext
  match a with
  | ⟨0, _⟩ => show win0_5.index t (0 : Fin 3) * 1 + 1 * 0 = (bt t).val; omega
  | ⟨1, _⟩ => show win0_5.index t (1 : Fin 3) * 1024 + 1 * r.val = (ti t).val * 1024 + r.val; omega
  | ⟨2, _⟩ => show win0_5.index t (2 : Fin 3) * 1024 + 1 * k.val = k.val; omega

/-- The arguments' arrays. -/
abbrev aX (c : Dev nD) : S8x4096x1024.Idx → EReal := m ((c : Thread nD τ).loc main_arg0)
abbrev aP (c : Dev nD) : S8x4096x512.Idx → EReal := m ((c : Thread nD τ).loc main_arg1)
abbrev aA (c : Dev nD) : S8x4096x512.Idx → EReal := m ((c : Thread nD τ).loc main_arg2)
abbrev aW (c : Dev nD) : S4x1024x1024.Idx → EReal := m ((c : Thread nD τ).loc main_arg3)
abbrev aG (c : Dev nD) : S1024.Idx → EReal := m ((c : Thread nD τ).loc main_arg4)

theorem V_main_v0 (c : Dev nD) : (V m c main_v0 : S8x4096x512.Idx → EReal) = aP m c := by
  unfold V hostOps0; after_results; rfl
theorem V_main_v1 (c : Dev nD) : (V m c main_v1 : S8x4096x512.Idx → EReal) = aA m c := by
  unfold V hostOps0; after_results; rfl
theorem V_main_v2 (c : Dev nD) : (V m c main_v2 : S4x1024x1024.Idx → EReal) = aW m c := by
  unfold V hostOps0; after_results; rfl
theorem V_main_v3 (c : Dev nD) (j : Fin 1024) : (V m c main_v3 : S1x1024.Idx → EReal) (ix2 0 j) = aG m c (ix1 j) := by
  unfold V hostOps0; after_results
  exact broadcastInDim_apply _ _ _ _ (ix1 j) (fun a => match a with
    | ⟨0, _⟩ => rfl)

theorem blk0 (c : Dev nD) (t : Fin cfg0.N) (r k : Fin 1024) : iblk m c 0 t (ix3 (0 : Fin 1) r k) = aX m c (ix3 (bt t) (rw' (ti t) r) k) := by
  show V m c main_arg0 (((cfg0.win 0).blk t).view.emb (ix3 (0 : Fin 1) r k)) = _
  rw [emb0, V_main_arg0]
theorem blk1 (c : Dev nD) (t : Fin cfg0.N) (r : Fin 1024) (k : Fin 512) : iblk m c 1 t (ix3 (0 : Fin 1) r k) = aP m c (ix3 (bt t) (rw' (ti t) r) k) := by
  show V m c main_v0 (((cfg0.win 1).blk t).view.emb (ix3 (0 : Fin 1) r k)) = _
  rw [emb1]; exact congrFun (V_main_v0 m c) _
theorem blk2 (c : Dev nD) (t : Fin cfg0.N) (r : Fin 1024) (k : Fin 512) : iblk m c 2 t (ix3 (0 : Fin 1) r k) = aA m c (ix3 (bt t) (rw' (ti t) r) k) := by
  show V m c main_v1 (((cfg0.win 2).blk t).view.emb (ix3 (0 : Fin 1) r k)) = _
  rw [emb2]; exact congrFun (V_main_v1 m c) _
theorem blk3 (c : Dev nD) (t : Fin cfg0.N) (k j : Fin 1024) : iblk m c 3 t (ix3 (0 : Fin 1) k j) = aW m c (ix3 3 k j) := by
  show V m c main_v2 (((cfg0.win 3).blk t).view.emb (ix3 (0 : Fin 1) k j)) = _
  rw [emb3]; exact congrFun (V_main_v2 m c) _
theorem blk4 (c : Dev nD) (t : Fin cfg0.N) (j : Fin 1024) : iblk m c 4 t (ix2 (0 : Fin 1) j) = aG m c (ix1 j) := by
  show V m c main_v3 (((cfg0.win 4).blk t).view.emb (ix2 (0 : Fin 1) j)) = _
  rw [emb4]; exact V_main_v3 m c j

/-- The result array, from the arguments'. -/
def result (X : S8x4096x1024.Idx → EReal) (P A : S8x4096x512.Idx → EReal) (W : S4x1024x1024.Idx → EReal) (G : S1024.Idx → EReal) :
    S8x4096x1024.Idx → EReal := fun i =>
  Lin.rms (mixRow (fun k => X (ix3 (i 0) (i 1) k)) (fun k => P (ix3 (i 0) (i 1) k)) (fun k => A (ix3 (i 0) (i 1) k)) (fun k j => W (ix3 3 k j)))
    (fun k => G (ix1 k)) (i 2)

theorem block_eq (c : Dev nD) (t : Fin cfg0.N) (r j : Fin 1024) :
    result (aX m c) (aP m c) (aA m c) (aW m c) (aG m c) (ix3 (bt t) (rw' (ti t) r) j)
      = out0_5 (iblk m c 0 t) (iblk m c 1 t) (iblk m c 2 t) (iblk m c 3 t) (iblk m c 4 t) (ix3 (0 : Fin 1) r j) := by
  refine Eq.symm ((out_apply _ _ _ _ _ 0 r j).trans ?_)
  simp only [blk0, blk1, blk2, blk3, blk4]
  rfl

theorem covered (i : S8x4096x1024.Idx) : ∃ t : Fin cfg0.N, (cfg0.win 5).flush t = true ∧ i ∈ ((cfg0.win 5).blk t).view.set := by
  have hi : (i 1).val < 4096 := (i 1).isLt
  obtain ⟨t, hb, hp⟩ := point_at (i 0) ⟨(i 1).val / 1024, by omega⟩
  refine ⟨t, (by decide +kernel : ∀ t : Fin grid0.N, win0_5.flush t = true) t, ?_⟩
  have hm := View.emb_mem_set ((cfg0.win 5).blk t).view (ix3 (0 : Fin 1) (⟨(i 1).val % 1024, by omega⟩ : Fin 1024) (i 2))
  have h : ((cfg0.win 5).blk t).view.emb (ix3 (0 : Fin 1) (⟨(i 1).val % 1024, by omega⟩ : Fin 1024) (i 2)) = i := by
    refine (emb5 t _ _).trans ?_
    rw [hb, hp]
    funext a; apply Fin.ext
    match a with
    | ⟨0, _⟩ => rfl
    | ⟨1, _⟩ => show (i 1).val / 1024 * 1024 + (i 1).val % 1024 = (i 1).val; omega
    | ⟨2, _⟩ => rfl
  exact h ▸ hm

theorem flushed_eq (c : Dev nD) (t : Fin cfg0.N) :
    (dats m 0 c).flushed 5 t = ((cfg0.win 5).blk t).view.read (Elt Ideal) (result (aX m c) (aP m c) (aA m c) (aW m c) (aG m c)) := by
  rw [Value.flushed5]
  funext y
  obtain ⟨u, r, j, rfl⟩ : ∃ (u : Fin 1) (r j : Fin 1024), y = ix3 u r j := ⟨y 0, y 1, y 2, eq_ix3 y⟩
  obtain rfl : u = 0 := Subsingleton.elim _ _
  refine (block_eq m c t r j).symm.trans ?_
  exact congrArg (result (aX m c) (aP m c) (aA m c) (aW m c) (aG m c)) (emb5 t r j).symm

theorem final (c : Dev nD) : (dats m 0 c).arrAt 5 cfg0.N = result (aX m c) (aP m c) (aA m c) (aW m c) (aG m c) :=
  (dats m 0 c).arrAt_eq_of_cover 5 _ (fun t _ => flushed_eq m c t) covered

end Cert.LastIdeal.Own

end
-- ==== Proof.LastClaim.lean ====
module

public import proofs.«01_k».proof.Defs
public import proofs.«01_k».proof.Proof.LastVal
public import proofs.«01_k».proof.Proof.Gen.LastReferenceIdeal.Run
public import proofs.«01_k».proof.Proof.Gen.LastReferenceIdeal.Read

/-! The last projection and norm: the two programs end with the same result. -/

@[expose] public section

set_option maxRecDepth 16384

noncomputable section

namespace Cert.LastReferenceIdeal.Own

open Cert.LastReferenceIdeal Cert.LastReferenceIdeal.Gen Cert.LastReferenceIdeal.Read Idealize.ShloMosaic Idealize.ShloMosaic.ValueIdx
open Cert.LastIdeal.Own (mixRow result)

variable (X : S8x4096x1024.Idx → EReal) (P A : S8x4096x512.Idx → EReal) (W : S4x1024x1024.Idx → EReal) (G : S1024.Idx → EReal)
variable (b : Fin 8) (s : Fin 4096)

theorem cat_lo (k : Fin 512) : val_main_v0 (F := Ideal) P A (ix3 b s (⟨k.val, by omega⟩ : Fin 1024)) = P (ix3 b s k) := by
  unfold val_main_v0
  exact concatenate_pair_apply_left (t := S8x4096x1024) (s₁ := S8x4096x512) (s₂ := S8x4096x512) 2 P A _
    (ix3 b s (⟨k.val, by omega⟩ : Fin 1024)) rfl (ix3 b s k)
    (fun a => match a with
      | ⟨0, _⟩ => rfl
      | ⟨1, _⟩ => rfl
      | ⟨2, _⟩ => rfl)
theorem cat_hi (k : Fin 512) : val_main_v0 (F := Ideal) P A (ix3 b s (⟨512 + k.val, by omega⟩ : Fin 1024)) = A (ix3 b s k) := by
  unfold val_main_v0
  exact concatenate_pair_apply_right (t := S8x4096x1024) (s₁ := S8x4096x512) (s₂ := S8x4096x512) 2 P A _
    (ix3 b s (⟨512 + k.val, by omega⟩ : Fin 1024)) rfl rfl (ix3 b s k)
    (fun a => match a with
      | ⟨0, _⟩ => fun _ => rfl
      | ⟨1, _⟩ => fun _ => rfl
      | ⟨2, _⟩ => fun h => absurd rfl h) (by show k.val + 512 = 512 + k.val; omega)

theorem w_apply (k j : Fin 1024) : val_main_v2 (F := Ideal) W (ix2 k j) = W (ix3 3 k j) := by
  rw [val_main_v2_apply, val_main_v1_apply]
  have h0 : k.val < 1024 := k.isLt
  have h1 : j.val < 1024 := j.isLt
  refine congrArg W (funext fun a => Fin.ext ?_)
  match a with
  | ⟨0, _⟩ => rfl
  | ⟨1, _⟩ => show (k.val * 1024 + j.val) / 1024 % 1024 = k.val; omega
  | ⟨2, _⟩ => show (k.val * 1024 + j.val) % 1024 = j.val; omega

theorem mix_apply (j : Fin 1024) : val_main_v4 (F := Ideal) X P A W (ix3 b s j)
    = mixRow (fun k => X (ix3 b s k)) (fun k => P (ix3 b s k)) (fun k => A (ix3 b s k)) (fun k j => W (ix3 3 k j)) j := by
  rw [val_main_v4_apply, val_main_v3_apply, Lin.halves]
  unfold mixRow
  refine congrArg₂ (fun s t : EReal => s + t) rfl (congrArg₂ (fun s t : EReal => s + t) ?_ ?_)
  · refine Finset.sum_congr rfl fun k _ => congrArg₂ (fun s t : EReal => s * t) ?_ ?_
    · refine Eq.trans (congrArg _ (funext fun a => ?_)) (cat_lo P A b s k)
      match a with
      | ⟨0, _⟩ => rfl
      | ⟨1, _⟩ => rfl
      | ⟨2, _⟩ => rfl
    · refine Eq.trans (congrArg _ (funext fun a => ?_)) (w_apply W ⟨k.val, by omega⟩ j)
      match a with
      | ⟨0, _⟩ => rfl
      | ⟨1, _⟩ => rfl
  · refine Finset.sum_congr rfl fun k _ => congrArg₂ (fun s t : EReal => s * t) ?_ ?_
    · refine Eq.trans (congrArg _ (funext fun a => ?_)) (cat_hi P A b s k)
      match a with
      | ⟨0, _⟩ => rfl
      | ⟨1, _⟩ => rfl
      | ⟨2, _⟩ => rfl
    · refine Eq.trans (congrArg _ (funext fun a => ?_)) (w_apply W ⟨512 + k.val, by omega⟩ j)
      match a with
      | ⟨0, _⟩ => rfl
      | ⟨1, _⟩ => rfl

theorem result_eq : (val_main_v17 (F := Ideal) X P A W G : S8x4096x1024.Idx → EReal) = result X P A W G := by
  funext i
  obtain ⟨b, s, j, rfl⟩ : ∃ (b : Fin 8) (s : Fin 4096) (j : Fin 1024), i = ix3 b s j := ⟨i 0, i 1, i 2, eq_ix3 i⟩
  rw [val_main_v17_apply, val_main_v14_apply, mix_apply, val_main_v13_apply, val_main_v12_apply, val_main_v11_apply, val_main_v9_apply,
    val_main_v7_apply, val_main_v6_apply, val_main_v8_apply, val_main_v10_apply, val_main_v16_apply, val_main_v15_apply]
  have e : ∀ k : Fin 1024, val_main_v5 (F := Ideal) X P A W (idx_main_v6 (idx_main_v7 (idx_main_v13 (ix3 b s j))) k)
      = (mixRow (fun k => X (ix3 b s k)) (fun k => P (ix3 b s k)) (fun k => A (ix3 b s k)) (fun k j => W (ix3 3 k j)) k
        * mixRow (fun k => X (ix3 b s k)) (fun k => P (ix3 b s k)) (fun k => A (ix3 b s k)) (fun k j => W (ix3 3 k j)) k : EReal) := fun k => by
    have h : idx_main_v6 (idx_main_v7 (idx_main_v13 (ix3 b s j))) k = ix3 b s k := funext fun a => match a with
      | ⟨0, _⟩ => rfl
      | ⟨1, _⟩ => rfl
      | ⟨2, _⟩ => rfl
    rw [val_main_v5_apply, h, mix_apply]
    rfl
  rw [Finset.sum_congr rfl fun k _ => e k]
  have z : (val_main_cst (F := Ideal) (Shape.Idx.first h_S_) : EReal) = 0 := Ideal.ofBits_zero_f32
  rw [z, zero_add]
  refine congrArg₂ (fun s t : EReal => s * t) (congrArg₂ (fun s t : EReal => s * t) rfl ?_) ?_
  · rfl
  · exact congrArg G (funext fun a => match a with
      | ⟨0, _⟩ => rfl)

end Cert.LastReferenceIdeal.Own

namespace Cert.Own

open Idealize.ShloMosaic Idealize.ShloMosaic.TcCoe Idealize.SL.Sem

theorem last_algebraic : Cert.algebraic_LastIdeal_LastReferenceIdeal := by
  intro m ρ m' ρ' _ hagree
  refine ⟨_, (θ_run Cert.LastIdeal.defs _ _).mono (fun _ h c => ⟨(h c).1.trans (Cert.LastIdeal.Own.final m c), (h c).2⟩)
    (Cert.LastIdeal.Value.run_blocks (F := Ideal) m ρ), ?_⟩
  refine (θ_run Cert.LastReferenceIdeal.defs _ _).mono (fun _ h c => ⟨(h c).1.trans ?_, (h c).2⟩)
    (Cert.LastReferenceIdeal.Value.run (F := Ideal) m' ρ')
  obtain ⟨e0, e1, e2, e3, e4⟩ := hagree c
  refine (Cert.LastReferenceIdeal.Read.val_main_v17_eq _ _ _ _ _).trans ?_
  rw [e0, e1, e2, e3, e4]
  exact Cert.LastReferenceIdeal.Own.result_eq _ _ _ _ _

end Cert.Own

end
-- ==== Proof.Proj.lean ====
module

public import proofs.«01_k».proof.Proof.Lin
public import Idealize.ShloMosaic.Lib.Pipeline.ValueKit
public import Idealize.ShloMosaic.Lib.Pipeline.ReadBack

/-! The blocks that the projection calls compute, as functions of the blocks they read. -/

@[expose] public section

set_option maxRecDepth 16384

noncomputable section

namespace Proj

open Idealize.ShloMosaic Idealize.ShloMosaic.TcCoe Idealize.ShloMosaic.ValueIdx

abbrev B2 (R C : Nat) (φ : FTy) := FVec Ideal ⟨2, ![R, C]⟩ φ
abbrev B3 (R C : Nat) (φ : FTy) := FVec Ideal ⟨3, ![1, R, C]⟩ φ

theorem cat4 : Shape.Concatenates [⟨2, ![1024, 128]⟩, ⟨2, ![1024, 128]⟩, ⟨2, ![1024, 128]⟩, ⟨2, ![1024, 128]⟩] ⟨2, ![1024, 512]⟩ 1 := by decide
theorem cat8 : Shape.Concatenates [⟨2, ![8, 1024]⟩, ⟨2, ![8, 1024]⟩, ⟨2, ![8, 1024]⟩, ⟨2, ![8, 1024]⟩] ⟨2, ![32, 1024]⟩ 0 := by decide

/-- A product with the zero accumulator. -/
def mulT {R K C : Nat} {s t : FTy} (wf : DotDims.WF ⟨2, ![R, K]⟩ ⟨2, ![K, C]⟩ ⟨2, ![R, C]⟩ [1] [0] [0] [1] [] [])
    (x : B2 R K s) (y : B2 K C t) : B2 R C .f32 :=
  matmul (Lin.dd R K C wf) none x y (constant ⟨2, ![R, C]⟩ .f32 0x00000000#32)

/-- The rows after the output projection of the layer before. -/
def mixT (p : B3 1024 512 .bf16) (w0 : B3 512 1024 .bf16) (a : B3 1024 512 .bf16) (w1 : B3 512 1024 .bf16) (x : B3 1024 1024 .f32) : B2 1024 1024 .f32 :=
  addf (shapeCast ⟨2, ![1024, 1024]⟩ x (by decide))
    (addf (mulT (by decide) (shapeCast ⟨2, ![1024, 512]⟩ p (by decide)) (shapeCast ⟨2, ![512, 1024]⟩ w0 (by decide)))
      (mulT (by decide) (shapeCast ⟨2, ![1024, 512]⟩ a (by decide)) (shapeCast ⟨2, ![512, 1024]⟩ w1 (by decide))))

/-- The norm of a block's rows. -/
def normT (x : B2 1024 1024 .f32) (g : B3 1 1024 .f32) : B2 1024 1024 .bf16 :=
  truncf (F := Ideal) .bf16
    (mulf (mulf x (broadcastTo ⟨2, ![1024, 1024]⟩
        (rsqrt (addf (divf (shapeCast ⟨2, ![1024, 1]⟩
            (multiReduction .add [1] ⟨1, ![1024]⟩ (mulf x x) 0x00000000#32 (by decide) (.inl rfl) rfl) (by decide))
          (broadcast ⟨2, ![1024, 1]⟩ (Scalar.ofBits (F := Ideal) .f32 0x44800000#32)))
          (broadcast ⟨2, ![1024, 1]⟩ (Scalar.ofBits (F := Ideal) .f32 0x358637BD#32)))) (by decide)))
      (broadcastTo ⟨2, ![1024, 1024]⟩ (shapeCast ⟨2, ![1, 1024]⟩ g (by decide)) (by decide))) (by decide)

/-- The projection onto 1536 columns, onto 128 columns, and 512 of the 1536. -/
def wideT (h : B2 1024 1024 .bf16) (w : B3 1024 1536 .bf16) : B2 1024 1536 .f32 :=
  mulT (by decide) h (shapeCast ⟨2, ![1024, 1536]⟩ w (by decide))
def zT (h : B2 1024 1024 .bf16) (w : B3 1024 128 .bf16) : B2 1024 128 .f32 :=
  mulT (by decide) h (shapeCast ⟨2, ![1024, 128]⟩ w (by decide))
def colsT (o : Nat) (y : B2 1024 1536 .f32) (hs : (⟨2, ![1024, 1536]⟩ : Shape).Slices ![0, o] ⟨2, ![1024, 512]⟩) : B2 1024 512 .f32 :=
  extractStridedSlice ⟨2, ![1024, 512]⟩ ![0, o] y hs
def outT (y : B2 1024 512 .f32) : B3 1024 512 .f32 := shapeCast ⟨3, ![1, 1024, 512]⟩ y (by decide)
def outbT (y : B2 1024 512 .f32) : B3 1024 512 .bf16 :=
  shapeCast ⟨3, ![1, 1024, 512]⟩ (truncf (F := Ideal) .bf16 y (by decide)) (by decide)

/-- One doubling of the window. -/
def rollT (b : BitVec 32) (y : B2 1040 128 .f32) : B2 1040 128 .f32 := addf y (dynamicRotate 0 b none y (by decide))
/-- How many rows the window holds. -/
def cntT (i1 : Nat) (w : BitVec 32) : B2 1024 1 .f32 :=
  sitofp .f32 (minsi (addi (addi (broadcast ⟨2, ![1024, 1]⟩ (Scalar.muli (BitVec.ofNat 32 i1) 1024#32)) (iota .tc ⟨2, ![1024, 1]⟩ 32 [0] (by decide)))
    (broadcast ⟨2, ![1024, 1]⟩ 1#32)) (broadcast ⟨2, ![1024, 1]⟩ w))
/-- The window's mean less the row, through the group's map. -/
def deltaT (s : B2 1040 128 .f32) (n : B2 1024 1 .f32) (u : B2 1024 512 .f32) (o : Nat)
    (ho : (⟨2, ![1024, 512]⟩ : Shape).Slices ![0, o] ⟨2, ![1024, 128]⟩) : B2 1024 128 .bf16 :=
  truncf (F := Ideal) .bf16 (subf (divf (extractStridedSlice ⟨2, ![1024, 128]⟩ ![16, 0] s (by decide)) (broadcastTo ⟨2, ![1024, 128]⟩ n (by decide)))
    (extractStridedSlice ⟨2, ![1024, 128]⟩ ![0, o] u ho)) (by decide)
def groupT (d : B2 1024 128 .bf16) (w : FVec Ideal ⟨4, ![1, 1, 128, 128]⟩ .bf16) : B2 1024 128 .f32 :=
  mulT (by decide) d (shapeCast ⟨2, ![128, 128]⟩ w (by decide))
/-- The groups side by side, scaled and gated. -/
def poT (gate : B2 1024 512 .f32) (p0 p1 p2 p3 : B2 1024 128 .f32) (ps : B3 1 512 .f32) : B3 1024 512 .bf16 :=
  shapeCast ⟨3, ![1, 1024, 512]⟩ (truncf (F := Ideal) .bf16
    (mulf (mulf (concatenate ⟨2, ![1024, 512]⟩ 1 [⟨⟨2, ![1024, 128]⟩, p0⟩, ⟨⟨2, ![1024, 128]⟩, p1⟩, ⟨⟨2, ![1024, 128]⟩, p2⟩, ⟨⟨2, ![1024, 128]⟩, p3⟩] cat4)
        (broadcastTo ⟨2, ![1024, 512]⟩ (shapeCast ⟨2, ![1, 512]⟩ ps (by decide)) (by decide)))
      (mulf gate (divf (broadcast ⟨2, ![1024, 512]⟩ (Scalar.ofBits (F := Ideal) .f32 0x3F800000#32))
        (addf (broadcast ⟨2, ![1024, 512]⟩ (Scalar.ofBits (F := Ideal) .f32 0x3F800000#32))
          (exp (subf (broadcast ⟨2, ![1024, 512]⟩ (Scalar.ofBits (F := Ideal) .f32 0x00000000#32)) gate)))))) (by decide)) (by decide)
def poolT (i1 : Nat) (gate u : B2 1024 512 .f32) (e0 e1 e2 e3 : B2 1040 128 .f32)
    (w0 w1 w2 w3 : FVec Ideal ⟨4, ![1, 1, 128, 128]⟩ .bf16) (ps : B3 1 512 .f32) : B3 1024 512 .bf16 :=
  poT gate (groupT (deltaT (rollT 1#32 e0) (cntT i1 2#32) u 0 (by decide)) w0)
    (groupT (deltaT (rollT 2#32 (rollT 1#32 e1)) (cntT i1 4#32) u 128 (by decide)) w1)
    (groupT (deltaT (rollT 4#32 (rollT 2#32 (rollT 1#32 e2))) (cntT i1 8#32) u 256 (by decide)) w2)
    (groupT (deltaT (rollT 8#32 (rollT 4#32 (rollT 2#32 (rollT 1#32 e3)))) (cntT i1 16#32) u 384 (by decide)) w3) ps

/-- The log forget gates, heads by rows, and their three parts. -/
def logT (z : B2 1024 128 .f32) (fb : B3 8 1 .f32) : B2 8 1024 .f32 :=
  let v := addf (extractStridedSlice ⟨2, ![8, 1024]⟩ ![0, 0] (transpose ⟨2, ![128, 1024]⟩ [1, 0] z (by decide)) (by decide))
    (broadcastTo ⟨2, ![8, 1024]⟩ (shapeCast ⟨2, ![8, 1]⟩ fb (by decide)) (by decide))
  subf (minimumf v (broadcast ⟨2, ![8, 1024]⟩ (Scalar.ofBits (F := Ideal) .f32 0x00000000#32)))
    (log1p (exp (subf (broadcast ⟨2, ![8, 1024]⟩ (Scalar.ofBits (F := Ideal) .f32 0x00000000#32)) (absf v))))
def partsT (f : B2 8 1024 .f32) : B2 32 1024 .bf16 :=
  let hi := extf .f32 (truncf (F := Ideal) .bf16 f (by decide)) (by decide)
  let r := subf f hi
  let mid := extf .f32 (truncf (F := Ideal) .bf16 r (by decide)) (by decide)
  truncf (F := Ideal) .bf16 (concatenate ⟨2, ![32, 1024]⟩ 0 [⟨⟨2, ![8, 1024]⟩, hi⟩, ⟨⟨2, ![8, 1024]⟩, mid⟩, ⟨⟨2, ![8, 1024]⟩, subf r mid⟩,
    ⟨⟨2, ![8, 1024]⟩, broadcast ⟨2, ![8, 1024]⟩ (Scalar.ofBits (F := Ideal) .f32 0x00000000#32)⟩] cat8) (by decide)
/-- 128 columns of the parts times the prefix matrix, its parts added. -/
def resT (p : B2 32 1024 .bf16) (o : Nat) (ho : (⟨2, ![32, 1024]⟩ : Shape).Slices ![0, o] ⟨2, ![32, 128]⟩) (m : B2 128 256 .bf16) : B2 8 256 .f32 :=
  let v := mulT (by decide) (extractStridedSlice ⟨2, ![32, 128]⟩ ![0, o] p ho) (shapeCast ⟨2, ![128, 256]⟩ m (by decide))
  addf (addf (extractStridedSlice ⟨2, ![8, 256]⟩ ![0, 0] v (by decide)) (extractStridedSlice ⟨2, ![8, 256]⟩ ![8, 0] v (by decide)))
    (extractStridedSlice ⟨2, ![8, 256]⟩ ![16, 0] v (by decide))
def blockT (p : B2 32 1024 .bf16) (o : Nat) (ho : (⟨2, ![32, 1024]⟩ : Shape).Slices ![0, o] ⟨2, ![32, 128]⟩) (m : B2 128 256 .bf16) (acc : B2 8 128 .f32) : B3 8 128 .f32 :=
  shapeCast ⟨3, ![1, 8, 128]⟩ (addf (extractStridedSlice ⟨2, ![8, 128]⟩ ![0, 0] (resT p o ho m) (by decide)) acc) (by decide)
def stepT (p : B2 32 1024 .bf16) (o : Nat) (ho : (⟨2, ![32, 1024]⟩ : Shape).Slices ![0, o] ⟨2, ![32, 128]⟩) (m : B2 128 256 .bf16) (acc : B2 8 128 .f32) : B2 8 128 .f32 :=
  addf acc (extractStridedSlice ⟨2, ![8, 128]⟩ ![0, 128] (resT p o ho m) (by decide))
/-- The carried sums after each of the eight steps. -/
def car1 (p : B2 32 1024 .bf16) (m : B2 128 256 .bf16) (acc : B2 8 128 .f32) : B2 8 128 .f32 := stepT p 0 (by decide) m acc
def car2 (p : B2 32 1024 .bf16) (m : B2 128 256 .bf16) (acc : B2 8 128 .f32) : B2 8 128 .f32 := stepT p 128 (by decide) m (car1 p m acc)
def car3 (p : B2 32 1024 .bf16) (m : B2 128 256 .bf16) (acc : B2 8 128 .f32) : B2 8 128 .f32 := stepT p 256 (by decide) m (car2 p m acc)
def car4 (p : B2 32 1024 .bf16) (m : B2 128 256 .bf16) (acc : B2 8 128 .f32) : B2 8 128 .f32 := stepT p 384 (by decide) m (car3 p m acc)
def car5 (p : B2 32 1024 .bf16) (m : B2 128 256 .bf16) (acc : B2 8 128 .f32) : B2 8 128 .f32 := stepT p 512 (by decide) m (car4 p m acc)
def car6 (p : B2 32 1024 .bf16) (m : B2 128 256 .bf16) (acc : B2 8 128 .f32) : B2 8 128 .f32 := stepT p 640 (by decide) m (car5 p m acc)
def car7 (p : B2 32 1024 .bf16) (m : B2 128 256 .bf16) (acc : B2 8 128 .f32) : B2 8 128 .f32 := stepT p 768 (by decide) m (car6 p m acc)
def car8 (p : B2 32 1024 .bf16) (m : B2 128 256 .bf16) (acc : B2 8 128 .f32) : B2 8 128 .f32 := stepT p 896 (by decide) m (car7 p m acc)

/-- 128 columns of the buffer of rows under their halo: after both are stored, and after the rows are stored over an earlier buffer. -/
def extA {sig : RefSig} {κ : Kind} {sp : Space} (v : View sig κ sp ⟨2, ![1040, 512]⟩ .f32) (u : B2 1024 512 .f32) (h : B2 16 512 .f32) (o : Nat)
    (inb : ∀ a, (![0, o] : Fin 2 → Nat) a + (![1040, 128] : Fin 2 → Nat) a ≤ (![1040, 512] : Fin 2 → Nat) a) : B2 1040 128 .f32 :=
  fun y => View.readCov (Val := Elt Ideal) v
    [⟨Rect.unit (s := ⟨2, ![1040, 512]⟩) ![16, 0] ![1024, 512] (by decide), u⟩, ⟨Rect.unit (s := ⟨2, ![1040, 512]⟩) ![0, 0] ![16, 512] (by decide), h⟩]
    (Rect.unit (s := ⟨2, ![1040, 512]⟩) ![0, o] ![1040, 128] inb).toLoadRect y
def extB {sig : RefSig} {κ : Kind} {sp : Space} (v : View sig κ sp ⟨2, ![1040, 512]⟩ .f32) (f : v.ty.Contents (Elt Ideal)) (u : B2 1024 512 .f32) (o : Nat)
    (inb : ∀ a, (![0, o] : Fin 2 → Nat) a + (![1040, 128] : Fin 2 → Nat) a ≤ (![1040, 512] : Fin 2 → Nat) a) : B2 1040 128 .f32 :=
  fun y => View.ld (View.read (Elt Ideal) v (v.writes (Elt Ideal) f [⟨Rect.unit (s := ⟨2, ![1040, 512]⟩) ![16, 0] ![1024, 512] (by decide), u⟩]))
    (Rect.unit (s := ⟨2, ![1040, 512]⟩) ![0, o] ![1040, 128] inb) y
/-- The first buffer's zero halo and the rows as stored. -/
def zeroT : B2 16 512 .f32 := shapeCast ⟨2, ![16, 512]⟩ (broadcast ⟨2, ![16, 512]⟩ (Scalar.ofBits (F := Ideal) .f32 0x00000000#32)) (by decide)
def selfT {R C : Nat} (u : B2 R C .f32) : B2 R C .f32 := shapeCast ⟨2, ![R, C]⟩ u rfl
/-- The last sixteen rows. -/
def tailT (u : B2 1024 512 .f32) : B2 16 512 .f32 := selfT (extractStridedSlice ⟨2, ![16, 512]⟩ ![1008, 0] u (by decide))

end Proj

end
-- ==== Proof.ProjVal.lean ====
module

public import proofs.«01_k».proof.Proof.Proj
public import Idealize.ShloMosaic.Lib.KernelVsHost

/-! The projection blocks index by index. -/

@[expose] public section

set_option maxRecDepth 16384

noncomputable section

namespace Proj

open Idealize.ShloMosaic Idealize.ShloMosaic.TcCoe

theorem mulT_apply {R K C : Nat} {s t : FTy} (wf) (x : B2 R K s) (y : B2 K C t) (i : Fin R) (j : Fin C) :
    mulT wf x y (ValueIdx.ix2 i j) = ∑ k : Fin K, (x (ValueIdx.ix2 i k) * y (ValueIdx.ix2 k j) : EReal) := Lin.mm (s := s) (t := t) wf none x y i j

/-- A row after the output projection. -/
def mix (x : Fin 1024 → EReal) (p a : Fin 512 → EReal) (w : Fin 1024 → Fin 1024 → EReal) (j : Fin 1024) : EReal :=
  x j + ((∑ k : Fin 512, p k * w ⟨k.val, by omega⟩ j) + ∑ k : Fin 512, a k * w ⟨512 + k.val, by omega⟩ j)

theorem mixT_apply (p : B3 1024 512 .bf16) (w0 : B3 512 1024 .bf16) (a : B3 1024 512 .bf16) (w1 : B3 512 1024 .bf16) (x : B3 1024 1024 .f32)
    (w : Fin 1024 → Fin 1024 → EReal)
    (h0 : ∀ (k : Fin 512) (j : Fin 1024), w0 (ValueIdx.ix3 0 k j) = w ⟨k.val, by omega⟩ j)
    (h1 : ∀ (k : Fin 512) (j : Fin 1024), w1 (ValueIdx.ix3 0 k j) = w ⟨512 + k.val, by omega⟩ j) (r j : Fin 1024) :
    mixT p w0 a w1 x (ValueIdx.ix2 r j) = mix (fun k => x (ValueIdx.ix3 0 r k)) (fun k => p (ValueIdx.ix3 0 r k)) (fun k => a (ValueIdx.ix3 0 r k)) w j := by
  unfold mixT mix
  refine congrArg₂ (fun s t : EReal => s + t) (Lin.drop3 x _ r j) (congrArg₂ (fun s t : EReal => s + t) ?_ ?_)
  · refine (mulT_apply _ _ _ r j).trans (Finset.sum_congr rfl fun k _ => ?_)
    rw [Lin.drop3, Lin.drop3, h0]
  · refine (mulT_apply _ _ _ r j).trans (Finset.sum_congr rfl fun k _ => ?_)
    rw [Lin.drop3, Lin.drop3, h1]

theorem normT_apply (x : B2 1024 1024 .f32) (g : B3 1 1024 .f32) (r j : Fin 1024) :
    normT x g (ValueIdx.ix2 r j) = Lin.rms (fun k => x (ValueIdx.ix2 r k)) (fun k => g (ValueIdx.ix3 0 0 k)) j := by
  unfold normT Lin.rms
  refine congrArg₂ (fun s t : EReal => s * t) (congrArg₂ (fun s t : EReal => s * t) rfl ?_) ?_
  · rw [Lin.bcCol (by decide)]
    unfold Lin.inv
    refine congrArg (FloatOps.rsqrt (F := Ideal) (φ := .f32)) (congrArg₂ (FloatOps.addf (F := Ideal) (φ := .f32))
      (congrArg₂ (FloatOps.divf (F := Ideal) (φ := .f32)) ?_ rfl) rfl)
    rw [Lin.colCast]
    exact Lin.rowSum _ _ _ _ _
  · rw [Lin.bcRow (by decide), Lin.drop3]

theorem wideT_apply (h : B2 1024 1024 .bf16) (w : B3 1024 1536 .bf16) (r : Fin 1024) (j : Fin 1536) :
    wideT h w (ValueIdx.ix2 r j) = ∑ k : Fin 1024, (h (ValueIdx.ix2 r k) * w (ValueIdx.ix3 0 k j) : EReal) :=
  (mulT_apply _ _ _ r j).trans (Finset.sum_congr rfl fun k _ => by rw [Lin.drop3])
theorem zT_apply (h : B2 1024 1024 .bf16) (w : B3 1024 128 .bf16) (r : Fin 1024) (j : Fin 128) :
    zT h w (ValueIdx.ix2 r j) = ∑ k : Fin 1024, (h (ValueIdx.ix2 r k) * w (ValueIdx.ix3 0 k j) : EReal) :=
  (mulT_apply _ _ _ r j).trans (Finset.sum_congr rfl fun k _ => by rw [Lin.drop3])

/-- A slice of a matrix. -/
theorem cut {α : Type} {R C R' C' : Nat} (p q : Nat) (x : (⟨2, ![R, C]⟩ : Shape).Idx → α) (h : (⟨2, ![R, C]⟩ : Shape).Slices ![p, q] ⟨2, ![R', C']⟩)
    (i : Fin R') (j : Fin C') (hi : p + i.val < R) (hj : q + j.val < C) :
    extractStridedSlice ⟨2, ![R', C']⟩ ![p, q] x h (ValueIdx.ix2 i j) = x (ValueIdx.ix2 ⟨p + i.val, hi⟩ ⟨q + j.val, hj⟩) :=
  extractStridedSlice_apply _ x h _ _ (fun a => match a with
    | ⟨0, _⟩ => rfl
    | ⟨1, _⟩ => rfl)

theorem colsT_apply (o : Nat) (y : B2 1024 1536 .f32) (hs) (r : Fin 1024) (j : Fin 512) (hj : o + j.val < 1536) :
    colsT o y hs (ValueIdx.ix2 r j) = y (ValueIdx.ix2 r ⟨o + j.val, hj⟩) :=
  (cut 0 o y hs r j (by omega) hj).trans (congrArg (fun q => y (ValueIdx.ix2 q _)) (Fin.ext (Nat.zero_add _)))
theorem outT_apply (y : B2 1024 512 .f32) (u : Fin 1) (r : Fin 1024) (j : Fin 512) : outT y (ValueIdx.ix3 u r j) = y (ValueIdx.ix2 r j) := Lin.add3 _ _ u r j
theorem outbT_apply (y : B2 1024 512 .f32) (u : Fin 1) (r : Fin 1024) (j : Fin 512) : outbT y (ValueIdx.ix3 u r j) = y (ValueIdx.ix2 r j) := Lin.add3 _ _ u r j
theorem selfT_eq {R C : Nat} (u : B2 R C .f32) : selfT u = u := shapeCast_self u _

/-! ## The trailing windows -/

/-- One doubling: sums of `n` rows become sums of `2 n` rows. -/
theorem rollT_apply (b : BitVec 32) (n : Nat) (hb : b.toNat = n) (hn : n < 1040) (y : B2 1040 128 .f32) (k : Fin 128) (f : ℕ → EReal)
    (hy : ∀ (r : ℕ) (h : r < 1040), n ≤ r + 1 → y (ValueIdx.ix2 ⟨r, h⟩ k) = ∑ i ∈ Finset.range n, f (r - i))
    (r : ℕ) (h : r < 1040) (hr : n + n ≤ r + 1) : rollT b y (ValueIdx.ix2 ⟨r, h⟩ k) = ∑ i ∈ Finset.range (n + n), f (r - i) := by
  unfold rollT
  rw [Finset.sum_range_add]
  refine congrArg₂ (fun s t : EReal => s + t) (hy r h (by omega)) ?_
  by_cases h0 : n = 0
  · subst h0
    refine (dynamicRotate_apply (0 : Fin 2) b y _ (ValueIdx.ix2 ⟨r, h⟩ k) (ValueIdx.ix2 ⟨r, h⟩ k) (fun a => match a with
      | ⟨0, _⟩ => by
        show r = (r + 1040 - b.toNat % 1040) % 1040
        rw [hb]; omega
      | ⟨1, _⟩ => rfl)).trans ?_
    have := hy r h (by omega)
    exact this
  refine (dynamicRotate_apply (0 : Fin 2) b y _ (ValueIdx.ix2 ⟨r, h⟩ k) (ValueIdx.ix2 ⟨r - n, by omega⟩ k) (fun a => match a with
    | ⟨0, _⟩ => by
      show r - n = (r + 1040 - b.toNat % 1040) % 1040
      rw [hb]; omega
    | ⟨1, _⟩ => rfl)).trans ?_
  rw [hy (r - n) (by omega) (by omega)]
  refine Finset.sum_congr rfl fun i _ => congrArg f (by omega)

theorem cntT_apply (i1 : Nat) (hi : i1 < 4) (w : BitVec 32) (hw : w.toNat ≤ 16) (r : Fin 1024) (u : Fin 1) :
    cntT i1 w (ValueIdx.ix2 r u) = ((((min (i1 * 1024 + r.val + 1) w.toNat : ℕ) : ℤ) : ℝ) : EReal) := by
  have key : ∀ a : BitVec 32, a.toNat = i1 * 1024 + r.val + 1 →
      (if a.slt w then a else w).toInt = ((min (i1 * 1024 + r.val + 1) w.toNat : ℕ) : ℤ) := fun a ha => by
    have ea : a.toInt = (a.toNat : ℤ) := by rw [BitVec.toInt_eq_toNat_cond]; rw [if_pos (by omega)]
    have ew : w.toInt = (w.toNat : ℤ) := by rw [BitVec.toInt_eq_toNat_cond]; rw [if_pos (by omega)]
    by_cases hs : a.slt w
    · rw [if_pos hs, ea]
      rw [BitVec.slt_iff_toInt_lt, ea, ew] at hs
      omega
    · rw [if_neg hs, ew]
      rw [BitVec.slt_iff_toInt_lt, ea, ew] at hs
      omega
  refine congrArg (fun z : ℤ => ((z : ℝ) : EReal)) (key _ ?_)
  show ((BitVec.ofNat 32 i1 * 1024#32 + BitVec.ofNat 32 (0 * 1024 + r.val)) + 1#32).toNat = _
  have := r.isLt
  simp only [BitVec.toNat_add, BitVec.toNat_mul, BitVec.toNat_ofNat]
  omega

theorem deltaT_apply (s : B2 1040 128 .f32) (n : B2 1024 1 .f32) (u : B2 1024 512 .f32) (o : Nat) (ho) (r : Fin 1024) (k : Fin 128) (hk : o + k.val < 512) :
    deltaT s n u o ho (ValueIdx.ix2 r k) = (FloatOps.divf (F := Ideal) (φ := .f32) (s (ValueIdx.ix2 ⟨16 + r.val, by omega⟩ k)) (n (ValueIdx.ix2 r 0)) - u (ValueIdx.ix2 r ⟨o + k.val, hk⟩) : EReal) := by
  unfold deltaT
  refine congrArg₂ (fun s t : EReal => s - t) (congrArg₂ (FloatOps.divf (F := Ideal) (φ := .f32)) ?_ ?_) ?_
  · exact (cut 16 0 s _ r k (by omega) (by omega)).trans (congrArg (fun q => s (ValueIdx.ix2 _ q)) (Fin.ext (Nat.zero_add _)))
  · exact Lin.bcCol (by decide) n _ r k
  · exact (cut 0 o u ho r k (by omega) hk).trans (congrArg (fun q => u (ValueIdx.ix2 q _)) (Fin.ext (Nat.zero_add _)))

theorem drop4 {α : Type} (x : (⟨4, ![1, 1, 128, 128]⟩ : Shape).Idx → α) (h : (⟨4, ![1, 1, 128, 128]⟩ : Shape).ShapeCasts ⟨2, ![128, 128]⟩) (i j : Fin 128) :
    shapeCast ⟨2, ![128, 128]⟩ x h (ValueIdx.ix2 i j) = x (ValueIdx.ix4 0 0 i j) :=
  shapeCast_apply x h (ValueIdx.ix2 i j) (ValueIdx.ix4 0 0 i j) (by
    rw [Shape.rowMajor_val_two, Shape.rowMajor_val_four]
    show ((0 * 1 + 0) * 128 + i.val) * 128 + j.val = i.val * 128 + j.val; omega)

/-- Column `k` of group `g`, and the group's window. -/
def col (g : Fin 4) (k : Fin 128) : Fin 512 := ⟨128 * g.val + k.val, by omega⟩
def win (g : Fin 4) : ℕ := 2 ^ (g.val + 1)
/-- The trailing mean of a column less its row, over rows counted from `r`. -/
def dl (f : ℕ → EReal) (n r : ℕ) (w : ℕ) : EReal :=
  FloatOps.divf (F := Ideal) (φ := .f32) (∑ i ∈ Finset.range w, f (r - i)) ((((min n w : ℕ) : ℤ) : ℝ) : EReal) - f r

theorem groupT_apply (d : B2 1024 128 .bf16) (w : FVec Ideal ⟨4, ![1, 1, 128, 128]⟩ .bf16) (r : Fin 1024) (j : Fin 128) :
    groupT d w (ValueIdx.ix2 r j) = ∑ k : Fin 128, (d (ValueIdx.ix2 r k) * w (ValueIdx.ix4 0 0 k j) : EReal) :=
  (mulT_apply _ _ _ r j).trans (Finset.sum_congr rfl fun k _ => by rw [drop4])

/-- The gate. -/
def gate (g : EReal) : EReal :=
  g * FloatOps.divf (F := Ideal) (φ := .f32) (FloatOps.ofBits .f32 0x3F800000#32)
    (FloatOps.addf (F := Ideal) (φ := .f32) (FloatOps.ofBits .f32 0x3F800000#32)
      (FloatOps.exp (F := Ideal) (φ := .f32) (FloatOps.subf (F := Ideal) (φ := .f32) (FloatOps.ofBits .f32 0x00000000#32) g)))

theorem cat_apply {α : Type} (p : Fin 4 → (⟨2, ![1024, 128]⟩ : Shape).Idx → α) (h) (r : Fin 1024) (g : Fin 4) (j : Fin 128) :
    concatenate (⟨2, ![1024, 512]⟩ : Shape) 1 [⟨⟨2, ![1024, 128]⟩, p 0⟩, ⟨⟨2, ![1024, 128]⟩, p 1⟩, ⟨⟨2, ![1024, 128]⟩, p 2⟩, ⟨⟨2, ![1024, 128]⟩, p 3⟩] h (ValueIdx.ix2 r (col g j))
      = p g (ValueIdx.ix2 r j) := by
  refine concatenate_apply_piece (t := ⟨2, ![1024, 512]⟩) 1 _ h (ValueIdx.ix2 r (col g j)) g.val g.isLt ⟨2, ![1024, 128]⟩ (p g) ?_ rfl (128 * g.val) ?_ (ValueIdx.ix2 r j)
    (fun b => match b with
      | ⟨0, _⟩ => fun _ => rfl
      | ⟨1, _⟩ => fun h => absurd rfl h) rfl
  · match g with
    | 0 => rfl
    | 1 => rfl
    | 2 => rfl
    | 3 => rfl
  · match g with
    | 0 => rfl
    | 1 => rfl
    | 2 => rfl
    | 3 => rfl

theorem poT_apply (gt : B2 1024 512 .f32) (p : Fin 4 → B2 1024 128 .f32) (ps : B3 1 512 .f32) (u : Fin 1) (r : Fin 1024) (g : Fin 4) (j : Fin 128) :
    poT gt (p 0) (p 1) (p 2) (p 3) ps (ValueIdx.ix3 u r (col g j)) = (p g (ValueIdx.ix2 r j) * ps (ValueIdx.ix3 0 0 (col g j)) * gate (gt (ValueIdx.ix2 r (col g j))) : EReal) := by
  unfold poT
  refine (Lin.add3 _ _ u r _).trans ?_
  refine congrArg₂ (fun s t : EReal => s * t) (congrArg₂ (fun s t : EReal => s * t) (cat_apply p _ r g j) ?_) rfl
  rw [Lin.bcRow (by decide), Lin.drop3]

/-- The pooling block: `E` the columns of rows under their halo of sixteen. -/
theorem poolT_apply (i1 : Nat) (hi : i1 < 4) (gt u : B2 1024 512 .f32) (e : Fin 4 → B2 1040 128 .f32)
    (w : Fin 4 → FVec Ideal ⟨4, ![1, 1, 128, 128]⟩ .bf16) (ps : B3 1 512 .f32) (E : ℕ → Fin 512 → EReal)
    (he : ∀ (g : Fin 4) (r : ℕ) (h : r < 1040) (k : Fin 128), e g (ValueIdx.ix2 ⟨r, h⟩ k) = E r (col g k))
    (hu : ∀ (r : Fin 1024) (k : Fin 512), u (ValueIdx.ix2 r k) = E (16 + r.val) k)
    (z : Fin 1) (r : Fin 1024) (g : Fin 4) (j : Fin 128) :
    poolT i1 gt u (e 0) (e 1) (e 2) (e 3) (w 0) (w 1) (w 2) (w 3) ps (ValueIdx.ix3 z r (col g j))
      = ((∑ k : Fin 128, dl (fun q => E q (col g k)) (i1 * 1024 + r.val + 1) (16 + r.val) (win g) * w g (ValueIdx.ix4 0 0 k j))
          * ps (ValueIdx.ix3 0 0 (col g j)) * gate (gt (ValueIdx.ix2 r (col g j))) : EReal) := by
  have c1 : ∀ (g : Fin 4) (k : Fin 128) (q : ℕ) (h : q < 1040), 1 ≤ q + 1 →
      e g (ValueIdx.ix2 ⟨q, h⟩ k) = ∑ i ∈ Finset.range 1, E (q - i) (col g k) := fun g k q h _ => by
    rw [Finset.sum_range_one]; exact he g q h k
  have c2 := fun g k => rollT_apply 1#32 1 rfl (by omega) (e g) k (fun q => E q (col g k)) (c1 g k)
  have c4 := fun g k => rollT_apply 2#32 2 rfl (by omega) (rollT 1#32 (e g)) k (fun q => E q (col g k)) (c2 g k)
  have c8 := fun g k => rollT_apply 4#32 4 rfl (by omega) (rollT 2#32 (rollT 1#32 (e g))) k (fun q => E q (col g k)) (c4 g k)
  have c16 := fun g k => rollT_apply 8#32 8 rfl (by omega) (rollT 4#32 (rollT 2#32 (rollT 1#32 (e g)))) k (fun q => E q (col g k)) (c8 g k)
  have gr : ∀ (g : Fin 4) (s : B2 1040 128 .f32) (b : BitVec 32) (ho : (⟨2, ![1024, 512]⟩ : Shape).Slices ![0, 128 * g.val] ⟨2, ![1024, 128]⟩) (hb : b.toNat = win g)
      (hs : ∀ k : Fin 128, s (ValueIdx.ix2 ⟨16 + r.val, by omega⟩ k) = ∑ i ∈ Finset.range (win g), E (16 + r.val - i) (col g k)),
      groupT (deltaT s (cntT i1 b) u (128 * g.val) ho) (w g) (ValueIdx.ix2 r j)
        = ∑ k : Fin 128, (dl (fun q => E q (col g k)) (i1 * 1024 + r.val + 1) (16 + r.val) (win g) * w g (ValueIdx.ix4 0 0 k j) : EReal) :=
    fun g s b ho hb hs => by
      have hw16 : win g ≤ 16 := by
        match g with
        | 0 => decide
        | 1 => decide
        | 2 => decide
        | 3 => decide
      rw [groupT_apply]
      refine Finset.sum_congr rfl fun k _ => congrArg₂ (fun s t : EReal => s * t) ?_ rfl
      rw [deltaT_apply _ _ _ _ _ _ _ (by omega), hs k, cntT_apply i1 hi b (by omega) r 0, hb]
      unfold dl
      exact congrArg₂ (fun s t : EReal => s - t) rfl (hu r (col g k))
  unfold poolT
  refine (poT_apply gt (fun g => match g with
    | 0 => groupT (deltaT (rollT 1#32 (e 0)) (cntT i1 2#32) u 0 (by decide)) (w 0)
    | 1 => groupT (deltaT (rollT 2#32 (rollT 1#32 (e 1))) (cntT i1 4#32) u 128 (by decide)) (w 1)
    | 2 => groupT (deltaT (rollT 4#32 (rollT 2#32 (rollT 1#32 (e 2)))) (cntT i1 8#32) u 256 (by decide)) (w 2)
    | 3 => groupT (deltaT (rollT 8#32 (rollT 4#32 (rollT 2#32 (rollT 1#32 (e 3))))) (cntT i1 16#32) u 384 (by decide)) (w 3)) ps z r g j).trans ?_
  refine congrArg₂ (fun s t : EReal => s * t) (congrArg₂ (fun s t : EReal => s * t) ?_ rfl) rfl
  match g with
  | 0 => exact gr 0 _ _ _ rfl fun k => c2 0 k _ _ (by omega)
  | 1 => exact gr 1 _ _ _ rfl fun k => c4 1 k _ _ (by omega)
  | 2 => exact gr 2 _ _ _ rfl fun k => c8 2 k _ _ (by omega)
  | 3 => exact gr 3 _ _ _ rfl fun k => c16 3 k _ _ (by omega)

end Proj

end
-- ==== Proof.ProjBlk.lean ====
module

public import proofs.«01_k».proof.Proof.ProjVal
public import Idealize.ShloMosaic.Lib.IdealHost
public import Idealize.ShloMosaic.Lib.WritesUnit

/-! The running sums of the log gates and the buffer of rows under their halo, index by index. -/

@[expose] public section

set_option maxRecDepth 16384

noncomputable section

namespace Proj

open Idealize.ShloMosaic Idealize.ShloMosaic.TcCoe

/-- The logarithm of the sigmoid. -/
def lsig (v : EReal) : EReal := min v 0 - Ideal.log1p (Ideal.exp (0 - max v (-v)))

theorem lsig_ne_top (v : EReal) : lsig v ≠ ⊤ := by
  have hL : ∀ x : EReal, Ideal.log1p (Ideal.exp x) ≠ ⊥ := fun x => by
    induction x with
    | bot => show Ideal.log (1 + ((0 : ℝ) : EReal)) ≠ ⊥
             rw [show (1 : EReal) + ((0 : ℝ) : EReal) = ((1 : ℝ) : EReal) by norm_num]
             show (if (1 : ℝ) ≤ 0 then (⊥ : EReal) else _) ≠ ⊥
             rw [if_neg (by norm_num)]; exact EReal.coe_ne_bot _
    | top => show Ideal.log (1 + ⊤) ≠ ⊥
             rw [show (1 : EReal) + ⊤ = ⊤ from EReal.coe_add_top 1]
             exact fun h => by cases h
    | coe r => show Ideal.log (1 + ((Real.exp r : ℝ) : EReal)) ≠ ⊥
               rw [show (1 : EReal) + ((Real.exp r : ℝ) : EReal) = ((1 + Real.exp r : ℝ) : EReal) by push_cast; rfl]
               show (if (1 + Real.exp r : ℝ) ≤ 0 then (⊥ : EReal) else _) ≠ ⊥
               rw [if_neg (by have := Real.exp_pos r; linarith)]; exact EReal.coe_ne_bot _
  unfold lsig
  rw [sub_eq_add_neg]
  refine EReal.add_ne_top (fun h => ?_) (fun h => hL _ (EReal.neg_eq_top_iff.mp h))
  have : min v 0 ≤ (0 : EReal) := min_le_right _ _
  rw [h] at this
  exact absurd this (by simp)

theorem logT_apply (z : B2 1024 128 .f32) (fb : B3 8 1 .f32) (i : Fin 8) (q : Fin 1024) :
    logT z fb (ValueIdx.ix2 i q) = lsig (z (ValueIdx.ix2 q ⟨i.val, by omega⟩) + fb (ValueIdx.ix3 0 i 0)) := by
  have hz : (Scalar.ofBits (F := Ideal) .f32 0x00000000#32) = (0 : EReal) := Ideal.ofBits_zero_f32
  unfold logT lsig
  rw [hz]
  have e : (addf (extractStridedSlice ⟨2, ![8, 1024]⟩ ![0, 0] (transpose ⟨2, ![128, 1024]⟩ [1, 0] z (by decide)) (by decide))
    (broadcastTo ⟨2, ![8, 1024]⟩ (shapeCast ⟨2, ![8, 1]⟩ fb (by decide)) (by decide)) : B2 8 1024 .f32) (ValueIdx.ix2 i q)
      = (z (ValueIdx.ix2 q ⟨i.val, by omega⟩) + fb (ValueIdx.ix3 0 i 0) : EReal) := by
    refine congrArg₂ (fun s t : EReal => s + t) ?_ ?_
    · refine (cut 0 0 _ _ i q (by omega) (by omega)).trans ?_
      exact transpose_apply [1, 0] z (by decide) _ (ValueIdx.ix2 q ⟨i.val, by omega⟩) (fun b => match b with
        | ⟨0, _⟩ => (Nat.zero_add i.val).symm
        | ⟨1, _⟩ => (Nat.zero_add q.val).symm)
    · rw [Lin.bcCol (by decide), Lin.drop3]
  show (min (_ : EReal) 0 - Ideal.log1p (Ideal.exp (0 - max (_ : EReal) (-(_ : EReal)))) : EReal) = _
  rw [e]

theorem cat8_apply (p : Fin 4 → B2 8 1024 .f32) (h) (g : Fin 4) (i : Fin 8) (q : Fin 1024) :
    concatenate (⟨2, ![32, 1024]⟩ : Shape) 0 [⟨⟨2, ![8, 1024]⟩, p 0⟩, ⟨⟨2, ![8, 1024]⟩, p 1⟩, ⟨⟨2, ![8, 1024]⟩, p 2⟩, ⟨⟨2, ![8, 1024]⟩, p 3⟩] h
      (ValueIdx.ix2 ⟨8 * g.val + i.val, by omega⟩ q) = p g (ValueIdx.ix2 i q) := by
  refine concatenate_apply_piece (t := ⟨2, ![32, 1024]⟩) 0 _ h (ValueIdx.ix2 ⟨8 * g.val + i.val, by omega⟩ q) g.val g.isLt ⟨2, ![8, 1024]⟩ (p g) ?_ rfl (8 * g.val) ?_
    (ValueIdx.ix2 i q) (fun b => match b with
      | ⟨1, _⟩ => fun _ => rfl
      | ⟨0, _⟩ => fun h => absurd rfl h) rfl
  · match g with
    | 0 => rfl
    | 1 => rfl
    | 2 => rfl
    | 3 => rfl
  · match g with
    | 0 => rfl
    | 1 => rfl
    | 2 => rfl
    | 3 => rfl

theorem three (x : EReal) (hx : x ≠ ⊤) : x + (x - x) + ((x - x) - (x - x)) = x := by
  induction x with
  | bot => rfl
  | top => exact absurd rfl hx
  | coe r => rw [← EReal.coe_sub, ← EReal.coe_sub, ← EReal.coe_add, ← EReal.coe_add]; congr 1; ring

/-- The parts, one under another. -/
def pieces (f : B2 8 1024 .f32) (g : Fin 4) : B2 8 1024 .f32 :=
  match g with
    | 0 => f
    | 1 => (fun j => (f j - f j : EReal))
    | 2 => (fun j => ((f j - f j) - (f j - f j) : EReal))
    | 3 => (broadcast ⟨2, ![8, 1024]⟩ (Scalar.ofBits (F := Ideal) .f32 0x00000000#32))

theorem resT_apply (f : B2 8 1024 .f32) (hf : ∀ i, f i ≠ (⊤ : EReal)) (o : Nat) (ho) (m : B2 128 256 .bf16)
    (hm : ∀ (k : Fin 128) (c : Fin 256), m (ValueIdx.ix2 k c) = (if k.val ≤ c.val ∨ 128 ≤ c.val then 1 else 0 : EReal))
    (i : Fin 8) (c : Fin 256) (h8 : o + 128 ≤ 1024) :
    resT (partsT f) o ho m (ValueIdx.ix2 i c)
      = ∑ k : Fin 128, (if k.val ≤ c.val ∨ 128 ≤ c.val then f (ValueIdx.ix2 i ⟨o + k.val, by omega⟩) else 0 : EReal) := by
  have part : ∀ (g : Fin 4) (hgb : 8 * g.val + i.val < 32),
      mulT (s := .bf16) (t := .bf16) (by decide) (extractStridedSlice ⟨2, ![32, 128]⟩ ![0, o] (partsT f) ho) (shapeCast ⟨2, ![128, 256]⟩ m (by decide))
          (ValueIdx.ix2 ⟨8 * g.val + i.val, hgb⟩ c)
        = ∑ k : Fin 128, (partsT f (ValueIdx.ix2 ⟨8 * g.val + i.val, hgb⟩ ⟨o + k.val, by omega⟩) * (if k.val ≤ c.val ∨ 128 ≤ c.val then 1 else 0) : EReal) := fun g hgb => by
    refine (mulT_apply _ _ _ _ c).trans (Finset.sum_congr rfl fun k _ => congrArg₂ (fun s t : EReal => s * t) ?_ ?_)
    · exact (cut 0 o _ ho _ k (by omega) (by omega)).trans (congrArg (fun r => partsT f (ValueIdx.ix2 r _)) (Fin.ext (Nat.zero_add _)))
    · rw [shapeCast_self m]; exact hm k c
  have pa : ∀ (g : Fin 4) (hgb : 8 * g.val + i.val < 32) (q : Fin 1024), partsT f (ValueIdx.ix2 ⟨8 * g.val + i.val, hgb⟩ q)
      = pieces f g (ValueIdx.ix2 i q) := fun g hgb q => cat8_apply (pieces f) cat8 g i q
  unfold resT
  refine (congrArg₂ (fun s t : EReal => s + t) (congrArg₂ (fun s t : EReal => s + t)
    ((cut 0 0 _ _ i c (by omega) (by omega)).trans ((congrArg (fun r => mulT _ _ _ r) ?_).trans (part 0 (by show 8 * 0 + i.val < 32; omega))))
    ((cut 8 0 _ _ i c (by omega) (by omega)).trans ((congrArg (fun r => mulT _ _ _ r) ?_).trans (part 1 (by show 8 * 1 + i.val < 32; omega)))))
    ((cut 16 0 _ _ i c (by omega) (by omega)).trans ((congrArg (fun r => mulT _ _ _ r) ?_).trans (part 2 (by show 8 * 2 + i.val < 32; omega))))).trans ?_
  · exact congrArg₂ (fun a b => ValueIdx.ix2 a b) (Fin.ext rfl) (Fin.ext (Nat.zero_add _))
  · exact congrArg₂ (fun a b => ValueIdx.ix2 a b) (Fin.ext rfl) (Fin.ext (Nat.zero_add _))
  · exact congrArg₂ (fun a b => ValueIdx.ix2 a b) (Fin.ext rfl) (Fin.ext (Nat.zero_add _))
  show ((∑ k : Fin 128, _ : EReal) + (∑ k : Fin 128, _ : EReal) + (∑ k : Fin 128, _ : EReal) : EReal) = _
  rw [← Finset.sum_add_distrib, ← Finset.sum_add_distrib]
  refine Finset.sum_congr rfl fun k _ => ?_
  rw [pa 0, pa 1, pa 2]
  by_cases h : k.val ≤ c.val ∨ 128 ≤ c.val
  · rw [if_pos h, if_pos h, mul_one, mul_one, mul_one]
    exact three _ (hf _)
  · rw [if_neg h, if_neg h, mul_zero, mul_zero, mul_zero, add_zero, add_zero]

/-- The first `c + 1` of 128 terms. -/
theorem sum_first (g : ℕ → EReal) (c : ℕ) (hc : c < 128) :
    (∑ k : Fin 128, (if k.val ≤ c ∨ 128 ≤ c then g k.val else 0)) = ∑ k ∈ Finset.range (c + 1), g k := by
  rw [Fin.sum_univ_eq_sum_range (fun k => if k ≤ c ∨ 128 ≤ c then g k else 0) 128]
  rw [← Finset.sum_subset (s₁ := Finset.range (c + 1)) (fun k hk => by rw [Finset.mem_range] at *; omega)
    (fun k _ hk => if_neg (by rw [Finset.mem_range] at hk; omega))]
  exact Finset.sum_congr rfl fun k hk => if_pos (by rw [Finset.mem_range] at hk; omega)
theorem sum_all (g : ℕ → EReal) (c : ℕ) (hc : 128 ≤ c) :
    (∑ k : Fin 128, (if k.val ≤ c ∨ 128 ≤ c then g k.val else 0)) = ∑ k ∈ Finset.range 128, g k := by
  rw [Fin.sum_univ_eq_sum_range (fun k => if k ≤ c ∨ 128 ≤ c then g k else 0) 128]
  exact Finset.sum_congr rfl fun k hk => if_pos (Or.inr hc)

section carry
variable (f : B2 8 1024 .f32) (hf : ∀ i, f i ≠ (⊤ : EReal)) (m : B2 128 256 .bf16)
  (hm : ∀ (k : Fin 128) (c : Fin 256), m (ValueIdx.ix2 k c) = (if k.val ≤ c.val ∨ 128 ≤ c.val then 1 else 0 : EReal))
  (F : Fin 8 → ℕ → EReal) (B : ℕ) (hF : ∀ (i : Fin 8) (q : Fin 1024), f (ValueIdx.ix2 i q) = F i (B + q.val))
include hf hm hF

theorem stepT_apply (o : Nat) (ho) (h8 : o + 128 ≤ 1024) (acc : B2 8 128 .f32)
    (ha : ∀ (i : Fin 8) (l : Fin 128), acc (ValueIdx.ix2 i l) = ∑ q ∈ Finset.range (B + o), F i q) (i : Fin 8) (l : Fin 128) :
    stepT (partsT f) o ho m acc (ValueIdx.ix2 i l) = ∑ q ∈ Finset.range (B + (o + 128)), F i q := by
  unfold stepT
  refine (congrArg₂ (fun s t : EReal => s + t) (ha i l) ((cut 0 128 _ _ i l (by omega) (by omega)).trans
    ((congrArg (fun r => resT (partsT f) o ho m (ValueIdx.ix2 r _)) (Fin.ext (Nat.zero_add _))).trans (resT_apply f hf o ho m hm i _ h8)))).trans ?_
  rw [show B + (o + 128) = (B + o) + 128 by omega, Finset.sum_range_add (F i) (B + o) 128]
  refine congrArg₂ (fun s t : EReal => s + t) rfl ?_
  refine (Finset.sum_congr rfl fun k _ => ?_).trans (sum_all (fun k => F i (B + o + k)) (128 + l.val) (by omega))
  rw [hF i]
  show (if _ then F i (B + (o + k.val)) else 0) = _
  rw [Nat.add_assoc]

theorem blockT_apply (o : Nat) (ho) (h8 : o + 128 ≤ 1024) (acc : B2 8 128 .f32)
    (ha : ∀ (i : Fin 8) (l : Fin 128), acc (ValueIdx.ix2 i l) = ∑ q ∈ Finset.range (B + o), F i q) (z : Fin 1) (i : Fin 8) (l : Fin 128) :
    blockT (partsT f) o ho m acc (ValueIdx.ix3 z i l) = ∑ q ∈ Finset.range (B + (o + l.val + 1)), F i q := by
  unfold blockT
  refine (Lin.add3 _ _ z i l).trans ?_
  refine (congrArg₂ (fun s t : EReal => s + t) ((cut 0 0 _ _ i l (by omega) (by omega)).trans
    ((congrArg₂ (fun r t => resT (partsT f) o ho m (ValueIdx.ix2 r t)) (Fin.ext (Nat.zero_add _)) (Fin.ext (Nat.zero_add _))).trans
      (resT_apply f hf o ho m hm i ⟨l.val, by omega⟩ h8))) (ha i l)).trans ?_
  rw [show B + (o + l.val + 1) = (B + o) + (l.val + 1) by omega, Finset.sum_range_add (F i) (B + o) (l.val + 1)]
  refine (add_comm _ _).trans (congrArg₂ (fun s t : EReal => s + t) rfl ?_)
  refine (Finset.sum_congr rfl fun k _ => ?_).trans (sum_first (fun k => F i (B + o + k)) l.val (by omega))
  rw [hF i]
  show (if _ then F i (B + (o + k.val)) else 0) = _
  rw [Nat.add_assoc]

variable (acc : B2 8 128 .f32) (ha : ∀ (i : Fin 8) (l : Fin 128), acc (ValueIdx.ix2 i l) = ∑ q ∈ Finset.range (B + 0), F i q)
include ha

theorem car1_apply (i : Fin 8) (l : Fin 128) : car1 (partsT f) m acc (ValueIdx.ix2 i l) = ∑ q ∈ Finset.range (B + 128), F i q :=
  stepT_apply f hf m hm F B hF 0 _ (by omega) acc ha i l
theorem car2_apply (i : Fin 8) (l : Fin 128) : car2 (partsT f) m acc (ValueIdx.ix2 i l) = ∑ q ∈ Finset.range (B + 256), F i q :=
  stepT_apply f hf m hm F B hF 128 _ (by omega) _ (car1_apply f hf m hm F B hF acc ha) i l
theorem car3_apply (i : Fin 8) (l : Fin 128) : car3 (partsT f) m acc (ValueIdx.ix2 i l) = ∑ q ∈ Finset.range (B + 384), F i q :=
  stepT_apply f hf m hm F B hF 256 _ (by omega) _ (car2_apply f hf m hm F B hF acc ha) i l
theorem car4_apply (i : Fin 8) (l : Fin 128) : car4 (partsT f) m acc (ValueIdx.ix2 i l) = ∑ q ∈ Finset.range (B + 512), F i q :=
  stepT_apply f hf m hm F B hF 384 _ (by omega) _ (car3_apply f hf m hm F B hF acc ha) i l
theorem car5_apply (i : Fin 8) (l : Fin 128) : car5 (partsT f) m acc (ValueIdx.ix2 i l) = ∑ q ∈ Finset.range (B + 640), F i q :=
  stepT_apply f hf m hm F B hF 512 _ (by omega) _ (car4_apply f hf m hm F B hF acc ha) i l
theorem car6_apply (i : Fin 8) (l : Fin 128) : car6 (partsT f) m acc (ValueIdx.ix2 i l) = ∑ q ∈ Finset.range (B + 768), F i q :=
  stepT_apply f hf m hm F B hF 640 _ (by omega) _ (car5_apply f hf m hm F B hF acc ha) i l
theorem car7_apply (i : Fin 8) (l : Fin 128) : car7 (partsT f) m acc (ValueIdx.ix2 i l) = ∑ q ∈ Finset.range (B + 896), F i q :=
  stepT_apply f hf m hm F B hF 768 _ (by omega) _ (car6_apply f hf m hm F B hF acc ha) i l
theorem car8_apply (i : Fin 8) (l : Fin 128) : car8 (partsT f) m acc (ValueIdx.ix2 i l) = ∑ q ∈ Finset.range (B + 1024), F i q :=
  stepT_apply f hf m hm F B hF 896 _ (by omega) _ (car7_apply f hf m hm F B hF acc ha) i l

end carry

/-- Eight stores of 128 columns side by side. -/
def eightT (b : Fin 8 → B3 8 128 .f32) : B3 8 1024 .f32 :=
  View.canon (Val := Elt Ideal) (s := ⟨3, ![1, 8, 1024]⟩) (e := .f32) [⟨Rect.unit ![0, 0, 896] ![1, 8, 128] (by decide), b 7⟩, ⟨Rect.unit ![0, 0, 768] ![1, 8, 128] (by decide), b 6⟩,
    ⟨Rect.unit ![0, 0, 640] ![1, 8, 128] (by decide), b 5⟩, ⟨Rect.unit ![0, 0, 512] ![1, 8, 128] (by decide), b 4⟩,
    ⟨Rect.unit ![0, 0, 384] ![1, 8, 128] (by decide), b 3⟩, ⟨Rect.unit ![0, 0, 256] ![1, 8, 128] (by decide), b 2⟩,
    ⟨Rect.unit ![0, 0, 128] ![1, 8, 128] (by decide), b 1⟩, ⟨Rect.unit ![0, 0, 0] ![1, 8, 128] (by decide), b 0⟩]

theorem hit8 (n : ℕ) (inb : ∀ a, (![0, 0, n] : Fin 3 → Nat) a + (![1, 8, 128] : Fin 3 → Nat) a ≤ (⟨3, ![1, 8, 1024]⟩ : Shape).size a)
    (w : B3 8 128 .f32) (L : List (View.Piece (Elt Ideal) ⟨3, ![1, 8, 1024]⟩ .f32)) (z : Fin 1) (i : Fin 8) (q : Fin 1024) (l : Fin 128) (hq : q.val = n + l.val) :
    View.canon (⟨Rect.unit (s := ⟨3, ![1, 8, 1024]⟩) ![0, 0, n] ![1, 8, 128] inb, w⟩ :: L) (ValueIdx.ix3 z i q) = w (ValueIdx.ix3 z i l) := by
  have e : ValueIdx.ix3 z i q = (Rect.unit (s := ⟨3, ![1, 8, 1024]⟩) ![0, 0, n] ![1, 8, 128] inb).emb (ValueIdx.ix3 z i l) := funext fun a => Fin.ext (match a with
    | ⟨0, _⟩ => (show z.val = 0 + 1 * z.val by omega)
    | ⟨1, _⟩ => (show i.val = 0 + 1 * i.val by omega)
    | ⟨2, _⟩ => (show q.val = n + 1 * l.val by omega))
  rw [e]
  exact View.canon_cons_emb (Rect.unit (s := ⟨3, ![1, 8, 1024]⟩) ![0, 0, n] ![1, 8, 128] inb) w L _
theorem miss8 (n : ℕ) (inb : ∀ a, (![0, 0, n] : Fin 3 → Nat) a + (![1, 8, 128] : Fin 3 → Nat) a ≤ (⟨3, ![1, 8, 1024]⟩ : Shape).size a)
    (w : B3 8 128 .f32) (L : List (View.Piece (Elt Ideal) ⟨3, ![1, 8, 1024]⟩ .f32)) (z : Fin 1) (i : Fin 8) (q : Fin 1024) (hq : q.val < n) :
    View.canon (⟨Rect.unit (s := ⟨3, ![1, 8, 1024]⟩) ![0, 0, n] ![1, 8, 128] inb, w⟩ :: L) (ValueIdx.ix3 z i q) = View.canon L (ValueIdx.ix3 z i q) :=
  View.canon_cons_of_not_mem _ L (fun h => by
    have h2 : n ≤ q.val := ((Rect.mem_set_unit (inb := inb)).mp h 2).1
    omega)

theorem eightT_apply (b : Fin 8 → B3 8 128 .f32) (G : ℕ → EReal) (z : Fin 1) (i : Fin 8)
    (hb : ∀ (n : Fin 8) (l : Fin 128), b n (ValueIdx.ix3 z i l) = G (128 * n.val + l.val)) (q : Fin 1024) :
    eightT b (ValueIdx.ix3 z i q) = G q.val := by
  have key : ∀ (n : Fin 8) (l : Fin 128), q.val = 128 * n.val + l.val → eightT b (ValueIdx.ix3 z i q) = b n (ValueIdx.ix3 z i l) := fun n l h => by
    unfold eightT
    match n, h with
    | 7, h => exact hit8 _ _ _ _ z i q l h
    | 6, h =>
      rw [miss8 896 _ _ _ z i q (by change q.val = 128 * 6 + l.val at h; omega)]
      exact hit8 _ _ _ _ z i q l h
    | 5, h =>
      rw [miss8 896 _ _ _ z i q (by change q.val = 128 * 5 + l.val at h; omega), miss8 768 _ _ _ z i q (by change q.val = 128 * 5 + l.val at h; omega)]
      exact hit8 _ _ _ _ z i q l h
    | 4, h =>
      change q.val = 128 * 4 + l.val at h
      rw [miss8 896 _ _ _ z i q (by omega), miss8 768 _ _ _ z i q (by omega), miss8 640 _ _ _ z i q (by omega)]
      exact hit8 _ _ _ _ z i q l h
    | 3, h =>
      change q.val = 128 * 3 + l.val at h
      rw [miss8 896 _ _ _ z i q (by omega), miss8 768 _ _ _ z i q (by omega), miss8 640 _ _ _ z i q (by omega), miss8 512 _ _ _ z i q (by omega)]
      exact hit8 _ _ _ _ z i q l h
    | 2, h =>
      change q.val = 128 * 2 + l.val at h
      rw [miss8 896 _ _ _ z i q (by omega), miss8 768 _ _ _ z i q (by omega), miss8 640 _ _ _ z i q (by omega), miss8 512 _ _ _ z i q (by omega),
        miss8 384 _ _ _ z i q (by omega)]
      exact hit8 _ _ _ _ z i q l h
    | 1, h =>
      change q.val = 128 * 1 + l.val at h
      rw [miss8 896 _ _ _ z i q (by omega), miss8 768 _ _ _ z i q (by omega), miss8 640 _ _ _ z i q (by omega), miss8 512 _ _ _ z i q (by omega),
        miss8 384 _ _ _ z i q (by omega), miss8 256 _ _ _ z i q (by omega)]
      exact hit8 _ _ _ _ z i q l h
    | 0, h =>
      change q.val = 128 * 0 + l.val at h
      rw [miss8 896 _ _ _ z i q (by omega), miss8 768 _ _ _ z i q (by omega), miss8 640 _ _ _ z i q (by omega), miss8 512 _ _ _ z i q (by omega),
        miss8 384 _ _ _ z i q (by omega), miss8 256 _ _ _ z i q (by omega), miss8 128 _ _ _ z i q (by omega)]
      exact hit8 _ _ _ _ z i q l (by omega)
  have hq := q.isLt
  rw [key ⟨q.val / 128, by omega⟩ ⟨q.val % 128, by omega⟩ (by show q.val = 128 * (q.val / 128) + q.val % 128; omega), hb]
  exact congrArg G (by show 128 * (q.val / 128) + q.val % 128 = q.val; omega)

/-- The eight blocks of running sums. -/
def sumsT (p : B2 32 1024 .bf16) (m : B2 128 256 .bf16) (acc : B2 8 128 .f32) : B3 8 1024 .f32 :=
  eightT fun n => match n with
    | 0 => blockT p 0 (by decide) m acc
    | 1 => blockT p 128 (by decide) m (car1 p m acc)
    | 2 => blockT p 256 (by decide) m (car2 p m acc)
    | 3 => blockT p 384 (by decide) m (car3 p m acc)
    | 4 => blockT p 512 (by decide) m (car4 p m acc)
    | 5 => blockT p 640 (by decide) m (car5 p m acc)
    | 6 => blockT p 768 (by decide) m (car6 p m acc)
    | 7 => blockT p 896 (by decide) m (car7 p m acc)

theorem sumsT_apply (f : B2 8 1024 .f32) (hf : ∀ i, f i ≠ (⊤ : EReal)) (m : B2 128 256 .bf16)
    (hm : ∀ (k : Fin 128) (c : Fin 256), m (ValueIdx.ix2 k c) = (if k.val ≤ c.val ∨ 128 ≤ c.val then 1 else 0 : EReal))
    (F : Fin 8 → ℕ → EReal) (B : ℕ) (hF : ∀ (i : Fin 8) (q : Fin 1024), f (ValueIdx.ix2 i q) = F i (B + q.val))
    (acc : B2 8 128 .f32) (ha : ∀ (i : Fin 8) (l : Fin 128), acc (ValueIdx.ix2 i l) = ∑ q ∈ Finset.range (B + 0), F i q)
    (z : Fin 1) (i : Fin 8) (q : Fin 1024) :
    sumsT (partsT f) m acc (ValueIdx.ix3 z i q) = ∑ k ∈ Finset.range (B + (q.val + 1)), F i k := by
  unfold sumsT
  refine eightT_apply _ (fun x => ∑ k ∈ Finset.range (B + (x + 1)), F i k) z i (fun n l => ?_) q
  match n with
  | 0 => exact (blockT_apply f hf m hm F B hF 0 _ (by omega) acc ha z i l).trans rfl
  | 1 => exact blockT_apply f hf m hm F B hF 128 _ (by omega) _ (car1_apply f hf m hm F B hF acc ha) z i l
  | 2 => exact blockT_apply f hf m hm F B hF 256 _ (by omega) _ (car2_apply f hf m hm F B hF acc ha) z i l
  | 3 => exact blockT_apply f hf m hm F B hF 384 _ (by omega) _ (car3_apply f hf m hm F B hF acc ha) z i l
  | 4 => exact blockT_apply f hf m hm F B hF 512 _ (by omega) _ (car4_apply f hf m hm F B hF acc ha) z i l
  | 5 => exact blockT_apply f hf m hm F B hF 640 _ (by omega) _ (car5_apply f hf m hm F B hF acc ha) z i l
  | 6 => exact blockT_apply f hf m hm F B hF 768 _ (by omega) _ (car6_apply f hf m hm F B hF acc ha) z i l
  | 7 => exact blockT_apply f hf m hm F B hF 896 _ (by omega) _ (car7_apply f hf m hm F B hF acc ha) z i l

/-! ## Rows under their halo -/

theorem tailT_apply (u : B2 1024 512 .f32) (r : Fin 16) (k : Fin 512) : tailT u (ValueIdx.ix2 r k) = u (ValueIdx.ix2 ⟨1008 + r.val, by omega⟩ k) := by
  unfold tailT
  rw [selfT_eq]
  exact (cut 1008 0 u _ r k (by omega) (by omega)).trans (congrArg (fun q => u (ValueIdx.ix2 _ q)) (Fin.ext (Nat.zero_add _)))

theorem zeroT_apply (i) : zeroT i = (0 : EReal) := by
  unfold zeroT
  exact Ideal.ofBits_zero_f32

/-- A buffer whose last stores are the two pieces. -/
theorem canon_lo (h : B2 16 512 .f32) (inb) (L : List (View.Piece (Elt Ideal) ⟨2, ![1040, 512]⟩ .f32)) (r : ℕ) (hr : r < 16) (k : Fin 512) :
    View.canon (⟨Rect.unit (s := ⟨2, ![1040, 512]⟩) ![0, 0] ![16, 512] inb, h⟩ :: L) (ValueIdx.ix2 ⟨r, by omega⟩ k) = h (ValueIdx.ix2 ⟨r, hr⟩ k) := by
  have e : ValueIdx.ix2 (⟨r, by omega⟩ : Fin 1040) k = (Rect.unit (s := ⟨2, ![1040, 512]⟩) ![0, 0] ![16, 512] inb).emb (ValueIdx.ix2 ⟨r, hr⟩ k) := funext fun a => Fin.ext (match a with
    | ⟨0, _⟩ => (show r = 0 + 1 * r by omega)
    | ⟨1, _⟩ => (show k.val = 0 + 1 * k.val by omega))
  rw [e]
  exact View.canon_cons_emb (Rect.unit (s := ⟨2, ![1040, 512]⟩) ![0, 0] ![16, 512] inb) h L _
theorem canon_hi (u : B2 1024 512 .f32) (inb) (L : List (View.Piece (Elt Ideal) ⟨2, ![1040, 512]⟩ .f32)) (r : Fin 1024) (k : Fin 512) :
    View.canon (⟨Rect.unit (s := ⟨2, ![1040, 512]⟩) ![16, 0] ![1024, 512] inb, u⟩ :: L) (ValueIdx.ix2 ⟨16 + r.val, by omega⟩ k) = u (ValueIdx.ix2 r k) := by
  have e : ValueIdx.ix2 (⟨16 + r.val, by omega⟩ : Fin 1040) k = (Rect.unit (s := ⟨2, ![1040, 512]⟩) ![16, 0] ![1024, 512] inb).emb (ValueIdx.ix2 r k) := funext fun a => Fin.ext (match a with
    | ⟨0, _⟩ => (show 16 + r.val = 16 + 1 * r.val by omega)
    | ⟨1, _⟩ => (show k.val = 0 + 1 * k.val by omega))
  rw [e]
  exact View.canon_cons_emb (Rect.unit (s := ⟨2, ![1040, 512]⟩) ![16, 0] ![1024, 512] inb) u L _
theorem canon_skip (u : B2 1024 512 .f32) (inb) (L : List (View.Piece (Elt Ideal) ⟨2, ![1040, 512]⟩ .f32)) (r : ℕ) (hr : r < 16) (k : Fin 512) :
    View.canon (⟨Rect.unit (s := ⟨2, ![1040, 512]⟩) ![16, 0] ![1024, 512] inb, u⟩ :: L) (ValueIdx.ix2 ⟨r, by omega⟩ k) = View.canon L (ValueIdx.ix2 ⟨r, by omega⟩ k) :=
  View.canon_cons_of_not_mem _ L (fun h => by
    have h2 : 16 ≤ r := ((Rect.mem_set_unit (inb := inb)).mp h 0).1
    omega)

theorem idx_cut (o : Nat) (inb) (r : Fin 1040) (k : Fin 128) (hk : o + k.val < 512) :
    (Rect.unit (s := ⟨2, ![1040, 512]⟩) ![0, o] ![1040, 128] inb).toLoadRect.idx (ValueIdx.ix2 r k) = ValueIdx.ix2 r ⟨o + k.val, hk⟩ :=
  funext fun a => Fin.ext (match a with
    | ⟨0, _⟩ => (show 0 + 1 * r.val = r.val by omega)
    | ⟨1, _⟩ => (show o + 1 * k.val = o + k.val by omega))

theorem extA_apply {sig : RefSig} {κ : Kind} {sp : Space} (v : View sig κ sp ⟨2, ![1040, 512]⟩ .f32) (u : B2 1024 512 .f32) (h : B2 16 512 .f32) (o : Nat) (inb)
    (E : ℕ → Fin 512 → EReal) (hh : ∀ (r : Fin 16) (k : Fin 512), h (ValueIdx.ix2 r k) = E r.val k)
    (hu : ∀ (r : Fin 1024) (k : Fin 512), u (ValueIdx.ix2 r k) = E (16 + r.val) k)
    (r : ℕ) (hr : r < 1040) (k : Fin 128) (hk : o + k.val < 512) : extA v u h o inb (ValueIdx.ix2 ⟨r, hr⟩ k) = E r ⟨o + k.val, hk⟩ := by
  unfold extA
  rw [View.readCov_eq_canon']
  refine (congrArg (View.canon _) (idx_cut o inb ⟨r, hr⟩ k hk)).trans ?_
  by_cases hr16 : r < 16
  · refine (canon_skip u _ _ r hr16 _).trans ((canon_lo h _ _ r hr16 _).trans (hh _ _))
  · have := canon_hi u (by decide) [⟨Rect.unit (s := ⟨2, ![1040, 512]⟩) ![0, 0] ![16, 512] (by decide), h⟩] ⟨r - 16, by omega⟩ ⟨o + k.val, hk⟩
    have er : (⟨16 + (r - 16), by omega⟩ : Fin 1040) = ⟨r, hr⟩ := Fin.ext (by show 16 + (r - 16) = r; omega)
    rw [show ((⟨16 + (⟨r - 16, by omega⟩ : Fin 1024).val, by show 16 + (r - 16) < 1040; omega⟩ : Fin 1040)) = ⟨r, hr⟩ from er] at this
    refine this.trans ((hu _ _).trans ?_)
    exact congrArg (fun q => E q _) (by show 16 + (r - 16) = r; omega)

theorem extB_apply {sig : RefSig} {κ : Kind} {sp : Space} (v : View sig κ sp ⟨2, ![1040, 512]⟩ .f32) (f : v.ty.Contents (Elt Ideal)) (u : B2 1024 512 .f32) (o : Nat) (inb)
    (E : ℕ → Fin 512 → EReal) (hh : ∀ (r : Fin 16) (k : Fin 512), View.read (Elt Ideal) v f (ValueIdx.ix2 ⟨r.val, by omega⟩ k) = E r.val k)
    (hu : ∀ (r : Fin 1024) (k : Fin 512), u (ValueIdx.ix2 r k) = E (16 + r.val) k)
    (r : ℕ) (hr : r < 1040) (k : Fin 128) (hk : o + k.val < 512) : extB v f u o inb (ValueIdx.ix2 ⟨r, hr⟩ k) = E r ⟨o + k.val, hk⟩ := by
  unfold extB
  show View.read (Elt Ideal) v _ ((Rect.unit (s := ⟨2, ![1040, 512]⟩) ![0, o] ![1040, 128] inb).toLoadRect.idx (ValueIdx.ix2 ⟨r, hr⟩ k)) = _
  rw [idx_cut o inb _ k hk]
  by_cases hr16 : r < 16
  · refine (View.read_writes_cons_unit_of_not_mem v f _ _ _ _ rfl (0 : Fin 2) (Or.inl hr16)).trans ?_
    exact hh ⟨r, hr16⟩ _
  · refine (View.read_writes_cons_unit_of_mem v f _ u _ _ (ValueIdx.ix2 ⟨r - 16, by omega⟩ ⟨o + k.val, hk⟩) rfl (fun a => match a with
      | ⟨0, _⟩ => (show r = 16 + (r - 16) by omega)
      | ⟨1, _⟩ => (Nat.zero_add _).symm)).trans ?_
    refine (hu _ _).trans ?_
    exact congrArg (fun q => E q _) (by show 16 + (r - 16) = r; omega)

end Proj

end
-- ==== Proof.ProjPt.lean ====
module

public import proofs.«01_k».proof.Proof.ProjBlk

/-! One tile of the projection blocks in terms of its batch's rows. -/

@[expose] public section

set_option maxRecDepth 16384

noncomputable section

namespace Proj

open Idealize.ShloMosaic Idealize.ShloMosaic.TcCoe

/-- A batch's projected rows, from its rows and the weights. -/
def pr (H : ℕ → Fin 1024 → EReal) (W : Fin 1024 → Fin 3080 → EReal) (s : ℕ) (n : Fin 3080) : EReal := ∑ k : Fin 1024, H s k * W k n
/-- The logarithm of a head's forget gate. -/
def lf (H : ℕ → Fin 1024 → EReal) (W : Fin 1024 → Fin 3080 → EReal) (FB : Fin 8 → EReal) (i : Fin 8) (s : ℕ) : EReal :=
  lsig (pr H W s ⟨3072 + i.val, by omega⟩ + FB i)
/-- The trailing mean over the rows there are, less the row. -/
def dlG (f : ℕ → EReal) (s w : ℕ) : EReal :=
  FloatOps.divf (F := Ideal) (φ := .f32) (∑ i ∈ Finset.range w, if i ≤ s then f (s - i) else 0) ((((min (s + 1) w : ℕ) : ℤ) : ℝ) : EReal) - f s
/-- The gated pooling of a row. -/
def poV (H : ℕ → Fin 1024 → EReal) (W : Fin 1024 → Fin 3080 → EReal) (PW : Fin 4 → Fin 128 → Fin 128 → EReal) (PS : Fin 512 → EReal)
    (s : ℕ) (g : Fin 4) (j : Fin 128) : EReal :=
  (∑ k : Fin 128, dlG (fun q => pr H W q ⟨(col g k).val, by omega⟩) s (win g) * PW g k j) * PS (col g j) * gate (pr H W s ⟨512 + (col g j).val, by omega⟩)

/-- The rows under their halo. -/
def ext (H : ℕ → Fin 1024 → EReal) (W : Fin 1024 → Fin 3080 → EReal) (s : ℕ) (k : Fin 512) : EReal := if 16 ≤ s then pr H W (s - 16) ⟨k.val, by omega⟩ else 0

theorem log_ne_top (z : B2 1024 128 .f32) (fb : B3 8 1 .f32) (i) : logT z fb i ≠ (⊤ : EReal) := by
  obtain ⟨a, b, rfl⟩ : ∃ (a : Fin 8) (b : Fin 1024), i = ValueIdx.ix2 a b := ⟨i 0, i 1, ValueIdx.eq_ix2 i⟩
  rw [logT_apply]; exact lsig_ne_top _

section tile
variable (H : ℕ → Fin 1024 → EReal) (W : Fin 1024 → Fin 3080 → EReal) (FB : Fin 8 → EReal) (T : ℕ)
  (h : B2 1024 1024 .bf16) (hh : ∀ (r k : Fin 1024), h (ValueIdx.ix2 r k) = H (T * 1024 + r.val) k)
include hh

theorem lo_apply (w0 : B3 1024 1536 .bf16) (hw0 : ∀ (k : Fin 1024) (j : Fin 1536), w0 (ValueIdx.ix3 0 k j) = W k ⟨j.val, by omega⟩)
    (o : ℕ) (hs) (r : Fin 1024) (j : Fin 512) (ho : o + j.val < 1536) :
    colsT o (wideT h w0) hs (ValueIdx.ix2 r j) = pr H W (T * 1024 + r.val) ⟨o + j.val, by omega⟩ := by
  rw [colsT_apply o _ hs r j ho, wideT_apply]
  unfold pr
  exact Finset.sum_congr rfl fun k _ => by rw [hh, hw0]
theorem hi_apply (w1 : B3 1024 1536 .bf16) (hw1 : ∀ (k : Fin 1024) (j : Fin 1536), w1 (ValueIdx.ix3 0 k j) = W k ⟨1536 + j.val, by omega⟩)
    (o : ℕ) (hs) (r : Fin 1024) (j : Fin 512) (ho : o + j.val < 1536) :
    colsT o (wideT h w1) hs (ValueIdx.ix2 r j) = pr H W (T * 1024 + r.val) ⟨1536 + (o + j.val), by omega⟩ := by
  rw [colsT_apply o _ hs r j ho, wideT_apply]
  unfold pr
  exact Finset.sum_congr rfl fun k _ => by rw [hh, hw1]

theorem log_apply (wf : B3 1024 128 .bf16) (hwf : ∀ (k : Fin 1024) (i : Fin 8), wf (ValueIdx.ix3 0 k ⟨i.val, by omega⟩) = W k ⟨3072 + i.val, by omega⟩)
    (fb : B3 8 1 .f32) (hfb : ∀ i : Fin 8, fb (ValueIdx.ix3 0 i 0) = FB i) (i : Fin 8) (q : Fin 1024) :
    logT (zT h wf) fb (ValueIdx.ix2 i q) = lf H W FB i (T * 1024 + q.val) := by
  rw [logT_apply, zT_apply, hfb]
  unfold lf pr
  refine congrArg lsig (congrArg₂ (fun s t : EReal => s + t) (Finset.sum_congr rfl fun k _ => ?_) rfl)
  rw [hh, hwf]

theorem pool_apply (hT : T < 4) (w0 : B3 1024 1536 .bf16) (hw0 : ∀ (k : Fin 1024) (j : Fin 1536), w0 (ValueIdx.ix3 0 k j) = W k ⟨j.val, by omega⟩) (hs hs')
    (e : Fin 4 → B2 1040 128 .f32) (he : ∀ (g : Fin 4) (r : ℕ) (hr : r < 1040) (k : Fin 128), e g (ValueIdx.ix2 ⟨r, hr⟩ k) = ext H W (T * 1024 + r) (col g k))
    (w : Fin 4 → FVec Ideal ⟨4, ![1, 1, 128, 128]⟩ .bf16) (PW : Fin 4 → Fin 128 → Fin 128 → EReal)
    (hw : ∀ (g : Fin 4) (k j : Fin 128), w g (ValueIdx.ix4 0 0 k j) = PW g k j) (ps : B3 1 512 .f32) (PS : Fin 512 → EReal)
    (hps : ∀ k : Fin 512, ps (ValueIdx.ix3 0 0 k) = PS k) (z : Fin 1) (r : Fin 1024) (g : Fin 4) (j : Fin 128) :
    poolT T (colsT 512 (wideT h w0) hs) (colsT 0 (wideT h w0) hs') (e 0) (e 1) (e 2) (e 3) (w 0) (w 1) (w 2) (w 3) ps (ValueIdx.ix3 z r (col g j))
      = poV H W PW PS (T * 1024 + r.val) g j := by
  refine (poolT_apply T hT _ _ e w ps (fun q k => ext H W (T * 1024 + q) k) he (fun r k => ?_) z r g j).trans ?_
  · rw [lo_apply H W T h hh w0 hw0 0 hs' r k (by omega)]
    unfold ext
    rw [if_pos (by omega)]
    exact congrArg₂ (pr H W) (by omega) (Fin.ext (Nat.zero_add _))
  unfold poV
  rw [hps, lo_apply H W T h hh w0 hw0 512 hs r (col g j) (by omega)]
  refine congrArg₂ (fun s t : EReal => s * t) (congrArg₂ (fun s t : EReal => s * t) (Finset.sum_congr rfl fun k _ => ?_) rfl) rfl
  refine congrArg₂ (fun s t : EReal => s * t) ?_ (hw g k j)
  have hw16 : win g ≤ 16 := by
    match g with
    | 0 => decide
    | 1 => decide
    | 2 => decide
    | 3 => decide
  unfold dl dlG
  refine congrArg₂ (fun s t : EReal => s - t) (congrArg₂ (FloatOps.divf (F := Ideal) (φ := .f32)) (Finset.sum_congr rfl fun i hi => ?_) rfl) ?_
  · rw [Finset.mem_range] at hi
    unfold ext
    dsimp only
    by_cases h1 : i ≤ T * 1024 + r.val
    · rw [if_pos (by omega), if_pos h1]
      exact congrArg (fun q => pr H W q _) (by omega)
    · rw [if_neg (by omega), if_neg h1]
  · unfold ext
    dsimp only
    rw [if_pos (by omega)]
    exact congrArg (fun q => pr H W q _) (by omega)

end tile

section halo
variable (H : ℕ → Fin 1024 → EReal) (W : Fin 1024 → Fin 3080 → EReal) (T : ℕ)

/-- The halo of the first tile is zero, of a later one the rows before it. -/
theorem ext_first (r : ℕ) (hr : r < 16) (k : Fin 512) : ext H W (0 * 1024 + r) k = 0 := if_neg (by omega)
theorem ext_later (hT : 0 < T) (r : ℕ) (k : Fin 512) : ext H W (T * 1024 + r) k = pr H W ((T - 1) * 1024 + (1008 + r)) ⟨k.val, by omega⟩ := by
  unfold ext
  rw [if_pos (by omega)]
  exact congrArg (fun q => pr H W q _) (by omega)
theorem ext_self (r : ℕ) (k : Fin 512) : ext H W (T * 1024 + (16 + r)) k = pr H W (T * 1024 + r) ⟨0 + k.val, by omega⟩ := by
  unfold ext
  rw [if_pos (by omega)]
  exact congrArg₂ (pr H W) (by omega) (Fin.ext (Nat.zero_add _).symm)

end halo

end Proj

end
-- ==== Proof.ProjArr.lean ====
module

public import proofs.«01_k».proof.Proof.ProjPt

/-! The projection calls' result arrays. -/

@[expose] public section

set_option maxRecDepth 16384

noncomputable section

namespace Proj

open Idealize.ShloMosaic Idealize.ShloMosaic.TcCoe

/-- A row of the sequence. -/
def at4 (s : ℕ) : Fin 4096 := ⟨s % 4096, Nat.mod_lt _ (by decide)⟩
theorem at4_val (s : Fin 4096) : at4 s.val = s := Fin.ext (Nat.mod_eq_of_lt s.isLt)

abbrev H8 : Type := Fin 8 → ℕ → Fin 1024 → EReal

/-- Columns `o …` of the projected rows. -/
def arrS (o : ℕ) (ho : o + 512 ≤ 3080) (H : H8) (W : Fin 1024 → Fin 3080 → EReal) : (⟨3, ![8, 4096, 512]⟩ : Shape).Idx → EReal :=
  fun i => pr (H (i 0)) W (i 1).val ⟨o + (i 2).val, by have : (i 2).val < 512 := (i 2).isLt; omega⟩
/-- The gated pooling. -/
def arrPo (H : H8) (W : Fin 1024 → Fin 3080 → EReal) (PW : Fin 4 → Fin 128 → Fin 128 → EReal) (PS : Fin 512 → EReal) :
    (⟨3, ![8, 4096, 512]⟩ : Shape).Idx → EReal :=
  fun i => poV (H (i 0)) W PW PS (i 1).val ⟨(i 2).val / 128, by have : (i 2).val < 512 := (i 2).isLt; omega⟩ ⟨(i 2).val % 128, Nat.mod_lt _ (by decide)⟩
/-- The running sums of the log forget gates. -/
def arrC (H : H8) (W : Fin 1024 → Fin 3080 → EReal) (FB : Fin 8 → EReal) : (⟨3, ![8, 8, 4096]⟩ : Shape).Idx → EReal :=
  fun i => ∑ k ∈ Finset.range ((i 2).val + 1), lf (H (i 0)) W FB (i 1) k

theorem arrPo_col (H : H8) (W PW PS) (b : Fin 8) (s : Fin 4096) (g : Fin 4) (j : Fin 128) :
    arrPo H W PW PS (ValueIdx.ix3 b s (col g j)) = poV (H b) W PW PS s.val g j := by
  show poV (H b) W PW PS s.val ⟨(128 * g.val + j.val) / 128, _⟩ ⟨(128 * g.val + j.val) % 128, _⟩ = _
  congr 1
  · exact Fin.ext (by show (128 * g.val + j.val) / 128 = g.val; omega)
  · exact Fin.ext (by show (128 * g.val + j.val) % 128 = j.val; omega)

/-- The prefix matrix beside a matrix of ones. -/
theorem prefix_apply (h0 h1 h2 h3 h4 hc) (k : Fin 128) (c : Fin 256) :
    concatenate (⟨2, ![128, 256]⟩ : Shape) 1
      [⟨⟨2, ![128, 128]⟩, (uitofp .bf16 (cmpi .sle
          (broadcastInDim (s := ⟨2, ![128, 1]⟩) ⟨2, ![128, 128]⟩ ![0, 1] h1 (broadcastInDim (s := ⟨1, ![128]⟩) ⟨2, ![128, 1]⟩ ![0] h0 (iotaInDim ⟨1, ![128]⟩ 32 0)))
          (broadcastInDim (s := ⟨2, ![1, 128]⟩) ⟨2, ![128, 128]⟩ ![0, 1] h3 (broadcastInDim (s := ⟨1, ![128]⟩) ⟨2, ![1, 128]⟩ ![1] h2 (iotaInDim ⟨1, ![128]⟩ 32 0)))) : B2 128 128 .bf16)⟩,
        ⟨⟨2, ![128, 128]⟩, (broadcastInDim (s := ⟨0, ![]⟩) ⟨2, ![128, 128]⟩ ![] h4 (constant (F := Ideal) ⟨0, ![]⟩ .bf16 0x3F80#16) : B2 128 128 .bf16)⟩] hc (ValueIdx.ix2 k c)
      = (if k.val ≤ c.val ∨ 128 ≤ c.val then 1 else 0 : EReal) := by
  have hk := k.isLt
  by_cases h : 128 ≤ c.val
  · rw [if_pos (Or.inr h)]
    refine (concatenate_apply_piece (t := ⟨2, ![128, 256]⟩) 1 _ hc (ValueIdx.ix2 k c) 1 (Nat.lt_succ_self 1) ⟨2, ![128, 128]⟩ _ rfl rfl 128 rfl (ValueIdx.ix2 k ⟨c.val - 128, by omega⟩)
      (fun b => match b with
        | ⟨0, _⟩ => fun _ => rfl
        | ⟨1, _⟩ => fun h => absurd rfl h) (by show 128 + (c.val - 128) = c.val; omega)).trans ?_
    exact Ideal.ofBits_one_bf16
  · refine (concatenate_apply_piece (t := ⟨2, ![128, 256]⟩) 1 _ hc (ValueIdx.ix2 k c) 0 (Nat.succ_pos 1) ⟨2, ![128, 128]⟩ _ rfl rfl 0 rfl (ValueIdx.ix2 k ⟨c.val, by omega⟩)
      (fun b => match b with
        | ⟨0, _⟩ => fun _ => rfl
        | ⟨1, _⟩ => fun h => absurd rfl h) (by show 0 + c.val = c.val; omega)).trans ?_
    have e1 := broadcastInDim_apply (α := BitVec 32) ![0, 1] h1 (broadcastInDim (s := ⟨1, ![128]⟩) ⟨2, ![128, 1]⟩ ![0] h0 (iotaInDim ⟨1, ![128]⟩ 32 0)) (ValueIdx.ix2 k ⟨c.val, by omega⟩)
      (ValueIdx.ix2 k (0 : Fin 1)) (fun a => match a with
        | ⟨0, _⟩ => rfl
        | ⟨1, _⟩ => rfl)
    have e2 := broadcastInDim_apply (α := BitVec 32) ![0] h0 (iotaInDim ⟨1, ![128]⟩ 32 0) (ValueIdx.ix2 k (0 : Fin 1)) (ValueIdx.ix1 k) (fun a => match a with
        | ⟨0, _⟩ => rfl)
    have e3 := broadcastInDim_apply (α := BitVec 32) ![0, 1] h3 (broadcastInDim (s := ⟨1, ![128]⟩) ⟨2, ![1, 128]⟩ ![1] h2 (iotaInDim ⟨1, ![128]⟩ 32 0)) (ValueIdx.ix2 k ⟨c.val, by omega⟩)
      (ValueIdx.ix2 (0 : Fin 1) (⟨c.val, by omega⟩ : Fin 128)) (fun a => match a with
        | ⟨0, _⟩ => rfl
        | ⟨1, _⟩ => rfl)
    have e4 := broadcastInDim_apply (α := BitVec 32) ![1] h2 (iotaInDim ⟨1, ![128]⟩ 32 0) (ValueIdx.ix2 (0 : Fin 1) (⟨c.val, by omega⟩ : Fin 128)) (ValueIdx.ix1 ⟨c.val, by omega⟩) (fun a => match a with
        | ⟨0, _⟩ => rfl)
    show (((BitVec.ofBool (BitVec.sle _ _)).toNat : ℝ) : EReal) = _
    rw [e1, e2, e3, e4]
    show (((BitVec.ofBool (BitVec.sle (BitVec.ofNat 32 k.val) (BitVec.ofNat 32 c.val))).toNat : ℝ) : EReal) = _
    have hs : BitVec.sle (BitVec.ofNat 32 k.val) (BitVec.ofNat 32 c.val) = decide (k.val ≤ c.val) := by
      have t1 : (BitVec.ofNat 32 k.val).toInt = (k.val : ℤ) := by
        rw [BitVec.toInt_eq_toNat_cond, BitVec.toNat_ofNat, Nat.mod_eq_of_lt (by omega), if_pos (by omega)]
      have t2 : (BitVec.ofNat 32 c.val).toInt = (c.val : ℤ) := by
        rw [BitVec.toInt_eq_toNat_cond, BitVec.toNat_ofNat, Nat.mod_eq_of_lt (by omega), if_pos (by omega)]
      unfold BitVec.sle
      rw [t1, t2]
      exact decide_eq_decide.mpr (by omega)
    rw [hs]
    by_cases hkc : k.val ≤ c.val
    · rw [if_pos (Or.inl hkc), decide_eq_true hkc]
      show (((1 : ℕ) : ℝ) : EReal) = 1
      simp
    · rw [if_neg (by omega), decide_eq_false hkc]
      show (((0 : ℕ) : ℝ) : EReal) = 0
      simp

/-- The matrix of running sums: a triangle of ones beside a square of ones. -/
def prefixT : B2 128 256 .bf16 :=
    concatenate (⟨2, ![128, 256]⟩ : Shape) 1
      [⟨⟨2, ![128, 128]⟩, (uitofp .bf16 (cmpi .sle
          (broadcastInDim (s := ⟨2, ![128, 1]⟩) ⟨2, ![128, 128]⟩ ![0, 1] (by decide) (broadcastInDim (s := ⟨1, ![128]⟩) ⟨2, ![128, 1]⟩ ![0] (by decide) (iotaInDim ⟨1, ![128]⟩ 32 0)))
          (broadcastInDim (s := ⟨2, ![1, 128]⟩) ⟨2, ![128, 128]⟩ ![0, 1] (by decide) (broadcastInDim (s := ⟨1, ![128]⟩) ⟨2, ![1, 128]⟩ ![1] (by decide) (iotaInDim ⟨1, ![128]⟩ 32 0)))) : B2 128 128 .bf16)⟩,
        ⟨⟨2, ![128, 128]⟩, (broadcastInDim (s := ⟨0, ![]⟩) ⟨2, ![128, 128]⟩ ![] (by decide) (constant (F := Ideal) ⟨0, ![]⟩ .bf16 0x3F80#16) : B2 128 128 .bf16)⟩] (by decide)
theorem prefixT_apply (k : Fin 128) (c : Fin 256) : prefixT (ValueIdx.ix2 k c) = (if k.val ≤ c.val ∨ 128 ≤ c.val then 1 else 0 : EReal) :=
  prefix_apply _ _ _ _ _ _ k c

end Proj

end
-- ==== Proof.ProjRef.lean ====
module

public import proofs.«01_k».proof.Proof.ProjArr

/-! The same projection as the plain programs write it: prefix sums, differences of prefix sums, the softplus, read one index at a time. -/

@[expose] public section

set_option maxRecDepth 16384

noncomputable section

namespace Proj

open Idealize.ShloMosaic Idealize.ShloMosaic.TcCoe

abbrev F3 (a b c : Nat) : Type := FVec Ideal ⟨3, ![a, b, c]⟩ .f32
abbrev F1 (a : Nat) : Type := FVec Ideal ⟨1, ![a]⟩ .f32

/-! ## Prefix sums -/

theorem fold_sum {α : Type} (l : List α) (g : α → EReal) (v : EReal) : l.foldl (fun r n => r + g n) v = v + (l.map g).sum := by
  induction l generalizing v with
  | nil => simp
  | cons a l ih => simp only [List.foldl_cons, List.map_cons, List.sum_cons]; rw [ih, add_assoc]

/-- The positions of a window over the rows. -/
def rowsW (N : Nat) : (⟨3, ![1, N, 1]⟩ : Shape).Idx ≃ Fin N where
  toFun w := w 1
  invFun n := ValueIdx.ix3 0 n 0
  left_inv w := funext fun a => match a with
    | ⟨0, _⟩ => Subsingleton.elim (α := Fin 1) _ _
    | ⟨1, _⟩ => rfl
    | ⟨2, _⟩ => Subsingleton.elim (α := Fin 1) _ _
  right_inv n := rfl

theorem window_sum (N L : ℕ) (hN : L + 1 = N) (f : ℕ → EReal) (s : ℕ) (hs : s < N) :
    (∑ n : Fin N, if L ≤ s + n.val then f (s + n.val - L) else 0) = ∑ q ∈ Finset.range (s + 1), f q := by
  rw [← Finset.sum_range (fun n => if L ≤ s + n then f (s + n - L) else 0)]
  have e : N = (L - s) + (s + 1) := by omega
  rw [e, Finset.sum_range_add (fun n => if L ≤ s + n then f (s + n - L) else 0) (L - s) (s + 1)]
  rw [Finset.sum_eq_zero (s := Finset.range (L - s)) (fun n hn => if_neg (by rw [Finset.mem_range] at hn; omega)), zero_add]
  exact Finset.sum_congr rfl fun q hq => by
    rw [if_pos (by omega)]
    exact congrArg f (by omega)

theorem cum_apply {C N : Nat} (L : Nat) (hN : L + 1 = N) (x : FVec Ideal ⟨3, ![8, N, C]⟩ .f32)
    (h : (⟨3, ![8, N, C]⟩ : Shape).ReduceWindows (![1, N, 1] : Fin 3 → Nat) ![1, 1, 1] ![0, L, 0] ![0, 0, 0] ⟨3, ![8, N, C]⟩)
    (init : FVec Ideal ⟨0, ![]⟩ .f32) (hu : 0 < (⟨0, ![]⟩ : Shape).numel) (hv : ∀ i, init i = (0 : EReal))
    (b : Fin 8) (s : Fin N) (k : Fin C) (f : ℕ → EReal) (hf : ∀ (q : ℕ) (hq : q < N), x (ValueIdx.ix3 b ⟨q, hq⟩ k) = f q) :
    Host.reduceWindowAdd ![1, N, 1] ![1, 1, 1] ![0, L, 0] ![0, 0, 0] x init h hu (ValueIdx.ix3 b s k) = ∑ q ∈ Finset.range (s.val + 1), f q := by
  show Host.reduceWindow (fun p q : EReal => p + q) ![1, N, 1] ![1, 1, 1] ![0, L, 0] ![0, 0, 0] x (fun _ : (⟨0, ![]⟩ : Shape).Idx => init (Shape.Idx.first hu)) h hu (ValueIdx.ix3 b s k) = _
  unfold Host.reduceWindow
  dsimp only
  refine (fold_sum _ _ _).trans ?_
  rw [hv, zero_add, ← Fin.sum_univ_def]
  refine (Fintype.sum_equiv ((⟨3, ![1, N, 1]⟩ : Shape).rowMajor.symm.trans (rowsW N)) _ (fun n : Fin N => if L ≤ s.val + n.val then f (s.val + n.val - L) else 0)
    fun n => ?_).trans (window_sum N L hN f s.val s.isLt)
  show _ = if L ≤ s.val + ((⟨3, ![1, N, 1]⟩ : Shape).rowMajor.symm n 1).val then f (s.val + ((⟨3, ![1, N, 1]⟩ : Shape).rowMajor.symm n 1).val - L) else 0
  have w0 : ((⟨3, ![1, N, 1]⟩ : Shape).rowMajor.symm n 0).val < 1 := ((⟨3, ![1, N, 1]⟩ : Shape).rowMajor.symm n 0).isLt
  have w1 : ((⟨3, ![1, N, 1]⟩ : Shape).rowMajor.symm n 1).val < N := ((⟨3, ![1, N, 1]⟩ : Shape).rowMajor.symm n 1).isLt
  have w2 : ((⟨3, ![1, N, 1]⟩ : Shape).rowMajor.symm n 2).val < 1 := ((⟨3, ![1, N, 1]⟩ : Shape).rowMajor.symm n 2).isLt
  have hb := b.isLt
  have hs := s.isLt
  have hk := k.isLt
  by_cases hc : L ≤ s.val + ((⟨3, ![1, N, 1]⟩ : Shape).rowMajor.symm n 1).val
  · rw [if_pos hc]
    refine (dif_pos (fun a => ?_)).trans ?_
    · match a with
      | ⟨0, _⟩ => show 0 ≤ b.val * 1 + ((⟨3, ![1, N, 1]⟩ : Shape).rowMajor.symm n 0).val ∧ b.val * 1 + ((⟨3, ![1, N, 1]⟩ : Shape).rowMajor.symm n 0).val - 0 < 8; omega
      | ⟨1, _⟩ => show L ≤ s.val * 1 + ((⟨3, ![1, N, 1]⟩ : Shape).rowMajor.symm n 1).val ∧ s.val * 1 + ((⟨3, ![1, N, 1]⟩ : Shape).rowMajor.symm n 1).val - L < N; omega
      | ⟨2, _⟩ => show 0 ≤ k.val * 1 + ((⟨3, ![1, N, 1]⟩ : Shape).rowMajor.symm n 2).val ∧ k.val * 1 + ((⟨3, ![1, N, 1]⟩ : Shape).rowMajor.symm n 2).val - 0 < C; omega
    · rw [← hf (s.val + ((⟨3, ![1, N, 1]⟩ : Shape).rowMajor.symm n 1).val - L) (by omega)]
      refine congrArg x (funext fun a => Fin.ext ?_)
      match a with
      | ⟨0, _⟩ => show b.val * 1 + ((⟨3, ![1, N, 1]⟩ : Shape).rowMajor.symm n 0).val - 0 = b.val; omega
      | ⟨1, _⟩ => show s.val * 1 + ((⟨3, ![1, N, 1]⟩ : Shape).rowMajor.symm n 1).val - L = s.val + ((⟨3, ![1, N, 1]⟩ : Shape).rowMajor.symm n 1).val - L; omega
      | ⟨2, _⟩ => show k.val * 1 + ((⟨3, ![1, N, 1]⟩ : Shape).rowMajor.symm n 2).val - 0 = k.val; omega
  · rw [if_neg hc]
    refine dif_neg ?_
    intro hin
    have h1 : L ≤ s.val * 1 + ((⟨3, ![1, N, 1]⟩ : Shape).rowMajor.symm n 1).val := (hin (1 : Fin 3)).1
    omega

theorem zero0R (i) : broadcastInDim (s := ⟨0, ![]⟩) ⟨0, ![]⟩ ![] (by decide) (constant (F := Ideal) ⟨0, ![]⟩ .f32 0x00000000#32) i = (0 : EReal) := Ideal.ofBits_zero_f32

def cumR {C : Nat} (h : (⟨3, ![8, 4096, C]⟩ : Shape).ReduceWindows (![1, 4096, 1] : Fin 3 → Nat) ![1, 1, 1] ![0, 4095, 0] ![0, 0, 0] ⟨3, ![8, 4096, C]⟩)
    (x : F3 8 4096 C) : F3 8 4096 C :=
  Host.reduceWindowAdd ![1, 4096, 1] ![1, 1, 1] ![0, 4095, 0] ![0, 0, 0] x
    (broadcastInDim (s := ⟨0, ![]⟩) ⟨0, ![]⟩ ![] (by decide) (constant (F := Ideal) ⟨0, ![]⟩ .f32 0x00000000#32)) h (by decide)
theorem cumR_apply {C : Nat} (h) (x : F3 8 4096 C) (b : Fin 8) (s : Fin 4096) (k : Fin C) :
    cumR h x (ValueIdx.ix3 b s k) = ∑ q ∈ Finset.range (s.val + 1), (x (ValueIdx.ix3 b (at4 q) k) : EReal) := by
  unfold cumR
  exact cum_apply (N := 4096) 4095 (by norm_num) x h _ (by decide) zero0R b s k (fun q => x (ValueIdx.ix3 b (at4 q) k))
    (fun q hq => congrArg (fun t : Fin 4096 => x (ValueIdx.ix3 b t k)) (Fin.ext (Nat.mod_eq_of_lt hq).symm))

/-! ## The trailing windows -/

def zerosR (n C : Nat) (h : (⟨0, ![]⟩ : Shape).BroadcastsInDim ⟨3, ![8, n, C]⟩ ![]) : F3 8 n C :=
  broadcastInDim (s := ⟨0, ![]⟩) ⟨3, ![8, n, C]⟩ ![] h (constant (F := Ideal) ⟨0, ![]⟩ .f32 0x00000000#32)

theorem catP : Shape.Concatenates [⟨3, ![8, 1, 512]⟩, ⟨3, ![8, 4096, 512]⟩] ⟨3, ![8, 4097, 512]⟩ 1 := by decide
theorem catS : Shape.Concatenates [⟨4, ![8, 4096, 1, 128]⟩, ⟨4, ![8, 4096, 1, 128]⟩, ⟨4, ![8, 4096, 1, 128]⟩, ⟨4, ![8, 4096, 1, 128]⟩] ⟨4, ![8, 4096, 4, 128]⟩ 2 := by decide
def padR (u : F3 8 4096 512) : F3 8 4097 512 :=
  concatenate ⟨3, ![8, 4097, 512]⟩ 1 [⟨⟨3, ![8, 1, 512]⟩, zerosR 1 512 (by decide)⟩, ⟨⟨3, ![8, 4096, 512]⟩, cumR (by decide) u⟩] catP
theorem padR_apply (u : F3 8 4096 512) (b : Fin 8) (r : ℕ) (hr : r < 4097) (k : Fin 512) :
    padR u (ValueIdx.ix3 b ⟨r, hr⟩ k) = ∑ q ∈ Finset.range r, (u (ValueIdx.ix3 b (at4 q) k) : EReal) := by
  unfold padR
  cases r with
  | zero =>
    refine (concatenate_pair_apply_left (t := ⟨3, ![8, 4097, 512]⟩) (s₁ := ⟨3, ![8, 1, 512]⟩) (s₂ := ⟨3, ![8, 4096, 512]⟩) 1 _ _ _
      (ValueIdx.ix3 b ⟨0, hr⟩ k) rfl (ValueIdx.ix3 b 0 k)
      (fun a => match a with
        | ⟨0, _⟩ => rfl
        | ⟨1, _⟩ => rfl
        | ⟨2, _⟩ => rfl)).trans ?_
    exact Ideal.ofBits_zero_f32
  | succ r =>
    refine (concatenate_pair_apply_right (t := ⟨3, ![8, 4097, 512]⟩) (s₁ := ⟨3, ![8, 1, 512]⟩) (s₂ := ⟨3, ![8, 4096, 512]⟩) 1 _ _ _
      (ValueIdx.ix3 b ⟨r + 1, hr⟩ k) rfl rfl (ValueIdx.ix3 b ⟨r, by omega⟩ k)
      (fun a => match a with
        | ⟨0, _⟩ => fun _ => rfl
        | ⟨1, _⟩ => fun h => absurd rfl h
        | ⟨2, _⟩ => fun _ => rfl) rfl).trans ?_
    exact cumR_apply _ u b ⟨r, by omega⟩ k

/-- How many rows a window holds. -/
def cntR (w : BitVec 32) : F1 4096 :=
  sitofp (F := Ideal) .f32 (minsi (addi (iotaInDim ⟨1, ![4096]⟩ 32 0) (broadcastInDim (s := ⟨0, ![]⟩) ⟨1, ![4096]⟩ ![] (by decide) (constantI ⟨0, ![]⟩ 32 1#32)))
    (broadcastInDim (s := ⟨0, ![]⟩) ⟨1, ![4096]⟩ ![] (by decide) (constantI ⟨0, ![]⟩ 32 w)))
theorem cntR_apply (w : BitVec 32) (hw : w.toNat ≤ 16) (s : Fin 4096) : cntR w (ValueIdx.ix1 s) = ((((min (s.val + 1) w.toNat : ℕ) : ℤ) : ℝ) : EReal) := by
  have hs := s.isLt
  have key : ∀ a : BitVec 32, a.toNat = s.val + 1 → (IntOp.minsi a w).toInt = ((min (s.val + 1) w.toNat : ℕ) : ℤ) := fun a ha => by
    have ea : a.toInt = (a.toNat : ℤ) := by rw [BitVec.toInt_eq_toNat_cond, if_pos (by omega)]
    have ew : w.toInt = (w.toNat : ℤ) := by rw [BitVec.toInt_eq_toNat_cond, if_pos (by omega)]
    unfold IntOp.minsi
    by_cases hc : a.slt w
    · rw [if_pos hc, ea, ha]
      rw [BitVec.slt, decide_eq_true_iff, ea, ew] at hc
      omega
    · rw [if_neg hc, ew]
      rw [BitVec.slt, decide_eq_true_iff, ea, ew] at hc
      omega
  have ha : (BitVec.ofNat 32 s.val + 1#32).toNat = s.val + 1 := by
    rw [BitVec.toNat_add, BitVec.toNat_ofNat, Nat.mod_eq_of_lt (a := s.val) (by omega)]
    show (s.val + 1) % 4294967296 = _
    omega
  show (((IntOp.minsi (BitVec.ofNat 32 s.val + 1#32) w).toInt : ℝ) : EReal) = _
  rw [key _ ha]

/-- A group's columns: the trailing mean over the rows there are, less the row. -/
def groupR (n n' o : Nat) (w : BitVec 32) (u : F3 8 4096 512)
    (h1 : (⟨3, ![8, 4097, 512]⟩ : Shape).Slices ![0, 0, o] ⟨3, ![8, 4097, 128]⟩) (h2 : (⟨3, ![8, 4097, 128]⟩ : Shape).Slices ![0, 1, 0] ⟨3, ![8, 4096, 128]⟩)
    (h3 : (⟨0, ![]⟩ : Shape).BroadcastsInDim ⟨3, ![8, n, 128]⟩ ![]) (h4 : (⟨3, ![8, 4097, 128]⟩ : Shape).Slices ![0, 0, 0] ⟨3, ![8, n', 128]⟩)
    (h5 : Shape.Concatenates [⟨3, ![8, n, 128]⟩, ⟨3, ![8, n', 128]⟩] ⟨3, ![8, 4096, 128]⟩ 1) (h6 : (⟨3, ![8, 4096, 512]⟩ : Shape).Slices ![0, 0, o] ⟨3, ![8, 4096, 128]⟩) : F3 8 4096 128 :=
  subf (F := Ideal) (Host.divf (F := Ideal) (subf (F := Ideal)
      (extractStridedSlice ⟨3, ![8, 4096, 128]⟩ ![0, 1, 0] (extractStridedSlice ⟨3, ![8, 4097, 128]⟩ ![0, 0, o] (padR u) h1) h2)
      (concatenate ⟨3, ![8, 4096, 128]⟩ 1 [⟨⟨3, ![8, n, 128]⟩, zerosR n 128 h3⟩,
        ⟨⟨3, ![8, n', 128]⟩, extractStridedSlice ⟨3, ![8, n', 128]⟩ ![0, 0, 0] (extractStridedSlice ⟨3, ![8, 4097, 128]⟩ ![0, 0, o] (padR u) h1) h4⟩] h5))
    (broadcastInDim (s := ⟨3, ![1, 4096, 1]⟩) ⟨3, ![8, 4096, 128]⟩ ![0, 1, 2] (by decide) (broadcastInDim (s := ⟨1, ![4096]⟩) ⟨3, ![1, 4096, 1]⟩ ![1] (by decide) (cntR w))))
    (extractStridedSlice ⟨3, ![8, 4096, 128]⟩ ![0, 0, o] u h6)

theorem cutR {A : Nat} (o : Nat) (x : F3 8 A 512) (h) (b : Fin 8) (s : Fin A) (k : Fin 128) (hk : o + k.val < 512) :
    extractStridedSlice ⟨3, ![8, A, 128]⟩ ![0, 0, o] x h (ValueIdx.ix3 b s k) = x (ValueIdx.ix3 b s ⟨o + k.val, hk⟩) :=
  extractStridedSlice_apply _ _ _ _ (ValueIdx.ix3 b s ⟨o + k.val, hk⟩) (fun a => match a with
    | ⟨0, _⟩ => (Nat.zero_add b.val).symm
    | ⟨1, _⟩ => (Nat.zero_add s.val).symm
    | ⟨2, _⟩ => rfl)

theorem groupR_apply (n n' o : Nat) (hn : n + n' = 4096) (w : BitVec 32) (hw : w.toNat = n + 1) (hn' : n ≤ 15) (u : F3 8 4096 512)
    (h1 : (⟨3, ![8, 4097, 512]⟩ : Shape).Slices ![0, 0, o] ⟨3, ![8, 4097, 128]⟩) (h2 : (⟨3, ![8, 4097, 128]⟩ : Shape).Slices ![0, 1, 0] ⟨3, ![8, 4096, 128]⟩)
    (h3 : (⟨0, ![]⟩ : Shape).BroadcastsInDim ⟨3, ![8, n, 128]⟩ ![]) (h4 : (⟨3, ![8, 4097, 128]⟩ : Shape).Slices ![0, 0, 0] ⟨3, ![8, n', 128]⟩)
    (h5 : Shape.Concatenates [⟨3, ![8, n, 128]⟩, ⟨3, ![8, n', 128]⟩] ⟨3, ![8, 4096, 128]⟩ 1) (h6 : (⟨3, ![8, 4096, 512]⟩ : Shape).Slices ![0, 0, o] ⟨3, ![8, 4096, 128]⟩)
    (b : Fin 8) (s : Fin 4096) (k : Fin 128) (hk : o + k.val < 512) :
    groupR n n' o w u h1 h2 h3 h4 h5 h6 (ValueIdx.ix3 b s k)
      = FloatOps.divf (F := Ideal) (φ := .f32)
          ((∑ q ∈ Finset.range (s.val + 1), (u (ValueIdx.ix3 b (at4 q) ⟨o + k.val, hk⟩) : EReal)) - ∑ q ∈ Finset.range (s.val - n), (u (ValueIdx.ix3 b (at4 q) ⟨o + k.val, hk⟩) : EReal))
          ((((min (s.val + 1) (n + 1) : ℕ) : ℤ) : ℝ) : EReal) - (u (ValueIdx.ix3 b s ⟨o + k.val, hk⟩) : EReal) := by
  have hs := s.isLt
  unfold groupR
  refine congrArg₂ (fun p q : EReal => p - q) (congrArg₂ (FloatOps.divf (F := Ideal) (φ := .f32)) (congrArg₂ (fun p q : EReal => p - q) ?_ ?_) ?_) (cutR o u h6 b s k hk)
  · refine (extractStridedSlice_apply _ _ _ _ (ValueIdx.ix3 b (⟨s.val + 1, by omega⟩ : Fin 4097) k) (fun a => match a with
      | ⟨0, _⟩ => (Nat.zero_add b.val).symm
      | ⟨1, _⟩ => (Nat.add_comm s.val 1)
      | ⟨2, _⟩ => (Nat.zero_add k.val).symm)).trans ?_
    exact (cutR o (padR u) h1 b _ k hk).trans (padR_apply u b _ _ _)
  · by_cases hc : s.val < n
    · refine (concatenate_pair_apply_left (t := ⟨3, ![8, 4096, 128]⟩) (s₁ := ⟨3, ![8, n, 128]⟩) (s₂ := ⟨3, ![8, n', 128]⟩) 1 _ _ _
        (ValueIdx.ix3 b s k) rfl (ValueIdx.ix3 b ⟨s.val, hc⟩ k)
        (fun a => match a with
          | ⟨0, _⟩ => rfl
          | ⟨1, _⟩ => rfl
          | ⟨2, _⟩ => rfl)).trans ?_
      rw [show s.val - n = 0 by omega, Finset.sum_range_zero]
      exact Ideal.ofBits_zero_f32
    · refine (concatenate_pair_apply_right (t := ⟨3, ![8, 4096, 128]⟩) (s₁ := ⟨3, ![8, n, 128]⟩) (s₂ := ⟨3, ![8, n', 128]⟩) 1 _ _ _
        (ValueIdx.ix3 b s k) rfl rfl (ValueIdx.ix3 b ⟨s.val - n, by omega⟩ k)
        (fun a => match a with
          | ⟨0, _⟩ => fun _ => rfl
          | ⟨1, _⟩ => fun h => absurd rfl h
          | ⟨2, _⟩ => fun _ => rfl) (by show s.val - n + n = s.val; omega)).trans ?_
      refine (extractStridedSlice_apply _ _ _ _ (ValueIdx.ix3 b (⟨s.val - n, by omega⟩ : Fin 4097) k) (fun a => match a with
        | ⟨0, _⟩ => (Nat.zero_add b.val).symm
        | ⟨1, _⟩ => (Nat.zero_add _).symm
        | ⟨2, _⟩ => (Nat.zero_add k.val).symm)).trans ?_
      exact (cutR o (padR u) h1 b _ k hk).trans (padR_apply u b _ _ _)
  · refine (broadcastInDim_apply (α := EReal) ![0, 1, 2] _ _ (ValueIdx.ix3 b s k) (ValueIdx.ix3 (0 : Fin 1) s (0 : Fin 1)) (fun a => match a with
      | ⟨0, _⟩ => rfl
      | ⟨1, _⟩ => rfl
      | ⟨2, _⟩ => rfl)).trans ?_
    refine (broadcastInDim_apply (α := EReal) ![1] _ _ (ValueIdx.ix3 (0 : Fin 1) s (0 : Fin 1)) (ValueIdx.ix1 s) (fun a => match a with
      | ⟨0, _⟩ => rfl)).trans ?_
    rw [cntR_apply w (by omega) s, hw]

/-! ## Real sums -/

def IsReal (x : EReal) : Prop := ∃ r : ℝ, x = (r : EReal)
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.sum {ι : Type} (s : Finset ι) (f : ι → EReal) (h : ∀ i, IsReal (f i)) : IsReal (∑ i ∈ s, f i) :=
  Finset.sum_induction f IsReal (fun _ _ ha hb => ha.add hb) ⟨0, EReal.coe_zero.symm⟩ fun i _ => h i

theorem windows (f : ℕ → EReal) (hf : ∀ q, IsReal (f q)) (s n : ℕ) :
    (∑ q ∈ Finset.range (s + 1), f q) - ∑ q ∈ Finset.range (s - n), f q = ∑ i ∈ Finset.range (n + 1), if i ≤ s then f (s - i) else 0 := by
  by_cases hc : n ≤ s
  · have e : s + 1 = (s - n) + (n + 1) := by omega
    obtain ⟨a, ha⟩ := IsReal.sum (Finset.range (s - n)) f hf
    have hB : ∑ i ∈ Finset.range (n + 1), f (s - n + i) = ∑ i ∈ Finset.range (n + 1), if i ≤ s then f (s - i) else 0 := by
      rw [← Finset.sum_range_reflect]
      refine Finset.sum_congr rfl fun i hi => ?_
      rw [Finset.mem_range] at hi
      rw [if_pos (by omega)]
      exact congrArg f (by omega)
    obtain ⟨c, hcR⟩ := IsReal.sum (Finset.range (n + 1)) (fun i => f (s - n + i)) fun i => hf _
    rw [e, Finset.sum_range_add f (s - n) (n + 1), ← hB, ha, hcR, ← EReal.coe_add, ← EReal.coe_sub]
    exact congrArg _ (by ring)
  · have e : n + 1 = (s + 1) + (n - s) := by omega
    rw [show s - n = 0 by omega, Finset.sum_range_zero, sub_zero, e, Finset.sum_range_add (fun i => if i ≤ s then f (s - i) else 0) (s + 1) (n - s)]
    rw [Finset.sum_eq_zero (s := Finset.range (n - s)) (fun i _ => if_neg (by omega)), add_zero, ← Finset.sum_range_reflect]
    refine Finset.sum_congr rfl fun i hi => ?_
    rw [Finset.mem_range] at hi
    rw [if_pos (by omega)]
    exact congrArg f (by omega)

/-- A group's columns are the trailing means, where the rows are real. -/
theorem groupR_eq (n n' o : Nat) (hn : n + n' = 4096) (w : BitVec 32) (hw : w.toNat = n + 1) (hn' : n ≤ 15) (u : F3 8 4096 512)
    (h1 : (⟨3, ![8, 4097, 512]⟩ : Shape).Slices ![0, 0, o] ⟨3, ![8, 4097, 128]⟩) (h2 : (⟨3, ![8, 4097, 128]⟩ : Shape).Slices ![0, 1, 0] ⟨3, ![8, 4096, 128]⟩)
    (h3 : (⟨0, ![]⟩ : Shape).BroadcastsInDim ⟨3, ![8, n, 128]⟩ ![]) (h4 : (⟨3, ![8, 4097, 128]⟩ : Shape).Slices ![0, 0, 0] ⟨3, ![8, n', 128]⟩)
    (h5 : Shape.Concatenates [⟨3, ![8, n, 128]⟩, ⟨3, ![8, n', 128]⟩] ⟨3, ![8, 4096, 128]⟩ 1) (h6 : (⟨3, ![8, 4096, 512]⟩ : Shape).Slices ![0, 0, o] ⟨3, ![8, 4096, 128]⟩)
    (U : Fin 8 → ℕ → Fin 512 → EReal) (hu : ∀ (b : Fin 8) (s : Fin 4096) (k : Fin 512), u (ValueIdx.ix3 b s k) = U b s.val k) (hU : ∀ b s k, IsReal (U b s k))
    (b : Fin 8) (s : Fin 4096) (k : Fin 128) (hk : o + k.val < 512) :
    groupR n n' o w u h1 h2 h3 h4 h5 h6 (ValueIdx.ix3 b s k) = dlG (fun q => U b q ⟨o + k.val, hk⟩) s.val (n + 1) := by
  have hs := s.isLt
  refine (groupR_apply n n' o hn w hw hn' u h1 h2 h3 h4 h5 h6 b s k hk).trans ?_
  unfold dlG
  rw [← windows (fun q => U b q ⟨o + k.val, hk⟩) (fun q => hU _ _ _) s.val n, hu]
  refine congrArg₂ (fun p q : EReal => p - q) (congrArg₂ (FloatOps.divf (F := Ideal) (φ := .f32)) (congrArg₂ (fun p q : EReal => p - q) ?_ ?_) rfl) rfl
  · refine Finset.sum_congr rfl fun q hq => ?_
    rw [Finset.mem_range] at hq
    rw [hu]
    exact congrArg (fun r => U b r _) (Nat.mod_eq_of_lt (by omega))
  · refine Finset.sum_congr rfl fun q hq => ?_
    rw [Finset.mem_range] at hq
    rw [hu]
    exact congrArg (fun r => U b r _) (Nat.mod_eq_of_lt (by omega))

def upR (x : F3 8 4096 128) : FVec Ideal ⟨4, ![8, 4096, 1, 128]⟩ .f32 :=
  broadcastInDim (s := ⟨3, ![8, 4096, 128]⟩) ⟨4, ![8, 4096, 1, 128]⟩ ![0, 1, 3] (by decide) x
theorem upR_apply (x : F3 8 4096 128) (b : Fin 8) (s : Fin 4096) (z : Fin 1) (k : Fin 128) : upR x (ValueIdx.ix4 b s z k) = x (ValueIdx.ix3 b s k) :=
  broadcastInDim_apply (α := EReal) ![0, 1, 3] _ x (ValueIdx.ix4 b s z k) (ValueIdx.ix3 b s k) (fun a => match a with
    | ⟨0, _⟩ => rfl
    | ⟨1, _⟩ => rfl
    | ⟨2, _⟩ => rfl)

/-- The four groups beside each other. -/
def stackR (p : Fin 4 → F3 8 4096 128) : FVec Ideal ⟨4, ![8, 4096, 4, 128]⟩ .f32 :=
  concatenate ⟨4, ![8, 4096, 4, 128]⟩ 2
    [⟨⟨4, ![8, 4096, 1, 128]⟩, upR (p 0)⟩, ⟨⟨4, ![8, 4096, 1, 128]⟩, upR (p 1)⟩, ⟨⟨4, ![8, 4096, 1, 128]⟩, upR (p 2)⟩, ⟨⟨4, ![8, 4096, 1, 128]⟩, upR (p 3)⟩] catS
theorem stackR_apply (p : Fin 4 → F3 8 4096 128) (b : Fin 8) (s : Fin 4096) (g : Fin 4) (k : Fin 128) :
    stackR p (ValueIdx.ix4 b s g k) = p g (ValueIdx.ix3 b s k) := by
  unfold stackR
  refine (concatenate_apply_piece (t := ⟨4, ![8, 4096, 4, 128]⟩) 2
    [⟨⟨4, ![8, 4096, 1, 128]⟩, upR (p 0)⟩, ⟨⟨4, ![8, 4096, 1, 128]⟩, upR (p 1)⟩, ⟨⟨4, ![8, 4096, 1, 128]⟩, upR (p 2)⟩, ⟨⟨4, ![8, 4096, 1, 128]⟩, upR (p 3)⟩]
    catS (ValueIdx.ix4 b s g k) g.val g.isLt ⟨4, ![8, 4096, 1, 128]⟩ (upR (p g)) ?_ rfl g.val ?_ (ValueIdx.ix4 b s (0 : Fin 1) k)
    (fun a => match a with
      | ⟨0, _⟩ => fun _ => rfl
      | ⟨1, _⟩ => fun _ => rfl
      | ⟨2, _⟩ => fun h => absurd rfl h
      | ⟨3, _⟩ => fun _ => rfl) rfl).trans (upR_apply (p g) b s 0 k)
  · match g with
    | 0 => rfl
    | 1 => rfl
    | 2 => rfl
    | 3 => rfl
  · match g with
    | 0 => rfl
    | 1 => rfl
    | 2 => rfl
    | 3 => rfl

/-! ## The logarithm of the forget gate -/

def sumR (a b : F3 8 4096 8) : F3 8 4096 8 := addf (F := Ideal) a b
def zero8R : F3 8 4096 8 := broadcastInDim (s := ⟨0, ![]⟩) ⟨3, ![8, 4096, 8]⟩ ![] (by decide) (constant (F := Ideal) ⟨0, ![]⟩ .f32 0x00000000#32)
def softR (v : F3 8 4096 8) : F3 8 4096 8 :=
  select (cmpf (F := Ideal) .une (subf v zero8R) (subf v zero8R)) (addf v zero8R)
    (addf (maximumf v zero8R) (Host.log1p (Host.exp (Host.negf (Host.absf (subf v zero8R))))))
def logR (z : F3 8 4096 8) : F3 8 4096 8 := Host.negf (softR (Host.negf z))

theorem log1p_exp_ne_bot (x : EReal) : Ideal.log1p (Ideal.exp x) ≠ ⊥ := by
  induction x with
  | bot => show Ideal.log (1 + ((0 : ℝ) : EReal)) ≠ ⊥
           rw [show (1 : EReal) + ((0 : ℝ) : EReal) = ((1 : ℝ) : EReal) by norm_num]
           show (if (1 : ℝ) ≤ 0 then (⊥ : EReal) else _) ≠ ⊥
           rw [if_neg (by norm_num)]; exact EReal.coe_ne_bot _
  | top => show Ideal.log (1 + ⊤) ≠ ⊥
           rw [show (1 : EReal) + ⊤ = ⊤ from EReal.coe_add_top 1]
           exact fun h => by cases h
  | coe r => show Ideal.log (1 + ((Real.exp r : ℝ) : EReal)) ≠ ⊥
             rw [show (1 : EReal) + ((Real.exp r : ℝ) : EReal) = ((1 + Real.exp r : ℝ) : EReal) by push_cast; rfl]
             show (if (1 + Real.exp r : ℝ) ≤ 0 then (⊥ : EReal) else _) ≠ ⊥
             rw [if_neg (by have := Real.exp_pos r; linarith)]; exact EReal.coe_ne_bot _

theorem logR_apply (z : F3 8 4096 8) (i) : logR z i = lsig (z i) := by
  have hz : zero8R i = (0 : EReal) := Ideal.ofBits_zero_f32
  show -(if Ideal.cmp .une (-(z i : EReal) - zero8R i) (-(z i : EReal) - zero8R i) = 1#1 then -(z i : EReal) + zero8R i
    else max (-(z i : EReal)) (zero8R i) + Ideal.log1p (Ideal.exp (-(max (-(z i : EReal) - zero8R i) (-(-(z i : EReal) - zero8R i)))))) = _
  rw [hz, sub_zero, neg_neg]
  rw [if_neg (by simp [Ideal.cmp])]
  unfold lsig
  generalize (z i : EReal) = v
  rw [max_comm (-v) v, zero_sub]
  rw [EReal.neg_add (Or.inl (ne_of_gt (lt_of_lt_of_le EReal.bot_lt_zero (le_max_right _ _)))) (Or.inr (log1p_exp_ne_bot _))]
  refine congrArg₂ (fun p q : EReal => p - q) ?_ rfl
  rcases le_total v 0 with h | h
  · rw [min_eq_left h, max_eq_left (by simpa using EReal.neg_le_neg_iff.mpr h), neg_neg]
  · rw [min_eq_right h, max_eq_right (by simpa using EReal.neg_le_neg_iff.mpr h), neg_zero]

def cR (l : F3 8 4096 8) : F3 8 8 4096 := transpose ⟨3, ![8, 8, 4096]⟩ [0, 2, 1] (cumR (by decide) l) (by decide)
theorem cR_apply (l : F3 8 4096 8) (b i : Fin 8) (s : Fin 4096) : cR l (ValueIdx.ix3 b i s) = ∑ q ∈ Finset.range (s.val + 1), (l (ValueIdx.ix3 b (at4 q) i) : EReal) :=
  (transpose_apply [0, 2, 1] _ _ (ValueIdx.ix3 b i s) (ValueIdx.ix3 b s i) (fun a => match a with
    | ⟨0, _⟩ => rfl
    | ⟨1, _⟩ => rfl
    | ⟨2, _⟩ => rfl)).trans (cumR_apply _ l b s i)

/-! ## The gate -/

def oneR : F3 8 4096 512 := broadcastInDim (s := ⟨0, ![]⟩) ⟨3, ![8, 4096, 512]⟩ ![] (by decide) (constant (F := Ideal) ⟨0, ![]⟩ .f32 0x3F800000#32)
def siluR (g : F3 8 4096 512) : F3 8 4096 512 := mulf (F := Ideal) g (Host.divf (F := Ideal) oneR (addf (F := Ideal) oneR (Host.exp (F := Ideal) (Host.negf (F := Ideal) g))))
theorem siluR_apply (g : F3 8 4096 512) (i) : siluR g i = gate (g i) := by
  unfold gate
  show (g i : EReal) * Ideal.div _ (_ + Ideal.exp (-(g i : EReal))) = _ * Ideal.div _ (_ + Ideal.exp (Ideal.ofBits .f32 0x00000000#32 - (g i : EReal)))
  rw [Ideal.ofBits_zero_f32, zero_sub]
  rfl

def poR (p : FVec Ideal ⟨4, ![4, 128, 8, 4096]⟩ .f32) (ps : F1 512) (g : F3 8 4096 512) : FVec Ideal ⟨3, ![8, 4096, 512]⟩ .bf16 :=
  truncf (F := Ideal) .bf16 (mulf (F := Ideal) (mulf (F := Ideal)
      (shapeCast ⟨3, ![8, 4096, 512]⟩ (transpose ⟨4, ![8, 4096, 4, 128]⟩ [2, 3, 0, 1] p (by decide)) (by decide))
      (broadcastInDim (s := ⟨3, ![1, 1, 512]⟩) ⟨3, ![8, 4096, 512]⟩ ![0, 1, 2] (by decide) (broadcastInDim (s := ⟨1, ![512]⟩) ⟨3, ![1, 1, 512]⟩ ![2] (by decide) ps)))
    (siluR g)) (by decide)
theorem poR_apply (p : FVec Ideal ⟨4, ![4, 128, 8, 4096]⟩ .f32) (ps : F1 512) (g : F3 8 4096 512) (b : Fin 8) (s : Fin 4096) (q : Fin 4) (j : Fin 128) :
    poR p ps g (ValueIdx.ix3 b s (col q j)) = (p (ValueIdx.ix4 q j b s) * ps (ValueIdx.ix1 (col q j)) * gate (g (ValueIdx.ix3 b s (col q j))) : EReal) := by
  unfold poR
  refine congrArg₂ (fun p q : EReal => p * q) (congrArg₂ (fun p q : EReal => p * q) ?_ ?_) (siluR_apply g _)
  · refine (shapeCast_apply _ _ (ValueIdx.ix3 b s (col q j)) (ValueIdx.ix4 b s q j) ?_).trans ?_
    · rw [Shape.rowMajor_val_four, Shape.rowMajor_val_three]
      show ((b.val * 4096 + s.val) * 4 + q.val) * 128 + j.val = (b.val * 4096 + s.val) * 512 + (128 * q.val + j.val)
      omega
    · exact transpose_apply [2, 3, 0, 1] _ _ (ValueIdx.ix4 b s q j) (ValueIdx.ix4 q j b s) (fun a => match a with
        | ⟨0, _⟩ => rfl
        | ⟨1, _⟩ => rfl
        | ⟨2, _⟩ => rfl
        | ⟨3, _⟩ => rfl)
  · refine (broadcastInDim_apply (α := EReal) ![0, 1, 2] _ _ (ValueIdx.ix3 b s (col q j)) (ValueIdx.ix3 (0 : Fin 1) (0 : Fin 1) (col q j)) (fun a => match a with
      | ⟨0, _⟩ => rfl
      | ⟨1, _⟩ => rfl
      | ⟨2, _⟩ => rfl)).trans ?_
    exact broadcastInDim_apply (α := EReal) ![2] _ _ (ValueIdx.ix3 (0 : Fin 1) (0 : Fin 1) (col q j)) (ValueIdx.ix1 (col q j)) (fun a => match a with
      | ⟨0, _⟩ => rfl)

/-! ## Real rows -/

theorem isReal_of_abs (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by
    by_contra hn
    simp [hn] at h
  rw [max_lt_iff] at hlt
  refine ⟨(x : EReal).toReal, (EReal.coe_toReal hlt.1.ne fun hb => ?_).symm⟩
  rw [hb] at hlt
  simp at hlt

theorem f32_1024 : (FloatOps.ofBits (F := Ideal) .f32 0x44800000#32 : EReal) = ((1024 : ℝ) : EReal) := by
  show Ideal.ofBits .f32 0x44800000#32 = _
  simp [Ideal.ofBits, Ideal.ieee]
  rw [← EReal.coe_mul]
  exact congrArg _ (by norm_num)
theorem f32_eps : ∃ e : ℝ, 0 < e ∧ (FloatOps.ofBits (F := Ideal) .f32 0x358637BD#32 : EReal) = (e : EReal) := by
  refine ⟨8796093 * (2 ^ 43)⁻¹, by positivity, ?_⟩
  show Ideal.ofBits .f32 0x358637BD#32 = _
  simp [Ideal.ofBits, Ideal.ieee]

theorem rms_real_of (f g : Fin 1024 → EReal) (hf : ∀ k, IsReal (f k)) (hg : ∀ k, IsReal (g k)) (j : Fin 1024) : IsReal (Lin.rms f g j) := by
  refine ((hf j).mul ?_).mul (hg j)
  choose r hr using hf
  obtain ⟨e, he, hE⟩ := f32_eps
  have hs : ∑ k, f k * f k = ((∑ k, r k * r k : ℝ) : EReal) := by
    have : ∀ t : Finset (Fin 1024), ∑ k ∈ t, f k * f k = ((∑ k ∈ t, r k * r k : ℝ) : EReal) := fun t => by
      induction t using Finset.induction_on with
      | empty => simp
      | insert a t ha ih => rw [Finset.sum_insert ha, Finset.sum_insert ha, ih, hr, ← EReal.coe_mul, ← EReal.coe_add]
    exact this _
  have hp : 0 ≤ ∑ k, r k * r k := Finset.sum_nonneg fun k _ => mul_self_nonneg _
  unfold Lin.inv
  rw [hs, hE, f32_1024]
  show IsReal (Ideal.rsqrt (Ideal.div _ _ + _))
  unfold Ideal.div
  rw [if_neg (by norm_num), ← EReal.coe_inv, ← EReal.coe_mul, ← EReal.coe_add]
  have hq : 0 < (∑ k, r k * r k) * (1024 : ℝ)⁻¹ + e := by positivity
  unfold Ideal.rsqrt
  exact ⟨_, (if_neg (not_lt.mpr hq.le)).trans (if_neg hq.ne')⟩

/-- A row with an infinite entry has norm zero: the reciprocal root of infinity. -/
theorem inv_top (f : Fin 1024 → EReal) (k : Fin 1024) (hk : ¬ IsReal (f k)) : Lin.inv f = 0 := by
  have hn : ∀ x : EReal, 0 ≤ x * x := fun x => by
    rcases le_total 0 x with h | h
    · exact mul_nonneg h h
    · rw [← neg_mul_neg]
      exact mul_nonneg (EReal.neg_nonneg.mpr h) (EReal.neg_nonneg.mpr h)
  have ht : f k * f k = ⊤ := by
    generalize f k = x at hk
    induction x with
    | bot => rfl
    | top => rfl
    | coe r => exact absurd ⟨r, rfl⟩ hk
  have hs : ∑ k, f k * f k = ⊤ := top_le_iff.mp (ht ▸ Finset.single_le_sum (f := fun k => f k * f k) (fun i _ => hn (f i)) (Finset.mem_univ k))
  obtain ⟨e, he, hE⟩ := f32_eps
  unfold Lin.inv
  rw [hs, hE, f32_1024]
  show Ideal.rsqrt (Ideal.div _ _ + _) = 0
  unfold Ideal.div
  rw [if_neg (by norm_num), ← EReal.coe_inv, EReal.top_mul_coe_of_pos (by norm_num), EReal.top_add_coe]
  rfl

/-- The norm's rows are real whatever the row is, where the weights are. -/
theorem rms_real (f g : Fin 1024 → EReal) (hg : ∀ k, IsReal (g k)) (j : Fin 1024) : IsReal (Lin.rms f g j) := by
  by_cases hf : ∀ k, IsReal (f k)
  · exact rms_real_of f g hf hg j
  · obtain ⟨k, hk⟩ := not_forall.mp hf
    unfold Lin.rms
    rw [inv_top f k hk, mul_zero, zero_mul]
    exact ⟨0, EReal.coe_zero.symm⟩

theorem pr_real (H : ℕ → Fin 1024 → EReal) (W : Fin 1024 → Fin 3080 → EReal) (s : ℕ) (n : Fin 3080) (hH : ∀ k, IsReal (H s k)) (hW : ∀ k, IsReal (W k n)) :
    IsReal (pr H W s n) := IsReal.sum _ _ fun k => (hH k).mul (hW k)

end Proj

end
-- ==== Proof.MiddleOut.lean ====
module

public import proofs.«01_k».proof.Proof.Proj
public import proofs.«01_k».proof.Proof.Gen.MiddleIdeal.Value
public import Idealize.ShloMosaic.Lib.Pipeline.ValueKit
public import Idealize.ShloMosaic.Lib.Pipeline.ReadBack

@[expose] public section

set_option maxRecDepth 16384

noncomputable section

namespace Cert.MiddleIdeal.Own

open Cert.MiddleIdeal Cert.MiddleIdeal.Gen
open Idealize.ShloMosaic Idealize.ShloMosaic.TcCoe Idealize.ShloMosaic.Tactic Idealize.ShloMosaic.ValueIdx
open Idealize.SL Idealize.SL.Sem

/-- The normed rows of a point, the two wide products, and the parts of the log forget gates. -/
def hB (x0 : Vec Ideal S1x1024x1024 .f32) (x1 : Vec Ideal S1x1024x512 .bf16) (x2 : Vec Ideal S1x1024x512 .bf16) (x3 : Vec Ideal S1x1024x1024 .bf16) (x4 : Vec Ideal S1x1x1024 .f32) (x5 : Vec Ideal S1x1024x3072 .bf16) (x6 : Vec Ideal S1x1024x128 .bf16) (x7 : Vec Ideal S1x8x1 .f32) (x8 : Vec Ideal S128x256 .bf16) (x9 : Vec Ideal S1x4x128x128 .bf16) (x10 : Vec Ideal S1x1x512 .f32) : Proj.B2 1024 1024 .bf16 := Proj.normT (Proj.mixT x1 (View.ld x3 (Rect.unit ![0, 0, 0] ![1, 512, 1024] (by decide))) x2 (View.ld x3 (Rect.unit ![0, 512, 0] ![1, 512, 1024] (by decide))) x0) x4

def w0B (x0 : Vec Ideal S1x1024x1024 .f32) (x1 : Vec Ideal S1x1024x512 .bf16) (x2 : Vec Ideal S1x1024x512 .bf16) (x3 : Vec Ideal S1x1024x1024 .bf16) (x4 : Vec Ideal S1x1x1024 .f32) (x5 : Vec Ideal S1x1024x3072 .bf16) (x6 : Vec Ideal S1x1024x128 .bf16) (x7 : Vec Ideal S1x8x1 .f32) (x8 : Vec Ideal S128x256 .bf16) (x9 : Vec Ideal S1x4x128x128 .bf16) (x10 : Vec Ideal S1x1x512 .f32) : Proj.B2 1024 1536 .f32 := Proj.wideT (hB x0 x1 x2 x3 x4 x5 x6 x7 x8 x9 x10) (View.ld x5 (Rect.unit ![0, 0, 0] ![1, 1024, 1536] (by decide)))
def w1B (x0 : Vec Ideal S1x1024x1024 .f32) (x1 : Vec Ideal S1x1024x512 .bf16) (x2 : Vec Ideal S1x1024x512 .bf16) (x3 : Vec Ideal S1x1024x1024 .bf16) (x4 : Vec Ideal S1x1x1024 .f32) (x5 : Vec Ideal S1x1024x3072 .bf16) (x6 : Vec Ideal S1x1024x128 .bf16) (x7 : Vec Ideal S1x8x1 .f32) (x8 : Vec Ideal S128x256 .bf16) (x9 : Vec Ideal S1x4x128x128 .bf16) (x10 : Vec Ideal S1x1x512 .f32) : Proj.B2 1024 1536 .f32 := Proj.wideT (hB x0 x1 x2 x3 x4 x5 x6 x7 x8 x9 x10) (View.ld x5 (Rect.unit ![0, 0, 1536] ![1, 1024, 1536] (by decide)))
def uB (x0 : Vec Ideal S1x1024x1024 .f32) (x1 : Vec Ideal S1x1024x512 .bf16) (x2 : Vec Ideal S1x1024x512 .bf16) (x3 : Vec Ideal S1x1024x1024 .bf16) (x4 : Vec Ideal S1x1x1024 .f32) (x5 : Vec Ideal S1x1024x3072 .bf16) (x6 : Vec Ideal S1x1024x128 .bf16) (x7 : Vec Ideal S1x8x1 .f32) (x8 : Vec Ideal S128x256 .bf16) (x9 : Vec Ideal S1x4x128x128 .bf16) (x10 : Vec Ideal S1x1x512 .f32) : Proj.B2 1024 512 .f32 := Proj.colsT 0 (w0B x0 x1 x2 x3 x4 x5 x6 x7 x8 x9 x10) (by decide)
def pB (x0 : Vec Ideal S1x1024x1024 .f32) (x1 : Vec Ideal S1x1024x512 .bf16) (x2 : Vec Ideal S1x1024x512 .bf16) (x3 : Vec Ideal S1x1024x1024 .bf16) (x4 : Vec Ideal S1x1x1024 .f32) (x5 : Vec Ideal S1x1024x3072 .bf16) (x6 : Vec Ideal S1x1024x128 .bf16) (x7 : Vec Ideal S1x8x1 .f32) (x8 : Vec Ideal S128x256 .bf16) (x9 : Vec Ideal S1x4x128x128 .bf16) (x10 : Vec Ideal S1x1x512 .f32) : Proj.B2 32 1024 .bf16 := Proj.partsT (Proj.logT (Proj.zT (hB x0 x1 x2 x3 x4 x5 x6 x7 x8 x9 x10) x6) x7)

variable (c : Dev nD) (i : grid0.Coords)
  (arg2 : Memref sig .tc .vmem S1x1024x1024 .f32) (harg2 : arg2.IsWhole)
  (arg3 : Memref sig .tc .vmem S1x1024x512 .bf16) (harg3 : arg3.IsWhole)
  (arg4 : Memref sig .tc .vmem S1x1024x512 .bf16) (harg4 : arg4.IsWhole)
  (arg5 : Memref sig .tc .vmem S1x1024x1024 .bf16) (harg5 : arg5.IsWhole)
  (arg6 : Memref sig .tc .vmem S1x1x1024 .f32) (harg6 : arg6.IsWhole)
  (arg7 : Memref sig .tc .vmem S1x1024x3072 .bf16) (harg7 : arg7.IsWhole)
  (arg8 : Memref sig .tc .vmem S1x1024x128 .bf16) (harg8 : arg8.IsWhole)
  (arg9 : Memref sig .tc .vmem S1x8x1 .f32) (harg9 : arg9.IsWhole)
  (arg10 : Memref sig .tc .vmem S128x256 .bf16) (harg10 : arg10.IsWhole)
  (arg11 : Memref sig .tc .vmem S1x4x128x128 .bf16) (harg11 : arg11.IsWhole)
  (arg12 : Memref sig .tc .vmem S1x1x512 .f32) (harg12 : arg12.IsWhole)
  (arg13 : Memref sig .tc .vmem S1x1024x1024 .f32) (harg13 : arg13.IsWhole)
  (arg14 : Memref sig .tc .vmem S1x1024x512 .bf16) (harg14 : arg14.IsWhole)
  (arg15 : Memref sig .tc .vmem S1x1024x512 .f32) (harg15 : arg15.IsWhole)
  (arg16 : Memref sig .tc .vmem S1x1024x512 .bf16) (harg16 : arg16.IsWhole)
  (arg17 : Memref sig .tc .vmem S1x1024x512 .bf16) (harg17 : arg17.IsWhole)
  (arg18 : Memref sig .tc .vmem S1x1024x512 .f32) (harg18 : arg18.IsWhole)
  (arg19 : Memref sig .tc .vmem S1x8x1024 .f32) (harg19 : arg19.IsWhole)
  (arg20 : Memref sig .tc .vmem S8x128 .f32) (harg20 : arg20.IsWhole)
  (arg21 : Memref sig .tc .vmem S1040x512 .f32) (harg21 : arg21.IsWhole)
  (x0 : Vec Ideal S1x1024x1024 .f32) (x1 : Vec Ideal S1x1024x512 .bf16) (x2 : Vec Ideal S1x1024x512 .bf16) (x3 : Vec Ideal S1x1024x1024 .bf16) (x4 : Vec Ideal S1x1x1024 .f32) (x5 : Vec Ideal S1x1024x3072 .bf16) (x6 : Vec Ideal S1x1024x128 .bf16) (x7 : Vec Ideal S1x8x1 .f32) (x8 : Vec Ideal S128x256 .bf16) (x9 : Vec Ideal S1x4x128x128 .bf16) (x10 : Vec Ideal S1x1x512 .f32)
  (xs0 : Vec Ideal S8x128 .f32) (xs1 : Vec Ideal S1040x512 .f32)

theorem out0_A_11_eq (hc0 : cond0_0 i) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10
    = shapeCast S1x1024x1024 (Proj.mixT x1 (View.ld x3 (Rect.unit ![0, 0, 0] ![1, 512, 1024] (by decide))) x2 (View.ld x3 (Rect.unit ![0, 512, 0] ![1, 512, 1024] (by decide))) x0) (by decide) := by
  unfold out0_A_11
  frame_open
  (try simp (disch := decide) only [↓ View.readCov_skip, ↓ View.readCov_cons_toLoadRect, ↓ View.readCov_fill])
  frame_out
  rfl

theorem out0_A_12_eq (hc0 : cond0_0 i) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10
    = Proj.poolT (i 1).val (Proj.colsT 512 (w0B x0 x1 x2 x3 x4 x5 x6 x7 x8 x9 x10) (by decide)) (uB x0 x1 x2 x3 x4 x5 x6 x7 x8 x9 x10) (Proj.extA arg21.view (Proj.selfT (uB x0 x1 x2 x3 x4 x5 x6 x7 x8 x9 x10)) Proj.zeroT 0 inb_S1040x512_S1040x128_0_0) (Proj.extA arg21.view (Proj.selfT (uB x0 x1 x2 x3 x4 x5 x6 x7 x8 x9 x10)) Proj.zeroT 128 inb_S1040x512_S1040x128_0_128) (Proj.extA arg21.view (Proj.selfT (uB x0 x1 x2 x3 x4 x5 x6 x7 x8 x9 x10)) Proj.zeroT 256 inb_S1040x512_S1040x128_0_256) (Proj.extA arg21.view (Proj.selfT (uB x0 x1 x2 x3 x4 x5 x6 x7 x8 x9 x10)) Proj.zeroT 384 inb_S1040x512_S1040x128_0_384) (View.ld x9 (Rect.unit ![0, 0, 0, 0] ![1, 1, 128, 128] inb_S1x4x128x128_S1x1x128x128_0_0_0_0)) (View.ld x9 (Rect.unit ![0, 1, 0, 0] ![1, 1, 128, 128] inb_S1x4x128x128_S1x1x128x128_0_1_0_0)) (View.ld x9 (Rect.unit ![0, 2, 0, 0] ![1, 1, 128, 128] inb_S1x4x128x128_S1x1x128x128_0_2_0_0)) (View.ld x9 (Rect.unit ![0, 3, 0, 0] ![1, 1, 128, 128] inb_S1x4x128x128_S1x1x128x128_0_3_0_0)) x10 := by
  unfold out0_A_12
  frame_open
  (try simp (disch := decide) only [↓ View.readCov_skip, ↓ View.readCov_cons_toLoadRect, ↓ View.readCov_fill])
  frame_out
  rfl

theorem out0_A_13_eq (hc0 : cond0_0 i) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10
    = Proj.outT (Proj.colsT 1024 (w0B x0 x1 x2 x3 x4 x5 x6 x7 x8 x9 x10) (by decide)) := by
  unfold out0_A_13
  frame_open
  (try simp (disch := decide) only [↓ View.readCov_skip, ↓ View.readCov_cons_toLoadRect, ↓ View.readCov_fill])
  frame_out
  rfl

theorem out0_A_14_eq (hc0 : cond0_0 i) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10
    = Proj.outbT (Proj.colsT 0 (w1B x0 x1 x2 x3 x4 x5 x6 x7 x8 x9 x10) (by decide)) := by
  unfold out0_A_14
  frame_open
  (try simp (disch := decide) only [↓ View.readCov_skip, ↓ View.readCov_cons_toLoadRect, ↓ View.readCov_fill])
  frame_out
  rfl

theorem out0_A_15_eq (hc0 : cond0_0 i) : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10
    = Proj.outbT (Proj.colsT 512 (w1B x0 x1 x2 x3 x4 x5 x6 x7 x8 x9 x10) (by decide)) := by
  unfold out0_A_15
  frame_open
  (try simp (disch := decide) only [↓ View.readCov_skip, ↓ View.readCov_cons_toLoadRect, ↓ View.readCov_fill])
  frame_out
  rfl

theorem out0_A_16_eq (hc0 : cond0_0 i) : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10
    = Proj.outT (Proj.colsT 1024 (w1B x0 x1 x2 x3 x4 x5 x6 x7 x8 x9 x10) (by decide)) := by
  unfold out0_A_16
  frame_open
  (try simp (disch := decide) only [↓ View.readCov_skip, ↓ View.readCov_cons_toLoadRect, ↓ View.readCov_fill])
  frame_out
  rfl

theorem out0_A_17_eq (hc0 : cond0_0 i) : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10
    = View.canon [⟨Rect.unit ![0, 0, 896] ![1, 8, 128] inb_S1x8x1024_S1x8x128_0_0_896, Proj.blockT (pB x0 x1 x2 x3 x4 x5 x6 x7 x8 x9 x10) 896 (by decide) x8 (Proj.car7 (pB x0 x1 x2 x3 x4 x5 x6 x7 x8 x9 x10) x8 (shapeCast S8x128 (broadcast S8x128 (Scalar.ofBits (F := Ideal) .f32 0x00000000#32)) (by decide)))⟩,
    ⟨Rect.unit ![0, 0, 768] ![1, 8, 128] inb_S1x8x1024_S1x8x128_0_0_768, Proj.blockT (pB x0 x1 x2 x3 x4 x5 x6 x7 x8 x9 x10) 768 (by decide) x8 (Proj.car6 (pB x0 x1 x2 x3 x4 x5 x6 x7 x8 x9 x10) x8 (shapeCast S8x128 (broadcast S8x128 (Scalar.ofBits (F := Ideal) .f32 0x00000000#32)) (by decide)))⟩,
    ⟨Rect.unit ![0, 0, 640] ![1, 8, 128] inb_S1x8x1024_S1x8x128_0_0_640, Proj.blockT (pB x0 x1 x2 x3 x4 x5 x6 x7 x8 x9 x10) 640 (by decide) x8 (Proj.car5 (pB x0 x1 x2 x3 x4 x5 x6 x7 x8 x9 x10) x8 (shapeCast S8x128 (broadcast S8x128 (Scalar.ofBits (F := Ideal) .f32 0x00000000#32)) (by decide)))⟩,
    ⟨Rect.unit ![0, 0, 512] ![1, 8, 128] inb_S1x8x1024_S1x8x128_0_0_512, Proj.blockT (pB x0 x1 x2 x3 x4 x5 x6 x7 x8 x9 x10) 512 (by decide) x8 (Proj.car4 (pB x0 x1 x2 x3 x4 x5 x6 x7 x8 x9 x10) x8 (shapeCast S8x128 (broadcast S8x128 (Scalar.ofBits (F := Ideal) .f32 0x00000000#32)) (by decide)))⟩,
    ⟨Rect.unit ![0, 0, 384] ![1, 8, 128] inb_S1x8x1024_S1x8x128_0_0_384, Proj.blockT (pB x0 x1 x2 x3 x4 x5 x6 x7 x8 x9 x10) 384 (by decide) x8 (Proj.car3 (pB x0 x1 x2 x3 x4 x5 x6 x7 x8 x9 x10) x8 (shapeCast S8x128 (broadcast S8x128 (Scalar.ofBits (F := Ideal) .f32 0x00000000#32)) (by decide)))⟩,
    ⟨Rect.unit ![0, 0, 256] ![1, 8, 128] inb_S1x8x1024_S1x8x128_0_0_256, Proj.blockT (pB x0 x1 x2 x3 x4 x5 x6 x7 x8 x9 x10) 256 (by decide) x8 (Proj.car2 (pB x0 x1 x2 x3 x4 x5 x6 x7 x8 x9 x10) x8 (shapeCast S8x128 (broadcast S8x128 (Scalar.ofBits (F := Ideal) .f32 0x00000000#32)) (by decide)))⟩,
    ⟨Rect.unit ![0, 0, 128] ![1, 8, 128] inb_S1x8x1024_S1x8x128_0_0_128, Proj.blockT (pB x0 x1 x2 x3 x4 x5 x6 x7 x8 x9 x10) 128 (by decide) x8 (Proj.car1 (pB x0 x1 x2 x3 x4 x5 x6 x7 x8 x9 x10) x8 (shapeCast S8x128 (broadcast S8x128 (Scalar.ofBits (F := Ideal) .f32 0x00000000#32)) (by decide)))⟩,
    ⟨Rect.unit ![0, 0, 0] ![1, 8, 128] inb_S1x8x1024_S1x8x128_0_0_0, Proj.blockT (pB x0 x1 x2 x3 x4 x5 x6 x7 x8 x9 x10) 0 (by decide) x8 (shapeCast S8x128 (broadcast S8x128 (Scalar.ofBits (F := Ideal) .f32 0x00000000#32)) (by decide))⟩] := by
  unfold out0_A_17
  frame_open
  (try simp (disch := decide) only [↓ View.readCov_skip, ↓ View.readCov_cons_toLoadRect, ↓ View.readCov_fill])
  frame_out
  rfl

theorem sout0_A_0_eq (hc0 : cond0_0 i) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10
    = shapeCast S8x128 (Proj.car8 (pB x0 x1 x2 x3 x4 x5 x6 x7 x8 x9 x10) x8 (shapeCast S8x128 (broadcast S8x128 (Scalar.ofBits (F := Ideal) .f32 0x00000000#32)) (by decide))) shapeCasts_S8x128_S8x128 := by
  unfold sout0_A_0
  frame_open
  (try simp (disch := decide) only [↓ View.readCov_skip, ↓ View.readCov_cons_toLoadRect, ↓ View.readCov_fill])
  frame_out
  rfl

theorem sout0_A_1_eq (hc0 : cond0_0 i) : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10
    = View.canon (Val := Elt Ideal) [⟨Rect.unit (s := S1040x512) ![0, 0] ![16, 512] inb_S1040x512_S16x512_0_0, Proj.tailT (uB x0 x1 x2 x3 x4 x5 x6 x7 x8 x9 x10)⟩, ⟨Rect.unit (s := S1040x512) ![16, 0] ![1024, 512] inb_S1040x512_S1024x512_16_0, Proj.selfT (uB x0 x1 x2 x3 x4 x5 x6 x7 x8 x9 x10)⟩, ⟨Rect.unit (s := S1040x512) ![0, 0] ![16, 512] inb_S1040x512_S16x512_0_0, Proj.zeroT⟩] := by
  unfold sout0_A_1
  frame_open
  (try simp (disch := decide) only [↓ View.readCov_skip, ↓ View.readCov_cons_toLoadRect, ↓ View.readCov_fill])
  frame_out
  rfl

theorem out0_B_11_eq (hc0 : ¬ cond0_0 i) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 xs1
    = shapeCast S1x1024x1024 (Proj.mixT x1 (View.ld x3 (Rect.unit ![0, 0, 0] ![1, 512, 1024] (by decide))) x2 (View.ld x3 (Rect.unit ![0, 512, 0] ![1, 512, 1024] (by decide))) x0) (by decide) := by
  unfold out0_B_11
  frame_open
  (try simp (disch := decide) only [↓ View.readCov_skip, ↓ View.readCov_cons_toLoadRect, ↓ View.readCov_fill])
  frame_out
  rfl

theorem out0_B_12_eq (hc0 : ¬ cond0_0 i) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 xs1
    = Proj.poolT (i 1).val (Proj.colsT 512 (w0B x0 x1 x2 x3 x4 x5 x6 x7 x8 x9 x10) (by decide)) (uB x0 x1 x2 x3 x4 x5 x6 x7 x8 x9 x10) (Proj.extB arg21.view (harg21.unread xs1) (Proj.selfT (uB x0 x1 x2 x3 x4 x5 x6 x7 x8 x9 x10)) 0 inb_S1040x512_S1040x128_0_0) (Proj.extB arg21.view (harg21.unread xs1) (Proj.selfT (uB x0 x1 x2 x3 x4 x5 x6 x7 x8 x9 x10)) 128 inb_S1040x512_S1040x128_0_128) (Proj.extB arg21.view (harg21.unread xs1) (Proj.selfT (uB x0 x1 x2 x3 x4 x5 x6 x7 x8 x9 x10)) 256 inb_S1040x512_S1040x128_0_256) (Proj.extB arg21.view (harg21.unread xs1) (Proj.selfT (uB x0 x1 x2 x3 x4 x5 x6 x7 x8 x9 x10)) 384 inb_S1040x512_S1040x128_0_384) (View.ld x9 (Rect.unit ![0, 0, 0, 0] ![1, 1, 128, 128] inb_S1x4x128x128_S1x1x128x128_0_0_0_0)) (View.ld x9 (Rect.unit ![0, 1, 0, 0] ![1, 1, 128, 128] inb_S1x4x128x128_S1x1x128x128_0_1_0_0)) (View.ld x9 (Rect.unit ![0, 2, 0, 0] ![1, 1, 128, 128] inb_S1x4x128x128_S1x1x128x128_0_2_0_0)) (View.ld x9 (Rect.unit ![0, 3, 0, 0] ![1, 1, 128, 128] inb_S1x4x128x128_S1x1x128x128_0_3_0_0)) x10 := by
  unfold out0_B_12
  frame_open
  (try simp (disch := decide) only [↓ View.readCov_skip, ↓ View.readCov_cons_toLoadRect, ↓ View.readCov_fill])
  frame_out
  rfl

theorem out0_B_13_eq (hc0 : ¬ cond0_0 i) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 xs1
    = Proj.outT (Proj.colsT 1024 (w0B x0 x1 x2 x3 x4 x5 x6 x7 x8 x9 x10) (by decide)) := by
  unfold out0_B_13
  frame_open
  (try simp (disch := decide) only [↓ View.readCov_skip, ↓ View.readCov_cons_toLoadRect, ↓ View.readCov_fill])
  frame_out
  rfl

theorem out0_B_14_eq (hc0 : ¬ cond0_0 i) : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 xs1
    = Proj.outbT (Proj.colsT 0 (w1B x0 x1 x2 x3 x4 x5 x6 x7 x8 x9 x10) (by decide)) := by
  unfold out0_B_14
  frame_open
  (try simp (disch := decide) only [↓ View.readCov_skip, ↓ View.readCov_cons_toLoadRect, ↓ View.readCov_fill])
  frame_out
  rfl

theorem out0_B_15_eq (hc0 : ¬ cond0_0 i) : out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 xs1
    = Proj.outbT (Proj.colsT 512 (w1B x0 x1 x2 x3 x4 x5 x6 x7 x8 x9 x10) (by decide)) := by
  unfold out0_B_15
  frame_open
  (try simp (disch := decide) only [↓ View.readCov_skip, ↓ View.readCov_cons_toLoadRect, ↓ View.readCov_fill])
  frame_out
  rfl

theorem out0_B_16_eq (hc0 : ¬ cond0_0 i) : out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 xs1
    = Proj.outT (Proj.colsT 1024 (w1B x0 x1 x2 x3 x4 x5 x6 x7 x8 x9 x10) (by decide)) := by
  unfold out0_B_16
  frame_open
  (try simp (disch := decide) only [↓ View.readCov_skip, ↓ View.readCov_cons_toLoadRect, ↓ View.readCov_fill])
  frame_out
  rfl

theorem out0_B_17_eq (hc0 : ¬ cond0_0 i) : out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 xs1
    = View.canon [⟨Rect.unit ![0, 0, 896] ![1, 8, 128] inb_S1x8x1024_S1x8x128_0_0_896, Proj.blockT (pB x0 x1 x2 x3 x4 x5 x6 x7 x8 x9 x10) 896 (by decide) x8 (Proj.car7 (pB x0 x1 x2 x3 x4 x5 x6 x7 x8 x9 x10) x8 xs0)⟩,
    ⟨Rect.unit ![0, 0, 768] ![1, 8, 128] inb_S1x8x1024_S1x8x128_0_0_768, Proj.blockT (pB x0 x1 x2 x3 x4 x5 x6 x7 x8 x9 x10) 768 (by decide) x8 (Proj.car6 (pB x0 x1 x2 x3 x4 x5 x6 x7 x8 x9 x10) x8 xs0)⟩,
    ⟨Rect.unit ![0, 0, 640] ![1, 8, 128] inb_S1x8x1024_S1x8x128_0_0_640, Proj.blockT (pB x0 x1 x2 x3 x4 x5 x6 x7 x8 x9 x10) 640 (by decide) x8 (Proj.car5 (pB x0 x1 x2 x3 x4 x5 x6 x7 x8 x9 x10) x8 xs0)⟩,
    ⟨Rect.unit ![0, 0, 512] ![1, 8, 128] inb_S1x8x1024_S1x8x128_0_0_512, Proj.blockT (pB x0 x1 x2 x3 x4 x5 x6 x7 x8 x9 x10) 512 (by decide) x8 (Proj.car4 (pB x0 x1 x2 x3 x4 x5 x6 x7 x8 x9 x10) x8 xs0)⟩,
    ⟨Rect.unit ![0, 0, 384] ![1, 8, 128] inb_S1x8x1024_S1x8x128_0_0_384, Proj.blockT (pB x0 x1 x2 x3 x4 x5 x6 x7 x8 x9 x10) 384 (by decide) x8 (Proj.car3 (pB x0 x1 x2 x3 x4 x5 x6 x7 x8 x9 x10) x8 xs0)⟩,
    ⟨Rect.unit ![0, 0, 256] ![1, 8, 128] inb_S1x8x1024_S1x8x128_0_0_256, Proj.blockT (pB x0 x1 x2 x3 x4 x5 x6 x7 x8 x9 x10) 256 (by decide) x8 (Proj.car2 (pB x0 x1 x2 x3 x4 x5 x6 x7 x8 x9 x10) x8 xs0)⟩,
    ⟨Rect.unit ![0, 0, 128] ![1, 8, 128] inb_S1x8x1024_S1x8x128_0_0_128, Proj.blockT (pB x0 x1 x2 x3 x4 x5 x6 x7 x8 x9 x10) 128 (by decide) x8 (Proj.car1 (pB x0 x1 x2 x3 x4 x5 x6 x7 x8 x9 x10) x8 xs0)⟩,
    ⟨Rect.unit ![0, 0, 0] ![1, 8, 128] inb_S1x8x1024_S1x8x128_0_0_0, Proj.blockT (pB x0 x1 x2 x3 x4 x5 x6 x7 x8 x9 x10) 0 (by decide) x8 xs0⟩] := by
  unfold out0_B_17
  frame_open
  (try simp (disch := decide) only [↓ View.readCov_skip, ↓ View.readCov_cons_toLoadRect, ↓ View.readCov_fill])
  frame_out
  rfl

theorem sout0_B_0_eq (hc0 : ¬ cond0_0 i) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 xs1
    = shapeCast S8x128 (Proj.car8 (pB x0 x1 x2 x3 x4 x5 x6 x7 x8 x9 x10) x8 xs0) shapeCasts_S8x128_S8x128 := by
  unfold sout0_B_0
  frame_open
  (try simp (disch := decide) only [↓ View.readCov_skip, ↓ View.readCov_cons_toLoadRect, ↓ View.readCov_fill])
  frame_out
  rfl

theorem sout0_B_1_eq (hc0 : ¬ cond0_0 i) : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 xs1
    = View.canon (Val := Elt Ideal) [⟨Rect.unit (s := S1040x512) ![0, 0] ![16, 512] inb_S1040x512_S16x512_0_0, Proj.tailT (uB x0 x1 x2 x3 x4 x5 x6 x7 x8 x9 x10)⟩, ⟨Rect.unit (s := S1040x512) ![16, 0] ![1024, 512] inb_S1040x512_S1024x512_16_0, Proj.selfT (uB x0 x1 x2 x3 x4 x5 x6 x7 x8 x9 x10)⟩] := by
  unfold sout0_B_1
  frame_open
  (try simp (disch := decide) only [↓ View.readCov_skip, ↓ View.readCov_cons_toLoadRect, ↓ View.readCov_fill])
  frame_out
  rfl

end Cert.MiddleIdeal.Own

end
-- ==== Proof.MiddleVal.lean ====
module

public import proofs.«01_k».proof.Proof.ProjArr
public import proofs.«01_k».proof.Proof.MiddleOut
public import proofs.«01_k».proof.Proof.Gen.MiddleIdeal.Value

/-! What the middle projection call computes, index by index. -/

@[expose] public section

set_option maxRecDepth 16384

noncomputable section

namespace Cert.MiddleIdeal.Own

open Cert.MiddleIdeal Cert.MiddleIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx (ix1)

variable (m : (ℓ : Loc nD τ sig) → Buf (Elt Ideal) ℓ)

/-- A point's batch and row tile. -/
def bt (t : Fin cfg0.N) : Fin 8 := ⟨(grid0.coords t 0).val, (grid0.coords t 0).isLt⟩
def ti (t : Fin cfg0.N) : Fin 4 := ⟨(grid0.coords t 1).val, (grid0.coords t 1).isLt⟩
theorem bt_val : ∀ t : Fin cfg0.N, (bt t).val = t.val / 4 := (by decide +kernel : ∀ t : Fin grid0.N, (bt t).val = t.val / 4)
theorem ti_val : ∀ t : Fin cfg0.N, (ti t).val = t.val % 4 := (by decide +kernel : ∀ t : Fin grid0.N, (ti t).val = t.val % 4)
/-- A row of a tile, in the sequence. -/
def rw' (p : Fin 4) (r : Fin 1024) : Fin 4096 := ⟨p.val * 1024 + r.val, by omega⟩
theorem at4_rw (p : Fin 4) (r : Fin 1024) : Proj.at4 (p.val * 1024 + r.val) = rw' p r := Proj.at4_val (rw' p r)

theorem idx0 : ∀ t : Fin cfg0.N, win0_0.index t (0 : Fin 3) = (bt t).val ∧ win0_0.index t (1 : Fin 3) = (ti t).val ∧ win0_0.index t (2 : Fin 3) = 0 :=
  (by decide +kernel : ∀ t : Fin grid0.N, _)
theorem emb0 (t : Fin cfg0.N) (a : Fin 1) (b : Fin 1024) (d : Fin 1024) : ((cfg0.win 0).blk t).view.emb (ValueIdx.ix3 a b d) = ValueIdx.ix3 (bt t) (rw' (ti t) b) d := by
  obtain ⟨h0, h1, h2⟩ := idx0 t
  funext z; apply Fin.ext
  match z with
  | ⟨0, _⟩ => show win0_0.index t (0 : Fin 3) * 1 + 1 * a.val = (bt t).val; omega
  | ⟨1, _⟩ => show win0_0.index t (1 : Fin 3) * 1024 + 1 * b.val = (ti t).val * 1024 + b.val; omega
  | ⟨2, _⟩ => show win0_0.index t (2 : Fin 3) * 1024 + 1 * d.val = d.val; omega
theorem idx1 : ∀ t : Fin cfg0.N, win0_1.index t (0 : Fin 3) = (bt t).val ∧ win0_1.index t (1 : Fin 3) = (ti t).val ∧ win0_1.index t (2 : Fin 3) = 0 :=
  (by decide +kernel : ∀ t : Fin grid0.N, _)
theorem emb1 (t : Fin cfg0.N) (a : Fin 1) (b : Fin 1024) (d : Fin 512) : ((cfg0.win 1).blk t).view.emb (ValueIdx.ix3 a b d) = ValueIdx.ix3 (bt t) (rw' (ti t) b) d := by
  obtain ⟨h0, h1, h2⟩ := idx1 t
  funext z; apply Fin.ext
  match z with
  | ⟨0, _⟩ => show win0_1.index t (0 : Fin 3) * 1 + 1 * a.val = (bt t).val; omega
  | ⟨1, _⟩ => show win0_1.index t (1 : Fin 3) * 1024 + 1 * b.val = (ti t).val * 1024 + b.val; omega
  | ⟨2, _⟩ => show win0_1.index t (2 : Fin 3) * 512 + 1 * d.val = d.val; omega
theorem idx2 : ∀ t : Fin cfg0.N, win0_2.index t (0 : Fin 3) = (bt t).val ∧ win0_2.index t (1 : Fin 3) = (ti t).val ∧ win0_2.index t (2 : Fin 3) = 0 :=
  (by decide +kernel : ∀ t : Fin grid0.N, _)
theorem emb2 (t : Fin cfg0.N) (a : Fin 1) (b : Fin 1024) (d : Fin 512) : ((cfg0.win 2).blk t).view.emb (ValueIdx.ix3 a b d) = ValueIdx.ix3 (bt t) (rw' (ti t) b) d := by
  obtain ⟨h0, h1, h2⟩ := idx2 t
  funext z; apply Fin.ext
  match z with
  | ⟨0, _⟩ => show win0_2.index t (0 : Fin 3) * 1 + 1 * a.val = (bt t).val; omega
  | ⟨1, _⟩ => show win0_2.index t (1 : Fin 3) * 1024 + 1 * b.val = (ti t).val * 1024 + b.val; omega
  | ⟨2, _⟩ => show win0_2.index t (2 : Fin 3) * 512 + 1 * d.val = d.val; omega
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem emb3 (t : Fin cfg0.N) (a : Fin 1) (b : Fin 1024) (d : Fin 1024) : ((cfg0.win 3).blk t).view.emb (ValueIdx.ix3 a b d) = ValueIdx.ix3 (0 : Fin 4) b d := by
  obtain ⟨h0, h1, h2⟩ := idx3 t
  funext z; apply Fin.ext
  match z with
  | ⟨0, _⟩ => show win0_3.index t (0 : Fin 3) * 1 + 1 * a.val = 0; omega
  | ⟨1, _⟩ => show win0_3.index t (1 : Fin 3) * 1024 + 1 * b.val = b.val; omega
  | ⟨2, _⟩ => show win0_3.index t (2 : Fin 3) * 1024 + 1 * d.val = d.val; omega
theorem idx4 : ∀ t : Fin cfg0.N, win0_4.index t (0 : Fin 3) = 1 ∧ win0_4.index t (1 : Fin 3) = 0 ∧ win0_4.index t (2 : Fin 3) = 0 :=
  (by decide +kernel : ∀ t : Fin grid0.N, _)
theorem emb4 (t : Fin cfg0.N) (a : Fin 1) (b : Fin 1) (d : Fin 1024) : ((cfg0.win 4).blk t).view.emb (ValueIdx.ix3 a b d) = ValueIdx.ix3 (1 : Fin 4) b d := by
  obtain ⟨h0, h1, h2⟩ := idx4 t
  funext z; apply Fin.ext
  match z with
  | ⟨0, _⟩ => show win0_4.index t (0 : Fin 3) * 1 + 1 * a.val = 1; omega
  | ⟨1, _⟩ => show win0_4.index t (1 : Fin 3) * 1 + 1 * b.val = b.val; omega
  | ⟨2, _⟩ => show win0_4.index t (2 : Fin 3) * 1024 + 1 * d.val = d.val; omega
theorem idx5 : ∀ t : Fin cfg0.N, win0_5.index t (0 : Fin 3) = 1 ∧ win0_5.index t (1 : Fin 3) = 0 ∧ win0_5.index t (2 : Fin 3) = 0 :=
  (by decide +kernel : ∀ t : Fin grid0.N, _)
theorem idx6 : ∀ t : Fin cfg0.N, win0_6.index t (0 : Fin 3) = 1 ∧ win0_6.index t (1 : Fin 3) = 0 ∧ win0_6.index t (2 : Fin 3) = 0 :=
  (by decide +kernel : ∀ t : Fin grid0.N, _)
theorem emb6 (t : Fin cfg0.N) (a : Fin 1) (b : Fin 1024) (d : Fin 128) : ((cfg0.win 6).blk t).view.emb (ValueIdx.ix3 a b d) = ValueIdx.ix3 (1 : Fin 4) b d := by
  obtain ⟨h0, h1, h2⟩ := idx6 t
  funext z; apply Fin.ext
  match z with
  | ⟨0, _⟩ => show win0_6.index t (0 : Fin 3) * 1 + 1 * a.val = 1; omega
  | ⟨1, _⟩ => show win0_6.index t (1 : Fin 3) * 1024 + 1 * b.val = b.val; omega
  | ⟨2, _⟩ => show win0_6.index t (2 : Fin 3) * 128 + 1 * d.val = d.val; omega
theorem idx7 : ∀ t : Fin cfg0.N, win0_7.index t (0 : Fin 3) = 1 ∧ win0_7.index t (1 : Fin 3) = 0 ∧ win0_7.index t (2 : Fin 3) = 0 :=
  (by decide +kernel : ∀ t : Fin grid0.N, _)
theorem emb7 (t : Fin cfg0.N) (a : Fin 1) (b : Fin 8) (d : Fin 1) : ((cfg0.win 7).blk t).view.emb (ValueIdx.ix3 a b d) = ValueIdx.ix3 (1 : Fin 4) b d := by
  obtain ⟨h0, h1, h2⟩ := idx7 t
  funext z; apply Fin.ext
  match z with
  | ⟨0, _⟩ => show win0_7.index t (0 : Fin 3) * 1 + 1 * a.val = 1; omega
  | ⟨1, _⟩ => show win0_7.index t (1 : Fin 3) * 8 + 1 * b.val = b.val; omega
  | ⟨2, _⟩ => show win0_7.index t (2 : Fin 3) * 1 + 1 * d.val = d.val; omega
theorem idx8 : ∀ t : Fin cfg0.N, win0_8.index t (0 : Fin 2) = 0 ∧ win0_8.index t (1 : Fin 2) = 0 :=
  (by decide +kernel : ∀ t : Fin grid0.N, _)
theorem emb8 (t : Fin cfg0.N) (a : Fin 128) (b : Fin 256) : ((cfg0.win 8).blk t).view.emb (ValueIdx.ix2 a b) = ValueIdx.ix2 a b := by
  obtain ⟨h0, h1⟩ := idx8 t
  funext z; apply Fin.ext
  match z with
  | ⟨0, _⟩ => show win0_8.index t (0 : Fin 2) * 128 + 1 * a.val = a.val; omega
  | ⟨1, _⟩ => show win0_8.index t (1 : Fin 2) * 256 + 1 * b.val = b.val; omega
theorem idx9 : ∀ t : Fin cfg0.N, win0_9.index t (0 : Fin 4) = 1 ∧ win0_9.index t (1 : Fin 4) = 0 ∧ win0_9.index t (2 : Fin 4) = 0 ∧ win0_9.index t (3 : Fin 4) = 0 :=
  (by decide +kernel : ∀ t : Fin grid0.N, _)
theorem emb9 (t : Fin cfg0.N) (a : Fin 1) (b : Fin 4) (d : Fin 128) (e : Fin 128) : ((cfg0.win 9).blk t).view.emb (ValueIdx.ix4 a b d e) = ValueIdx.ix4 (1 : Fin 4) b d e := by
  obtain ⟨h0, h1, h2, h3⟩ := idx9 t
  funext z; apply Fin.ext
  match z with
  | ⟨0, _⟩ => show win0_9.index t (0 : Fin 4) * 1 + 1 * a.val = 1; omega
  | ⟨1, _⟩ => show win0_9.index t (1 : Fin 4) * 4 + 1 * b.val = b.val; omega
  | ⟨2, _⟩ => show win0_9.index t (2 : Fin 4) * 128 + 1 * d.val = d.val; omega
  | ⟨3, _⟩ => show win0_9.index t (3 : Fin 4) * 128 + 1 * e.val = e.val; omega
theorem idx10 : ∀ t : Fin cfg0.N, win0_10.index t (0 : Fin 3) = 1 ∧ win0_10.index t (1 : Fin 3) = 0 ∧ win0_10.index t (2 : Fin 3) = 0 :=
  (by decide +kernel : ∀ t : Fin grid0.N, _)
theorem emb10 (t : Fin cfg0.N) (a : Fin 1) (b : Fin 1) (d : Fin 512) : ((cfg0.win 10).blk t).view.emb (ValueIdx.ix3 a b d) = ValueIdx.ix3 (1 : Fin 4) b d := by
  obtain ⟨h0, h1, h2⟩ := idx10 t
  funext z; apply Fin.ext
  match z with
  | ⟨0, _⟩ => show win0_10.index t (0 : Fin 3) * 1 + 1 * a.val = 1; omega
  | ⟨1, _⟩ => show win0_10.index t (1 : Fin 3) * 1 + 1 * b.val = b.val; omega
  | ⟨2, _⟩ => show win0_10.index t (2 : Fin 3) * 512 + 1 * d.val = d.val; omega

/-! The arguments' arrays. -/
abbrev aX (c : Dev nD) : S8x4096x1024.Idx → EReal := m ((c : Thread nD τ).loc main_arg0)
abbrev aP (c : Dev nD) : S8x4096x512.Idx → EReal := m ((c : Thread nD τ).loc main_arg1)
abbrev aA (c : Dev nD) : S8x4096x512.Idx → EReal := m ((c : Thread nD τ).loc main_arg2)
abbrev aG (c : Dev nD) : S4x1024.Idx → EReal := m ((c : Thread nD τ).loc main_arg3)
abbrev aW (c : Dev nD) : S4x1024x3080.Idx → EReal := m ((c : Thread nD τ).loc main_arg4)
abbrev aFB (c : Dev nD) : S4x8.Idx → EReal := m ((c : Thread nD τ).loc main_arg5)
abbrev aPW (c : Dev nD) : S4x4x128x128.Idx → EReal := m ((c : Thread nD τ).loc main_arg6)
abbrev aPS (c : Dev nD) : S4x512.Idx → EReal := m ((c : Thread nD τ).loc main_arg7)
abbrev aWO (c : Dev nD) : S4x1024x1024.Idx → EReal := m ((c : Thread nD τ).loc main_arg8)
theorem V_v0 (c : Dev nD) : (V m c main_v0 : S8x4096x512.Idx → EReal) = aP m c := by
  unfold V hostOps0 hostOps0_1 hostOps0_2; after_results; rfl
theorem V_v1 (c : Dev nD) : (V m c main_v1 : S8x4096x512.Idx → EReal) = aA m c := by
  unfold V hostOps0 hostOps0_1 hostOps0_2; after_results; rfl
theorem V_v2 (c : Dev nD) : (V m c main_v2 : S4x1024x1024.Idx → EReal) = aWO m c := by
  unfold V hostOps0 hostOps0_1 hostOps0_2; after_results; rfl
theorem V_v3 (c : Dev nD) : (V m c main_v3 : S4x1024x3080.Idx → EReal) = aW m c := by
  unfold V hostOps0 hostOps0_1 hostOps0_2; after_results; rfl
theorem V_v17 (c : Dev nD) : (V m c main_v17 : S4x4x128x128.Idx → EReal) = aPW m c := by
  unfold V hostOps0 hostOps0_1 hostOps0_2; after_results; rfl
theorem V_v5_ (c : Dev nD) : (V m c main_v5 : S4x1024x128.Idx → EReal)
    = pad S4x1024x128 ![0, 0, 0] ![0, 0, 120] ![0, 0, 0] (extractStridedSlice S4x1024x8 ![0, 0, 3072] (aW m c) slices_S4x1024x3080_S4x1024x8_0_0_3072)
      (sitofp (F := Ideal) .bf16 (constantI S_ 32 0#32)) pads_S4x1024x8_S4x1024x128_000_000_01200 h_S_ := by
  unfold V hostOps0 hostOps0_1 hostOps0_2; after_results; rfl
theorem V_v5 (c : Dev nD) (l : Fin 4) (k : Fin 1024) (i : Fin 8) :
    (V m c main_v5 : S4x1024x128.Idx → EReal) (ValueIdx.ix3 l k ⟨i.val, by omega⟩) = aW m c (ValueIdx.ix3 l k ⟨3072 + i.val, by omega⟩) := by
  rw [V_v5_]
  refine (pad_apply_of_inside _ _ _ _ _ _ _ _ (ValueIdx.ix3 l k i) (fun a => match a with
    | ⟨0, _⟩ => (show l.val = 0 + l.val * (0 + 1) by omega)
    | ⟨1, _⟩ => (show k.val = 0 + k.val * (0 + 1) by omega)
    | ⟨2, _⟩ => (show i.val = 0 + i.val * (0 + 1) by omega))).trans ?_
  exact extractStridedSlice_apply _ _ _ _ (ValueIdx.ix3 l k ⟨3072 + i.val, by omega⟩) (fun a => match a with
    | ⟨0, _⟩ => (Nat.zero_add l.val).symm
    | ⟨1, _⟩ => (Nat.zero_add k.val).symm
    | ⟨2, _⟩ => rfl)

theorem V_v6_ (c : Dev nD) : (V m c main_v6 : S4x8x1.Idx → EReal) = broadcastInDim S4x8x1 ![0, 1] bcast_S4x8_S4x8x1_0_1 (aFB m c) := by
  unfold V hostOps0 hostOps0_1 hostOps0_2; after_results; rfl
theorem V_v6 (c : Dev nD) (l : Fin 4) (i : Fin 8) (z : Fin 1) : (V m c main_v6 : S4x8x1.Idx → EReal) (ValueIdx.ix3 l i z) = aFB m c (ValueIdx.ix2 l i) := by
  rw [V_v6_]
  exact broadcastInDim_apply ![0, 1] bcast_S4x8_S4x8x1_0_1 (aFB m c) _ (ValueIdx.ix2 l i) (fun a => match a with
    | ⟨0, _⟩ => rfl
    | ⟨1, _⟩ => rfl)

theorem V_v7_ (c : Dev nD) : (V m c main_v7 : S4x1x1024.Idx → EReal) = broadcastInDim S4x1x1024 ![0, 2] bcast_S4x1024_S4x1x1024_0_2 (aG m c) := by
  unfold V hostOps0 hostOps0_1 hostOps0_2; after_results; rfl
theorem V_v7 (c : Dev nD) (l : Fin 4) (z : Fin 1) (k : Fin 1024) : (V m c main_v7 : S4x1x1024.Idx → EReal) (ValueIdx.ix3 l z k) = aG m c (ValueIdx.ix2 l k) := by
  rw [V_v7_]
  exact broadcastInDim_apply ![0, 2] bcast_S4x1024_S4x1x1024_0_2 (aG m c) _ (ValueIdx.ix2 l k) (fun a => match a with
    | ⟨0, _⟩ => rfl
    | ⟨1, _⟩ => rfl)

theorem V_v18_ (c : Dev nD) : (V m c main_v18 : S4x1x512.Idx → EReal) = broadcastInDim S4x1x512 ![0, 2] bcast_S4x512_S4x1x512_0_2 (aPS m c) := by
  unfold V hostOps0 hostOps0_1 hostOps0_2; after_results; rfl
theorem V_v18 (c : Dev nD) (l : Fin 4) (z : Fin 1) (k : Fin 512) : (V m c main_v18 : S4x1x512.Idx → EReal) (ValueIdx.ix3 l z k) = aPS m c (ValueIdx.ix2 l k) := by
  rw [V_v18_]
  exact broadcastInDim_apply ![0, 2] bcast_S4x512_S4x1x512_0_2 (aPS m c) _ (ValueIdx.ix2 l k) (fun a => match a with
    | ⟨0, _⟩ => rfl
    | ⟨1, _⟩ => rfl)

theorem V_v16 (c : Dev nD) : (V m c main_v16 : S128x256.Idx → EReal) = Proj.prefixT := by
  unfold V hostOps0 hostOps0_1 hostOps0_2; after_results; rfl

theorem blk0 (c : Dev nD) (t : Fin cfg0.N) (a : Fin 1) (b d : Fin 1024) : iblk m c 0 t (ValueIdx.ix3 a b d) = aX m c (ValueIdx.ix3 (bt t) (rw' (ti t) b) d) := by
  show V m c main_arg0 (((cfg0.win 0).blk t).view.emb (ValueIdx.ix3 a b d)) = _
  rw [emb0, V_main_arg0]
theorem blk1 (c : Dev nD) (t : Fin cfg0.N) (a : Fin 1) (b : Fin 1024) (d : Fin 512) : iblk m c 1 t (ValueIdx.ix3 a b d) = aP m c (ValueIdx.ix3 (bt t) (rw' (ti t) b) d) := by
  show V m c main_v0 (((cfg0.win 1).blk t).view.emb (ValueIdx.ix3 a b d)) = _
  rw [emb1]; exact congrFun (V_v0 m c) _
theorem blk2 (c : Dev nD) (t : Fin cfg0.N) (a : Fin 1) (b : Fin 1024) (d : Fin 512) : iblk m c 2 t (ValueIdx.ix3 a b d) = aA m c (ValueIdx.ix3 (bt t) (rw' (ti t) b) d) := by
  show V m c main_v1 (((cfg0.win 2).blk t).view.emb (ValueIdx.ix3 a b d)) = _
  rw [emb2]; exact congrFun (V_v1 m c) _
theorem blk3 (c : Dev nD) (t : Fin cfg0.N) (a : Fin 1) (b d : Fin 1024) : iblk m c 3 t (ValueIdx.ix3 a b d) = aWO m c (ValueIdx.ix3 0 b d) := by
  show V m c main_v2 (((cfg0.win 3).blk t).view.emb (ValueIdx.ix3 a b d)) = _
  rw [emb3]; exact congrFun (V_v2 m c) _
theorem blk4 (c : Dev nD) (t : Fin cfg0.N) (a b : Fin 1) (d : Fin 1024) : iblk m c 4 t (ValueIdx.ix3 a b d) = aG m c (ValueIdx.ix2 1 d) := by
  show V m c main_v7 (((cfg0.win 4).blk t).view.emb (ValueIdx.ix3 a b d)) = _
  rw [emb4]; exact V_v7 m c _ _ _
theorem blk5 (c : Dev nD) (t : Fin cfg0.N) (a : Fin 1) (b : Fin 1024) (d : Fin 3072) : X0_5 m c t (ValueIdx.ix3 a b d) = aW m c (ValueIdx.ix3 1 b ⟨d.val, by omega⟩) := by
  obtain ⟨h0, h1, h2⟩ := idx5 t
  unfold X0_5 Pipeline.Window.fill
  rw [dif_pos (moved0_5 t _)]
  show V m c main_v3 _ = _
  rw [V_v3]
  refine congrArg (aW m c) (funext fun z => Fin.ext ?_)
  match z with
  | ⟨0, _⟩ => show win0_5.index t (0 : Fin 3) * 1 + 1 * a.val = 1; omega
  | ⟨1, _⟩ => show win0_5.index t (1 : Fin 3) * 1024 + 1 * b.val = b.val; omega
  | ⟨2, _⟩ => show win0_5.index t (2 : Fin 3) * 3072 + 1 * d.val = d.val; omega
theorem blk6 (c : Dev nD) (t : Fin cfg0.N) (a : Fin 1) (b : Fin 1024) (i : Fin 8) : iblk m c 6 t (ValueIdx.ix3 a b (⟨i.val, by omega⟩ : Fin 128)) = aW m c (ValueIdx.ix3 1 b ⟨3072 + i.val, by omega⟩) := by
  show V m c main_v5 (((cfg0.win 6).blk t).view.emb (ValueIdx.ix3 a b (⟨i.val, by omega⟩ : Fin 128))) = _
  rw [emb6]; exact V_v5 m c _ _ _
theorem blk7 (c : Dev nD) (t : Fin cfg0.N) (a : Fin 1) (b : Fin 8) (d : Fin 1) : iblk m c 7 t (ValueIdx.ix3 a b d) = aFB m c (ValueIdx.ix2 1 b) := by
  show V m c main_v6 (((cfg0.win 7).blk t).view.emb (ValueIdx.ix3 a b d)) = _
  rw [emb7]; exact V_v6 m c _ _ _
theorem blk8 (c : Dev nD) (t : Fin cfg0.N) (a : Fin 128) (b : Fin 256) : iblk m c 8 t (ValueIdx.ix2 a b) = (if a.val ≤ b.val ∨ 128 ≤ b.val then 1 else 0 : EReal) := by
  show V m c main_v16 (((cfg0.win 8).blk t).view.emb (ValueIdx.ix2 a b)) = _
  rw [emb8]; exact (congrFun (V_v16 m c) _).trans (Proj.prefixT_apply a b)
theorem blk9 (c : Dev nD) (t : Fin cfg0.N) (a : Fin 1) (b : Fin 4) (d e : Fin 128) : iblk m c 9 t (ValueIdx.ix4 a b d e) = aPW m c (ValueIdx.ix4 1 b d e) := by
  show V m c main_v17 (((cfg0.win 9).blk t).view.emb (ValueIdx.ix4 a b d e)) = _
  rw [emb9]; exact congrFun (V_v17 m c) _
theorem blk10 (c : Dev nD) (t : Fin cfg0.N) (a b : Fin 1) (d : Fin 512) : iblk m c 10 t (ValueIdx.ix3 a b d) = aPS m c (ValueIdx.ix2 1 d) := by
  show V m c main_v18 (((cfg0.win 10).blk t).view.emb (ValueIdx.ix3 a b d)) = _
  rw [emb10]; exact V_v18 m c _ _ _

/-- The rows after the output projection, and normalised. -/
def xnV (X : S8x4096x1024.Idx → EReal) (P A : S8x4096x512.Idx → EReal) (WO : S4x1024x1024.Idx → EReal) (b : Fin 8) (s : ℕ) : Fin 1024 → EReal :=
  Proj.mix (fun k => X (ValueIdx.ix3 b (Proj.at4 s) k)) (fun k => P (ValueIdx.ix3 b (Proj.at4 s) k)) (fun k => A (ValueIdx.ix3 b (Proj.at4 s) k)) (fun k j => WO (ValueIdx.ix3 0 k j))
def hV (X : S8x4096x1024.Idx → EReal) (P A : S8x4096x512.Idx → EReal) (WO : S4x1024x1024.Idx → EReal) (G : S4x1024.Idx → EReal) : Proj.H8 :=
  fun b s => Lin.rms (xnV X P A WO b s) (fun k => G (ValueIdx.ix2 1 k))
abbrev hM (c : Dev nD) : Proj.H8 := hV (aX m c) (aP m c) (aA m c) (aWO m c) (aG m c)
def wV (W : S4x1024x3080.Idx → EReal) : Fin 1024 → Fin 3080 → EReal := fun k n => W (ValueIdx.ix3 1 k n)
def fV (FB : S4x8.Idx → EReal) : Fin 8 → EReal := fun i => FB (ValueIdx.ix2 1 i)
def pwV (PW : S4x4x128x128.Idx → EReal) : Fin 4 → Fin 128 → Fin 128 → EReal := fun g k j => PW (ValueIdx.ix4 1 g k j)
def psV (PS : S4x512.Idx → EReal) : Fin 512 → EReal := fun k => PS (ValueIdx.ix2 1 k)
abbrev wM (c : Dev nD) := wV (aW m c)
abbrev fM (c : Dev nD) := fV (aFB m c)
abbrev pwM (c : Dev nD) := pwV (aPW m c)
abbrev psM (c : Dev nD) := psV (aPS m c)

abbrev hT (c : Dev nD) (t : Fin cfg0.N) : Proj.B2 1024 1024 .bf16 := hB (iblk m c 0 t) (iblk m c 1 t) (iblk m c 2 t) (iblk m c 3 t) (iblk m c 4 t) (X0_5 m c t) (iblk m c 6 t) (iblk m c 7 t) (iblk m c 8 t) (iblk m c 9 t) (iblk m c 10 t)
abbrev uT (c : Dev nD) (t : Fin cfg0.N) : Proj.B2 1024 512 .f32 := uB (iblk m c 0 t) (iblk m c 1 t) (iblk m c 2 t) (iblk m c 3 t) (iblk m c 4 t) (X0_5 m c t) (iblk m c 6 t) (iblk m c 7 t) (iblk m c 8 t) (iblk m c 9 t) (iblk m c 10 t)
abbrev pT (c : Dev nD) (t : Fin cfg0.N) : Proj.B2 32 1024 .bf16 := pB (iblk m c 0 t) (iblk m c 1 t) (iblk m c 2 t) (iblk m c 3 t) (iblk m c 4 t) (X0_5 m c t) (iblk m c 6 t) (iblk m c 7 t) (iblk m c 8 t) (iblk m c 9 t) (iblk m c 10 t)
abbrev w0T (c : Dev nD) (t : Fin cfg0.N) : Proj.B3 1024 1536 .bf16 := View.ld (X0_5 m c t) (Rect.unit ![0, 0, 0] ![1, 1024, 1536] (by decide))
abbrev w1T (c : Dev nD) (t : Fin cfg0.N) : Proj.B3 1024 1536 .bf16 := View.ld (X0_5 m c t) (Rect.unit ![0, 0, 1536] ![1, 1024, 1536] (by decide))

theorem mix_apply (c : Dev nD) (t : Fin cfg0.N) (r k : Fin 1024) :
    Proj.mixT (iblk m c 1 t) (View.ld (iblk m c 3 t) (Rect.unit (s := S1x1024x1024) ![0, 0, 0] ![1, 512, 1024] (by decide))) (iblk m c 2 t)
      (View.ld (iblk m c 3 t) (Rect.unit (s := S1x1024x1024) ![0, 512, 0] ![1, 512, 1024] (by decide))) (iblk m c 0 t) (ValueIdx.ix2 r k)
      = xnV (aX m c) (aP m c) (aA m c) (aWO m c) (bt t) ((ti t).val * 1024 + r.val) k := by
  refine (Proj.mixT_apply _ _ _ _ _ (fun k j => aWO m c (ValueIdx.ix3 0 k j)) (fun k j => ?_) (fun k j => ?_) r k).trans ?_
  · refine (congrArg (iblk m c 3 t) ?_).trans (blk3 m c t (0 : Fin 1) ⟨k.val, by omega⟩ j)
    exact (funext fun a => Fin.ext (match a with
      | ⟨0, _⟩ => rfl
      | ⟨1, _⟩ => (show 0 + 1 * k.val = k.val by omega)
      | ⟨2, _⟩ => (show 0 + 1 * j.val = j.val by omega)))
  · refine (congrArg (iblk m c 3 t) ?_).trans (blk3 m c t (0 : Fin 1) ⟨512 + k.val, by omega⟩ j)
    exact (funext fun a => Fin.ext (match a with
      | ⟨0, _⟩ => rfl
      | ⟨1, _⟩ => (show 512 + 1 * k.val = 512 + k.val by omega)
      | ⟨2, _⟩ => (show 0 + 1 * j.val = j.val by omega)))
  unfold xnV
  rw [at4_rw]
  simp only [blk0, blk1, blk2]
theorem h_apply (c : Dev nD) (t : Fin cfg0.N) (r k : Fin 1024) : hT m c t (ValueIdx.ix2 r k) = hM m c (bt t) ((ti t).val * 1024 + r.val) k := by
  unfold hT hB
  refine (Proj.normT_apply _ _ r k).trans ?_
  unfold hM hV
  refine congrArg₂ (fun f g => Lin.rms f g k) (funext fun j => mix_apply m c t r j) (funext fun j => blk4 m c t 0 0 j)
theorem w0_apply (c : Dev nD) (t : Fin cfg0.N) (k : Fin 1024) (j : Fin 1536) : w0T m c t (ValueIdx.ix3 0 k j) = wM m c k ⟨j.val, by omega⟩ := by
  refine (congrArg (X0_5 m c t) ?_).trans (blk5 m c t (0 : Fin 1) k ⟨j.val, by omega⟩)
  exact (funext fun a => Fin.ext (match a with
    | ⟨0, _⟩ => rfl
    | ⟨1, _⟩ => (show 0 + 1 * k.val = k.val by omega)
    | ⟨2, _⟩ => (show 0 + 1 * j.val = j.val by omega)))
theorem w1_apply (c : Dev nD) (t : Fin cfg0.N) (k : Fin 1024) (j : Fin 1536) : w1T m c t (ValueIdx.ix3 0 k j) = wM m c k ⟨1536 + j.val, by omega⟩ := by
  refine (congrArg (X0_5 m c t) ?_).trans (blk5 m c t (0 : Fin 1) k ⟨1536 + j.val, by omega⟩)
  exact (funext fun a => Fin.ext (match a with
    | ⟨0, _⟩ => rfl
    | ⟨1, _⟩ => (show 0 + 1 * k.val = k.val by omega)
    | ⟨2, _⟩ => (show 1536 + 1 * j.val = 1536 + j.val by omega)))
theorem wf_apply (c : Dev nD) (t : Fin cfg0.N) (k : Fin 1024) (i : Fin 8) :
    (iblk m c 6 t : Proj.B3 1024 128 .bf16) (ValueIdx.ix3 0 k ⟨i.val, by omega⟩) = wM m c k ⟨3072 + i.val, by omega⟩ := blk6 m c t 0 k i
theorem fb_apply (c : Dev nD) (t : Fin cfg0.N) (i : Fin 8) : (iblk m c 7 t : Proj.B3 8 1 .f32) (ValueIdx.ix3 0 i 0) = fM m c i := blk7 m c t 0 i 0
theorem m_apply (c : Dev nD) (t : Fin cfg0.N) (k : Fin 128) (q : Fin 256) :
    (iblk m c 8 t : Proj.B2 128 256 .bf16) (ValueIdx.ix2 k q) = (if k.val ≤ q.val ∨ 128 ≤ q.val then 1 else 0 : EReal) := blk8 m c t k q
theorem ps_apply (c : Dev nD) (t : Fin cfg0.N) (k : Fin 512) : (iblk m c 10 t : Proj.B3 1 512 .f32) (ValueIdx.ix3 0 0 k) = psM m c k := blk10 m c t 0 0 k
theorem inb_pw (g : Fin 4) : ∀ a, (![0, g.val, 0, 0] : Fin 4 → Nat) a + (![1, 1, 128, 128] : Fin 4 → Nat) a ≤ S1x4x128x128.size a := by revert g; decide
/-- A group's weights. -/
def pwT (c : Dev nD) (t : Fin cfg0.N) (g : Fin 4) : FVec Ideal ⟨4, ![1, 1, 128, 128]⟩ .bf16 :=
  View.ld (iblk m c 9 t) (Rect.unit (s := S1x4x128x128) ![0, g.val, 0, 0] ![1, 1, 128, 128] (inb_pw g))
theorem pw_apply (c : Dev nD) (t : Fin cfg0.N) (g : Fin 4) (k j : Fin 128) : pwT m c t g (ValueIdx.ix4 0 0 k j) = pwM m c g k j := by
  refine (congrArg (iblk m c 9 t) ?_).trans (blk9 m c t (0 : Fin 1) g k j)
  exact (funext fun a => Fin.ext (match a with
    | ⟨0, _⟩ => rfl
    | ⟨1, _⟩ => (show g.val + 1 * 0 = g.val by omega)
    | ⟨2, _⟩ => (show 0 + 1 * k.val = k.val by omega)
    | ⟨3, _⟩ => (show 0 + 1 * j.val = j.val by omega)))

theorem u_apply (c : Dev nD) (t : Fin cfg0.N) (r : Fin 1024) (k : Fin 512) :
    uT m c t (ValueIdx.ix2 r k) = Proj.pr (hM m c (bt t)) (wM m c) ((ti t).val * 1024 + r.val) ⟨0 + k.val, by omega⟩ :=
  Proj.lo_apply (hM m c (bt t)) (wM m c) (ti t).val (hT m c t) (h_apply m c t) (w0T m c t) (w0_apply m c t) 0 _ r k (by omega)
theorem logT_apply (c : Dev nD) (t : Fin cfg0.N) (i : Fin 8) (q : Fin 1024) :
    Proj.logT (Proj.zT (hT m c t) (iblk m c 6 t)) (iblk m c 7 t) (ValueIdx.ix2 i q) = Proj.lf (hM m c (bt t)) (wM m c) (fM m c) i ((ti t).val * 1024 + q.val) :=
  Proj.log_apply (hM m c (bt t)) (wM m c) (fM m c) (ti t).val (hT m c t) (h_apply m c t) (iblk m c 6 t) (wf_apply m c t) (iblk m c 7 t) (fb_apply m c t) i q

/-! ## What a point leaves in the carried buffers -/

theorem halo (c : Dev nD) (t : Fin cfg0.N) (r : Fin 16) (k : Fin 512) :
    (outsAt0 m c t.val t.isLt).2.2.2.2.2.2.2.2 (ValueIdx.ix2 ⟨r.val, by omega⟩ k)
      = Proj.pr (hM m c (bt t)) (wM m c) ((ti t).val * 1024 + (1008 + r.val)) ⟨k.val, by omega⟩ := by
  have e : Proj.tailT (uT m c t) (ValueIdx.ix2 r k) = Proj.pr (hM m c (bt t)) (wM m c) ((ti t).val * 1024 + (1008 + r.val)) ⟨k.val, by omega⟩ := by
    rw [Proj.tailT_apply, u_apply]
    exact congrArg (Proj.pr (hM m c (bt t)) (wM m c) _) (Fin.ext (Nat.zero_add _))
  by_cases h0 : t.val % 4 = 0
  · rw [outsAt0_A m c t h0]
    dsimp only
    rw [sout0_A_1_eq]
    exact (Proj.canon_lo _ _ _ r.val r.isLt k).trans e
  · rw [outsAt0_B m c t h0]
    dsimp only
    rw [sout0_B_1_eq]
    exact (Proj.canon_lo _ _ _ r.val r.isLt k).trans e

theorem carryA (c : Dev nD) (t : Fin cfg0.N) (h0 : t.val % 4 = 0) (i : Fin 8) (l : Fin 128) :
    (outsAt0 m c t.val t.isLt).2.2.2.2.2.2.2.1 (ValueIdx.ix2 i l) = ∑ q ∈ Finset.range ((ti t).val * 1024 + 1024), Proj.lf (hM m c (bt t)) (wM m c) (fM m c) i q := by
  rw [outsAt0_A m c t h0]
  dsimp only
  rw [sout0_A_0_eq, shapeCast_self]
  exact Proj.car8_apply _ (Proj.log_ne_top _ _) _ (m_apply m c t) (Proj.lf (hM m c (bt t)) (wM m c) (fM m c)) ((ti t).val * 1024) (logT_apply m c t) _ (fun i l => by
    rw [ti_val, h0]
    exact Ideal.ofBits_zero_f32) i l
theorem carryB (c : Dev nD) (t : Fin cfg0.N) (h0 : ¬t.val % 4 = 0)
    (hp : ∀ (i : Fin 8) (l : Fin 128), (outsAt0 m c (t.val - 1) (by omega)).2.2.2.2.2.2.2.1 (ValueIdx.ix2 i l) = ∑ q ∈ Finset.range ((ti t).val * 1024 + 0), Proj.lf (hM m c (bt t)) (wM m c) (fM m c) i q)
    (i : Fin 8) (l : Fin 128) :
    (outsAt0 m c t.val t.isLt).2.2.2.2.2.2.2.1 (ValueIdx.ix2 i l) = ∑ q ∈ Finset.range ((ti t).val * 1024 + 1024), Proj.lf (hM m c (bt t)) (wM m c) (fM m c) i q := by
  rw [outsAt0_B m c t h0]
  dsimp only
  rw [sout0_B_0_eq, shapeCast_self]
  exact Proj.car8_apply _ (Proj.log_ne_top _ _) _ (m_apply m c t) (Proj.lf (hM m c (bt t)) (wM m c) (fM m c)) ((ti t).val * 1024) (logT_apply m c t) _ hp i l

theorem bt_pred (n : ℕ) (hn : n + 1 < cfg0.N) (h0 : ¬(n + 1) % 4 = 0) : bt ⟨n, by omega⟩ = bt ⟨n + 1, hn⟩ :=
  Fin.ext (by rw [bt_val, bt_val]; show n / 4 = (n + 1) / 4; omega)
theorem ti_pred (n : ℕ) (hn : n + 1 < cfg0.N) (h0 : ¬(n + 1) % 4 = 0) : (ti ⟨n, by omega⟩).val + 1 = (ti ⟨n + 1, hn⟩).val := by
  rw [ti_val, ti_val]; show n % 4 + 1 = (n + 1) % 4; omega

theorem carry (c : Dev nD) : ∀ (n : ℕ) (hn : n < cfg0.N) (i : Fin 8) (l : Fin 128),
    (outsAt0 m c n hn).2.2.2.2.2.2.2.1 (ValueIdx.ix2 i l) = ∑ q ∈ Finset.range ((ti ⟨n, hn⟩).val * 1024 + 1024), Proj.lf (hM m c (bt ⟨n, hn⟩)) (wM m c) (fM m c) i q := by
  intro n
  induction n with
  | zero => exact fun hn i l => carryA m c ⟨0, hn⟩ rfl i l
  | succ n ih =>
    intro hn i l
    by_cases h0 : (n + 1) % 4 = 0
    · exact carryA m c ⟨n + 1, hn⟩ h0 i l
    · refine carryB m c ⟨n + 1, hn⟩ h0 (fun i l => ?_) i l
      refine (ih (by omega) i l).trans ?_
      have et : (ti ⟨n, by omega⟩).val * 1024 + 1024 = (ti ⟨n + 1, hn⟩).val * 1024 + 0 := by
        have := ti_pred n hn h0; omega
      rw [bt_pred n hn h0, et]

/-! ## What a point leaves in the results' blocks -/

def arrXn (X : S8x4096x1024.Idx → EReal) (P A : S8x4096x512.Idx → EReal) (WO : S4x1024x1024.Idx → EReal) : S8x4096x1024.Idx → EReal :=
  fun i => xnV X P A WO (i 0) (i 1).val (i 2)
theorem at_xn (c : Dev nD) (t : Fin cfg0.N) (z : Fin 1) (r j : Fin 1024) :
    (outsAt0 m c t.val t.isLt).1 (ValueIdx.ix3 z r j) = arrXn (aX m c) (aP m c) (aA m c) (aWO m c) (ValueIdx.ix3 (bt t) (rw' (ti t) r) j) := by
  have e := (Lin.add3 (Proj.mixT (iblk m c 1 t) (View.ld (iblk m c 3 t) (Rect.unit (s := S1x1024x1024) ![0, 0, 0] ![1, 512, 1024] (by decide))) (iblk m c 2 t)
      (View.ld (iblk m c 3 t) (Rect.unit (s := S1x1024x1024) ![0, 512, 0] ![1, 512, 1024] (by decide))) (iblk m c 0 t)) (by decide) z r j).trans (mix_apply m c t r j)
  by_cases h0 : t.val % 4 = 0
  · rw [outsAt0_A m c t h0]
    dsimp only
    rw [out0_A_11_eq]
    exact e
  · rw [outsAt0_B m c t h0]
    dsimp only
    rw [out0_B_11_eq]
    exact e

theorem at_q (c : Dev nD) (t : Fin cfg0.N) (z : Fin 1) (r : Fin 1024) (j : Fin 512) :
    (outsAt0 m c t.val t.isLt).2.2.1 (ValueIdx.ix3 z r j) = Proj.arrS 1024 (by decide) (hM m c) (wM m c) (ValueIdx.ix3 (bt t) (rw' (ti t) r) j) := by
  have e : Proj.outT (Proj.colsT 1024 (Proj.wideT (hT m c t) (w0T m c t)) (by decide)) (ValueIdx.ix3 z r j) = Proj.arrS 1024 (by decide) (hM m c) (wM m c) (ValueIdx.ix3 (bt t) (rw' (ti t) r) j) := by
    refine (Proj.outT_apply _ z r j).trans ?_
    refine (Proj.lo_apply (hM m c (bt t)) (wM m c) (ti t).val (hT m c t) (h_apply m c t) (w0T m c t) (w0_apply m c t) 1024 _ r j (by omega)).trans ?_
    exact congrArg (Proj.pr (hM m c (bt t)) (wM m c) ((ti t).val * 1024 + r.val)) (Fin.ext (by show 1024 + j.val = 1024 + j.val; omega))
  by_cases h0 : t.val % 4 = 0
  · rw [outsAt0_A m c t h0]
    dsimp only
    rw [out0_A_13_eq]
    exact e
  · rw [outsAt0_B m c t h0]
    dsimp only
    rw [out0_B_13_eq]
    exact e

theorem at_k (c : Dev nD) (t : Fin cfg0.N) (z : Fin 1) (r : Fin 1024) (j : Fin 512) :
    (outsAt0 m c t.val t.isLt).2.2.2.1 (ValueIdx.ix3 z r j) = Proj.arrS 1536 (by decide) (hM m c) (wM m c) (ValueIdx.ix3 (bt t) (rw' (ti t) r) j) := by
  have e : Proj.outbT (Proj.colsT 0 (Proj.wideT (hT m c t) (w1T m c t)) (by decide)) (ValueIdx.ix3 z r j) = Proj.arrS 1536 (by decide) (hM m c) (wM m c) (ValueIdx.ix3 (bt t) (rw' (ti t) r) j) := by
    refine (Proj.outbT_apply _ z r j).trans ?_
    refine (Proj.hi_apply (hM m c (bt t)) (wM m c) (ti t).val (hT m c t) (h_apply m c t) (w1T m c t) (w1_apply m c t) 0 _ r j (by omega)).trans ?_
    exact congrArg (Proj.pr (hM m c (bt t)) (wM m c) ((ti t).val * 1024 + r.val)) (Fin.ext (by show 1536 + (0 + j.val) = 1536 + j.val; omega))
  by_cases h0 : t.val % 4 = 0
  · rw [outsAt0_A m c t h0]
    dsimp only
    rw [out0_A_14_eq]
    exact e
  · rw [outsAt0_B m c t h0]
    dsimp only
    rw [out0_B_14_eq]
    exact e

theorem at_v (c : Dev nD) (t : Fin cfg0.N) (z : Fin 1) (r : Fin 1024) (j : Fin 512) :
    (outsAt0 m c t.val t.isLt).2.2.2.2.1 (ValueIdx.ix3 z r j) = Proj.arrS 2048 (by decide) (hM m c) (wM m c) (ValueIdx.ix3 (bt t) (rw' (ti t) r) j) := by
  have e : Proj.outbT (Proj.colsT 512 (Proj.wideT (hT m c t) (w1T m c t)) (by decide)) (ValueIdx.ix3 z r j) = Proj.arrS 2048 (by decide) (hM m c) (wM m c) (ValueIdx.ix3 (bt t) (rw' (ti t) r) j) := by
    refine (Proj.outbT_apply _ z r j).trans ?_
    refine (Proj.hi_apply (hM m c (bt t)) (wM m c) (ti t).val (hT m c t) (h_apply m c t) (w1T m c t) (w1_apply m c t) 512 _ r j (by omega)).trans ?_
    exact congrArg (Proj.pr (hM m c (bt t)) (wM m c) ((ti t).val * 1024 + r.val)) (Fin.ext (by show 1536 + (512 + j.val) = 2048 + j.val; omega))
  by_cases h0 : t.val % 4 = 0
  · rw [outsAt0_A m c t h0]
    dsimp only
    rw [out0_A_15_eq]
    exact e
  · rw [outsAt0_B m c t h0]
    dsimp only
    rw [out0_B_15_eq]
    exact e

theorem at_ag (c : Dev nD) (t : Fin cfg0.N) (z : Fin 1) (r : Fin 1024) (j : Fin 512) :
    (outsAt0 m c t.val t.isLt).2.2.2.2.2.1 (ValueIdx.ix3 z r j) = Proj.arrS 2560 (by decide) (hM m c) (wM m c) (ValueIdx.ix3 (bt t) (rw' (ti t) r) j) := by
  have e : Proj.outT (Proj.colsT 1024 (Proj.wideT (hT m c t) (w1T m c t)) (by decide)) (ValueIdx.ix3 z r j) = Proj.arrS 2560 (by decide) (hM m c) (wM m c) (ValueIdx.ix3 (bt t) (rw' (ti t) r) j) := by
    refine (Proj.outT_apply _ z r j).trans ?_
    refine (Proj.hi_apply (hM m c (bt t)) (wM m c) (ti t).val (hT m c t) (h_apply m c t) (w1T m c t) (w1_apply m c t) 1024 _ r j (by omega)).trans ?_
    exact congrArg (Proj.pr (hM m c (bt t)) (wM m c) ((ti t).val * 1024 + r.val)) (Fin.ext (by show 1536 + (1024 + j.val) = 2560 + j.val; omega))
  by_cases h0 : t.val % 4 = 0
  · rw [outsAt0_A m c t h0]
    dsimp only
    rw [out0_A_16_eq]
    exact e
  · rw [outsAt0_B m c t h0]
    dsimp only
    rw [out0_B_16_eq]
    exact e

theorem at_c (c : Dev nD) (t : Fin cfg0.N) (z : Fin 1) (i : Fin 8) (q : Fin 1024) :
    (outsAt0 m c t.val t.isLt).2.2.2.2.2.2.1 (ValueIdx.ix3 z i q) = Proj.arrC (hM m c) (wM m c) (fM m c) (ValueIdx.ix3 (bt t) i (rw' (ti t) q)) := by
  by_cases h0 : t.val % 4 = 0
  · rw [outsAt0_A m c t h0]
    dsimp only
    rw [out0_A_17_eq, shapeCast_self]
    exact Proj.sumsT_apply _ (Proj.log_ne_top _ _) _ (m_apply m c t) (Proj.lf (hM m c (bt t)) (wM m c) (fM m c)) ((ti t).val * 1024) (logT_apply m c t) _ (fun i l => by
      rw [ti_val, h0]
      exact Ideal.ofBits_zero_f32) z i q
  · rw [outsAt0_B m c t h0]
    dsimp only
    rw [out0_B_17_eq]
    refine Proj.sumsT_apply _ (Proj.log_ne_top _ _) _ (m_apply m c t) (Proj.lf (hM m c (bt t)) (wM m c) (fM m c)) ((ti t).val * 1024) (logT_apply m c t) _ (fun i l => ?_) z i q
    have hp : t.val - 1 + 1 = t.val := by omega
    refine (carry m c (t.val - 1) (by omega) i l).trans ?_
    have et : (ti ⟨t.val - 1, by omega⟩).val * 1024 + 1024 = (ti t).val * 1024 + 0 := by
      rw [ti_val, ti_val]; show (t.val - 1) % 4 * 1024 + 1024 = t.val % 4 * 1024 + 0; omega
    have eb : bt ⟨t.val - 1, by omega⟩ = bt t := Fin.ext (by rw [bt_val, bt_val]; show (t.val - 1) / 4 = t.val / 4; omega)
    rw [eb, et]

theorem inb_ext (g : Fin 4) : ∀ a, (![0, 128 * g.val] : Fin 2 → Nat) a + (![1040, 128] : Fin 2 → Nat) a ≤ S1040x512.size a := by revert g; decide
theorem at_po (c : Dev nD) (t : Fin cfg0.N) (z : Fin 1) (r : Fin 1024) (j : Fin 512) :
    (outsAt0 m c t.val t.isLt).2.1 (ValueIdx.ix3 z r j) = Proj.arrPo (hM m c) (wM m c) (pwM m c) (psM m c) (ValueIdx.ix3 (bt t) (rw' (ti t) r) j) := by
  obtain ⟨g, l, rfl⟩ : ∃ (g : Fin 4) (l : Fin 128), j = Proj.col g l :=
    ⟨⟨j.val / 128, by omega⟩, ⟨j.val % 128, by omega⟩, Fin.ext (by show j.val = 128 * (j.val / 128) + j.val % 128; omega)⟩
  rw [Proj.arrPo_col]
  have hu : ∀ (r : Fin 1024) (k : Fin 512), Proj.selfT (uT m c t) (ValueIdx.ix2 r k) = Proj.ext (hM m c (bt t)) (wM m c) ((ti t).val * 1024 + (16 + r.val)) k := fun r k => by
    rw [Proj.selfT_eq, u_apply, Proj.ext_self]
  by_cases h0 : t.val % 4 = 0
  · rw [outsAt0_A m c t h0]
    dsimp only
    rw [out0_A_12_eq]
    exact Proj.pool_apply (hM m c (bt t)) (wM m c) (ti t).val (hT m c t) (h_apply m c t) (ti t).isLt (w0T m c t) (w0_apply m c t) _ _
      (fun g => Proj.extA (scM0_1 : Memref _ _ _ _ _).view (Proj.selfT (uT m c t)) Proj.zeroT (128 * g.val) (inb_ext g))
      (fun g r hr k => Proj.extA_apply _ _ _ (128 * g.val) (inb_ext g) (fun r k => Proj.ext (hM m c (bt t)) (wM m c) ((ti t).val * 1024 + r) k)
        (fun r k => by
          have hz : (ti t).val = 0 := (ti_val t).trans h0
          rw [Proj.zeroT_apply, hz, Proj.ext_first _ _ _ r.isLt]) hu r hr k (by omega))
      (pwT m c t) (pwM m c) (pw_apply m c t) _ (psM m c) (ps_apply m c t) z r g l
  · rw [outsAt0_B m c t h0]
    dsimp only
    rw [out0_B_12_eq]
    have hp : 0 < (ti t).val := by rw [ti_val]; omega
    refine Proj.pool_apply (hM m c (bt t)) (wM m c) (ti t).val (hT m c t) (h_apply m c t) (ti t).isLt (w0T m c t) (w0_apply m c t) _ _
      (fun g => Proj.extB (scM0_1 : Memref _ _ _ _ _).view ((Memref.isWhole_whole _).unread (outsAt0 m c (t.val - 1) (by omega)).2.2.2.2.2.2.2.2) (Proj.selfT (uT m c t)) (128 * g.val) (inb_ext g))
      (fun g r hr k => Proj.extB_apply _ _ _ (128 * g.val) (inb_ext g) (fun r k => Proj.ext (hM m c (bt t)) (wM m c) ((ti t).val * 1024 + r) k)
        (fun r k => ?_) hu r hr k (by omega))
      (pwT m c t) (pwM m c) (pw_apply m c t) _ (psM m c) (ps_apply m c t) z r g l
    rw [Memref.IsWhole.read_unread, Proj.ext_later _ _ _ hp]
    refine (halo m c ⟨t.val - 1, by omega⟩ r k).trans ?_
    have et : (ti ⟨t.val - 1, by omega⟩).val = (ti t).val - 1 := by
      rw [ti_val, ti_val]; show (t.val - 1) % 4 = t.val % 4 - 1; omega
    have eb : bt ⟨t.val - 1, by omega⟩ = bt t := Fin.ext (by rw [bt_val, bt_val]; show (t.val - 1) / 4 = t.val / 4; omega)
    rw [eb, et]

/-! ## The result arrays -/

theorem G_xn (c : Dev nD) : (Value.G11 m c : S8x4096x1024.Idx → EReal) = arrXn (aX m c) (aP m c) (aA m c) (aWO m c) := by
  funext i
  obtain ⟨b, s, j, rfl⟩ : ∃ (b : Fin 8) (s : Fin 4096) (j : Fin 1024), i = ValueIdx.ix3 b s j := ⟨i 0, i 1, i 2, ValueIdx.eq_ix3 i⟩
  have ep : Value.pt11Of (ValueIdx.ix3 b s j) = 4 * b.val + s.val / 1024 := by
    show 4 * (b.val / 1 - 0) + 1 * (s.val / 1024 - 0) + 1 * (j.val / 1024 - 0) = _; omega
  have hp : Value.pt11Of (ValueIdx.ix3 b s j) < cfg0.N := by
    rw [ep]; exact lt_of_lt_of_eq (by omega) N_0.symm
  have el : Value.loc11Of (ValueIdx.ix3 b s j) = ValueIdx.ix3 (0 : Fin 1) (⟨s.val % 1024, by omega⟩ : Fin 1024) j := funext fun z => Fin.ext (by
    match z with
    | ⟨0, _⟩ => show b.val % 1 = 0; omega
    | ⟨1, _⟩ => rfl
    | ⟨2, _⟩ => show j.val % 1024 = j.val; omega)
  unfold Value.G11
  rw [dif_pos hp, ← Value.outsAt0_sweep m c _ hp, el]
  refine (at_xn m c ⟨_, hp⟩ (0 : Fin 1) ⟨s.val % 1024, by omega⟩ j).trans ?_
  generalize ht : (⟨_, hp⟩ : Fin cfg0.N) = t
  have hv : t.val = 4 * b.val + s.val / 1024 := by rw [← ht]; exact ep
  have e1 : bt t = b := Fin.ext (by rw [bt_val, hv]; omega)
  have e2 : rw' (ti t) ⟨s.val % 1024, by omega⟩ = s := Fin.ext (by show (ti t).val * 1024 + s.val % 1024 = s.val; rw [ti_val, hv]; omega)
  rw [e1, e2]

theorem G_po (c : Dev nD) : (Value.G12 m c : S8x4096x512.Idx → EReal) = Proj.arrPo (hM m c) (wM m c) (pwM m c) (psM m c) := by
  funext i
  obtain ⟨b, s, j, rfl⟩ : ∃ (b : Fin 8) (s : Fin 4096) (j : Fin 512), i = ValueIdx.ix3 b s j := ⟨i 0, i 1, i 2, ValueIdx.eq_ix3 i⟩
  have ep : Value.pt12Of (ValueIdx.ix3 b s j) = 4 * b.val + s.val / 1024 := by
    show 4 * (b.val / 1 - 0) + 1 * (s.val / 1024 - 0) + 1 * (j.val / 512 - 0) = _; omega
  have hp : Value.pt12Of (ValueIdx.ix3 b s j) < cfg0.N := by
    rw [ep]; exact lt_of_lt_of_eq (by omega) N_0.symm
  have el : Value.loc12Of (ValueIdx.ix3 b s j) = ValueIdx.ix3 (0 : Fin 1) (⟨s.val % 1024, by omega⟩ : Fin 1024) j := funext fun z => Fin.ext (by
    match z with
    | ⟨0, _⟩ => show b.val % 1 = 0; omega
    | ⟨1, _⟩ => rfl
    | ⟨2, _⟩ => show j.val % 512 = j.val; omega)
  unfold Value.G12
  rw [dif_pos hp, ← Value.outsAt0_sweep m c _ hp, el]
  refine (at_po m c ⟨_, hp⟩ (0 : Fin 1) ⟨s.val % 1024, by omega⟩ j).trans ?_
  generalize ht : (⟨_, hp⟩ : Fin cfg0.N) = t
  have hv : t.val = 4 * b.val + s.val / 1024 := by rw [← ht]; exact ep
  have e1 : bt t = b := Fin.ext (by rw [bt_val, hv]; omega)
  have e2 : rw' (ti t) ⟨s.val % 1024, by omega⟩ = s := Fin.ext (by show (ti t).val * 1024 + s.val % 1024 = s.val; rw [ti_val, hv]; omega)
  rw [e1, e2]

theorem G_q (c : Dev nD) : (Value.G13 m c : S8x4096x512.Idx → EReal) = Proj.arrS 1024 (by decide) (hM m c) (wM m c) := by
  funext i
  obtain ⟨b, s, j, rfl⟩ : ∃ (b : Fin 8) (s : Fin 4096) (j : Fin 512), i = ValueIdx.ix3 b s j := ⟨i 0, i 1, i 2, ValueIdx.eq_ix3 i⟩
  have ep : Value.pt13Of (ValueIdx.ix3 b s j) = 4 * b.val + s.val / 1024 := by
    show 4 * (b.val / 1 - 0) + 1 * (s.val / 1024 - 0) + 1 * (j.val / 512 - 0) = _; omega
  have hp : Value.pt13Of (ValueIdx.ix3 b s j) < cfg0.N := by
    rw [ep]; exact lt_of_lt_of_eq (by omega) N_0.symm
  have el : Value.loc13Of (ValueIdx.ix3 b s j) = ValueIdx.ix3 (0 : Fin 1) (⟨s.val % 1024, by omega⟩ : Fin 1024) j := funext fun z => Fin.ext (by
    match z with
    | ⟨0, _⟩ => show b.val % 1 = 0; omega
    | ⟨1, _⟩ => rfl
    | ⟨2, _⟩ => show j.val % 512 = j.val; omega)
  unfold Value.G13
  rw [dif_pos hp, ← Value.outsAt0_sweep m c _ hp, el]
  refine (at_q m c ⟨_, hp⟩ (0 : Fin 1) ⟨s.val % 1024, by omega⟩ j).trans ?_
  generalize ht : (⟨_, hp⟩ : Fin cfg0.N) = t
  have hv : t.val = 4 * b.val + s.val / 1024 := by rw [← ht]; exact ep
  have e1 : bt t = b := Fin.ext (by rw [bt_val, hv]; omega)
  have e2 : rw' (ti t) ⟨s.val % 1024, by omega⟩ = s := Fin.ext (by show (ti t).val * 1024 + s.val % 1024 = s.val; rw [ti_val, hv]; omega)
  rw [e1, e2]

theorem G_k (c : Dev nD) : (Value.G14 m c : S8x4096x512.Idx → EReal) = Proj.arrS 1536 (by decide) (hM m c) (wM m c) := by
  funext i
  obtain ⟨b, s, j, rfl⟩ : ∃ (b : Fin 8) (s : Fin 4096) (j : Fin 512), i = ValueIdx.ix3 b s j := ⟨i 0, i 1, i 2, ValueIdx.eq_ix3 i⟩
  have ep : Value.pt14Of (ValueIdx.ix3 b s j) = 4 * b.val + s.val / 1024 := by
    show 4 * (b.val / 1 - 0) + 1 * (s.val / 1024 - 0) + 1 * (j.val / 512 - 0) = _; omega
  have hp : Value.pt14Of (ValueIdx.ix3 b s j) < cfg0.N := by
    rw [ep]; exact lt_of_lt_of_eq (by omega) N_0.symm
  have el : Value.loc14Of (ValueIdx.ix3 b s j) = ValueIdx.ix3 (0 : Fin 1) (⟨s.val % 1024, by omega⟩ : Fin 1024) j := funext fun z => Fin.ext (by
    match z with
    | ⟨0, _⟩ => show b.val % 1 = 0; omega
    | ⟨1, _⟩ => rfl
    | ⟨2, _⟩ => show j.val % 512 = j.val; omega)
  unfold Value.G14
  rw [dif_pos hp, ← Value.outsAt0_sweep m c _ hp, el]
  refine (at_k m c ⟨_, hp⟩ (0 : Fin 1) ⟨s.val % 1024, by omega⟩ j).trans ?_
  generalize ht : (⟨_, hp⟩ : Fin cfg0.N) = t
  have hv : t.val = 4 * b.val + s.val / 1024 := by rw [← ht]; exact ep
  have e1 : bt t = b := Fin.ext (by rw [bt_val, hv]; omega)
  have e2 : rw' (ti t) ⟨s.val % 1024, by omega⟩ = s := Fin.ext (by show (ti t).val * 1024 + s.val % 1024 = s.val; rw [ti_val, hv]; omega)
  rw [e1, e2]

theorem G_v (c : Dev nD) : (Value.G15 m c : S8x4096x512.Idx → EReal) = Proj.arrS 2048 (by decide) (hM m c) (wM m c) := by
  funext i
  obtain ⟨b, s, j, rfl⟩ : ∃ (b : Fin 8) (s : Fin 4096) (j : Fin 512), i = ValueIdx.ix3 b s j := ⟨i 0, i 1, i 2, ValueIdx.eq_ix3 i⟩
  have ep : Value.pt15Of (ValueIdx.ix3 b s j) = 4 * b.val + s.val / 1024 := by
    show 4 * (b.val / 1 - 0) + 1 * (s.val / 1024 - 0) + 1 * (j.val / 512 - 0) = _; omega
  have hp : Value.pt15Of (ValueIdx.ix3 b s j) < cfg0.N := by
    rw [ep]; exact lt_of_lt_of_eq (by omega) N_0.symm
  have el : Value.loc15Of (ValueIdx.ix3 b s j) = ValueIdx.ix3 (0 : Fin 1) (⟨s.val % 1024, by omega⟩ : Fin 1024) j := funext fun z => Fin.ext (by
    match z with
    | ⟨0, _⟩ => show b.val % 1 = 0; omega
    | ⟨1, _⟩ => rfl
    | ⟨2, _⟩ => show j.val % 512 = j.val; omega)
  unfold Value.G15
  rw [dif_pos hp, ← Value.outsAt0_sweep m c _ hp, el]
  refine (at_v m c ⟨_, hp⟩ (0 : Fin 1) ⟨s.val % 1024, by omega⟩ j).trans ?_
  generalize ht : (⟨_, hp⟩ : Fin cfg0.N) = t
  have hv : t.val = 4 * b.val + s.val / 1024 := by rw [← ht]; exact ep
  have e1 : bt t = b := Fin.ext (by rw [bt_val, hv]; omega)
  have e2 : rw' (ti t) ⟨s.val % 1024, by omega⟩ = s := Fin.ext (by show (ti t).val * 1024 + s.val % 1024 = s.val; rw [ti_val, hv]; omega)
  rw [e1, e2]

theorem G_ag (c : Dev nD) : (Value.G16 m c : S8x4096x512.Idx → EReal) = Proj.arrS 2560 (by decide) (hM m c) (wM m c) := by
  funext i
  obtain ⟨b, s, j, rfl⟩ : ∃ (b : Fin 8) (s : Fin 4096) (j : Fin 512), i = ValueIdx.ix3 b s j := ⟨i 0, i 1, i 2, ValueIdx.eq_ix3 i⟩
  have ep : Value.pt16Of (ValueIdx.ix3 b s j) = 4 * b.val + s.val / 1024 := by
    show 4 * (b.val / 1 - 0) + 1 * (s.val / 1024 - 0) + 1 * (j.val / 512 - 0) = _; omega
  have hp : Value.pt16Of (ValueIdx.ix3 b s j) < cfg0.N := by
    rw [ep]; exact lt_of_lt_of_eq (by omega) N_0.symm
  have el : Value.loc16Of (ValueIdx.ix3 b s j) = ValueIdx.ix3 (0 : Fin 1) (⟨s.val % 1024, by omega⟩ : Fin 1024) j := funext fun z => Fin.ext (by
    match z with
    | ⟨0, _⟩ => show b.val % 1 = 0; omega
    | ⟨1, _⟩ => rfl
    | ⟨2, _⟩ => show j.val % 512 = j.val; omega)
  unfold Value.G16
  rw [dif_pos hp, ← Value.outsAt0_sweep m c _ hp, el]
  refine (at_ag m c ⟨_, hp⟩ (0 : Fin 1) ⟨s.val % 1024, by omega⟩ j).trans ?_
  generalize ht : (⟨_, hp⟩ : Fin cfg0.N) = t
  have hv : t.val = 4 * b.val + s.val / 1024 := by rw [← ht]; exact ep
  have e1 : bt t = b := Fin.ext (by rw [bt_val, hv]; omega)
  have e2 : rw' (ti t) ⟨s.val % 1024, by omega⟩ = s := Fin.ext (by show (ti t).val * 1024 + s.val % 1024 = s.val; rw [ti_val, hv]; omega)
  rw [e1, e2]

theorem G_c (c : Dev nD) : (Value.G17 m c : S8x8x4096.Idx → EReal) = Proj.arrC (hM m c) (wM m c) (fM m c) := by
  funext i
  obtain ⟨b, s, j, rfl⟩ : ∃ (b s : Fin 8) (j : Fin 4096), i = ValueIdx.ix3 b s j := ⟨i 0, i 1, i 2, ValueIdx.eq_ix3 i⟩
  have ep : Value.pt17Of (ValueIdx.ix3 b s j) = 4 * b.val + j.val / 1024 := by
    show 4 * (b.val / 1 - 0) + 4 * (s.val / 8 - 0) + 1 * (j.val / 1024 - 0) = _; omega
  have hp : Value.pt17Of (ValueIdx.ix3 b s j) < cfg0.N := by
    rw [ep]; exact lt_of_lt_of_eq (by omega) N_0.symm
  have el : Value.loc17Of (ValueIdx.ix3 b s j) = ValueIdx.ix3 (0 : Fin 1) s (⟨j.val % 1024, by omega⟩ : Fin 1024) := funext fun z => Fin.ext (by
    match z with
    | ⟨0, _⟩ => show b.val % 1 = 0; omega
    | ⟨1, _⟩ => show s.val % 8 = s.val; omega
    | ⟨2, _⟩ => rfl)
  unfold Value.G17
  rw [dif_pos hp, ← Value.outsAt0_sweep m c _ hp, el]
  refine (at_c m c ⟨_, hp⟩ (0 : Fin 1) s ⟨j.val % 1024, by omega⟩).trans ?_
  generalize ht : (⟨_, hp⟩ : Fin cfg0.N) = t
  have hv : t.val = 4 * b.val + j.val / 1024 := by rw [← ht]; exact ep
  have e1 : bt t = b := Fin.ext (by rw [bt_val, hv]; omega)
  have e2 : rw' (ti t) ⟨j.val % 1024, by omega⟩ = j := Fin.ext (by show (ti t).val * 1024 + j.val % 1024 = j.val; rw [ti_val, hv]; omega)
  rw [e1, e2]

end Cert.MiddleIdeal.Own

end
-- ==== Proof.MiddleClaim.lean ====
module

public import proofs.«01_k».proof.Defs
public import proofs.«01_k».proof.Proof.ProjRef
public import proofs.«01_k».proof.Proof.MiddleVal
public import proofs.«01_k».proof.Proof.Gen.Pre_middle_finite
public import Idealize.ShloMosaic.Lib.ReduceAll
public import proofs.«01_k».proof.Proof.Gen.MiddleReferenceIdeal.Run
public import proofs.«01_k».proof.Proof.Gen.MiddleReferenceIdeal.Read

/-! The output projection, residual, norm, projection and pooling between two layers: the two programs end with the same results. -/

@[expose] public section

set_option maxRecDepth 16384

noncomputable section

namespace Cert.MiddleReferenceIdeal.Own

open Cert.MiddleReferenceIdeal Cert.MiddleReferenceIdeal.Gen Cert.MiddleReferenceIdeal.Read Idealize.ShloMosaic
open Cert.MiddleIdeal.Own (hV wV fV pwV psV xnV arrXn)

variable (X : S8x4096x1024.Idx → EReal) (P A : S8x4096x512.Idx → EReal) (G : S4x1024.Idx → EReal) (W : S4x1024x3080.Idx → EReal) (FB : S4x8.Idx → EReal)
  (PW : S4x4x128x128.Idx → EReal) (PS : S4x512.Idx → EReal) (WO : S4x1024x1024.Idx → EReal)
variable (b : Fin 8) (s : Fin 4096)

theorem cat_lo (k : Fin 512) : val_main_v0 (F := Ideal) P A (ValueIdx.ix3 b s (⟨k.val, by omega⟩ : Fin 1024)) = P (ValueIdx.ix3 b s k) := by
  unfold val_main_v0
  exact concatenate_pair_apply_left (t := S8x4096x1024) (s₁ := S8x4096x512) (s₂ := S8x4096x512) 2 P A _
    (ValueIdx.ix3 b s (⟨k.val, by omega⟩ : Fin 1024)) rfl (ValueIdx.ix3 b s k)
    (fun a => match a with
      | ⟨0, _⟩ => rfl
      | ⟨1, _⟩ => rfl
      | ⟨2, _⟩ => rfl)
theorem cat_hi (k : Fin 512) : val_main_v0 (F := Ideal) P A (ValueIdx.ix3 b s (⟨512 + k.val, by omega⟩ : Fin 1024)) = A (ValueIdx.ix3 b s k) := by
  unfold val_main_v0
  exact concatenate_pair_apply_right (t := S8x4096x1024) (s₁ := S8x4096x512) (s₂ := S8x4096x512) 2 P A _
    (ValueIdx.ix3 b s (⟨512 + k.val, by omega⟩ : Fin 1024)) rfl rfl (ValueIdx.ix3 b s k)
    (fun a => match a with
      | ⟨0, _⟩ => fun _ => rfl
      | ⟨1, _⟩ => fun _ => rfl
      | ⟨2, _⟩ => fun h => absurd rfl h) (by show k.val + 512 = 512 + k.val; omega)

theorem wo_apply (k j : Fin 1024) : val_main_v2 (F := Ideal) WO (ValueIdx.ix2 k j) = WO (ValueIdx.ix3 0 k j) := by
  rw [val_main_v2_apply, val_main_v1_apply]
  have h0 : k.val < 1024 := k.isLt
  have h1 : j.val < 1024 := j.isLt
  refine congrArg WO (funext fun a => Fin.ext ?_)
  match a with
  | ⟨0, _⟩ => rfl
  | ⟨1, _⟩ => show (k.val * 1024 + j.val) / 1024 % 1024 = k.val; omega
  | ⟨2, _⟩ => show (k.val * 1024 + j.val) % 1024 = j.val; omega

theorem mix_apply (j : Fin 1024) : val_main_v4 (F := Ideal) X P A WO (ValueIdx.ix3 b s j) = xnV X P A WO b s.val j := by
  unfold xnV Proj.mix
  simp only [Proj.at4_val]
  rw [val_main_v4_apply, val_main_v3_apply, Lin.halves]
  refine congrArg₂ (fun s t : EReal => s + t) rfl (congrArg₂ (fun s t : EReal => s + t) ?_ ?_)
  · refine Finset.sum_congr rfl fun k _ => congrArg₂ (fun s t : EReal => s * t) ?_ ?_
    · refine Eq.trans (congrArg _ (funext fun a => ?_)) (cat_lo P A b s k)
      match a with
      | ⟨0, _⟩ => rfl
      | ⟨1, _⟩ => rfl
      | ⟨2, _⟩ => rfl
    · refine Eq.trans (congrArg _ (funext fun a => ?_)) (wo_apply WO ⟨k.val, by omega⟩ j)
      match a with
      | ⟨0, _⟩ => rfl
      | ⟨1, _⟩ => rfl
  · refine Finset.sum_congr rfl fun k _ => congrArg₂ (fun s t : EReal => s * t) ?_ ?_
    · refine Eq.trans (congrArg _ (funext fun a => ?_)) (cat_hi P A b s k)
      match a with
      | ⟨0, _⟩ => rfl
      | ⟨1, _⟩ => rfl
      | ⟨2, _⟩ => rfl
    · refine Eq.trans (congrArg _ (funext fun a => ?_)) (wo_apply WO ⟨512 + k.val, by omega⟩ j)
      match a with
      | ⟨0, _⟩ => rfl
      | ⟨1, _⟩ => rfl

theorem h_apply (j : Fin 1024) : val_main_v19 (F := Ideal) X P A G WO (ValueIdx.ix3 b s j) = hV X P A WO G b s.val j := by
  have e : ∀ k : Fin 1024, val_main_v7 (F := Ideal) X P A WO (idx_main_v8 (idx_main_v9 (idx_main_v15 (ValueIdx.ix3 b s j))) k)
      = (xnV X P A WO b s.val k * xnV X P A WO b s.val k : EReal) := fun k => by
    have h : idx_main_v8 (idx_main_v9 (idx_main_v15 (ValueIdx.ix3 b s j))) k = ValueIdx.ix3 b s k := funext fun a => match a with
      | ⟨0, _⟩ => rfl
      | ⟨1, _⟩ => rfl
      | ⟨2, _⟩ => rfl
    rw [val_main_v7_apply, h, mix_apply]
    rfl
  rw [val_main_v19_apply, val_main_v16_apply, mix_apply, val_main_v15_apply, val_main_v14_apply, val_main_v13_apply, val_main_v11_apply, val_main_v9_apply, val_main_v8_apply, val_main_v10_apply, val_main_v12_apply, val_main_v18_apply, val_main_v17_apply, val_main_v6_apply, val_main_v5_apply]
  rw [Finset.sum_congr rfl fun k _ => e k]
  have z : (val_main_cst (F := Ideal) (Shape.Idx.first h_S_) : EReal) = 0 := Ideal.ofBits_zero_f32
  rw [z, zero_add]
  unfold hV Lin.rms

  refine congrArg₂ (fun s t : EReal => s * t) (congrArg₂ (fun s t : EReal => s * t) rfl ?_) ?_
  · rfl
  · refine congrArg G (funext fun a => Fin.ext ?_)
    match a with
    | ⟨0, _⟩ => rfl
    | ⟨1, _⟩ => exact Nat.mod_eq_of_lt j.isLt

theorem w_apply (k : Fin 1024) (n : Fin 3080) : val_main_v21 (F := Ideal) W (ValueIdx.ix2 k n) = wV W k n := by
  rw [val_main_v21_apply, val_main_v20_apply]
  have h0 : k.val < 1024 := k.isLt
  have h1 : n.val < 3080 := n.isLt
  refine congrArg W (funext fun a => Fin.ext ?_)
  match a with
  | ⟨0, _⟩ => rfl
  | ⟨1, _⟩ => show (k.val * 3080 + n.val) / 3080 % 1024 = k.val; omega
  | ⟨2, _⟩ => show (k.val * 3080 + n.val) % 3080 = n.val; omega

theorem p_apply (n : Fin 3080) : val_main_v22 (F := Ideal) X P A G W WO (ValueIdx.ix3 b s n) = Proj.pr (hV X P A WO G b) (wV W) s.val n := by
  rw [val_main_v22_apply]
  refine Finset.sum_congr rfl fun k _ => congrArg₂ (fun s t : EReal => s * t) ?_ ?_
  · refine Eq.trans (congrArg _ (funext fun a => ?_)) (h_apply X P A G WO b s k)
    match a with
    | ⟨0, _⟩ => rfl
    | ⟨1, _⟩ => rfl
    | ⟨2, _⟩ => rfl
  · refine Eq.trans (congrArg _ (funext fun a => ?_)) (w_apply W k n)
    match a with
    | ⟨0, _⟩ => rfl
    | ⟨1, _⟩ => rfl

theorem u_apply (d : Fin 512) : val_main_v23 (F := Ideal) X P A G W WO (ValueIdx.ix3 b s d) = Proj.pr (hV X P A WO G b) (wV W) s.val ⟨0 + d.val, by omega⟩ := by
  rw [val_main_v23_apply]
  refine Eq.trans (congrArg _ (funext fun a => ?_)) (p_apply X P A G W WO b s ⟨0 + d.val, by omega⟩)
  match a with
  | ⟨0, _⟩ => rfl
  | ⟨1, _⟩ => rfl
  | ⟨2, _⟩ => exact Fin.ext (by first | rfl | exact (Nat.zero_add _).symm | exact Nat.add_comm _ _)
theorem gt_apply (d : Fin 512) : val_main_v24 (F := Ideal) X P A G W WO (ValueIdx.ix3 b s d) = Proj.pr (hV X P A WO G b) (wV W) s.val ⟨512 + d.val, by omega⟩ := by
  rw [val_main_v24_apply]
  refine Eq.trans (congrArg _ (funext fun a => ?_)) (p_apply X P A G W WO b s ⟨512 + d.val, by omega⟩)
  match a with
  | ⟨0, _⟩ => rfl
  | ⟨1, _⟩ => rfl
  | ⟨2, _⟩ => exact Fin.ext (by first | rfl | exact (Nat.zero_add _).symm | exact Nat.add_comm _ _)
theorem q_apply (d : Fin 512) : val_main_v25 (F := Ideal) X P A G W WO (ValueIdx.ix3 b s d) = Proj.pr (hV X P A WO G b) (wV W) s.val ⟨1024 + d.val, by omega⟩ := by
  rw [val_main_v25_apply]
  refine Eq.trans (congrArg _ (funext fun a => ?_)) (p_apply X P A G W WO b s ⟨1024 + d.val, by omega⟩)
  match a with
  | ⟨0, _⟩ => rfl
  | ⟨1, _⟩ => rfl
  | ⟨2, _⟩ => exact Fin.ext (by first | rfl | exact (Nat.zero_add _).symm | exact Nat.add_comm _ _)
theorem k_apply (d : Fin 512) : val_main_v26 (F := Ideal) X P A G W WO (ValueIdx.ix3 b s d) = Proj.pr (hV X P A WO G b) (wV W) s.val ⟨1536 + d.val, by omega⟩ := by
  rw [val_main_v26_apply]
  refine Eq.trans (congrArg _ (funext fun a => ?_)) (p_apply X P A G W WO b s ⟨1536 + d.val, by omega⟩)
  match a with
  | ⟨0, _⟩ => rfl
  | ⟨1, _⟩ => rfl
  | ⟨2, _⟩ => exact Fin.ext (by first | rfl | exact (Nat.zero_add _).symm | exact Nat.add_comm _ _)
theorem v_apply (d : Fin 512) : val_main_v27 (F := Ideal) X P A G W WO (ValueIdx.ix3 b s d) = Proj.pr (hV X P A WO G b) (wV W) s.val ⟨2048 + d.val, by omega⟩ := by
  rw [val_main_v27_apply]
  refine Eq.trans (congrArg _ (funext fun a => ?_)) (p_apply X P A G W WO b s ⟨2048 + d.val, by omega⟩)
  match a with
  | ⟨0, _⟩ => rfl
  | ⟨1, _⟩ => rfl
  | ⟨2, _⟩ => exact Fin.ext (by first | rfl | exact (Nat.zero_add _).symm | exact Nat.add_comm _ _)
theorem ag_apply (d : Fin 512) : val_main_v28 (F := Ideal) X P A G W WO (ValueIdx.ix3 b s d) = Proj.pr (hV X P A WO G b) (wV W) s.val ⟨2560 + d.val, by omega⟩ := by
  rw [val_main_v28_apply]
  refine Eq.trans (congrArg _ (funext fun a => ?_)) (p_apply X P A G W WO b s ⟨2560 + d.val, by omega⟩)
  match a with
  | ⟨0, _⟩ => rfl
  | ⟨1, _⟩ => rfl
  | ⟨2, _⟩ => exact Fin.ext (by first | rfl | exact (Nat.zero_add _).symm | exact Nat.add_comm _ _)
theorem fb_apply (i : Fin 8) : val_main_v33 (F := Ideal) FB (ValueIdx.ix3 b s i) = fV FB i := by
  rw [val_main_v33_apply, val_main_v32_apply, val_main_v31_apply, val_main_v30_apply]
  refine congrArg FB (funext fun a => Fin.ext ?_)
  match a with
  | ⟨0, _⟩ => rfl
  | ⟨1, _⟩ => exact Nat.mod_eq_of_lt i.isLt
theorem z_apply (i : Fin 8) : val_main_v34 (F := Ideal) X P A G W FB WO (ValueIdx.ix3 b s i) = (Proj.pr (hV X P A WO G b) (wV W) s.val ⟨3072 + i.val, by omega⟩ + fV FB i : EReal) := by
  rw [val_main_v34_apply, fb_apply, val_main_v29_apply]
  refine congrArg₂ (fun s t : EReal => s + t) ?_ rfl
  refine Eq.trans (congrArg _ (funext fun a => ?_)) (p_apply X P A G W WO b s ⟨3072 + i.val, by omega⟩)
  match a with
  | ⟨0, _⟩ => rfl
  | ⟨1, _⟩ => rfl
  | ⟨2, _⟩ => exact Fin.ext (by first | rfl | exact Nat.add_comm _ _)
theorem log_eq : val_main_v35 (F := Ideal) X P A G W FB WO = Proj.logR (val_main_v34 (F := Ideal) X P A G W FB WO) := rfl
theorem c_eq : (val_main_v122 (F := Ideal) X P A G W FB WO : S8x8x4096.Idx → EReal) = Proj.arrC (hV X P A WO G) (wV W) (fV FB) := by
  funext i
  obtain ⟨b, k, s, rfl⟩ : ∃ (b k : Fin 8) (s : Fin 4096), i = ValueIdx.ix3 b k s := ⟨i 0, i 1, i 2, ValueIdx.eq_ix3 i⟩
  have e : val_main_v122 (F := Ideal) X P A G W FB WO = Proj.cR (Proj.logR (val_main_v34 (F := Ideal) X P A G W FB WO)) := rfl
  rw [e, Proj.cR_apply]
  show _ = ∑ q ∈ Finset.range (s.val + 1), Proj.lf (hV X P A WO G b) (wV W) (fV FB) k q
  refine Finset.sum_congr rfl fun q hq => ?_
  have hs := s.isLt
  rw [Finset.mem_range] at hq
  rw [Proj.logR_apply, z_apply]
  unfold Proj.lf
  rw [show (Proj.at4 q).val = q from Nat.mod_eq_of_lt (by omega)]

def gR (g : Fin 4) : Proj.F3 8 4096 128 := match g with
  | ⟨0, _⟩ => val_main_v59 (F := Ideal) X P A G W WO
  | ⟨1, _⟩ => val_main_v75 (F := Ideal) X P A G W WO
  | ⟨2, _⟩ => val_main_v91 (F := Ideal) X P A G W WO
  | ⟨3, _⟩ => val_main_v107 (F := Ideal) X P A G W WO
theorem st_eq : val_main_v112 (F := Ideal) X P A G W WO = Proj.stackR (gR X P A G W WO) := rfl
theorem pad_eq : val_main_v42 (F := Ideal) X P A G W WO = Proj.padR (val_main_v23 (F := Ideal) X P A G W WO) := rfl

theorem g0_eq : val_main_v59 (F := Ideal) X P A G W WO = Proj.groupR 1 4095 0 2#32 (val_main_v23 (F := Ideal) X P A G W WO) (by decide) (by decide) (by decide) (by decide) (by decide) (by decide) := rfl
theorem g1_eq : val_main_v75 (F := Ideal) X P A G W WO = Proj.groupR 3 4093 128 4#32 (val_main_v23 (F := Ideal) X P A G W WO) (by decide) (by decide) (by decide) (by decide) (by decide) (by decide) := rfl
theorem g2_eq : val_main_v91 (F := Ideal) X P A G W WO = Proj.groupR 7 4089 256 8#32 (val_main_v23 (F := Ideal) X P A G W WO) (by decide) (by decide) (by decide) (by decide) (by decide) (by decide) := rfl
theorem g3_eq : val_main_v107 (F := Ideal) X P A G W WO = Proj.groupR 15 4081 384 16#32 (val_main_v23 (F := Ideal) X P A G W WO) (by decide) (by decide) (by decide) (by decide) (by decide) (by decide) := rfl

theorem gR_apply (hu : ∀ (b : Fin 8) (s : ℕ) (k : Fin 512), Proj.IsReal (Proj.pr (hV X P A WO G b) (wV W) s ⟨k.val, by omega⟩)) (g : Fin 4) (k : Fin 128) :
    gR X P A G W WO g (ValueIdx.ix3 b s k) = Proj.dlG (fun q => Proj.pr (hV X P A WO G b) (wV W) q ⟨(Proj.col g k).val, by omega⟩) s.val (Proj.win g) := by
  have hU : ∀ (b : Fin 8) (s : Fin 4096) (k : Fin 512), val_main_v23 (F := Ideal) X P A G W WO (ValueIdx.ix3 b s k) = Proj.pr (hV X P A WO G b) (wV W) s.val ⟨k.val, by omega⟩ := fun b s k =>
    (u_apply X P A G W WO b s k).trans (congrArg (Proj.pr (hV X P A WO G b) (wV W) s.val) (Fin.ext (Nat.zero_add _)))
  have hk := k.isLt
  match g with
  | ⟨0, _⟩ =>
    exact (congrFun (g0_eq X P A G W WO) _).trans (Proj.groupR_eq 1 4095 0 (by decide) 2#32 (by decide) (by decide) _ _ _ _ _ _ _
      (fun b s k => Proj.pr (hV X P A WO G b) (wV W) s ⟨k.val, by omega⟩) hU hu b s k (by omega))
  | ⟨1, _⟩ =>
    exact (congrFun (g1_eq X P A G W WO) _).trans (Proj.groupR_eq 3 4093 128 (by decide) 4#32 (by decide) (by decide) _ _ _ _ _ _ _
      (fun b s k => Proj.pr (hV X P A WO G b) (wV W) s ⟨k.val, by omega⟩) hU hu b s k (by omega))
  | ⟨2, _⟩ =>
    exact (congrFun (g2_eq X P A G W WO) _).trans (Proj.groupR_eq 7 4089 256 (by decide) 8#32 (by decide) (by decide) _ _ _ _ _ _ _
      (fun b s k => Proj.pr (hV X P A WO G b) (wV W) s ⟨k.val, by omega⟩) hU hu b s k (by omega))
  | ⟨3, _⟩ =>
    exact (congrFun (g3_eq X P A G W WO) _).trans (Proj.groupR_eq 15 4081 384 (by decide) 16#32 (by decide) (by decide) _ _ _ _ _ _ _
      (fun b s k => Proj.pr (hV X P A WO G b) (wV W) s ⟨k.val, by omega⟩) hU hu b s k (by omega))

theorem pw_apply (g : Fin 4) (k j : Fin 128) : val_main_v37 (F := Ideal) PW (ValueIdx.ix3 g k j) = pwV PW g k j := by
  rw [val_main_v37_apply, val_main_v36_apply]
  have h0 : g.val < 4 := g.isLt
  have h1 : k.val < 128 := k.isLt
  have h2 : j.val < 128 := j.isLt
  refine congrArg PW (funext fun a => Fin.ext ?_)
  match a with
  | ⟨0, _⟩ => rfl
  | ⟨1, _⟩ => show ((g.val * 128 + k.val) * 128 + j.val) / 16384 % 4 = g.val; omega
  | ⟨2, _⟩ => show ((g.val * 128 + k.val) * 128 + j.val) / 128 % 128 = k.val; omega
  | ⟨3, _⟩ => show ((g.val * 128 + k.val) * 128 + j.val) % 128 = j.val; omega
theorem ps_apply (k : Fin 512) : val_main_v39 (F := Ideal) PS (ValueIdx.ix1 k) = psV PS k := by
  rw [val_main_v39_apply, val_main_v38_apply]
  refine congrArg PS (funext fun a => Fin.ext ?_)
  match a with
  | ⟨0, _⟩ => rfl
  | ⟨1, _⟩ => exact Nat.mod_eq_of_lt k.isLt
theorem po_eq (hu : ∀ (b : Fin 8) (s : ℕ) (k : Fin 512), Proj.IsReal (Proj.pr (hV X P A WO G b) (wV W) s ⟨k.val, by omega⟩)) :
    (val_main_v123 (F := Ideal) X P A G W PW PS WO : S8x4096x512.Idx → EReal) = Proj.arrPo (hV X P A WO G) (wV W) (pwV PW) (psV PS) := by
  funext i
  obtain ⟨b, s, g, j, rfl⟩ : ∃ (b : Fin 8) (s : Fin 4096) (g : Fin 4) (j : Fin 128), i = ValueIdx.ix3 b s (Proj.col g j) := by
    have h2 : (i 2).val < 512 := (i 2).isLt
    refine ⟨i 0, i 1, ⟨(i 2).val / 128, by omega⟩, ⟨(i 2).val % 128, by omega⟩, (ValueIdx.eq_ix3 i).trans (congrArg (ValueIdx.ix3 (i 0) (i 1)) (Fin.ext ?_))⟩
    show (i 2).val = 128 * ((i 2).val / 128) + (i 2).val % 128
    omega
  have e : val_main_v123 (F := Ideal) X P A G W PW PS WO = Proj.poR (val_main_v113 (F := Ideal) X P A G W PW WO) (val_main_v39 (F := Ideal) PS) (val_main_v24 (F := Ideal) X P A G W WO) := rfl
  rw [e, Proj.poR_apply, Proj.arrPo_col, ps_apply, gt_apply, val_main_v113_apply, st_eq]
  unfold Proj.poV
  refine congrArg₂ (fun p q : EReal => p * q) (congrArg₂ (fun p q : EReal => p * q) ?_ rfl) rfl
  refine Finset.sum_congr rfl fun k _ => ?_
  have hl : lidx_main_v113 (ValueIdx.ix4 g j b s) k = ValueIdx.ix3 g k j := funext fun a => match a with
    | ⟨0, _⟩ => rfl
    | ⟨1, _⟩ => rfl
    | ⟨2, _⟩ => rfl
  have hr : ridx_main_v113 (ValueIdx.ix4 g j b s) k = ValueIdx.ix4 b s g k := funext fun a => match a with
    | ⟨0, _⟩ => rfl
    | ⟨1, _⟩ => rfl
    | ⟨2, _⟩ => rfl
    | ⟨3, _⟩ => rfl
  rw [hl, hr, pw_apply, Proj.stackR_apply, gR_apply X P A G W WO b s hu g k]
  exact mul_comm _ _

theorem ext3 {x y : S8x4096x512.Idx → EReal} (h : ∀ (b : Fin 8) (s : Fin 4096) (d : Fin 512), x (ValueIdx.ix3 b s d) = y (ValueIdx.ix3 b s d)) : x = y :=
  funext fun i => (congrArg x (ValueIdx.eq_ix3 i)).trans ((h (i 0) (i 1) (i 2)).trans (congrArg y (ValueIdx.eq_ix3 i)).symm)
theorem q_eq : (val_main_v25 (F := Ideal) X P A G W WO : S8x4096x512.Idx → EReal) = Proj.arrS 1024 (by decide) (hV X P A WO G) (wV W) := ext3 (q_apply X P A G W WO)
theorem k_eq : (val_main_v124 (F := Ideal) X P A G W WO : S8x4096x512.Idx → EReal) = Proj.arrS 1536 (by decide) (hV X P A WO G) (wV W) := ext3 (k_apply X P A G W WO)
theorem v_eq : (val_main_v125 (F := Ideal) X P A G W WO : S8x4096x512.Idx → EReal) = Proj.arrS 2048 (by decide) (hV X P A WO G) (wV W) := ext3 (v_apply X P A G W WO)
theorem ag_eq : (val_main_v28 (F := Ideal) X P A G W WO : S8x4096x512.Idx → EReal) = Proj.arrS 2560 (by decide) (hV X P A WO G) (wV W) := ext3 (ag_apply X P A G W WO)
theorem xn_eq : (val_main_v4 (F := Ideal) X P A WO : S8x4096x1024.Idx → EReal) = arrXn X P A WO :=
  funext fun i => (congrArg _ (ValueIdx.eq_ix3 i)).trans (mix_apply X P A WO (i 0) (i 1) (i 2))
theorem real_u (hG : ∀ k : Fin 1024, Proj.IsReal (G (ValueIdx.ix2 1 k)))
    (hW : ∀ (k : Fin 1024) (n : Fin 512), Proj.IsReal (W (ValueIdx.ix3 1 k ⟨n.val, by omega⟩))) (b : Fin 8) (s : ℕ) (k : Fin 512) :
    Proj.IsReal (Proj.pr (hV X P A WO G b) (wV W) s ⟨k.val, by omega⟩) :=
  Proj.pr_real _ _ _ _ (fun j => Proj.rms_real _ _ hG j) (fun j => hW j k)

end Cert.MiddleReferenceIdeal.Own

namespace Cert.Own

open Idealize.ShloMosaic Idealize.ShloMosaic.TcCoe Idealize.SL.Sem

instance middle_subsingleton : Subsingleton Cert.Pre_middle_finite.S_.Idx := ⟨fun a b => funext fun i => i.elim0⟩

open Cert.Pre_middle_finite in
/-- What the precondition says of the arrays the pooled columns are of. -/
theorem middle_real (X : S8x4096x1024.Idx → EReal) (P A : S8x4096x512.Idx → EReal) (G : S4x1024.Idx → EReal) (W : S4x1024x3080.Idx → EReal) (FB : S4x8.Idx → EReal)
    (PW : S4x4x128x128.Idx → EReal) (PS : S4x512.Idx → EReal) (WO : S4x1024x1024.Idx → EReal)
    (h : Cert.Pre_middle_finite.fn (F := Ideal) X P A G W FB PW PS WO = fun _ => 1#1) :
    (∀ k : Fin 1024, Proj.IsReal (G (ValueIdx.ix2 1 k)))
      ∧ (∀ (k : Fin 1024) (n : Fin 512), Proj.IsReal (W (ValueIdx.ix3 1 k ⟨n.val, by omega⟩))) := by
  have h0 := congrFun h (fun i => i.elim0)
  unfold Cert.Pre_middle_finite.fn at h0
  dsimp only at h0
  obtain ⟨h1, rW⟩ := IntOp.andi_eq_one.1 h0
  have rG := h1
  refine ⟨fun k => ?_, fun k n => ?_⟩
  · have e : (extractStridedSlice Cert.Pre_middle_finite.S1x1024 ![1, 0] G Facts.slices_S4x1024_S1x1024_1_0 : Cert.Pre_middle_finite.S1x1024.Idx → EReal) (ValueIdx.ix2 0 k) = G (ValueIdx.ix2 1 k) :=
      congrArg G (funext fun a => Fin.ext (match a with
        | ⟨0, _⟩ => rfl
        | ⟨1, _⟩ => Nat.zero_add _))
    rw [← e]
    exact Proj.isReal_of_abs _ (Host.reduce_andi_all _ _ _ _ _ rG (ValueIdx.ix2 0 k))
  · have e : (extractStridedSlice Cert.Pre_middle_finite.S1x1024x512 ![1, 0, 0] W Facts.slices_S4x1024x3080_S1x1024x512_1_0_0 : Cert.Pre_middle_finite.S1x1024x512.Idx → EReal) (ValueIdx.ix3 0 k n)
        = W (ValueIdx.ix3 1 k ⟨n.val, by omega⟩) :=
      congrArg W (funext fun a => Fin.ext (match a with
        | ⟨0, _⟩ => rfl
        | ⟨1, _⟩ => Nat.zero_add _
        | ⟨2, _⟩ => Nat.zero_add _))
    rw [← e]
    exact Proj.isReal_of_abs _ (Host.reduce_andi_all _ _ _ _ _ rW (ValueIdx.ix3 0 k n))

theorem middle_algebraic : Cert.algebraic_MiddleIdeal_MiddleReferenceIdeal_pre_middle_finite := by
  intro m ρ m' ρ' hpre hagree
  refine ⟨fun c => Cert.MiddleIdeal.Value.G11 m c, fun c => Cert.MiddleIdeal.Value.G12 m c, fun c => Cert.MiddleIdeal.Value.G13 m c, fun c => Cert.MiddleIdeal.Value.G14 m c, fun c => Cert.MiddleIdeal.Value.G15 m c, fun c => Cert.MiddleIdeal.Value.G16 m c, fun c => Cert.MiddleIdeal.Value.G17 m c, Cert.MiddleIdeal.Value.run (F := Ideal) m ρ, ?_⟩
  refine (θ_run Cert.MiddleReferenceIdeal.defs _ _).mono (fun _ h c => ?_) (Cert.MiddleReferenceIdeal.Value.run (F := Ideal) m' ρ')
  obtain ⟨r0, r1, r2, r3, r4, r5, r6, hargs⟩ := h c
  obtain ⟨e0, e1, e2, e3, e4, e5, e6, e7, e8⟩ := hagree c
  obtain ⟨hf0, hf1⟩ := middle_real _ _ _ _ _ _ _ _ _ (hpre c)
  refine ⟨r0.trans ?_, r1.trans ?_, r2.trans ?_, r3.trans ?_, r4.trans ?_, r5.trans ?_, r6.trans ?_, hargs⟩
  · refine (Cert.MiddleReferenceIdeal.Read.val_main_v4_eq _ _ _ _).trans ?_
    rw [e0, e1, e2, e8]
    exact (Cert.MiddleReferenceIdeal.Own.xn_eq _ _ _ _).trans (Cert.MiddleIdeal.Own.G_xn m c).symm
  · refine (Cert.MiddleReferenceIdeal.Read.val_main_v123_eq m' c).trans ?_
    rw [e0, e1, e2, e3, e4, e6, e7, e8]
    exact (Cert.MiddleReferenceIdeal.Own.po_eq _ _ _ _ _ _ _ _ (Cert.MiddleReferenceIdeal.Own.real_u _ _ _ _ _ _ hf0 hf1)).trans (Cert.MiddleIdeal.Own.G_po m c).symm
  · refine (Cert.MiddleReferenceIdeal.Read.val_main_v25_eq _ _ _ _ _ _).trans ?_
    rw [e0, e1, e2, e3, e4, e8]
    exact (Cert.MiddleReferenceIdeal.Own.q_eq _ _ _ _ _ _).trans (Cert.MiddleIdeal.Own.G_q m c).symm
  · refine (Cert.MiddleReferenceIdeal.Read.val_main_v124_eq _ _ _ _ _ _).trans ?_
    rw [e0, e1, e2, e3, e4, e8]
    exact (Cert.MiddleReferenceIdeal.Own.k_eq _ _ _ _ _ _).trans (Cert.MiddleIdeal.Own.G_k m c).symm
  · refine (Cert.MiddleReferenceIdeal.Read.val_main_v125_eq _ _ _ _ _ _).trans ?_
    rw [e0, e1, e2, e3, e4, e8]
    exact (Cert.MiddleReferenceIdeal.Own.v_eq _ _ _ _ _ _).trans (Cert.MiddleIdeal.Own.G_v m c).symm
  · refine (Cert.MiddleReferenceIdeal.Read.val_main_v28_eq _ _ _ _ _ _).trans ?_
    rw [e0, e1, e2, e3, e4, e8]
    exact (Cert.MiddleReferenceIdeal.Own.ag_eq _ _ _ _ _ _).trans (Cert.MiddleIdeal.Own.G_ag m c).symm
  · refine (Cert.MiddleReferenceIdeal.Read.val_main_v122_eq m' c).trans ?_
    rw [e0, e1, e2, e3, e4, e5, e8]
    exact (Cert.MiddleReferenceIdeal.Own.c_eq _ _ _ _ _ _ _).trans (Cert.MiddleIdeal.Own.G_c m c).symm

end Cert.Own

end
-- ==== Proof.FirstOut.lean ====
module

public import proofs.«01_k».proof.Proof.Proj
public import proofs.«01_k».proof.Proof.Gen.FirstIdeal.Value
public import Idealize.ShloMosaic.Lib.Pipeline.ValueKit
public import Idealize.ShloMosaic.Lib.Pipeline.ReadBack

@[expose] public section

set_option maxRecDepth 16384

noncomputable section

namespace Cert.FirstIdeal.Own

open Cert.FirstIdeal Cert.FirstIdeal.Gen
open Idealize.ShloMosaic Idealize.ShloMosaic.TcCoe Idealize.ShloMosaic.Tactic Idealize.ShloMosaic.ValueIdx
open Idealize.SL Idealize.SL.Sem

/-- The normed rows of a point, the two wide products, and the parts of the log forget gates. -/
def hB (x0 : Vec Ideal S1x1024x1024 .f32) (x1 : Vec Ideal S1x1x1024 .f32) (x2 : Vec Ideal S1x1024x3072 .bf16) (x3 : Vec Ideal S1x1024x128 .bf16) (x4 : Vec Ideal S1x8x1 .f32) (x5 : Vec Ideal S128x256 .bf16) (x6 : Vec Ideal S1x4x128x128 .bf16) (x7 : Vec Ideal S1x1x512 .f32) : Proj.B2 1024 1024 .bf16 := Proj.normT (shapeCast S1024x1024 x0 shapeCasts_S1x1024x1024_S1024x1024) x1

def w0B (x0 : Vec Ideal S1x1024x1024 .f32) (x1 : Vec Ideal S1x1x1024 .f32) (x2 : Vec Ideal S1x1024x3072 .bf16) (x3 : Vec Ideal S1x1024x128 .bf16) (x4 : Vec Ideal S1x8x1 .f32) (x5 : Vec Ideal S128x256 .bf16) (x6 : Vec Ideal S1x4x128x128 .bf16) (x7 : Vec Ideal S1x1x512 .f32) : Proj.B2 1024 1536 .f32 := Proj.wideT (hB x0 x1 x2 x3 x4 x5 x6 x7) (View.ld x2 (Rect.unit ![0, 0, 0] ![1, 1024, 1536] (by decide)))
def w1B (x0 : Vec Ideal S1x1024x1024 .f32) (x1 : Vec Ideal S1x1x1024 .f32) (x2 : Vec Ideal S1x1024x3072 .bf16) (x3 : Vec Ideal S1x1024x128 .bf16) (x4 : Vec Ideal S1x8x1 .f32) (x5 : Vec Ideal S128x256 .bf16) (x6 : Vec Ideal S1x4x128x128 .bf16) (x7 : Vec Ideal S1x1x512 .f32) : Proj.B2 1024 1536 .f32 := Proj.wideT (hB x0 x1 x2 x3 x4 x5 x6 x7) (View.ld x2 (Rect.unit ![0, 0, 1536] ![1, 1024, 1536] (by decide)))
def uB (x0 : Vec Ideal S1x1024x1024 .f32) (x1 : Vec Ideal S1x1x1024 .f32) (x2 : Vec Ideal S1x1024x3072 .bf16) (x3 : Vec Ideal S1x1024x128 .bf16) (x4 : Vec Ideal S1x8x1 .f32) (x5 : Vec Ideal S128x256 .bf16) (x6 : Vec Ideal S1x4x128x128 .bf16) (x7 : Vec Ideal S1x1x512 .f32) : Proj.B2 1024 512 .f32 := Proj.colsT 0 (w0B x0 x1 x2 x3 x4 x5 x6 x7) (by decide)
def pB (x0 : Vec Ideal S1x1024x1024 .f32) (x1 : Vec Ideal S1x1x1024 .f32) (x2 : Vec Ideal S1x1024x3072 .bf16) (x3 : Vec Ideal S1x1024x128 .bf16) (x4 : Vec Ideal S1x8x1 .f32) (x5 : Vec Ideal S128x256 .bf16) (x6 : Vec Ideal S1x4x128x128 .bf16) (x7 : Vec Ideal S1x1x512 .f32) : Proj.B2 32 1024 .bf16 := Proj.partsT (Proj.logT (Proj.zT (hB x0 x1 x2 x3 x4 x5 x6 x7) x3) x4)

variable (c : Dev nD) (i : grid0.Coords)
  (arg2 : Memref sig .tc .vmem S1x1024x1024 .f32) (harg2 : arg2.IsWhole)
  (arg3 : Memref sig .tc .vmem S1x1x1024 .f32) (harg3 : arg3.IsWhole)
  (arg4 : Memref sig .tc .vmem S1x1024x3072 .bf16) (harg4 : arg4.IsWhole)
  (arg5 : Memref sig .tc .vmem S1x1024x128 .bf16) (harg5 : arg5.IsWhole)
  (arg6 : Memref sig .tc .vmem S1x8x1 .f32) (harg6 : arg6.IsWhole)
  (arg7 : Memref sig .tc .vmem S128x256 .bf16) (harg7 : arg7.IsWhole)
  (arg8 : Memref sig .tc .vmem S1x4x128x128 .bf16) (harg8 : arg8.IsWhole)
  (arg9 : Memref sig .tc .vmem S1x1x512 .f32) (harg9 : arg9.IsWhole)
  (arg10 : Memref sig .tc .vmem S1x1024x512 .bf16) (harg10 : arg10.IsWhole)
  (arg11 : Memref sig .tc .vmem S1x1024x512 .f32) (harg11 : arg11.IsWhole)
  (arg12 : Memref sig .tc .vmem S1x1024x512 .bf16) (harg12 : arg12.IsWhole)
  (arg13 : Memref sig .tc .vmem S1x1024x512 .bf16) (harg13 : arg13.IsWhole)
  (arg14 : Memref sig .tc .vmem S1x1024x512 .f32) (harg14 : arg14.IsWhole)
  (arg15 : Memref sig .tc .vmem S1x8x1024 .f32) (harg15 : arg15.IsWhole)
  (arg16 : Memref sig .tc .vmem S8x128 .f32) (harg16 : arg16.IsWhole)
  (arg17 : Memref sig .tc .vmem S1040x512 .f32) (harg17 : arg17.IsWhole)
  (x0 : Vec Ideal S1x1024x1024 .f32) (x1 : Vec Ideal S1x1x1024 .f32) (x2 : Vec Ideal S1x1024x3072 .bf16) (x3 : Vec Ideal S1x1024x128 .bf16) (x4 : Vec Ideal S1x8x1 .f32) (x5 : Vec Ideal S128x256 .bf16) (x6 : Vec Ideal S1x4x128x128 .bf16) (x7 : Vec Ideal S1x1x512 .f32)
  (xs0 : Vec Ideal S8x128 .f32) (xs1 : Vec Ideal S1040x512 .f32)

theorem out0_A_8_eq (hc0 : cond0_0 i) : out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7
    = Proj.poolT (i 1).val (Proj.colsT 512 (w0B x0 x1 x2 x3 x4 x5 x6 x7) (by decide)) (uB x0 x1 x2 x3 x4 x5 x6 x7) (Proj.extA arg17.view (Proj.selfT (uB x0 x1 x2 x3 x4 x5 x6 x7)) Proj.zeroT 0 inb_S1040x512_S1040x128_0_0) (Proj.extA arg17.view (Proj.selfT (uB x0 x1 x2 x3 x4 x5 x6 x7)) Proj.zeroT 128 inb_S1040x512_S1040x128_0_128) (Proj.extA arg17.view (Proj.selfT (uB x0 x1 x2 x3 x4 x5 x6 x7)) Proj.zeroT 256 inb_S1040x512_S1040x128_0_256) (Proj.extA arg17.view (Proj.selfT (uB x0 x1 x2 x3 x4 x5 x6 x7)) Proj.zeroT 384 inb_S1040x512_S1040x128_0_384) (View.ld x6 (Rect.unit ![0, 0, 0, 0] ![1, 1, 128, 128] inb_S1x4x128x128_S1x1x128x128_0_0_0_0)) (View.ld x6 (Rect.unit ![0, 1, 0, 0] ![1, 1, 128, 128] inb_S1x4x128x128_S1x1x128x128_0_1_0_0)) (View.ld x6 (Rect.unit ![0, 2, 0, 0] ![1, 1, 128, 128] inb_S1x4x128x128_S1x1x128x128_0_2_0_0)) (View.ld x6 (Rect.unit ![0, 3, 0, 0] ![1, 1, 128, 128] inb_S1x4x128x128_S1x1x128x128_0_3_0_0)) x7 := by
  unfold out0_A_8
  frame_open
  (try simp (disch := decide) only [↓ View.readCov_skip, ↓ View.readCov_cons_toLoadRect, ↓ View.readCov_fill])
  frame_out
  rfl

theorem out0_A_9_eq (hc0 : cond0_0 i) : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7
    = Proj.outT (Proj.colsT 1024 (w0B x0 x1 x2 x3 x4 x5 x6 x7) (by decide)) := by
  unfold out0_A_9
  frame_open
  (try simp (disch := decide) only [↓ View.readCov_skip, ↓ View.readCov_cons_toLoadRect, ↓ View.readCov_fill])
  frame_out
  rfl

theorem out0_A_10_eq (hc0 : cond0_0 i) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7
    = Proj.outbT (Proj.colsT 0 (w1B x0 x1 x2 x3 x4 x5 x6 x7) (by decide)) := by
  unfold out0_A_10
  frame_open
  (try simp (disch := decide) only [↓ View.readCov_skip, ↓ View.readCov_cons_toLoadRect, ↓ View.readCov_fill])
  frame_out
  rfl

theorem out0_A_11_eq (hc0 : cond0_0 i) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7
    = Proj.outbT (Proj.colsT 512 (w1B x0 x1 x2 x3 x4 x5 x6 x7) (by decide)) := by
  unfold out0_A_11
  frame_open
  (try simp (disch := decide) only [↓ View.readCov_skip, ↓ View.readCov_cons_toLoadRect, ↓ View.readCov_fill])
  frame_out
  rfl

theorem out0_A_12_eq (hc0 : cond0_0 i) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7
    = Proj.outT (Proj.colsT 1024 (w1B x0 x1 x2 x3 x4 x5 x6 x7) (by decide)) := by
  unfold out0_A_12
  frame_open
  (try simp (disch := decide) only [↓ View.readCov_skip, ↓ View.readCov_cons_toLoadRect, ↓ View.readCov_fill])
  frame_out
  rfl

theorem out0_A_13_eq (hc0 : cond0_0 i) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7
    = View.canon [⟨Rect.unit ![0, 0, 896] ![1, 8, 128] inb_S1x8x1024_S1x8x128_0_0_896, Proj.blockT (pB x0 x1 x2 x3 x4 x5 x6 x7) 896 (by decide) x5 (Proj.car7 (pB x0 x1 x2 x3 x4 x5 x6 x7) x5 (shapeCast S8x128 (broadcast S8x128 (Scalar.ofBits (F := Ideal) .f32 0x00000000#32)) (by decide)))⟩,
    ⟨Rect.unit ![0, 0, 768] ![1, 8, 128] inb_S1x8x1024_S1x8x128_0_0_768, Proj.blockT (pB x0 x1 x2 x3 x4 x5 x6 x7) 768 (by decide) x5 (Proj.car6 (pB x0 x1 x2 x3 x4 x5 x6 x7) x5 (shapeCast S8x128 (broadcast S8x128 (Scalar.ofBits (F := Ideal) .f32 0x00000000#32)) (by decide)))⟩,
    ⟨Rect.unit ![0, 0, 640] ![1, 8, 128] inb_S1x8x1024_S1x8x128_0_0_640, Proj.blockT (pB x0 x1 x2 x3 x4 x5 x6 x7) 640 (by decide) x5 (Proj.car5 (pB x0 x1 x2 x3 x4 x5 x6 x7) x5 (shapeCast S8x128 (broadcast S8x128 (Scalar.ofBits (F := Ideal) .f32 0x00000000#32)) (by decide)))⟩,
    ⟨Rect.unit ![0, 0, 512] ![1, 8, 128] inb_S1x8x1024_S1x8x128_0_0_512, Proj.blockT (pB x0 x1 x2 x3 x4 x5 x6 x7) 512 (by decide) x5 (Proj.car4 (pB x0 x1 x2 x3 x4 x5 x6 x7) x5 (shapeCast S8x128 (broadcast S8x128 (Scalar.ofBits (F := Ideal) .f32 0x00000000#32)) (by decide)))⟩,
    ⟨Rect.unit ![0, 0, 384] ![1, 8, 128] inb_S1x8x1024_S1x8x128_0_0_384, Proj.blockT (pB x0 x1 x2 x3 x4 x5 x6 x7) 384 (by decide) x5 (Proj.car3 (pB x0 x1 x2 x3 x4 x5 x6 x7) x5 (shapeCast S8x128 (broadcast S8x128 (Scalar.ofBits (F := Ideal) .f32 0x00000000#32)) (by decide)))⟩,
    ⟨Rect.unit ![0, 0, 256] ![1, 8, 128] inb_S1x8x1024_S1x8x128_0_0_256, Proj.blockT (pB x0 x1 x2 x3 x4 x5 x6 x7) 256 (by decide) x5 (Proj.car2 (pB x0 x1 x2 x3 x4 x5 x6 x7) x5 (shapeCast S8x128 (broadcast S8x128 (Scalar.ofBits (F := Ideal) .f32 0x00000000#32)) (by decide)))⟩,
    ⟨Rect.unit ![0, 0, 128] ![1, 8, 128] inb_S1x8x1024_S1x8x128_0_0_128, Proj.blockT (pB x0 x1 x2 x3 x4 x5 x6 x7) 128 (by decide) x5 (Proj.car1 (pB x0 x1 x2 x3 x4 x5 x6 x7) x5 (shapeCast S8x128 (broadcast S8x128 (Scalar.ofBits (F := Ideal) .f32 0x00000000#32)) (by decide)))⟩,
    ⟨Rect.unit ![0, 0, 0] ![1, 8, 128] inb_S1x8x1024_S1x8x128_0_0_0, Proj.blockT (pB x0 x1 x2 x3 x4 x5 x6 x7) 0 (by decide) x5 (shapeCast S8x128 (broadcast S8x128 (Scalar.ofBits (F := Ideal) .f32 0x00000000#32)) (by decide))⟩] := by
  unfold out0_A_13
  frame_open
  (try simp (disch := decide) only [↓ View.readCov_skip, ↓ View.readCov_cons_toLoadRect, ↓ View.readCov_fill])
  frame_out
  rfl

theorem sout0_A_0_eq (hc0 : cond0_0 i) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7
    = shapeCast S8x128 (Proj.car8 (pB x0 x1 x2 x3 x4 x5 x6 x7) x5 (shapeCast S8x128 (broadcast S8x128 (Scalar.ofBits (F := Ideal) .f32 0x00000000#32)) (by decide))) shapeCasts_S8x128_S8x128 := by
  unfold sout0_A_0
  frame_open
  (try simp (disch := decide) only [↓ View.readCov_skip, ↓ View.readCov_cons_toLoadRect, ↓ View.readCov_fill])
  frame_out
  rfl

theorem sout0_A_1_eq (hc0 : cond0_0 i) : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7
    = View.canon (Val := Elt Ideal) [⟨Rect.unit (s := S1040x512) ![0, 0] ![16, 512] inb_S1040x512_S16x512_0_0, Proj.tailT (uB x0 x1 x2 x3 x4 x5 x6 x7)⟩, ⟨Rect.unit (s := S1040x512) ![16, 0] ![1024, 512] inb_S1040x512_S1024x512_16_0, Proj.selfT (uB x0 x1 x2 x3 x4 x5 x6 x7)⟩, ⟨Rect.unit (s := S1040x512) ![0, 0] ![16, 512] inb_S1040x512_S16x512_0_0, Proj.zeroT⟩] := by
  unfold sout0_A_1
  frame_open
  (try simp (disch := decide) only [↓ View.readCov_skip, ↓ View.readCov_cons_toLoadRect, ↓ View.readCov_fill])
  frame_out
  rfl

theorem out0_B_8_eq (hc0 : ¬ cond0_0 i) : out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1
    = Proj.poolT (i 1).val (Proj.colsT 512 (w0B x0 x1 x2 x3 x4 x5 x6 x7) (by decide)) (uB x0 x1 x2 x3 x4 x5 x6 x7) (Proj.extB arg17.view (harg17.unread xs1) (Proj.selfT (uB x0 x1 x2 x3 x4 x5 x6 x7)) 0 inb_S1040x512_S1040x128_0_0) (Proj.extB arg17.view (harg17.unread xs1) (Proj.selfT (uB x0 x1 x2 x3 x4 x5 x6 x7)) 128 inb_S1040x512_S1040x128_0_128) (Proj.extB arg17.view (harg17.unread xs1) (Proj.selfT (uB x0 x1 x2 x3 x4 x5 x6 x7)) 256 inb_S1040x512_S1040x128_0_256) (Proj.extB arg17.view (harg17.unread xs1) (Proj.selfT (uB x0 x1 x2 x3 x4 x5 x6 x7)) 384 inb_S1040x512_S1040x128_0_384) (View.ld x6 (Rect.unit ![0, 0, 0, 0] ![1, 1, 128, 128] inb_S1x4x128x128_S1x1x128x128_0_0_0_0)) (View.ld x6 (Rect.unit ![0, 1, 0, 0] ![1, 1, 128, 128] inb_S1x4x128x128_S1x1x128x128_0_1_0_0)) (View.ld x6 (Rect.unit ![0, 2, 0, 0] ![1, 1, 128, 128] inb_S1x4x128x128_S1x1x128x128_0_2_0_0)) (View.ld x6 (Rect.unit ![0, 3, 0, 0] ![1, 1, 128, 128] inb_S1x4x128x128_S1x1x128x128_0_3_0_0)) x7 := by
  unfold out0_B_8
  frame_open
  (try simp (disch := decide) only [↓ View.readCov_skip, ↓ View.readCov_cons_toLoadRect, ↓ View.readCov_fill])
  frame_out
  rfl

theorem out0_B_9_eq (hc0 : ¬ cond0_0 i) : out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1
    = Proj.outT (Proj.colsT 1024 (w0B x0 x1 x2 x3 x4 x5 x6 x7) (by decide)) := by
  unfold out0_B_9
  frame_open
  (try simp (disch := decide) only [↓ View.readCov_skip, ↓ View.readCov_cons_toLoadRect, ↓ View.readCov_fill])
  frame_out
  rfl

theorem out0_B_10_eq (hc0 : ¬ cond0_0 i) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1
    = Proj.outbT (Proj.colsT 0 (w1B x0 x1 x2 x3 x4 x5 x6 x7) (by decide)) := by
  unfold out0_B_10
  frame_open
  (try simp (disch := decide) only [↓ View.readCov_skip, ↓ View.readCov_cons_toLoadRect, ↓ View.readCov_fill])
  frame_out
  rfl

theorem out0_B_11_eq (hc0 : ¬ cond0_0 i) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1
    = Proj.outbT (Proj.colsT 512 (w1B x0 x1 x2 x3 x4 x5 x6 x7) (by decide)) := by
  unfold out0_B_11
  frame_open
  (try simp (disch := decide) only [↓ View.readCov_skip, ↓ View.readCov_cons_toLoadRect, ↓ View.readCov_fill])
  frame_out
  rfl

theorem out0_B_12_eq (hc0 : ¬ cond0_0 i) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1
    = Proj.outT (Proj.colsT 1024 (w1B x0 x1 x2 x3 x4 x5 x6 x7) (by decide)) := by
  unfold out0_B_12
  frame_open
  (try simp (disch := decide) only [↓ View.readCov_skip, ↓ View.readCov_cons_toLoadRect, ↓ View.readCov_fill])
  frame_out
  rfl

theorem out0_B_13_eq (hc0 : ¬ cond0_0 i) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1
    = View.canon [⟨Rect.unit ![0, 0, 896] ![1, 8, 128] inb_S1x8x1024_S1x8x128_0_0_896, Proj.blockT (pB x0 x1 x2 x3 x4 x5 x6 x7) 896 (by decide) x5 (Proj.car7 (pB x0 x1 x2 x3 x4 x5 x6 x7) x5 xs0)⟩,
    ⟨Rect.unit ![0, 0, 768] ![1, 8, 128] inb_S1x8x1024_S1x8x128_0_0_768, Proj.blockT (pB x0 x1 x2 x3 x4 x5 x6 x7) 768 (by decide) x5 (Proj.car6 (pB x0 x1 x2 x3 x4 x5 x6 x7) x5 xs0)⟩,
    ⟨Rect.unit ![0, 0, 640] ![1, 8, 128] inb_S1x8x1024_S1x8x128_0_0_640, Proj.blockT (pB x0 x1 x2 x3 x4 x5 x6 x7) 640 (by decide) x5 (Proj.car5 (pB x0 x1 x2 x3 x4 x5 x6 x7) x5 xs0)⟩,
    ⟨Rect.unit ![0, 0, 512] ![1, 8, 128] inb_S1x8x1024_S1x8x128_0_0_512, Proj.blockT (pB x0 x1 x2 x3 x4 x5 x6 x7) 512 (by decide) x5 (Proj.car4 (pB x0 x1 x2 x3 x4 x5 x6 x7) x5 xs0)⟩,
    ⟨Rect.unit ![0, 0, 384] ![1, 8, 128] inb_S1x8x1024_S1x8x128_0_0_384, Proj.blockT (pB x0 x1 x2 x3 x4 x5 x6 x7) 384 (by decide) x5 (Proj.car3 (pB x0 x1 x2 x3 x4 x5 x6 x7) x5 xs0)⟩,
    ⟨Rect.unit ![0, 0, 256] ![1, 8, 128] inb_S1x8x1024_S1x8x128_0_0_256, Proj.blockT (pB x0 x1 x2 x3 x4 x5 x6 x7) 256 (by decide) x5 (Proj.car2 (pB x0 x1 x2 x3 x4 x5 x6 x7) x5 xs0)⟩,
    ⟨Rect.unit ![0, 0, 128] ![1, 8, 128] inb_S1x8x1024_S1x8x128_0_0_128, Proj.blockT (pB x0 x1 x2 x3 x4 x5 x6 x7) 128 (by decide) x5 (Proj.car1 (pB x0 x1 x2 x3 x4 x5 x6 x7) x5 xs0)⟩,
    ⟨Rect.unit ![0, 0, 0] ![1, 8, 128] inb_S1x8x1024_S1x8x128_0_0_0, Proj.blockT (pB x0 x1 x2 x3 x4 x5 x6 x7) 0 (by decide) x5 xs0⟩] := by
  unfold out0_B_13
  frame_open
  (try simp (disch := decide) only [↓ View.readCov_skip, ↓ View.readCov_cons_toLoadRect, ↓ View.readCov_fill])
  frame_out
  rfl

theorem sout0_B_0_eq (hc0 : ¬ cond0_0 i) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1
    = shapeCast S8x128 (Proj.car8 (pB x0 x1 x2 x3 x4 x5 x6 x7) x5 xs0) shapeCasts_S8x128_S8x128 := by
  unfold sout0_B_0
  frame_open
  (try simp (disch := decide) only [↓ View.readCov_skip, ↓ View.readCov_cons_toLoadRect, ↓ View.readCov_fill])
  frame_out
  rfl

theorem sout0_B_1_eq (hc0 : ¬ cond0_0 i) : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1
    = View.canon (Val := Elt Ideal) [⟨Rect.unit (s := S1040x512) ![0, 0] ![16, 512] inb_S1040x512_S16x512_0_0, Proj.tailT (uB x0 x1 x2 x3 x4 x5 x6 x7)⟩, ⟨Rect.unit (s := S1040x512) ![16, 0] ![1024, 512] inb_S1040x512_S1024x512_16_0, Proj.selfT (uB x0 x1 x2 x3 x4 x5 x6 x7)⟩] := by
  unfold sout0_B_1
  frame_open
  (try simp (disch := decide) only [↓ View.readCov_skip, ↓ View.readCov_cons_toLoadRect, ↓ View.readCov_fill])
  frame_out
  rfl

end Cert.FirstIdeal.Own

end
-- ==== Proof.FirstVal.lean ====
module

public import proofs.«01_k».proof.Proof.ProjArr
public import proofs.«01_k».proof.Proof.FirstOut
public import proofs.«01_k».proof.Proof.Gen.FirstIdeal.Value

/-! What the first projection call computes, index by index. -/

@[expose] public section

set_option maxRecDepth 16384

noncomputable section

namespace Cert.FirstIdeal.Own

open Cert.FirstIdeal Cert.FirstIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx (ix1)

variable (m : (ℓ : Loc nD τ sig) → Buf (Elt Ideal) ℓ)

/-- A point's batch and row tile. -/
def bt (t : Fin cfg0.N) : Fin 8 := ⟨(grid0.coords t 0).val, (grid0.coords t 0).isLt⟩
def ti (t : Fin cfg0.N) : Fin 4 := ⟨(grid0.coords t 1).val, (grid0.coords t 1).isLt⟩
theorem bt_val : ∀ t : Fin cfg0.N, (bt t).val = t.val / 4 := (by decide +kernel : ∀ t : Fin grid0.N, (bt t).val = t.val / 4)
theorem ti_val : ∀ t : Fin cfg0.N, (ti t).val = t.val % 4 := (by decide +kernel : ∀ t : Fin grid0.N, (ti t).val = t.val % 4)
/-- A row of a tile, in the sequence. -/
def rw' (p : Fin 4) (r : Fin 1024) : Fin 4096 := ⟨p.val * 1024 + r.val, by omega⟩
theorem at4_rw (p : Fin 4) (r : Fin 1024) : Proj.at4 (p.val * 1024 + r.val) = rw' p r := Proj.at4_val (rw' p r)

theorem idx0 : ∀ t : Fin cfg0.N, win0_0.index t (0 : Fin 3) = (bt t).val ∧ win0_0.index t (1 : Fin 3) = (ti t).val ∧ win0_0.index t (2 : Fin 3) = 0 :=
  (by decide +kernel : ∀ t : Fin grid0.N, _)
theorem emb0 (t : Fin cfg0.N) (a : Fin 1) (b : Fin 1024) (d : Fin 1024) : ((cfg0.win 0).blk t).view.emb (ValueIdx.ix3 a b d) = ValueIdx.ix3 (bt t) (rw' (ti t) b) d := by
  obtain ⟨h0, h1, h2⟩ := idx0 t
  funext z; apply Fin.ext
  match z with
  | ⟨0, _⟩ => show win0_0.index t (0 : Fin 3) * 1 + 1 * a.val = (bt t).val; omega
  | ⟨1, _⟩ => show win0_0.index t (1 : Fin 3) * 1024 + 1 * b.val = (ti t).val * 1024 + b.val; omega
  | ⟨2, _⟩ => show win0_0.index t (2 : Fin 3) * 1024 + 1 * d.val = d.val; omega
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem emb1 (t : Fin cfg0.N) (a : Fin 1) (b : Fin 1) (d : Fin 1024) : ((cfg0.win 1).blk t).view.emb (ValueIdx.ix3 a b d) = ValueIdx.ix3 (0 : Fin 4) b d := by
  obtain ⟨h0, h1, h2⟩ := idx1 t
  funext z; apply Fin.ext
  match z with
  | ⟨0, _⟩ => show win0_1.index t (0 : Fin 3) * 1 + 1 * a.val = 0; omega
  | ⟨1, _⟩ => show win0_1.index t (1 : Fin 3) * 1 + 1 * b.val = b.val; omega
  | ⟨2, _⟩ => show win0_1.index t (2 : Fin 3) * 1024 + 1 * d.val = d.val; omega
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem emb3 (t : Fin cfg0.N) (a : Fin 1) (b : Fin 1024) (d : Fin 128) : ((cfg0.win 3).blk t).view.emb (ValueIdx.ix3 a b d) = ValueIdx.ix3 (0 : Fin 4) b d := by
  obtain ⟨h0, h1, h2⟩ := idx3 t
  funext z; apply Fin.ext
  match z with
  | ⟨0, _⟩ => show win0_3.index t (0 : Fin 3) * 1 + 1 * a.val = 0; omega
  | ⟨1, _⟩ => show win0_3.index t (1 : Fin 3) * 1024 + 1 * b.val = b.val; omega
  | ⟨2, _⟩ => show win0_3.index t (2 : Fin 3) * 128 + 1 * d.val = d.val; omega
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem emb4 (t : Fin cfg0.N) (a : Fin 1) (b : Fin 8) (d : Fin 1) : ((cfg0.win 4).blk t).view.emb (ValueIdx.ix3 a b d) = ValueIdx.ix3 (0 : Fin 4) b d := by
  obtain ⟨h0, h1, h2⟩ := idx4 t
  funext z; apply Fin.ext
  match z with
  | ⟨0, _⟩ => show win0_4.index t (0 : Fin 3) * 1 + 1 * a.val = 0; omega
  | ⟨1, _⟩ => show win0_4.index t (1 : Fin 3) * 8 + 1 * b.val = b.val; omega
  | ⟨2, _⟩ => show win0_4.index t (2 : Fin 3) * 1 + 1 * d.val = d.val; omega
theorem idx5 : ∀ t : Fin cfg0.N, win0_5.index t (0 : Fin 2) = 0 ∧ win0_5.index t (1 : Fin 2) = 0 :=
  (by decide +kernel : ∀ t : Fin grid0.N, _)
theorem emb5 (t : Fin cfg0.N) (a : Fin 128) (b : Fin 256) : ((cfg0.win 5).blk t).view.emb (ValueIdx.ix2 a b) = ValueIdx.ix2 a b := by
  obtain ⟨h0, h1⟩ := idx5 t
  funext z; apply Fin.ext
  match z with
  | ⟨0, _⟩ => show win0_5.index t (0 : Fin 2) * 128 + 1 * a.val = a.val; omega
  | ⟨1, _⟩ => show win0_5.index t (1 : Fin 2) * 256 + 1 * b.val = b.val; omega
theorem idx6 : ∀ t : Fin cfg0.N, win0_6.index t (0 : Fin 4) = 0 ∧ win0_6.index t (1 : Fin 4) = 0 ∧ win0_6.index t (2 : Fin 4) = 0 ∧ win0_6.index t (3 : Fin 4) = 0 :=
  (by decide +kernel : ∀ t : Fin grid0.N, _)
theorem emb6 (t : Fin cfg0.N) (a : Fin 1) (b : Fin 4) (d : Fin 128) (e : Fin 128) : ((cfg0.win 6).blk t).view.emb (ValueIdx.ix4 a b d e) = ValueIdx.ix4 (0 : Fin 4) b d e := by
  obtain ⟨h0, h1, h2, h3⟩ := idx6 t
  funext z; apply Fin.ext
  match z with
  | ⟨0, _⟩ => show win0_6.index t (0 : Fin 4) * 1 + 1 * a.val = 0; omega
  | ⟨1, _⟩ => show win0_6.index t (1 : Fin 4) * 4 + 1 * b.val = b.val; omega
  | ⟨2, _⟩ => show win0_6.index t (2 : Fin 4) * 128 + 1 * d.val = d.val; omega
  | ⟨3, _⟩ => show win0_6.index t (3 : Fin 4) * 128 + 1 * e.val = e.val; omega
theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)
theorem emb7 (t : Fin cfg0.N) (a : Fin 1) (b : Fin 1) (d : Fin 512) : ((cfg0.win 7).blk t).view.emb (ValueIdx.ix3 a b d) = ValueIdx.ix3 (0 : Fin 4) b d := by
  obtain ⟨h0, h1, h2⟩ := idx7 t
  funext z; apply Fin.ext
  match z with
  | ⟨0, _⟩ => show win0_7.index t (0 : Fin 3) * 1 + 1 * a.val = 0; omega
  | ⟨1, _⟩ => show win0_7.index t (1 : Fin 3) * 1 + 1 * b.val = b.val; omega
  | ⟨2, _⟩ => show win0_7.index t (2 : Fin 3) * 512 + 1 * d.val = d.val; omega

/-! The arguments' arrays. -/
abbrev aX (c : Dev nD) : S8x4096x1024.Idx → EReal := m ((c : Thread nD τ).loc main_arg0)
abbrev aG (c : Dev nD) : S4x1024.Idx → EReal := m ((c : Thread nD τ).loc main_arg1)
abbrev aW (c : Dev nD) : S4x1024x3080.Idx → EReal := m ((c : Thread nD τ).loc main_arg2)
abbrev aFB (c : Dev nD) : S4x8.Idx → EReal := m ((c : Thread nD τ).loc main_arg3)
abbrev aPW (c : Dev nD) : S4x4x128x128.Idx → EReal := m ((c : Thread nD τ).loc main_arg4)
abbrev aPS (c : Dev nD) : S4x512.Idx → EReal := m ((c : Thread nD τ).loc main_arg5)
theorem V_v0 (c : Dev nD) : (V m c main_v0 : S4x1024x3080.Idx → EReal) = aW m c := by
  unfold V hostOps0 hostOps0_1 hostOps0_2; after_results; rfl
theorem V_v14 (c : Dev nD) : (V m c main_v14 : S4x4x128x128.Idx → EReal) = aPW m c := by
  unfold V hostOps0 hostOps0_1 hostOps0_2; after_results; rfl
theorem V_v2_ (c : Dev nD) : (V m c main_v2 : S4x1024x128.Idx → EReal)
    = pad S4x1024x128 ![0, 0, 0] ![0, 0, 120] ![0, 0, 0] (extractStridedSlice S4x1024x8 ![0, 0, 3072] (aW m c) slices_S4x1024x3080_S4x1024x8_0_0_3072)
      (sitofp (F := Ideal) .bf16 (constantI S_ 32 0#32)) pads_S4x1024x8_S4x1024x128_000_000_01200 h_S_ := by
  unfold V hostOps0 hostOps0_1 hostOps0_2; after_results; rfl
theorem V_v2 (c : Dev nD) (l : Fin 4) (k : Fin 1024) (i : Fin 8) :
    (V m c main_v2 : S4x1024x128.Idx → EReal) (ValueIdx.ix3 l k ⟨i.val, by omega⟩) = aW m c (ValueIdx.ix3 l k ⟨3072 + i.val, by omega⟩) := by
  rw [V_v2_]
  refine (pad_apply_of_inside _ _ _ _ _ _ _ _ (ValueIdx.ix3 l k i) (fun a => match a with
    | ⟨0, _⟩ => (show l.val = 0 + l.val * (0 + 1) by omega)
    | ⟨1, _⟩ => (show k.val = 0 + k.val * (0 + 1) by omega)
    | ⟨2, _⟩ => (show i.val = 0 + i.val * (0 + 1) by omega))).trans ?_
  exact extractStridedSlice_apply _ _ _ _ (ValueIdx.ix3 l k ⟨3072 + i.val, by omega⟩) (fun a => match a with
    | ⟨0, _⟩ => (Nat.zero_add l.val).symm
    | ⟨1, _⟩ => (Nat.zero_add k.val).symm
    | ⟨2, _⟩ => rfl)

theorem V_v3_ (c : Dev nD) : (V m c main_v3 : S4x8x1.Idx → EReal) = broadcastInDim S4x8x1 ![0, 1] bcast_S4x8_S4x8x1_0_1 (aFB m c) := by
  unfold V hostOps0 hostOps0_1 hostOps0_2; after_results; rfl
theorem V_v3 (c : Dev nD) (l : Fin 4) (i : Fin 8) (z : Fin 1) : (V m c main_v3 : S4x8x1.Idx → EReal) (ValueIdx.ix3 l i z) = aFB m c (ValueIdx.ix2 l i) := by
  rw [V_v3_]
  exact broadcastInDim_apply ![0, 1] bcast_S4x8_S4x8x1_0_1 (aFB m c) _ (ValueIdx.ix2 l i) (fun a => match a with
    | ⟨0, _⟩ => rfl
    | ⟨1, _⟩ => rfl)

theorem V_v4_ (c : Dev nD) : (V m c main_v4 : S4x1x1024.Idx → EReal) = broadcastInDim S4x1x1024 ![0, 2] bcast_S4x1024_S4x1x1024_0_2 (aG m c) := by
  unfold V hostOps0 hostOps0_1 hostOps0_2; after_results; rfl
theorem V_v4 (c : Dev nD) (l : Fin 4) (z : Fin 1) (k : Fin 1024) : (V m c main_v4 : S4x1x1024.Idx → EReal) (ValueIdx.ix3 l z k) = aG m c (ValueIdx.ix2 l k) := by
  rw [V_v4_]
  exact broadcastInDim_apply ![0, 2] bcast_S4x1024_S4x1x1024_0_2 (aG m c) _ (ValueIdx.ix2 l k) (fun a => match a with
    | ⟨0, _⟩ => rfl
    | ⟨1, _⟩ => rfl)

theorem V_v15_ (c : Dev nD) : (V m c main_v15 : S4x1x512.Idx → EReal) = broadcastInDim S4x1x512 ![0, 2] bcast_S4x512_S4x1x512_0_2 (aPS m c) := by
  unfold V hostOps0 hostOps0_1 hostOps0_2; after_results; rfl
theorem V_v15 (c : Dev nD) (l : Fin 4) (z : Fin 1) (k : Fin 512) : (V m c main_v15 : S4x1x512.Idx → EReal) (ValueIdx.ix3 l z k) = aPS m c (ValueIdx.ix2 l k) := by
  rw [V_v15_]
  exact broadcastInDim_apply ![0, 2] bcast_S4x512_S4x1x512_0_2 (aPS m c) _ (ValueIdx.ix2 l k) (fun a => match a with
    | ⟨0, _⟩ => rfl
    | ⟨1, _⟩ => rfl)

theorem V_v13 (c : Dev nD) : (V m c main_v13 : S128x256.Idx → EReal) = Proj.prefixT := by
  unfold V hostOps0 hostOps0_1 hostOps0_2; after_results; rfl

theorem blk0 (c : Dev nD) (t : Fin cfg0.N) (a : Fin 1) (b d : Fin 1024) : iblk m c 0 t (ValueIdx.ix3 a b d) = aX m c (ValueIdx.ix3 (bt t) (rw' (ti t) b) d) := by
  show V m c main_arg0 (((cfg0.win 0).blk t).view.emb (ValueIdx.ix3 a b d)) = _
  rw [emb0, V_main_arg0]
theorem blk1 (c : Dev nD) (t : Fin cfg0.N) (a b : Fin 1) (d : Fin 1024) : iblk m c 1 t (ValueIdx.ix3 a b d) = aG m c (ValueIdx.ix2 0 d) := by
  show V m c main_v4 (((cfg0.win 1).blk t).view.emb (ValueIdx.ix3 a b d)) = _
  rw [emb1]; exact V_v4 m c _ _ _
theorem blk2 (c : Dev nD) (t : Fin cfg0.N) (a : Fin 1) (b : Fin 1024) (d : Fin 3072) : X0_2 m c t (ValueIdx.ix3 a b d) = aW m c (ValueIdx.ix3 0 b ⟨d.val, by omega⟩) := by
  obtain ⟨h0, h1, h2⟩ := idx2 t
  unfold X0_2 Pipeline.Window.fill
  rw [dif_pos (moved0_2 t _)]
  show V m c main_v0 _ = _
  rw [V_v0]
  refine congrArg (aW m c) (funext fun z => Fin.ext ?_)
  match z with
  | ⟨0, _⟩ => show win0_2.index t (0 : Fin 3) * 1 + 1 * a.val = 0; omega
  | ⟨1, _⟩ => show win0_2.index t (1 : Fin 3) * 1024 + 1 * b.val = b.val; omega
  | ⟨2, _⟩ => show win0_2.index t (2 : Fin 3) * 3072 + 1 * d.val = d.val; omega
theorem blk3 (c : Dev nD) (t : Fin cfg0.N) (a : Fin 1) (b : Fin 1024) (i : Fin 8) : iblk m c 3 t (ValueIdx.ix3 a b (⟨i.val, by omega⟩ : Fin 128)) = aW m c (ValueIdx.ix3 0 b ⟨3072 + i.val, by omega⟩) := by
  show V m c main_v2 (((cfg0.win 3).blk t).view.emb (ValueIdx.ix3 a b (⟨i.val, by omega⟩ : Fin 128))) = _
  rw [emb3]; exact V_v2 m c _ _ _
theorem blk4 (c : Dev nD) (t : Fin cfg0.N) (a : Fin 1) (b : Fin 8) (d : Fin 1) : iblk m c 4 t (ValueIdx.ix3 a b d) = aFB m c (ValueIdx.ix2 0 b) := by
  show V m c main_v3 (((cfg0.win 4).blk t).view.emb (ValueIdx.ix3 a b d)) = _
  rw [emb4]; exact V_v3 m c _ _ _
theorem blk5 (c : Dev nD) (t : Fin cfg0.N) (a : Fin 128) (b : Fin 256) : iblk m c 5 t (ValueIdx.ix2 a b) = (if a.val ≤ b.val ∨ 128 ≤ b.val then 1 else 0 : EReal) := by
  show V m c main_v13 (((cfg0.win 5).blk t).view.emb (ValueIdx.ix2 a b)) = _
  rw [emb5]; exact (congrFun (V_v13 m c) _).trans (Proj.prefixT_apply a b)
theorem blk6 (c : Dev nD) (t : Fin cfg0.N) (a : Fin 1) (b : Fin 4) (d e : Fin 128) : iblk m c 6 t (ValueIdx.ix4 a b d e) = aPW m c (ValueIdx.ix4 0 b d e) := by
  show V m c main_v14 (((cfg0.win 6).blk t).view.emb (ValueIdx.ix4 a b d e)) = _
  rw [emb6]; exact congrFun (V_v14 m c) _
theorem blk7 (c : Dev nD) (t : Fin cfg0.N) (a b : Fin 1) (d : Fin 512) : iblk m c 7 t (ValueIdx.ix3 a b d) = aPS m c (ValueIdx.ix2 0 d) := by
  show V m c main_v15 (((cfg0.win 7).blk t).view.emb (ValueIdx.ix3 a b d)) = _
  rw [emb7]; exact V_v15 m c _ _ _

/-- The rows, normalised. -/
def hV (X : S8x4096x1024.Idx → EReal) (G : S4x1024.Idx → EReal) : Proj.H8 :=
  fun b s => Lin.rms (fun k => X (ValueIdx.ix3 b (Proj.at4 s) k)) (fun k => G (ValueIdx.ix2 0 k))
abbrev hM (c : Dev nD) : Proj.H8 := hV (aX m c) (aG m c)
def wV (W : S4x1024x3080.Idx → EReal) : Fin 1024 → Fin 3080 → EReal := fun k n => W (ValueIdx.ix3 0 k n)
def fV (FB : S4x8.Idx → EReal) : Fin 8 → EReal := fun i => FB (ValueIdx.ix2 0 i)
def pwV (PW : S4x4x128x128.Idx → EReal) : Fin 4 → Fin 128 → Fin 128 → EReal := fun g k j => PW (ValueIdx.ix4 0 g k j)
def psV (PS : S4x512.Idx → EReal) : Fin 512 → EReal := fun k => PS (ValueIdx.ix2 0 k)
abbrev wM (c : Dev nD) := wV (aW m c)
abbrev fM (c : Dev nD) := fV (aFB m c)
abbrev pwM (c : Dev nD) := pwV (aPW m c)
abbrev psM (c : Dev nD) := psV (aPS m c)

abbrev hT (c : Dev nD) (t : Fin cfg0.N) : Proj.B2 1024 1024 .bf16 := hB (iblk m c 0 t) (iblk m c 1 t) (X0_2 m c t) (iblk m c 3 t) (iblk m c 4 t) (iblk m c 5 t) (iblk m c 6 t) (iblk m c 7 t)
abbrev uT (c : Dev nD) (t : Fin cfg0.N) : Proj.B2 1024 512 .f32 := uB (iblk m c 0 t) (iblk m c 1 t) (X0_2 m c t) (iblk m c 3 t) (iblk m c 4 t) (iblk m c 5 t) (iblk m c 6 t) (iblk m c 7 t)
abbrev pT (c : Dev nD) (t : Fin cfg0.N) : Proj.B2 32 1024 .bf16 := pB (iblk m c 0 t) (iblk m c 1 t) (X0_2 m c t) (iblk m c 3 t) (iblk m c 4 t) (iblk m c 5 t) (iblk m c 6 t) (iblk m c 7 t)
abbrev w0T (c : Dev nD) (t : Fin cfg0.N) : Proj.B3 1024 1536 .bf16 := View.ld (X0_2 m c t) (Rect.unit ![0, 0, 0] ![1, 1024, 1536] (by decide))
abbrev w1T (c : Dev nD) (t : Fin cfg0.N) : Proj.B3 1024 1536 .bf16 := View.ld (X0_2 m c t) (Rect.unit ![0, 0, 1536] ![1, 1024, 1536] (by decide))

theorem h_apply (c : Dev nD) (t : Fin cfg0.N) (r k : Fin 1024) : hT m c t (ValueIdx.ix2 r k) = hM m c (bt t) ((ti t).val * 1024 + r.val) k := by
  unfold hT hB
  refine (Proj.normT_apply _ _ r k).trans ?_
  unfold hM hV
  refine congrArg₂ (fun f g => Lin.rms f g k) (funext fun j => ?_) (funext fun j => blk1 m c t 0 0 j)
  rw [at4_rw]
  exact (Lin.drop3 _ _ r j).trans (blk0 m c t 0 r j)
theorem w0_apply (c : Dev nD) (t : Fin cfg0.N) (k : Fin 1024) (j : Fin 1536) : w0T m c t (ValueIdx.ix3 0 k j) = wM m c k ⟨j.val, by omega⟩ := by
  refine (congrArg (X0_2 m c t) ?_).trans (blk2 m c t (0 : Fin 1) k ⟨j.val, by omega⟩)
  exact (funext fun a => Fin.ext (match a with
    | ⟨0, _⟩ => rfl
    | ⟨1, _⟩ => (show 0 + 1 * k.val = k.val by omega)
    | ⟨2, _⟩ => (show 0 + 1 * j.val = j.val by omega)))
theorem w1_apply (c : Dev nD) (t : Fin cfg0.N) (k : Fin 1024) (j : Fin 1536) : w1T m c t (ValueIdx.ix3 0 k j) = wM m c k ⟨1536 + j.val, by omega⟩ := by
  refine (congrArg (X0_2 m c t) ?_).trans (blk2 m c t (0 : Fin 1) k ⟨1536 + j.val, by omega⟩)
  exact (funext fun a => Fin.ext (match a with
    | ⟨0, _⟩ => rfl
    | ⟨1, _⟩ => (show 0 + 1 * k.val = k.val by omega)
    | ⟨2, _⟩ => (show 1536 + 1 * j.val = 1536 + j.val by omega)))
theorem wf_apply (c : Dev nD) (t : Fin cfg0.N) (k : Fin 1024) (i : Fin 8) :
    (iblk m c 3 t : Proj.B3 1024 128 .bf16) (ValueIdx.ix3 0 k ⟨i.val, by omega⟩) = wM m c k ⟨3072 + i.val, by omega⟩ := blk3 m c t 0 k i
theorem fb_apply (c : Dev nD) (t : Fin cfg0.N) (i : Fin 8) : (iblk m c 4 t : Proj.B3 8 1 .f32) (ValueIdx.ix3 0 i 0) = fM m c i := blk4 m c t 0 i 0
theorem m_apply (c : Dev nD) (t : Fin cfg0.N) (k : Fin 128) (q : Fin 256) :
    (iblk m c 5 t : Proj.B2 128 256 .bf16) (ValueIdx.ix2 k q) = (if k.val ≤ q.val ∨ 128 ≤ q.val then 1 else 0 : EReal) := blk5 m c t k q
theorem ps_apply (c : Dev nD) (t : Fin cfg0.N) (k : Fin 512) : (iblk m c 7 t : Proj.B3 1 512 .f32) (ValueIdx.ix3 0 0 k) = psM m c k := blk7 m c t 0 0 k
theorem inb_pw (g : Fin 4) : ∀ a, (![0, g.val, 0, 0] : Fin 4 → Nat) a + (![1, 1, 128, 128] : Fin 4 → Nat) a ≤ S1x4x128x128.size a := by revert g; decide
/-- A group's weights. -/
def pwT (c : Dev nD) (t : Fin cfg0.N) (g : Fin 4) : FVec Ideal ⟨4, ![1, 1, 128, 128]⟩ .bf16 :=
  View.ld (iblk m c 6 t) (Rect.unit (s := S1x4x128x128) ![0, g.val, 0, 0] ![1, 1, 128, 128] (inb_pw g))
theorem pw_apply (c : Dev nD) (t : Fin cfg0.N) (g : Fin 4) (k j : Fin 128) : pwT m c t g (ValueIdx.ix4 0 0 k j) = pwM m c g k j := by
  refine (congrArg (iblk m c 6 t) ?_).trans (blk6 m c t (0 : Fin 1) g k j)
  exact (funext fun a => Fin.ext (match a with
    | ⟨0, _⟩ => rfl
    | ⟨1, _⟩ => (show g.val + 1 * 0 = g.val by omega)
    | ⟨2, _⟩ => (show 0 + 1 * k.val = k.val by omega)
    | ⟨3, _⟩ => (show 0 + 1 * j.val = j.val by omega)))

theorem u_apply (c : Dev nD) (t : Fin cfg0.N) (r : Fin 1024) (k : Fin 512) :
    uT m c t (ValueIdx.ix2 r k) = Proj.pr (hM m c (bt t)) (wM m c) ((ti t).val * 1024 + r.val) ⟨0 + k.val, by omega⟩ :=
  Proj.lo_apply (hM m c (bt t)) (wM m c) (ti t).val (hT m c t) (h_apply m c t) (w0T m c t) (w0_apply m c t) 0 _ r k (by omega)
theorem logT_apply (c : Dev nD) (t : Fin cfg0.N) (i : Fin 8) (q : Fin 1024) :
    Proj.logT (Proj.zT (hT m c t) (iblk m c 3 t)) (iblk m c 4 t) (ValueIdx.ix2 i q) = Proj.lf (hM m c (bt t)) (wM m c) (fM m c) i ((ti t).val * 1024 + q.val) :=
  Proj.log_apply (hM m c (bt t)) (wM m c) (fM m c) (ti t).val (hT m c t) (h_apply m c t) (iblk m c 3 t) (wf_apply m c t) (iblk m c 4 t) (fb_apply m c t) i q

/-! ## What a point leaves in the carried buffers -/

theorem halo (c : Dev nD) (t : Fin cfg0.N) (r : Fin 16) (k : Fin 512) :
    (outsAt0 m c t.val t.isLt).2.2.2.2.2.2.2 (ValueIdx.ix2 ⟨r.val, by omega⟩ k)
      = Proj.pr (hM m c (bt t)) (wM m c) ((ti t).val * 1024 + (1008 + r.val)) ⟨k.val, by omega⟩ := by
  have e : Proj.tailT (uT m c t) (ValueIdx.ix2 r k) = Proj.pr (hM m c (bt t)) (wM m c) ((ti t).val * 1024 + (1008 + r.val)) ⟨k.val, by omega⟩ := by
    rw [Proj.tailT_apply, u_apply]
    exact congrArg (Proj.pr (hM m c (bt t)) (wM m c) _) (Fin.ext (Nat.zero_add _))
  by_cases h0 : t.val % 4 = 0
  · rw [outsAt0_A m c t h0]
    dsimp only
    rw [sout0_A_1_eq]
    exact (Proj.canon_lo _ _ _ r.val r.isLt k).trans e
  · rw [outsAt0_B m c t h0]
    dsimp only
    rw [sout0_B_1_eq]
    exact (Proj.canon_lo _ _ _ r.val r.isLt k).trans e

theorem carryA (c : Dev nD) (t : Fin cfg0.N) (h0 : t.val % 4 = 0) (i : Fin 8) (l : Fin 128) :
    (outsAt0 m c t.val t.isLt).2.2.2.2.2.2.1 (ValueIdx.ix2 i l) = ∑ q ∈ Finset.range ((ti t).val * 1024 + 1024), Proj.lf (hM m c (bt t)) (wM m c) (fM m c) i q := by
  rw [outsAt0_A m c t h0]
  dsimp only
  rw [sout0_A_0_eq, shapeCast_self]
  exact Proj.car8_apply _ (Proj.log_ne_top _ _) _ (m_apply m c t) (Proj.lf (hM m c (bt t)) (wM m c) (fM m c)) ((ti t).val * 1024) (logT_apply m c t) _ (fun i l => by
    rw [ti_val, h0]
    exact Ideal.ofBits_zero_f32) i l
theorem carryB (c : Dev nD) (t : Fin cfg0.N) (h0 : ¬t.val % 4 = 0)
    (hp : ∀ (i : Fin 8) (l : Fin 128), (outsAt0 m c (t.val - 1) (by omega)).2.2.2.2.2.2.1 (ValueIdx.ix2 i l) = ∑ q ∈ Finset.range ((ti t).val * 1024 + 0), Proj.lf (hM m c (bt t)) (wM m c) (fM m c) i q)
    (i : Fin 8) (l : Fin 128) :
    (outsAt0 m c t.val t.isLt).2.2.2.2.2.2.1 (ValueIdx.ix2 i l) = ∑ q ∈ Finset.range ((ti t).val * 1024 + 1024), Proj.lf (hM m c (bt t)) (wM m c) (fM m c) i q := by
  rw [outsAt0_B m c t h0]
  dsimp only
  rw [sout0_B_0_eq, shapeCast_self]
  exact Proj.car8_apply _ (Proj.log_ne_top _ _) _ (m_apply m c t) (Proj.lf (hM m c (bt t)) (wM m c) (fM m c)) ((ti t).val * 1024) (logT_apply m c t) _ hp i l

theorem bt_pred (n : ℕ) (hn : n + 1 < cfg0.N) (h0 : ¬(n + 1) % 4 = 0) : bt ⟨n, by omega⟩ = bt ⟨n + 1, hn⟩ :=
  Fin.ext (by rw [bt_val, bt_val]; show n / 4 = (n + 1) / 4; omega)
theorem ti_pred (n : ℕ) (hn : n + 1 < cfg0.N) (h0 : ¬(n + 1) % 4 = 0) : (ti ⟨n, by omega⟩).val + 1 = (ti ⟨n + 1, hn⟩).val := by
  rw [ti_val, ti_val]; show n % 4 + 1 = (n + 1) % 4; omega

theorem carry (c : Dev nD) : ∀ (n : ℕ) (hn : n < cfg0.N) (i : Fin 8) (l : Fin 128),
    (outsAt0 m c n hn).2.2.2.2.2.2.1 (ValueIdx.ix2 i l) = ∑ q ∈ Finset.range ((ti ⟨n, hn⟩).val * 1024 + 1024), Proj.lf (hM m c (bt ⟨n, hn⟩)) (wM m c) (fM m c) i q := by
  intro n
  induction n with
  | zero => exact fun hn i l => carryA m c ⟨0, hn⟩ rfl i l
  | succ n ih =>
    intro hn i l
    by_cases h0 : (n + 1) % 4 = 0
    · exact carryA m c ⟨n + 1, hn⟩ h0 i l
    · refine carryB m c ⟨n + 1, hn⟩ h0 (fun i l => ?_) i l
      refine (ih (by omega) i l).trans ?_
      have et : (ti ⟨n, by omega⟩).val * 1024 + 1024 = (ti ⟨n + 1, hn⟩).val * 1024 + 0 := by
        have := ti_pred n hn h0; omega
      rw [bt_pred n hn h0, et]

/-! ## What a point leaves in the results' blocks -/

theorem at_q (c : Dev nD) (t : Fin cfg0.N) (z : Fin 1) (r : Fin 1024) (j : Fin 512) :
    (outsAt0 m c t.val t.isLt).2.1 (ValueIdx.ix3 z r j) = Proj.arrS 1024 (by decide) (hM m c) (wM m c) (ValueIdx.ix3 (bt t) (rw' (ti t) r) j) := by
  have e : Proj.outT (Proj.colsT 1024 (Proj.wideT (hT m c t) (w0T m c t)) (by decide)) (ValueIdx.ix3 z r j) = Proj.arrS 1024 (by decide) (hM m c) (wM m c) (ValueIdx.ix3 (bt t) (rw' (ti t) r) j) := by
    refine (Proj.outT_apply _ z r j).trans ?_
    refine (Proj.lo_apply (hM m c (bt t)) (wM m c) (ti t).val (hT m c t) (h_apply m c t) (w0T m c t) (w0_apply m c t) 1024 _ r j (by omega)).trans ?_
    exact congrArg (Proj.pr (hM m c (bt t)) (wM m c) ((ti t).val * 1024 + r.val)) (Fin.ext (by show 1024 + j.val = 1024 + j.val; omega))
  by_cases h0 : t.val % 4 = 0
  · rw [outsAt0_A m c t h0]
    dsimp only
    rw [out0_A_9_eq]
    exact e
  · rw [outsAt0_B m c t h0]
    dsimp only
    rw [out0_B_9_eq]
    exact e

theorem at_k (c : Dev nD) (t : Fin cfg0.N) (z : Fin 1) (r : Fin 1024) (j : Fin 512) :
    (outsAt0 m c t.val t.isLt).2.2.1 (ValueIdx.ix3 z r j) = Proj.arrS 1536 (by decide) (hM m c) (wM m c) (ValueIdx.ix3 (bt t) (rw' (ti t) r) j) := by
  have e : Proj.outbT (Proj.colsT 0 (Proj.wideT (hT m c t) (w1T m c t)) (by decide)) (ValueIdx.ix3 z r j) = Proj.arrS 1536 (by decide) (hM m c) (wM m c) (ValueIdx.ix3 (bt t) (rw' (ti t) r) j) := by
    refine (Proj.outbT_apply _ z r j).trans ?_
    refine (Proj.hi_apply (hM m c (bt t)) (wM m c) (ti t).val (hT m c t) (h_apply m c t) (w1T m c t) (w1_apply m c t) 0 _ r j (by omega)).trans ?_
    exact congrArg (Proj.pr (hM m c (bt t)) (wM m c) ((ti t).val * 1024 + r.val)) (Fin.ext (by show 1536 + (0 + j.val) = 1536 + j.val; omega))
  by_cases h0 : t.val % 4 = 0
  · rw [outsAt0_A m c t h0]
    dsimp only
    rw [out0_A_10_eq]
    exact e
  · rw [outsAt0_B m c t h0]
    dsimp only
    rw [out0_B_10_eq]
    exact e

theorem at_v (c : Dev nD) (t : Fin cfg0.N) (z : Fin 1) (r : Fin 1024) (j : Fin 512) :
    (outsAt0 m c t.val t.isLt).2.2.2.1 (ValueIdx.ix3 z r j) = Proj.arrS 2048 (by decide) (hM m c) (wM m c) (ValueIdx.ix3 (bt t) (rw' (ti t) r) j) := by
  have e : Proj.outbT (Proj.colsT 512 (Proj.wideT (hT m c t) (w1T m c t)) (by decide)) (ValueIdx.ix3 z r j) = Proj.arrS 2048 (by decide) (hM m c) (wM m c) (ValueIdx.ix3 (bt t) (rw' (ti t) r) j) := by
    refine (Proj.outbT_apply _ z r j).trans ?_
    refine (Proj.hi_apply (hM m c (bt t)) (wM m c) (ti t).val (hT m c t) (h_apply m c t) (w1T m c t) (w1_apply m c t) 512 _ r j (by omega)).trans ?_
    exact congrArg (Proj.pr (hM m c (bt t)) (wM m c) ((ti t).val * 1024 + r.val)) (Fin.ext (by show 1536 + (512 + j.val) = 2048 + j.val; omega))
  by_cases h0 : t.val % 4 = 0
  · rw [outsAt0_A m c t h0]
    dsimp only
    rw [out0_A_11_eq]
    exact e
  · rw [outsAt0_B m c t h0]
    dsimp only
    rw [out0_B_11_eq]
    exact e

theorem at_ag (c : Dev nD) (t : Fin cfg0.N) (z : Fin 1) (r : Fin 1024) (j : Fin 512) :
    (outsAt0 m c t.val t.isLt).2.2.2.2.1 (ValueIdx.ix3 z r j) = Proj.arrS 2560 (by decide) (hM m c) (wM m c) (ValueIdx.ix3 (bt t) (rw' (ti t) r) j) := by
  have e : Proj.outT (Proj.colsT 1024 (Proj.wideT (hT m c t) (w1T m c t)) (by decide)) (ValueIdx.ix3 z r j) = Proj.arrS 2560 (by decide) (hM m c) (wM m c) (ValueIdx.ix3 (bt t) (rw' (ti t) r) j) := by
    refine (Proj.outT_apply _ z r j).trans ?_
    refine (Proj.hi_apply (hM m c (bt t)) (wM m c) (ti t).val (hT m c t) (h_apply m c t) (w1T m c t) (w1_apply m c t) 1024 _ r j (by omega)).trans ?_
    exact congrArg (Proj.pr (hM m c (bt t)) (wM m c) ((ti t).val * 1024 + r.val)) (Fin.ext (by show 1536 + (1024 + j.val) = 2560 + j.val; omega))
  by_cases h0 : t.val % 4 = 0
  · rw [outsAt0_A m c t h0]
    dsimp only
    rw [out0_A_12_eq]
    exact e
  · rw [outsAt0_B m c t h0]
    dsimp only
    rw [out0_B_12_eq]
    exact e

theorem at_c (c : Dev nD) (t : Fin cfg0.N) (z : Fin 1) (i : Fin 8) (q : Fin 1024) :
    (outsAt0 m c t.val t.isLt).2.2.2.2.2.1 (ValueIdx.ix3 z i q) = Proj.arrC (hM m c) (wM m c) (fM m c) (ValueIdx.ix3 (bt t) i (rw' (ti t) q)) := by
  by_cases h0 : t.val % 4 = 0
  · rw [outsAt0_A m c t h0]
    dsimp only
    rw [out0_A_13_eq, shapeCast_self]
    exact Proj.sumsT_apply _ (Proj.log_ne_top _ _) _ (m_apply m c t) (Proj.lf (hM m c (bt t)) (wM m c) (fM m c)) ((ti t).val * 1024) (logT_apply m c t) _ (fun i l => by
      rw [ti_val, h0]
      exact Ideal.ofBits_zero_f32) z i q
  · rw [outsAt0_B m c t h0]
    dsimp only
    rw [out0_B_13_eq]
    refine Proj.sumsT_apply _ (Proj.log_ne_top _ _) _ (m_apply m c t) (Proj.lf (hM m c (bt t)) (wM m c) (fM m c)) ((ti t).val * 1024) (logT_apply m c t) _ (fun i l => ?_) z i q
    have hp : t.val - 1 + 1 = t.val := by omega
    refine (carry m c (t.val - 1) (by omega) i l).trans ?_
    have et : (ti ⟨t.val - 1, by omega⟩).val * 1024 + 1024 = (ti t).val * 1024 + 0 := by
      rw [ti_val, ti_val]; show (t.val - 1) % 4 * 1024 + 1024 = t.val % 4 * 1024 + 0; omega
    have eb : bt ⟨t.val - 1, by omega⟩ = bt t := Fin.ext (by rw [bt_val, bt_val]; show (t.val - 1) / 4 = t.val / 4; omega)
    rw [eb, et]

theorem inb_ext (g : Fin 4) : ∀ a, (![0, 128 * g.val] : Fin 2 → Nat) a + (![1040, 128] : Fin 2 → Nat) a ≤ S1040x512.size a := by revert g; decide
theorem at_po (c : Dev nD) (t : Fin cfg0.N) (z : Fin 1) (r : Fin 1024) (j : Fin 512) :
    (outsAt0 m c t.val t.isLt).1 (ValueIdx.ix3 z r j) = Proj.arrPo (hM m c) (wM m c) (pwM m c) (psM m c) (ValueIdx.ix3 (bt t) (rw' (ti t) r) j) := by
  obtain ⟨g, l, rfl⟩ : ∃ (g : Fin 4) (l : Fin 128), j = Proj.col g l :=
    ⟨⟨j.val / 128, by omega⟩, ⟨j.val % 128, by omega⟩, Fin.ext (by show j.val = 128 * (j.val / 128) + j.val % 128; omega)⟩
  rw [Proj.arrPo_col]
  have hu : ∀ (r : Fin 1024) (k : Fin 512), Proj.selfT (uT m c t) (ValueIdx.ix2 r k) = Proj.ext (hM m c (bt t)) (wM m c) ((ti t).val * 1024 + (16 + r.val)) k := fun r k => by
    rw [Proj.selfT_eq, u_apply, Proj.ext_self]
  by_cases h0 : t.val % 4 = 0
  · rw [outsAt0_A m c t h0]
    dsimp only
    rw [out0_A_8_eq]
    exact Proj.pool_apply (hM m c (bt t)) (wM m c) (ti t).val (hT m c t) (h_apply m c t) (ti t).isLt (w0T m c t) (w0_apply m c t) _ _
      (fun g => Proj.extA (scM0_1 : Memref _ _ _ _ _).view (Proj.selfT (uT m c t)) Proj.zeroT (128 * g.val) (inb_ext g))
      (fun g r hr k => Proj.extA_apply _ _ _ (128 * g.val) (inb_ext g) (fun r k => Proj.ext (hM m c (bt t)) (wM m c) ((ti t).val * 1024 + r) k)
        (fun r k => by
          have hz : (ti t).val = 0 := (ti_val t).trans h0
          rw [Proj.zeroT_apply, hz, Proj.ext_first _ _ _ r.isLt]) hu r hr k (by omega))
      (pwT m c t) (pwM m c) (pw_apply m c t) _ (psM m c) (ps_apply m c t) z r g l
  · rw [outsAt0_B m c t h0]
    dsimp only
    rw [out0_B_8_eq]
    have hp : 0 < (ti t).val := by rw [ti_val]; omega
    refine Proj.pool_apply (hM m c (bt t)) (wM m c) (ti t).val (hT m c t) (h_apply m c t) (ti t).isLt (w0T m c t) (w0_apply m c t) _ _
      (fun g => Proj.extB (scM0_1 : Memref _ _ _ _ _).view ((Memref.isWhole_whole _).unread (outsAt0 m c (t.val - 1) (by omega)).2.2.2.2.2.2.2) (Proj.selfT (uT m c t)) (128 * g.val) (inb_ext g))
      (fun g r hr k => Proj.extB_apply _ _ _ (128 * g.val) (inb_ext g) (fun r k => Proj.ext (hM m c (bt t)) (wM m c) ((ti t).val * 1024 + r) k)
        (fun r k => ?_) hu r hr k (by omega))
      (pwT m c t) (pwM m c) (pw_apply m c t) _ (psM m c) (ps_apply m c t) z r g l
    rw [Memref.IsWhole.read_unread, Proj.ext_later _ _ _ hp]
    refine (halo m c ⟨t.val - 1, by omega⟩ r k).trans ?_
    have et : (ti ⟨t.val - 1, by omega⟩).val = (ti t).val - 1 := by
      rw [ti_val, ti_val]; show (t.val - 1) % 4 = t.val % 4 - 1; omega
    have eb : bt ⟨t.val - 1, by omega⟩ = bt t := Fin.ext (by rw [bt_val, bt_val]; show (t.val - 1) / 4 = t.val / 4; omega)
    rw [eb, et]

/-! ## The result arrays -/

theorem G_po (c : Dev nD) : (Value.G8 m c : S8x4096x512.Idx → EReal) = Proj.arrPo (hM m c) (wM m c) (pwM m c) (psM m c) := by
  funext i
  obtain ⟨b, s, j, rfl⟩ : ∃ (b : Fin 8) (s : Fin 4096) (j : Fin 512), i = ValueIdx.ix3 b s j := ⟨i 0, i 1, i 2, ValueIdx.eq_ix3 i⟩
  have ep : Value.pt8Of (ValueIdx.ix3 b s j) = 4 * b.val + s.val / 1024 := by
    show 4 * (b.val / 1 - 0) + 1 * (s.val / 1024 - 0) + 1 * (j.val / 512 - 0) = _; omega
  have hp : Value.pt8Of (ValueIdx.ix3 b s j) < cfg0.N := by
    rw [ep]; exact lt_of_lt_of_eq (by omega) N_0.symm
  have el : Value.loc8Of (ValueIdx.ix3 b s j) = ValueIdx.ix3 (0 : Fin 1) (⟨s.val % 1024, by omega⟩ : Fin 1024) j := funext fun z => Fin.ext (by
    match z with
    | ⟨0, _⟩ => show b.val % 1 = 0; omega
    | ⟨1, _⟩ => rfl
    | ⟨2, _⟩ => show j.val % 512 = j.val; omega)
  unfold Value.G8
  rw [dif_pos hp, ← Value.outsAt0_sweep m c _ hp, el]
  refine (at_po m c ⟨_, hp⟩ (0 : Fin 1) ⟨s.val % 1024, by omega⟩ j).trans ?_
  generalize ht : (⟨_, hp⟩ : Fin cfg0.N) = t
  have hv : t.val = 4 * b.val + s.val / 1024 := by rw [← ht]; exact ep
  have e1 : bt t = b := Fin.ext (by rw [bt_val, hv]; omega)
  have e2 : rw' (ti t) ⟨s.val % 1024, by omega⟩ = s := Fin.ext (by show (ti t).val * 1024 + s.val % 1024 = s.val; rw [ti_val, hv]; omega)
  rw [e1, e2]

theorem G_q (c : Dev nD) : (Value.G9 m c : S8x4096x512.Idx → EReal) = Proj.arrS 1024 (by decide) (hM m c) (wM m c) := by
  funext i
  obtain ⟨b, s, j, rfl⟩ : ∃ (b : Fin 8) (s : Fin 4096) (j : Fin 512), i = ValueIdx.ix3 b s j := ⟨i 0, i 1, i 2, ValueIdx.eq_ix3 i⟩
  have ep : Value.pt9Of (ValueIdx.ix3 b s j) = 4 * b.val + s.val / 1024 := by
    show 4 * (b.val / 1 - 0) + 1 * (s.val / 1024 - 0) + 1 * (j.val / 512 - 0) = _; omega
  have hp : Value.pt9Of (ValueIdx.ix3 b s j) < cfg0.N := by
    rw [ep]; exact lt_of_lt_of_eq (by omega) N_0.symm
  have el : Value.loc9Of (ValueIdx.ix3 b s j) = ValueIdx.ix3 (0 : Fin 1) (⟨s.val % 1024, by omega⟩ : Fin 1024) j := funext fun z => Fin.ext (by
    match z with
    | ⟨0, _⟩ => show b.val % 1 = 0; omega
    | ⟨1, _⟩ => rfl
    | ⟨2, _⟩ => show j.val % 512 = j.val; omega)
  unfold Value.G9
  rw [dif_pos hp, ← Value.outsAt0_sweep m c _ hp, el]
  refine (at_q m c ⟨_, hp⟩ (0 : Fin 1) ⟨s.val % 1024, by omega⟩ j).trans ?_
  generalize ht : (⟨_, hp⟩ : Fin cfg0.N) = t
  have hv : t.val = 4 * b.val + s.val / 1024 := by rw [← ht]; exact ep
  have e1 : bt t = b := Fin.ext (by rw [bt_val, hv]; omega)
  have e2 : rw' (ti t) ⟨s.val % 1024, by omega⟩ = s := Fin.ext (by show (ti t).val * 1024 + s.val % 1024 = s.val; rw [ti_val, hv]; omega)
  rw [e1, e2]

theorem G_k (c : Dev nD) : (Value.G10 m c : S8x4096x512.Idx → EReal) = Proj.arrS 1536 (by decide) (hM m c) (wM m c) := by
  funext i
  obtain ⟨b, s, j, rfl⟩ : ∃ (b : Fin 8) (s : Fin 4096) (j : Fin 512), i = ValueIdx.ix3 b s j := ⟨i 0, i 1, i 2, ValueIdx.eq_ix3 i⟩
  have ep : Value.pt10Of (ValueIdx.ix3 b s j) = 4 * b.val + s.val / 1024 := by
    show 4 * (b.val / 1 - 0) + 1 * (s.val / 1024 - 0) + 1 * (j.val / 512 - 0) = _; omega
  have hp : Value.pt10Of (ValueIdx.ix3 b s j) < cfg0.N := by
    rw [ep]; exact lt_of_lt_of_eq (by omega) N_0.symm
  have el : Value.loc10Of (ValueIdx.ix3 b s j) = ValueIdx.ix3 (0 : Fin 1) (⟨s.val % 1024, by omega⟩ : Fin 1024) j := funext fun z => Fin.ext (by
    match z with
    | ⟨0, _⟩ => show b.val % 1 = 0; omega
    | ⟨1, _⟩ => rfl
    | ⟨2, _⟩ => show j.val % 512 = j.val; omega)
  unfold Value.G10
  rw [dif_pos hp, ← Value.outsAt0_sweep m c _ hp, el]
  refine (at_k m c ⟨_, hp⟩ (0 : Fin 1) ⟨s.val % 1024, by omega⟩ j).trans ?_
  generalize ht : (⟨_, hp⟩ : Fin cfg0.N) = t
  have hv : t.val = 4 * b.val + s.val / 1024 := by rw [← ht]; exact ep
  have e1 : bt t = b := Fin.ext (by rw [bt_val, hv]; omega)
  have e2 : rw' (ti t) ⟨s.val % 1024, by omega⟩ = s := Fin.ext (by show (ti t).val * 1024 + s.val % 1024 = s.val; rw [ti_val, hv]; omega)
  rw [e1, e2]

theorem G_v (c : Dev nD) : (Value.G11 m c : S8x4096x512.Idx → EReal) = Proj.arrS 2048 (by decide) (hM m c) (wM m c) := by
  funext i
  obtain ⟨b, s, j, rfl⟩ : ∃ (b : Fin 8) (s : Fin 4096) (j : Fin 512), i = ValueIdx.ix3 b s j := ⟨i 0, i 1, i 2, ValueIdx.eq_ix3 i⟩
  have ep : Value.pt11Of (ValueIdx.ix3 b s j) = 4 * b.val + s.val / 1024 := by
    show 4 * (b.val / 1 - 0) + 1 * (s.val / 1024 - 0) + 1 * (j.val / 512 - 0) = _; omega
  have hp : Value.pt11Of (ValueIdx.ix3 b s j) < cfg0.N := by
    rw [ep]; exact lt_of_lt_of_eq (by omega) N_0.symm
  have el : Value.loc11Of (ValueIdx.ix3 b s j) = ValueIdx.ix3 (0 : Fin 1) (⟨s.val % 1024, by omega⟩ : Fin 1024) j := funext fun z => Fin.ext (by
    match z with
    | ⟨0, _⟩ => show b.val % 1 = 0; omega
    | ⟨1, _⟩ => rfl
    | ⟨2, _⟩ => show j.val % 512 = j.val; omega)
  unfold Value.G11
  rw [dif_pos hp, ← Value.outsAt0_sweep m c _ hp, el]
  refine (at_v m c ⟨_, hp⟩ (0 : Fin 1) ⟨s.val % 1024, by omega⟩ j).trans ?_
  generalize ht : (⟨_, hp⟩ : Fin cfg0.N) = t
  have hv : t.val = 4 * b.val + s.val / 1024 := by rw [← ht]; exact ep
  have e1 : bt t = b := Fin.ext (by rw [bt_val, hv]; omega)
  have e2 : rw' (ti t) ⟨s.val % 1024, by omega⟩ = s := Fin.ext (by show (ti t).val * 1024 + s.val % 1024 = s.val; rw [ti_val, hv]; omega)
  rw [e1, e2]

theorem G_ag (c : Dev nD) : (Value.G12 m c : S8x4096x512.Idx → EReal) = Proj.arrS 2560 (by decide) (hM m c) (wM m c) := by
  funext i
  obtain ⟨b, s, j, rfl⟩ : ∃ (b : Fin 8) (s : Fin 4096) (j : Fin 512), i = ValueIdx.ix3 b s j := ⟨i 0, i 1, i 2, ValueIdx.eq_ix3 i⟩
  have ep : Value.pt12Of (ValueIdx.ix3 b s j) = 4 * b.val + s.val / 1024 := by
    show 4 * (b.val / 1 - 0) + 1 * (s.val / 1024 - 0) + 1 * (j.val / 512 - 0) = _; omega
  have hp : Value.pt12Of (ValueIdx.ix3 b s j) < cfg0.N := by
    rw [ep]; exact lt_of_lt_of_eq (by omega) N_0.symm
  have el : Value.loc12Of (ValueIdx.ix3 b s j) = ValueIdx.ix3 (0 : Fin 1) (⟨s.val % 1024, by omega⟩ : Fin 1024) j := funext fun z => Fin.ext (by
    match z with
    | ⟨0, _⟩ => show b.val % 1 = 0; omega
    | ⟨1, _⟩ => rfl
    | ⟨2, _⟩ => show j.val % 512 = j.val; omega)
  unfold Value.G12
  rw [dif_pos hp, ← Value.outsAt0_sweep m c _ hp, el]
  refine (at_ag m c ⟨_, hp⟩ (0 : Fin 1) ⟨s.val % 1024, by omega⟩ j).trans ?_
  generalize ht : (⟨_, hp⟩ : Fin cfg0.N) = t
  have hv : t.val = 4 * b.val + s.val / 1024 := by rw [← ht]; exact ep
  have e1 : bt t = b := Fin.ext (by rw [bt_val, hv]; omega)
  have e2 : rw' (ti t) ⟨s.val % 1024, by omega⟩ = s := Fin.ext (by show (ti t).val * 1024 + s.val % 1024 = s.val; rw [ti_val, hv]; omega)
  rw [e1, e2]

theorem G_c (c : Dev nD) : (Value.G13 m c : S8x8x4096.Idx → EReal) = Proj.arrC (hM m c) (wM m c) (fM m c) := by
  funext i
  obtain ⟨b, s, j, rfl⟩ : ∃ (b s : Fin 8) (j : Fin 4096), i = ValueIdx.ix3 b s j := ⟨i 0, i 1, i 2, ValueIdx.eq_ix3 i⟩
  have ep : Value.pt13Of (ValueIdx.ix3 b s j) = 4 * b.val + j.val / 1024 := by
    show 4 * (b.val / 1 - 0) + 4 * (s.val / 8 - 0) + 1 * (j.val / 1024 - 0) = _; omega
  have hp : Value.pt13Of (ValueIdx.ix3 b s j) < cfg0.N := by
    rw [ep]; exact lt_of_lt_of_eq (by omega) N_0.symm
  have el : Value.loc13Of (ValueIdx.ix3 b s j) = ValueIdx.ix3 (0 : Fin 1) s (⟨j.val % 1024, by omega⟩ : Fin 1024) := funext fun z => Fin.ext (by
    match z with
    | ⟨0, _⟩ => show b.val % 1 = 0; omega
    | ⟨1, _⟩ => show s.val % 8 = s.val; omega
    | ⟨2, _⟩ => rfl)
  unfold Value.G13
  rw [dif_pos hp, ← Value.outsAt0_sweep m c _ hp, el]
  refine (at_c m c ⟨_, hp⟩ (0 : Fin 1) s ⟨j.val % 1024, by omega⟩).trans ?_
  generalize ht : (⟨_, hp⟩ : Fin cfg0.N) = t
  have hv : t.val = 4 * b.val + j.val / 1024 := by rw [← ht]; exact ep
  have e1 : bt t = b := Fin.ext (by rw [bt_val, hv]; omega)
  have e2 : rw' (ti t) ⟨j.val % 1024, by omega⟩ = j := Fin.ext (by show (ti t).val * 1024 + j.val % 1024 = j.val; rw [ti_val, hv]; omega)
  rw [e1, e2]

end Cert.FirstIdeal.Own

end
-- ==== Proof.FirstClaim.lean ====
module

public import proofs.«01_k».proof.Defs
public import proofs.«01_k».proof.Proof.ProjRef
public import proofs.«01_k».proof.Proof.FirstVal
public import proofs.«01_k».proof.Proof.Gen.Pre_first_finite
public import Idealize.ShloMosaic.Lib.ReduceAll
public import proofs.«01_k».proof.Proof.Gen.FirstReferenceIdeal.Run
public import proofs.«01_k».proof.Proof.Gen.FirstReferenceIdeal.Read

/-! The norm, projection and pooling before the first layer: the two programs end with the same results. -/

@[expose] public section

set_option maxRecDepth 16384

noncomputable section

namespace Cert.FirstReferenceIdeal.Own

open Cert.FirstReferenceIdeal Cert.FirstReferenceIdeal.Gen Cert.FirstReferenceIdeal.Read Idealize.ShloMosaic
open Cert.FirstIdeal.Own (hV wV fV pwV psV)

variable (X : S8x4096x1024.Idx → EReal) (G : S4x1024.Idx → EReal) (W : S4x1024x3080.Idx → EReal) (FB : S4x8.Idx → EReal)
  (PW : S4x4x128x128.Idx → EReal) (PS : S4x512.Idx → EReal)
variable (b : Fin 8) (s : Fin 4096)

theorem h_apply (j : Fin 1024) : val_main_v14 (F := Ideal) X G (ValueIdx.ix3 b s j) = hV X G b s.val j := by
  have e : ∀ k : Fin 1024, val_main_v2 (F := Ideal) X (idx_main_v3 (idx_main_v4 (idx_main_v10 (ValueIdx.ix3 b s j))) k)
      = (X (ValueIdx.ix3 b s k) * X (ValueIdx.ix3 b s k) : EReal) := fun k => by
    have h : idx_main_v3 (idx_main_v4 (idx_main_v10 (ValueIdx.ix3 b s j))) k = ValueIdx.ix3 b s k := funext fun a => match a with
      | ⟨0, _⟩ => rfl
      | ⟨1, _⟩ => rfl
      | ⟨2, _⟩ => rfl
    rw [val_main_v2_apply, h]
    rfl
  rw [val_main_v14_apply, val_main_v11_apply, val_main_v10_apply, val_main_v9_apply, val_main_v8_apply, val_main_v6_apply, val_main_v4_apply, val_main_v3_apply, val_main_v5_apply, val_main_v7_apply, val_main_v13_apply, val_main_v12_apply, val_main_v1_apply, val_main_v0_apply]
  rw [Finset.sum_congr rfl fun k _ => e k]
  have z : (val_main_cst (F := Ideal) (Shape.Idx.first h_S_) : EReal) = 0 := Ideal.ofBits_zero_f32
  rw [z, zero_add]
  unfold hV Lin.rms
  simp only [Proj.at4_val]
  refine congrArg₂ (fun s t : EReal => s * t) (congrArg₂ (fun s t : EReal => s * t) rfl ?_) ?_
  · rfl
  · refine congrArg G (funext fun a => Fin.ext ?_)
    match a with
    | ⟨0, _⟩ => rfl
    | ⟨1, _⟩ => exact Nat.mod_eq_of_lt j.isLt

theorem w_apply (k : Fin 1024) (n : Fin 3080) : val_main_v16 (F := Ideal) W (ValueIdx.ix2 k n) = wV W k n := by
  rw [val_main_v16_apply, val_main_v15_apply]
  have h0 : k.val < 1024 := k.isLt
  have h1 : n.val < 3080 := n.isLt
  refine congrArg W (funext fun a => Fin.ext ?_)
  match a with
  | ⟨0, _⟩ => rfl
  | ⟨1, _⟩ => show (k.val * 3080 + n.val) / 3080 % 1024 = k.val; omega
  | ⟨2, _⟩ => show (k.val * 3080 + n.val) % 3080 = n.val; omega

theorem p_apply (n : Fin 3080) : val_main_v17 (F := Ideal) X G W (ValueIdx.ix3 b s n) = Proj.pr (hV X G b) (wV W) s.val n := by
  rw [val_main_v17_apply]
  refine Finset.sum_congr rfl fun k _ => congrArg₂ (fun s t : EReal => s * t) ?_ ?_
  · refine Eq.trans (congrArg _ (funext fun a => ?_)) (h_apply X G b s k)
    match a with
    | ⟨0, _⟩ => rfl
    | ⟨1, _⟩ => rfl
    | ⟨2, _⟩ => rfl
  · refine Eq.trans (congrArg _ (funext fun a => ?_)) (w_apply W k n)
    match a with
    | ⟨0, _⟩ => rfl
    | ⟨1, _⟩ => rfl

theorem u_apply (d : Fin 512) : val_main_v18 (F := Ideal) X G W (ValueIdx.ix3 b s d) = Proj.pr (hV X G b) (wV W) s.val ⟨0 + d.val, by omega⟩ := by
  rw [val_main_v18_apply]
  refine Eq.trans (congrArg _ (funext fun a => ?_)) (p_apply X G W b s ⟨0 + d.val, by omega⟩)
  match a with
  | ⟨0, _⟩ => rfl
  | ⟨1, _⟩ => rfl
  | ⟨2, _⟩ => exact Fin.ext (by first | rfl | exact (Nat.zero_add _).symm | exact Nat.add_comm _ _)
theorem gt_apply (d : Fin 512) : val_main_v19 (F := Ideal) X G W (ValueIdx.ix3 b s d) = Proj.pr (hV X G b) (wV W) s.val ⟨512 + d.val, by omega⟩ := by
  rw [val_main_v19_apply]
  refine Eq.trans (congrArg _ (funext fun a => ?_)) (p_apply X G W b s ⟨512 + d.val, by omega⟩)
  match a with
  | ⟨0, _⟩ => rfl
  | ⟨1, _⟩ => rfl
  | ⟨2, _⟩ => exact Fin.ext (by first | rfl | exact (Nat.zero_add _).symm | exact Nat.add_comm _ _)
theorem q_apply (d : Fin 512) : val_main_v20 (F := Ideal) X G W (ValueIdx.ix3 b s d) = Proj.pr (hV X G b) (wV W) s.val ⟨1024 + d.val, by omega⟩ := by
  rw [val_main_v20_apply]
  refine Eq.trans (congrArg _ (funext fun a => ?_)) (p_apply X G W b s ⟨1024 + d.val, by omega⟩)
  match a with
  | ⟨0, _⟩ => rfl
  | ⟨1, _⟩ => rfl
  | ⟨2, _⟩ => exact Fin.ext (by first | rfl | exact (Nat.zero_add _).symm | exact Nat.add_comm _ _)
theorem k_apply (d : Fin 512) : val_main_v21 (F := Ideal) X G W (ValueIdx.ix3 b s d) = Proj.pr (hV X G b) (wV W) s.val ⟨1536 + d.val, by omega⟩ := by
  rw [val_main_v21_apply]
  refine Eq.trans (congrArg _ (funext fun a => ?_)) (p_apply X G W b s ⟨1536 + d.val, by omega⟩)
  match a with
  | ⟨0, _⟩ => rfl
  | ⟨1, _⟩ => rfl
  | ⟨2, _⟩ => exact Fin.ext (by first | rfl | exact (Nat.zero_add _).symm | exact Nat.add_comm _ _)
theorem v_apply (d : Fin 512) : val_main_v22 (F := Ideal) X G W (ValueIdx.ix3 b s d) = Proj.pr (hV X G b) (wV W) s.val ⟨2048 + d.val, by omega⟩ := by
  rw [val_main_v22_apply]
  refine Eq.trans (congrArg _ (funext fun a => ?_)) (p_apply X G W b s ⟨2048 + d.val, by omega⟩)
  match a with
  | ⟨0, _⟩ => rfl
  | ⟨1, _⟩ => rfl
  | ⟨2, _⟩ => exact Fin.ext (by first | rfl | exact (Nat.zero_add _).symm | exact Nat.add_comm _ _)
theorem ag_apply (d : Fin 512) : val_main_v23 (F := Ideal) X G W (ValueIdx.ix3 b s d) = Proj.pr (hV X G b) (wV W) s.val ⟨2560 + d.val, by omega⟩ := by
  rw [val_main_v23_apply]
  refine Eq.trans (congrArg _ (funext fun a => ?_)) (p_apply X G W b s ⟨2560 + d.val, by omega⟩)
  match a with
  | ⟨0, _⟩ => rfl
  | ⟨1, _⟩ => rfl
  | ⟨2, _⟩ => exact Fin.ext (by first | rfl | exact (Nat.zero_add _).symm | exact Nat.add_comm _ _)
theorem fb_apply (i : Fin 8) : val_main_v28 (F := Ideal) FB (ValueIdx.ix3 b s i) = fV FB i := by
  rw [val_main_v28_apply, val_main_v27_apply, val_main_v26_apply, val_main_v25_apply]
  refine congrArg FB (funext fun a => Fin.ext ?_)
  match a with
  | ⟨0, _⟩ => rfl
  | ⟨1, _⟩ => exact Nat.mod_eq_of_lt i.isLt
theorem z_apply (i : Fin 8) : val_main_v29 (F := Ideal) X G W FB (ValueIdx.ix3 b s i) = (Proj.pr (hV X G b) (wV W) s.val ⟨3072 + i.val, by omega⟩ + fV FB i : EReal) := by
  rw [val_main_v29_apply, fb_apply, val_main_v24_apply]
  refine congrArg₂ (fun s t : EReal => s + t) ?_ rfl
  refine Eq.trans (congrArg _ (funext fun a => ?_)) (p_apply X G W b s ⟨3072 + i.val, by omega⟩)
  match a with
  | ⟨0, _⟩ => rfl
  | ⟨1, _⟩ => rfl
  | ⟨2, _⟩ => exact Fin.ext (by first | rfl | exact Nat.add_comm _ _)
theorem log_eq : val_main_v30 (F := Ideal) X G W FB = Proj.logR (val_main_v29 (F := Ideal) X G W FB) := rfl
theorem c_eq : (val_main_v117 (F := Ideal) X G W FB : S8x8x4096.Idx → EReal) = Proj.arrC (hV X G) (wV W) (fV FB) := by
  funext i
  obtain ⟨b, k, s, rfl⟩ : ∃ (b k : Fin 8) (s : Fin 4096), i = ValueIdx.ix3 b k s := ⟨i 0, i 1, i 2, ValueIdx.eq_ix3 i⟩
  have e : val_main_v117 (F := Ideal) X G W FB = Proj.cR (Proj.logR (val_main_v29 (F := Ideal) X G W FB)) := rfl
  rw [e, Proj.cR_apply]
  show _ = ∑ q ∈ Finset.range (s.val + 1), Proj.lf (hV X G b) (wV W) (fV FB) k q
  refine Finset.sum_congr rfl fun q hq => ?_
  have hs := s.isLt
  rw [Finset.mem_range] at hq
  rw [Proj.logR_apply, z_apply]
  unfold Proj.lf
  rw [show (Proj.at4 q).val = q from Nat.mod_eq_of_lt (by omega)]

def gR (g : Fin 4) : Proj.F3 8 4096 128 := match g with
  | ⟨0, _⟩ => val_main_v54 (F := Ideal) X G W
  | ⟨1, _⟩ => val_main_v70 (F := Ideal) X G W
  | ⟨2, _⟩ => val_main_v86 (F := Ideal) X G W
  | ⟨3, _⟩ => val_main_v102 (F := Ideal) X G W
theorem st_eq : val_main_v107 (F := Ideal) X G W = Proj.stackR (gR X G W) := rfl
theorem pad_eq : val_main_v37 (F := Ideal) X G W = Proj.padR (val_main_v18 (F := Ideal) X G W) := rfl

theorem g0_eq : val_main_v54 (F := Ideal) X G W = Proj.groupR 1 4095 0 2#32 (val_main_v18 (F := Ideal) X G W) (by decide) (by decide) (by decide) (by decide) (by decide) (by decide) := rfl
theorem g1_eq : val_main_v70 (F := Ideal) X G W = Proj.groupR 3 4093 128 4#32 (val_main_v18 (F := Ideal) X G W) (by decide) (by decide) (by decide) (by decide) (by decide) (by decide) := rfl
theorem g2_eq : val_main_v86 (F := Ideal) X G W = Proj.groupR 7 4089 256 8#32 (val_main_v18 (F := Ideal) X G W) (by decide) (by decide) (by decide) (by decide) (by decide) (by decide) := rfl
theorem g3_eq : val_main_v102 (F := Ideal) X G W = Proj.groupR 15 4081 384 16#32 (val_main_v18 (F := Ideal) X G W) (by decide) (by decide) (by decide) (by decide) (by decide) (by decide) := rfl

theorem gR_apply (hu : ∀ (b : Fin 8) (s : ℕ) (k : Fin 512), Proj.IsReal (Proj.pr (hV X G b) (wV W) s ⟨k.val, by omega⟩)) (g : Fin 4) (k : Fin 128) :
    gR X G W g (ValueIdx.ix3 b s k) = Proj.dlG (fun q => Proj.pr (hV X G b) (wV W) q ⟨(Proj.col g k).val, by omega⟩) s.val (Proj.win g) := by
  have hU : ∀ (b : Fin 8) (s : Fin 4096) (k : Fin 512), val_main_v18 (F := Ideal) X G W (ValueIdx.ix3 b s k) = Proj.pr (hV X G b) (wV W) s.val ⟨k.val, by omega⟩ := fun b s k =>
    (u_apply X G W b s k).trans (congrArg (Proj.pr (hV X G b) (wV W) s.val) (Fin.ext (Nat.zero_add _)))
  have hk := k.isLt
  match g with
  | ⟨0, _⟩ =>
    exact (congrFun (g0_eq X G W) _).trans (Proj.groupR_eq 1 4095 0 (by decide) 2#32 (by decide) (by decide) _ _ _ _ _ _ _
      (fun b s k => Proj.pr (hV X G b) (wV W) s ⟨k.val, by omega⟩) hU hu b s k (by omega))
  | ⟨1, _⟩ =>
    exact (congrFun (g1_eq X G W) _).trans (Proj.groupR_eq 3 4093 128 (by decide) 4#32 (by decide) (by decide) _ _ _ _ _ _ _
      (fun b s k => Proj.pr (hV X G b) (wV W) s ⟨k.val, by omega⟩) hU hu b s k (by omega))
  | ⟨2, _⟩ =>
    exact (congrFun (g2_eq X G W) _).trans (Proj.groupR_eq 7 4089 256 (by decide) 8#32 (by decide) (by decide) _ _ _ _ _ _ _
      (fun b s k => Proj.pr (hV X G b) (wV W) s ⟨k.val, by omega⟩) hU hu b s k (by omega))
  | ⟨3, _⟩ =>
    exact (congrFun (g3_eq X G W) _).trans (Proj.groupR_eq 15 4081 384 (by decide) 16#32 (by decide) (by decide) _ _ _ _ _ _ _
      (fun b s k => Proj.pr (hV X G b) (wV W) s ⟨k.val, by omega⟩) hU hu b s k (by omega))

theorem pw_apply (g : Fin 4) (k j : Fin 128) : val_main_v32 (F := Ideal) PW (ValueIdx.ix3 g k j) = pwV PW g k j := by
  rw [val_main_v32_apply, val_main_v31_apply]
  have h0 : g.val < 4 := g.isLt
  have h1 : k.val < 128 := k.isLt
  have h2 : j.val < 128 := j.isLt
  refine congrArg PW (funext fun a => Fin.ext ?_)
  match a with
  | ⟨0, _⟩ => rfl
  | ⟨1, _⟩ => show ((g.val * 128 + k.val) * 128 + j.val) / 16384 % 4 = g.val; omega
  | ⟨2, _⟩ => show ((g.val * 128 + k.val) * 128 + j.val) / 128 % 128 = k.val; omega
  | ⟨3, _⟩ => show ((g.val * 128 + k.val) * 128 + j.val) % 128 = j.val; omega
theorem ps_apply (k : Fin 512) : val_main_v34 (F := Ideal) PS (ValueIdx.ix1 k) = psV PS k := by
  rw [val_main_v34_apply, val_main_v33_apply]
  refine congrArg PS (funext fun a => Fin.ext ?_)
  match a with
  | ⟨0, _⟩ => rfl
  | ⟨1, _⟩ => exact Nat.mod_eq_of_lt k.isLt
theorem po_eq (hu : ∀ (b : Fin 8) (s : ℕ) (k : Fin 512), Proj.IsReal (Proj.pr (hV X G b) (wV W) s ⟨k.val, by omega⟩)) :
    (val_main_v118 (F := Ideal) X G W PW PS : S8x4096x512.Idx → EReal) = Proj.arrPo (hV X G) (wV W) (pwV PW) (psV PS) := by
  funext i
  obtain ⟨b, s, g, j, rfl⟩ : ∃ (b : Fin 8) (s : Fin 4096) (g : Fin 4) (j : Fin 128), i = ValueIdx.ix3 b s (Proj.col g j) := by
    have h2 : (i 2).val < 512 := (i 2).isLt
    refine ⟨i 0, i 1, ⟨(i 2).val / 128, by omega⟩, ⟨(i 2).val % 128, by omega⟩, (ValueIdx.eq_ix3 i).trans (congrArg (ValueIdx.ix3 (i 0) (i 1)) (Fin.ext ?_))⟩
    show (i 2).val = 128 * ((i 2).val / 128) + (i 2).val % 128
    omega
  have e : val_main_v118 (F := Ideal) X G W PW PS = Proj.poR (val_main_v108 (F := Ideal) X G W PW) (val_main_v34 (F := Ideal) PS) (val_main_v19 (F := Ideal) X G W) := rfl
  rw [e, Proj.poR_apply, Proj.arrPo_col, ps_apply, gt_apply, val_main_v108_apply, st_eq]
  unfold Proj.poV
  refine congrArg₂ (fun p q : EReal => p * q) (congrArg₂ (fun p q : EReal => p * q) ?_ rfl) rfl
  refine Finset.sum_congr rfl fun k _ => ?_
  have hl : lidx_main_v108 (ValueIdx.ix4 g j b s) k = ValueIdx.ix3 g k j := funext fun a => match a with
    | ⟨0, _⟩ => rfl
    | ⟨1, _⟩ => rfl
    | ⟨2, _⟩ => rfl
  have hr : ridx_main_v108 (ValueIdx.ix4 g j b s) k = ValueIdx.ix4 b s g k := funext fun a => match a with
    | ⟨0, _⟩ => rfl
    | ⟨1, _⟩ => rfl
    | ⟨2, _⟩ => rfl
    | ⟨3, _⟩ => rfl
  rw [hl, hr, pw_apply, Proj.stackR_apply, gR_apply X G W b s hu g k]
  exact mul_comm _ _

theorem ext3 {x y : S8x4096x512.Idx → EReal} (h : ∀ (b : Fin 8) (s : Fin 4096) (d : Fin 512), x (ValueIdx.ix3 b s d) = y (ValueIdx.ix3 b s d)) : x = y :=
  funext fun i => (congrArg x (ValueIdx.eq_ix3 i)).trans ((h (i 0) (i 1) (i 2)).trans (congrArg y (ValueIdx.eq_ix3 i)).symm)
theorem q_eq : (val_main_v20 (F := Ideal) X G W : S8x4096x512.Idx → EReal) = Proj.arrS 1024 (by decide) (hV X G) (wV W) := ext3 (q_apply X G W)
theorem k_eq : (val_main_v119 (F := Ideal) X G W : S8x4096x512.Idx → EReal) = Proj.arrS 1536 (by decide) (hV X G) (wV W) := ext3 (k_apply X G W)
theorem v_eq : (val_main_v120 (F := Ideal) X G W : S8x4096x512.Idx → EReal) = Proj.arrS 2048 (by decide) (hV X G) (wV W) := ext3 (v_apply X G W)
theorem ag_eq : (val_main_v23 (F := Ideal) X G W : S8x4096x512.Idx → EReal) = Proj.arrS 2560 (by decide) (hV X G) (wV W) := ext3 (ag_apply X G W)
theorem real_u (hG : ∀ k : Fin 1024, Proj.IsReal (G (ValueIdx.ix2 0 k)))
    (hW : ∀ (k : Fin 1024) (n : Fin 512), Proj.IsReal (W (ValueIdx.ix3 0 k ⟨n.val, by omega⟩))) (b : Fin 8) (s : ℕ) (k : Fin 512) :
    Proj.IsReal (Proj.pr (hV X G b) (wV W) s ⟨k.val, by omega⟩) :=
  Proj.pr_real _ _ _ _ (fun j => Proj.rms_real _ _ hG j) (fun j => hW j k)

end Cert.FirstReferenceIdeal.Own

namespace Cert.Own

open Idealize.ShloMosaic Idealize.ShloMosaic.TcCoe Idealize.SL.Sem

instance first_subsingleton : Subsingleton Cert.Pre_first_finite.S_.Idx := ⟨fun a b => funext fun i => i.elim0⟩

open Cert.Pre_first_finite in
/-- What the precondition says of the arrays the pooled columns are of. -/
theorem first_real (X : S8x4096x1024.Idx → EReal) (G : S4x1024.Idx → EReal) (W : S4x1024x3080.Idx → EReal) (FB : S4x8.Idx → EReal)
    (PW : S4x4x128x128.Idx → EReal) (PS : S4x512.Idx → EReal)
    (h : Cert.Pre_first_finite.fn (F := Ideal) X G W FB PW PS = fun _ => 1#1) :
    (∀ k : Fin 1024, Proj.IsReal (G (ValueIdx.ix2 0 k)))
      ∧ (∀ (k : Fin 1024) (n : Fin 512), Proj.IsReal (W (ValueIdx.ix3 0 k ⟨n.val, by omega⟩))) := by
  have h0 := congrFun h (fun i => i.elim0)
  unfold Cert.Pre_first_finite.fn at h0
  obtain ⟨h1, rW⟩ := IntOp.andi_eq_one.1 h0
  have rG := h1
  refine ⟨fun k => ?_, fun k n => ?_⟩
  · have e : (extractStridedSlice Cert.Pre_first_finite.S1x1024 ![0, 0] G Facts.slices_S4x1024_S1x1024_0_0 : Cert.Pre_first_finite.S1x1024.Idx → EReal) (ValueIdx.ix2 0 k) = G (ValueIdx.ix2 0 k) :=
      congrArg G (funext fun a => Fin.ext (match a with
        | ⟨0, _⟩ => rfl
        | ⟨1, _⟩ => Nat.zero_add _))
    rw [← e]
    exact Proj.isReal_of_abs _ (Host.reduce_andi_all _ _ _ _ _ rG (ValueIdx.ix2 0 k))
  · have e : (extractStridedSlice Cert.Pre_first_finite.S1x1024x512 ![0, 0, 0] W Facts.slices_S4x1024x3080_S1x1024x512_0_0_0 : Cert.Pre_first_finite.S1x1024x512.Idx → EReal) (ValueIdx.ix3 0 k n)
        = W (ValueIdx.ix3 0 k ⟨n.val, by omega⟩) :=
      congrArg W (funext fun a => Fin.ext (match a with
        | ⟨0, _⟩ => rfl
        | ⟨1, _⟩ => Nat.zero_add _
        | ⟨2, _⟩ => Nat.zero_add _))
    rw [← e]
    exact Proj.isReal_of_abs _ (Host.reduce_andi_all _ _ _ _ _ rW (ValueIdx.ix3 0 k n))

theorem first_algebraic : Cert.algebraic_FirstIdeal_FirstReferenceIdeal_pre_first_finite := by
  intro m ρ m' ρ' hpre hagree
  refine ⟨fun c => Cert.FirstIdeal.Value.G8 m c, fun c => Cert.FirstIdeal.Value.G9 m c, fun c => Cert.FirstIdeal.Value.G10 m c, fun c => Cert.FirstIdeal.Value.G11 m c, fun c => Cert.FirstIdeal.Value.G12 m c, fun c => Cert.FirstIdeal.Value.G13 m c, Cert.FirstIdeal.Value.run (F := Ideal) m ρ, ?_⟩
  refine (θ_run Cert.FirstReferenceIdeal.defs _ _).mono (fun _ h c => ?_) (Cert.FirstReferenceIdeal.Value.run (F := Ideal) m' ρ')
  obtain ⟨r0, r1, r2, r3, r4, r5, hargs⟩ := h c
  obtain ⟨e0, e1, e2, e3, e4, e5⟩ := hagree c
  obtain ⟨hf0, hf1⟩ := first_real _ _ _ _ _ _ (hpre c)
  refine ⟨r0.trans ?_, r1.trans ?_, r2.trans ?_, r3.trans ?_, r4.trans ?_, r5.trans ?_, hargs⟩
  · refine (Cert.FirstReferenceIdeal.Read.val_main_v118_eq m' c).trans ?_
    rw [e0, e1, e2, e4, e5]
    exact (Cert.FirstReferenceIdeal.Own.po_eq _ _ _ _ _ (Cert.FirstReferenceIdeal.Own.real_u _ _ _ hf0 hf1)).trans (Cert.FirstIdeal.Own.G_po m c).symm
  · refine (Cert.FirstReferenceIdeal.Read.val_main_v20_eq _ _ _).trans ?_
    rw [e0, e1, e2]
    exact (Cert.FirstReferenceIdeal.Own.q_eq _ _ _).trans (Cert.FirstIdeal.Own.G_q m c).symm
  · refine (Cert.FirstReferenceIdeal.Read.val_main_v119_eq _ _ _).trans ?_
    rw [e0, e1, e2]
    exact (Cert.FirstReferenceIdeal.Own.k_eq _ _ _).trans (Cert.FirstIdeal.Own.G_k m c).symm
  · refine (Cert.FirstReferenceIdeal.Read.val_main_v120_eq _ _ _).trans ?_
    rw [e0, e1, e2]
    exact (Cert.FirstReferenceIdeal.Own.v_eq _ _ _).trans (Cert.FirstIdeal.Own.G_v m c).symm
  · refine (Cert.FirstReferenceIdeal.Read.val_main_v23_eq _ _ _).trans ?_
    rw [e0, e1, e2]
    exact (Cert.FirstReferenceIdeal.Own.ag_eq _ _ _).trans (Cert.FirstIdeal.Own.G_ag m c).symm
  · refine (Cert.FirstReferenceIdeal.Read.val_main_v117_eq m' c).trans ?_
    rw [e0, e1, e2, e3]
    exact (Cert.FirstReferenceIdeal.Own.c_eq _ _ _ _).trans (Cert.FirstIdeal.Own.G_c m c).symm

end Cert.Own

end
-- ==== Proof.lean ====
/- The four calls: their frames at both readings, their references' frames, the named constants, and
   that over the extended reals each call and its reference end with the same result. -/
module

public import proofs.«01_k».proof.Defs
public import proofs.«01_k».proof.Proof.Gen.ReferenceIdeal.Run
public import proofs.«01_k».proof.Proof.Gen.ReferenceIdeal.Read
public import proofs.«01_k».proof.Proof.Gen.Pre_scores_finite
public import proofs.«01_k».proof.Proof.RunKernel
public import proofs.«01_k».proof.Proof.RunKernelIdeal
public import proofs.«01_k».proof.Proof.Claim
public import proofs.«01_k».proof.Proof.Gen.Last.Frame
public import proofs.«01_k».proof.Proof.Gen.LastIdeal.Value
public import proofs.«01_k».proof.Proof.Gen.LastReferenceIdeal.Run
public import proofs.«01_k».proof.Proof.Gen.LastReferenceIdeal.Read
public import proofs.«01_k».proof.Proof.LastClaim
public import proofs.«01_k».proof.Proof.Gen.Middle.Frame
public import proofs.«01_k».proof.Proof.Gen.MiddleIdeal.Value
public import proofs.«01_k».proof.Proof.Gen.MiddleReferenceIdeal.Run
public import proofs.«01_k».proof.Proof.Gen.MiddleReferenceIdeal.Read
public import proofs.«01_k».proof.Proof.Gen.Pre_middle_finite
public import proofs.«01_k».proof.Proof.MiddleClaim
public import proofs.«01_k».proof.Proof.Gen.First.Frame
public import proofs.«01_k».proof.Proof.Gen.FirstIdeal.Value
public import proofs.«01_k».proof.Proof.Gen.FirstReferenceIdeal.Run
public import proofs.«01_k».proof.Proof.Gen.FirstReferenceIdeal.Read
public import proofs.«01_k».proof.Proof.Gen.Pre_first_finite
public import proofs.«01_k».proof.Proof.FirstClaim
public import Idealize.ShloMosaic.Lib.Quiescent
public import Idealize.ShloMosaic.Adequacy
public import Idealize.ShloMosaic.Init

@[expose] public section

noncomputable section

namespace Cert.Proof

open Idealize.ShloMosaic Idealize.SL.Sem

theorem preserves : Cert.preserves_Kernel_KernelIdeal :=
  ⟨IdealRules.named_const.statement Cert.KernelIdeal.κ "scale_log2e" .f32 0x3E38AA3B#32 _ rfl,
    IdealRules.named_const.statement Cert.KernelIdeal.κ "mask" .f32 0xF149F2CA#32 _ rfl,
    IdealRules.named_const.statement Cert.KernelIdeal.κ "log2e" .f32 0x3FB8AA3B#32 _ rfl⟩

theorem frame_kernel : Cert.quiescent_Kernel := fun m ρ _ =>
  (θ_run Cert.Kernel.defs _ _).mono (fun _ h => h) (Cert.Kernel.Own.frame (F := Bits) m ρ)

theorem frame_ideal : Cert.quiescent_KernelIdeal := fun m ρ _ =>
  (θ_run Cert.KernelIdeal.defs _ _).mono (fun _ h => h) (Cert.KernelIdeal.Own.frame (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_last : Cert.quiescent_Last := fun m ρ _ =>
  (θ_run Cert.Last.defs _ _).mono (fun _ h => h) (Cert.Last.Gen.frame (F := Bits) m ρ)

theorem frame_last_ideal : Cert.quiescent_LastIdeal := fun m ρ _ =>
  (θ_run Cert.LastIdeal.defs _ _).mono (fun _ h => h) (Cert.LastIdeal.Gen.frame (F := Ideal) m ρ)

theorem frame_last_reference : Cert.quiescent_LastReferenceIdeal := fun m ρ _ =>
  (θ_run Cert.LastReferenceIdeal.defs _ _).mono (fun r h => ⟨fun c => (h c).2, sem_eq_zero_of_no_sems (by decide) r.2⟩)
    (Cert.LastReferenceIdeal.Value.run (F := Ideal) m ρ)

theorem frame_middle : Cert.quiescent_Middle := fun m ρ _ =>
  (θ_run Cert.Middle.defs _ _).mono (fun _ h => h) (Cert.Middle.Gen.frame (F := Bits) m ρ)

theorem frame_middle_ideal : Cert.quiescent_MiddleIdeal := fun m ρ _ =>
  (θ_run Cert.MiddleIdeal.defs _ _).mono (fun _ h => h) (Cert.MiddleIdeal.Gen.frame (F := Ideal) m ρ)

theorem frame_middle_reference : Cert.quiescent_MiddleReferenceIdeal := fun m ρ _ =>
  (θ_run Cert.MiddleReferenceIdeal.defs _ _).mono (fun r h => ⟨fun c => (h c).2.2.2.2.2.2.2, sem_eq_zero_of_no_sems (by decide) r.2⟩)
    (Cert.MiddleReferenceIdeal.Value.run (F := Ideal) m ρ)

theorem frame_first : Cert.quiescent_First := fun m ρ _ =>
  (θ_run Cert.First.defs _ _).mono (fun _ h => h) (Cert.First.Gen.frame (F := Bits) m ρ)

theorem frame_first_ideal : Cert.quiescent_FirstIdeal := fun m ρ _ =>
  (θ_run Cert.FirstIdeal.defs _ _).mono (fun _ h => h) (Cert.FirstIdeal.Gen.frame (F := Ideal) m ρ)

theorem frame_first_reference : Cert.quiescent_FirstReferenceIdeal := fun m ρ _ =>
  (θ_run Cert.FirstReferenceIdeal.defs _ _).mono (fun r h => ⟨fun c => (h c).2.2.2.2.2.2, sem_eq_zero_of_no_sems (by decide) r.2⟩)
    (Cert.FirstReferenceIdeal.Value.run (F := Ideal) m ρ)

theorem claim : Cert.Claim := ⟨Cert.Kernel.Gen.facts, Cert.KernelIdeal.Gen.facts, Cert.ReferenceIdeal.Gen.facts,
  Cert.Last.Gen.facts, Cert.LastIdeal.Gen.facts, Cert.LastReferenceIdeal.Gen.facts,
  Cert.Middle.Gen.facts, Cert.MiddleIdeal.Gen.facts, Cert.MiddleReferenceIdeal.Gen.facts,
  Cert.First.Gen.facts, Cert.FirstIdeal.Gen.facts, Cert.FirstReferenceIdeal.Gen.facts,
  Cert.Pre_scores_finite.Gen.facts, Cert.Pre_middle_finite.Gen.facts, Cert.Pre_first_finite.Gen.facts,
  frame_kernel, frame_ideal, fun m ρ _ => frame_ideal m ρ trivial, frame_reference, fun m ρ _ => frame_reference m ρ trivial,
  frame_last, frame_last_ideal, frame_last_reference,
  frame_middle, frame_middle_ideal, fun m ρ _ => frame_middle_ideal m ρ trivial, frame_middle_reference, fun m ρ _ => frame_middle_reference m ρ trivial,
  frame_first, frame_first_ideal, fun m ρ _ => frame_first_ideal m ρ trivial, frame_first_reference, fun m ρ _ => frame_first_reference m ρ trivial,
  preserves, Cert.Own.algebraic, trivial, Cert.Own.last_algebraic,
  trivial, Cert.Own.middle_algebraic, trivial, Cert.Own.first_algebraic⟩

end Cert.Proof

end
